-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelNormIn (m : (ℓ : Loc Cert.KernelNormIn.nD Cert.KernelNormIn.τ Cert.KernelNormIn.sig) → Buf (Elt Bits) ℓ) : Prop :=
  True

def Pre_KernelNormInIdeal (m : (ℓ : Loc Cert.KernelNormInIdeal.nD Cert.KernelNormInIdeal.τ Cert.KernelNormInIdeal.sig) → Buf (Elt Ideal) ℓ) : Prop :=
  True

def Pre_ReferenceNormInIdeal (m : (ℓ : Loc Cert.ReferenceNormInIdeal.nD Cert.ReferenceNormInIdeal.τ Cert.ReferenceNormInIdeal.sig) → Buf (Elt Ideal) ℓ) : Prop :=
  True

def Pre_KernelNormFfn (m : (ℓ : Loc Cert.KernelNormFfn.nD Cert.KernelNormFfn.τ Cert.KernelNormFfn.sig) → Buf (Elt Bits) ℓ) : Prop :=
  True

def Pre_KernelNormFfnIdeal (m : (ℓ : Loc Cert.KernelNormFfnIdeal.nD Cert.KernelNormFfnIdeal.τ Cert.KernelNormFfnIdeal.sig) → Buf (Elt Ideal) ℓ) : Prop :=
  True

def Pre_ReferenceNormFfnIdeal (m : (ℓ : Loc Cert.ReferenceNormFfnIdeal.nD Cert.ReferenceNormFfnIdeal.τ Cert.ReferenceNormFfnIdeal.sig) → Buf (Elt Ideal) ℓ) : Prop :=
  True

def Pre_KernelDownFwd (m : (ℓ : Loc Cert.KernelDownFwd.nD Cert.KernelDownFwd.τ Cert.KernelDownFwd.sig) → Buf (Elt Bits) ℓ) : Prop :=
  True

def Pre_KernelDownFwdIdeal (m : (ℓ : Loc Cert.KernelDownFwdIdeal.nD Cert.KernelDownFwdIdeal.τ Cert.KernelDownFwdIdeal.sig) → Buf (Elt Ideal) ℓ) : Prop :=
  True

def Pre_ReferenceDownFwdIdeal (m : (ℓ : Loc Cert.ReferenceDownFwdIdeal.nD Cert.ReferenceDownFwdIdeal.τ Cert.ReferenceDownFwdIdeal.sig) → Buf (Elt Ideal) ℓ) : Prop :=
  True

def Pre_KernelOFwd (m : (ℓ : Loc Cert.KernelOFwd.nD Cert.KernelOFwd.τ Cert.KernelOFwd.sig) → Buf (Elt Bits) ℓ) : Prop :=
  True

def Pre_KernelOFwdIdeal (m : (ℓ : Loc Cert.KernelOFwdIdeal.nD Cert.KernelOFwdIdeal.τ Cert.KernelOFwdIdeal.sig) → Buf (Elt Ideal) ℓ) : Prop :=
  True

def Pre_ReferenceOFwdIdeal (m : (ℓ : Loc Cert.ReferenceOFwdIdeal.nD Cert.ReferenceOFwdIdeal.τ Cert.ReferenceOFwdIdeal.sig) → Buf (Elt Ideal) ℓ) : Prop :=
  True

def Pre_KernelOBack (m : (ℓ : Loc Cert.KernelOBack.nD Cert.KernelOBack.τ Cert.KernelOBack.sig) → Buf (Elt Bits) ℓ) : Prop :=
  True

def Pre_KernelOBackIdeal (m : (ℓ : Loc Cert.KernelOBackIdeal.nD Cert.KernelOBackIdeal.τ Cert.KernelOBackIdeal.sig) → Buf (Elt Ideal) ℓ) : Prop :=
  True

def Pre_ReferenceOBackIdeal (m : (ℓ : Loc Cert.ReferenceOBackIdeal.nD Cert.ReferenceOBackIdeal.τ Cert.ReferenceOBackIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelNormIn [hKernelNormIn : Cert.KernelNormIn.Facts] : Prop :=
  ∀ (m : (ℓ : Loc Cert.KernelNormIn.nD Cert.KernelNormIn.τ Cert.KernelNormIn.sig) → Buf (Elt Bits) ℓ) (g : Dev Cert.KernelNormIn.nD → PrngReg), Pre_KernelNormIn m →
    θ_run (Cert.KernelNormIn.defs (F := Bits)) (onTc (τ := Cert.KernelNormIn.τ) (Cert.KernelNormIn.main (F := Bits))) ⟨m, fun _ => 0, g⟩ (fun r => (∀ c : Dev Cert.KernelNormIn.nD,
      r.2.mem ((c.tc : Thread Cert.KernelNormIn.nD Cert.KernelNormIn.τ).loc Cert.KernelNormIn.main_arg0) = m ((c.tc : Thread Cert.KernelNormIn.nD Cert.KernelNormIn.τ).loc Cert.KernelNormIn.main_arg0)
      ∧ r.2.mem ((c.tc : Thread Cert.KernelNormIn.nD Cert.KernelNormIn.τ).loc Cert.KernelNormIn.main_arg1) = m ((c.tc : Thread Cert.KernelNormIn.nD Cert.KernelNormIn.τ).loc Cert.KernelNormIn.main_arg1)
      ∧ r.2.mem ((c.tc : Thread Cert.KernelNormIn.nD Cert.KernelNormIn.τ).loc Cert.KernelNormIn.main_arg2) = m ((c.tc : Thread Cert.KernelNormIn.nD Cert.KernelNormIn.τ).loc Cert.KernelNormIn.main_arg2)
      ∧ r.2.mem ((c.tc : Thread Cert.KernelNormIn.nD Cert.KernelNormIn.τ).loc Cert.KernelNormIn.main_arg3) = m ((c.tc : Thread Cert.KernelNormIn.nD Cert.KernelNormIn.τ).loc Cert.KernelNormIn.main_arg3)
      ∧ r.2.mem ((c.tc : Thread Cert.KernelNormIn.nD Cert.KernelNormIn.τ).loc Cert.KernelNormIn.main_arg4) = m ((c.tc : Thread Cert.KernelNormIn.nD Cert.KernelNormIn.τ).loc Cert.KernelNormIn.main_arg4)
      ∧ r.2.mem ((c.tc : Thread Cert.KernelNormIn.nD Cert.KernelNormIn.τ).loc Cert.KernelNormIn.main_arg5) = m ((c.tc : Thread Cert.KernelNormIn.nD Cert.KernelNormIn.τ).loc Cert.KernelNormIn.main_arg5))
      ∧ r.2.sem = fun _ => 0)

def quiescent_KernelNormInIdeal [hKernelNormInIdeal : Cert.KernelNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg), Pre_KernelNormInIdeal m →
    θ_run (Cert.KernelNormInIdeal.defs (F := Ideal)) (onTc (τ := Cert.KernelNormInIdeal.τ) (Cert.KernelNormInIdeal.main (F := Ideal))) ⟨m, fun _ => 0, g⟩ (fun r => (∀ c : Dev Cert.KernelNormInIdeal.nD,
      r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
      ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
      ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
      ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
      ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4)
      ∧ r.2.mem ((c.tc : Thread Cert.KernelNormInIdeal.nD Cert.KernelNormInIdeal.τ).loc Cert.KernelNormInIdeal.main_arg5) = m ((c.tc : Thread Cert.KernelNormInIdeal.nD Cert.KernelNormInIdeal.τ).loc Cert.KernelNormInIdeal.main_arg5))
      ∧ r.2.sem = fun _ => 0)

def quiescent_ReferenceNormInIdeal [hReferenceNormInIdeal : Cert.ReferenceNormInIdeal.Facts] : Prop :=
  ∀ (m : (ℓ : Loc Cert.ReferenceNormInIdeal.nD Cert.ReferenceNormInIdeal.τ Cert.ReferenceNormInIdeal.sig) → Buf (Elt Ideal) ℓ) (g : Dev Cert.ReferenceNormInIdeal.nD → PrngReg), Pre_ReferenceNormInIdeal m →
    θ_run (Cert.ReferenceNormInIdeal.defs (F := Ideal)) (onTc (τ := Cert.ReferenceNormInIdeal.τ) (Cert.ReferenceNormInIdeal.main (F := Ideal))) ⟨m, fun _ => 0, g⟩ (fun r => (∀ c : Dev Cert.ReferenceNormInIdeal.nD,
      r.2.mem ((c.tc : Thread Cert.ReferenceNormInIdeal.nD Cert.ReferenceNormInIdeal.τ).loc Cert.ReferenceNormInIdeal.main_arg0) = m ((c.tc : Thread Cert.ReferenceNormInIdeal.nD Cert.ReferenceNormInIdeal.τ).loc Cert.ReferenceNormInIdeal.main_arg0)
      ∧ r.2.mem ((c.tc : Thread Cert.ReferenceNormInIdeal.nD Cert.ReferenceNormInIdeal.τ).loc Cert.ReferenceNormInIdeal.main_arg1) = m ((c.tc : Thread Cert.ReferenceNormInIdeal.nD Cert.ReferenceNormInIdeal.τ).loc Cert.ReferenceNormInIdeal.main_arg1)
      ∧ r.2.mem ((c.tc : Thread Cert.ReferenceNormInIdeal.nD Cert.ReferenceNormInIdeal.τ).loc Cert.ReferenceNormInIdeal.main_arg2) = m ((c.tc : Thread Cert.ReferenceNormInIdeal.nD Cert.ReferenceNormInIdeal.τ).loc Cert.ReferenceNormInIdeal.main_arg2)
      ∧ r.2.mem ((c.tc : Thread Cert.ReferenceNormInIdeal.nD Cert.ReferenceNormInIdeal.τ).loc Cert.ReferenceNormInIdeal.main_arg3) = m ((c.tc : Thread Cert.ReferenceNormInIdeal.nD Cert.ReferenceNormInIdeal.τ).loc Cert.ReferenceNormInIdeal.main_arg3)
      ∧ r.2.mem ((c.tc : Thread Cert.ReferenceNormInIdeal.nD Cert.ReferenceNormInIdeal.τ).loc Cert.ReferenceNormInIdeal.main_arg4) = m ((c.tc : Thread Cert.ReferenceNormInIdeal.nD Cert.ReferenceNormInIdeal.τ).loc Cert.ReferenceNormInIdeal.main_arg4)
      ∧ r.2.mem ((c.tc : Thread Cert.ReferenceNormInIdeal.nD Cert.ReferenceNormInIdeal.τ).loc Cert.ReferenceNormInIdeal.main_arg5) = m ((c.tc : Thread Cert.ReferenceNormInIdeal.nD Cert.ReferenceNormInIdeal.τ).loc Cert.ReferenceNormInIdeal.main_arg5))
      ∧ r.2.sem = fun _ => 0)

def quiescent_KernelNormFfn [hKernelNormFfn : Cert.KernelNormFfn.Facts] : Prop :=
  ∀ (m : (ℓ : Loc Cert.KernelNormFfn.nD Cert.KernelNormFfn.τ Cert.KernelNormFfn.sig) → Buf (Elt Bits) ℓ) (g : Dev Cert.KernelNormFfn.nD → PrngReg), Pre_KernelNormFfn m →
    θ_run (Cert.KernelNormFfn.defs (F := Bits)) (onTc (τ := Cert.KernelNormFfn.τ) (Cert.KernelNormFfn.main (F := Bits))) ⟨m, fun _ => 0, g⟩ (fun r => (∀ c : Dev Cert.KernelNormFfn.nD,
      r.2.mem ((c.tc : Thread Cert.KernelNormFfn.nD Cert.KernelNormFfn.τ).loc Cert.KernelNormFfn.main_arg0) = m ((c.tc : Thread Cert.KernelNormFfn.nD Cert.KernelNormFfn.τ).loc Cert.KernelNormFfn.main_arg0)
      ∧ r.2.mem ((c.tc : Thread Cert.KernelNormFfn.nD Cert.KernelNormFfn.τ).loc Cert.KernelNormFfn.main_arg1) = m ((c.tc : Thread Cert.KernelNormFfn.nD Cert.KernelNormFfn.τ).loc Cert.KernelNormFfn.main_arg1)
      ∧ r.2.mem ((c.tc : Thread Cert.KernelNormFfn.nD Cert.KernelNormFfn.τ).loc Cert.KernelNormFfn.main_arg2) = m ((c.tc : Thread Cert.KernelNormFfn.nD Cert.KernelNormFfn.τ).loc Cert.KernelNormFfn.main_arg2)
      ∧ r.2.mem ((c.tc : Thread Cert.KernelNormFfn.nD Cert.KernelNormFfn.τ).loc Cert.KernelNormFfn.main_arg3) = m ((c.tc : Thread Cert.KernelNormFfn.nD Cert.KernelNormFfn.τ).loc Cert.KernelNormFfn.main_arg3)
      ∧ r.2.mem ((c.tc : Thread Cert.KernelNormFfn.nD Cert.KernelNormFfn.τ).loc Cert.KernelNormFfn.main_arg4) = m ((c.tc : Thread Cert.KernelNormFfn.nD Cert.KernelNormFfn.τ).loc Cert.KernelNormFfn.main_arg4)
      ∧ r.2.mem ((c.tc : Thread Cert.KernelNormFfn.nD Cert.KernelNormFfn.τ).loc Cert.KernelNormFfn.main_arg5) = m ((c.tc : Thread Cert.KernelNormFfn.nD Cert.KernelNormFfn.τ).loc Cert.KernelNormFfn.main_arg5))
      ∧ r.2.sem = fun _ => 0)

def quiescent_KernelNormFfnIdeal [hKernelNormFfnIdeal : Cert.KernelNormFfnIdeal.Facts] : Prop :=
  ∀ (m : (ℓ : Loc Cert.KernelNormFfnIdeal.nD Cert.KernelNormFfnIdeal.τ Cert.KernelNormFfnIdeal.sig) → Buf (Elt Ideal) ℓ) (g : Dev Cert.KernelNormFfnIdeal.nD → PrngReg), Pre_KernelNormFfnIdeal m →
    θ_run (Cert.KernelNormFfnIdeal.defs (F := Ideal)) (onTc (τ := Cert.KernelNormFfnIdeal.τ) (Cert.KernelNormFfnIdeal.main (F := Ideal))) ⟨m, fun _ => 0, g⟩ (fun r => (∀ c : Dev Cert.KernelNormFfnIdeal.nD,
      r.2.mem ((c.tc : Thread Cert.KernelNormFfnIdeal.nD Cert.KernelNormFfnIdeal.τ).loc Cert.KernelNormFfnIdeal.main_arg0) = m ((c.tc : Thread Cert.KernelNormFfnIdeal.nD Cert.KernelNormFfnIdeal.τ).loc Cert.KernelNormFfnIdeal.main_arg0)
      ∧ r.2.mem ((c.tc : Thread Cert.KernelNormFfnIdeal.nD Cert.KernelNormFfnIdeal.τ).loc Cert.KernelNormFfnIdeal.main_arg1) = m ((c.tc : Thread Cert.KernelNormFfnIdeal.nD Cert.KernelNormFfnIdeal.τ).loc Cert.KernelNormFfnIdeal.main_arg1)
      ∧ r.2.mem ((c.tc : Thread Cert.KernelNormFfnIdeal.nD Cert.KernelNormFfnIdeal.τ).loc Cert.KernelNormFfnIdeal.main_arg2) = m ((c.tc : Thread Cert.KernelNormFfnIdeal.nD Cert.KernelNormFfnIdeal.τ).loc Cert.KernelNormFfnIdeal.main_arg2)
      ∧ r.2.mem ((c.tc : Thread Cert.KernelNormFfnIdeal.nD Cert.KernelNormFfnIdeal.τ).loc Cert.KernelNormFfnIdeal.main_arg3) = m ((c.tc : Thread Cert.KernelNormFfnIdeal.nD Cert.KernelNormFfnIdeal.τ).loc Cert.KernelNormFfnIdeal.main_arg3)
      ∧ r.2.mem ((c.tc : Thread Cert.KernelNormFfnIdeal.nD Cert.KernelNormFfnIdeal.τ).loc Cert.KernelNormFfnIdeal.main_arg4) = m ((c.tc : Thread Cert.KernelNormFfnIdeal.nD Cert.KernelNormFfnIdeal.τ).loc Cert.KernelNormFfnIdeal.main_arg4)
      ∧ r.2.mem ((c.tc : Thread Cert.KernelNormFfnIdeal.nD Cert.KernelNormFfnIdeal.τ).loc Cert.KernelNormFfnIdeal.main_arg5) = m ((c.tc : Thread Cert.KernelNormFfnIdeal.nD Cert.KernelNormFfnIdeal.τ).loc Cert.KernelNormFfnIdeal.main_arg5))
      ∧ r.2.sem = fun _ => 0)

def quiescent_ReferenceNormFfnIdeal [hReferenceNormFfnIdeal : Cert.ReferenceNormFfnIdeal.Facts] : Prop :=
  ∀ (m : (ℓ : Loc Cert.ReferenceNormFfnIdeal.nD Cert.ReferenceNormFfnIdeal.τ Cert.ReferenceNormFfnIdeal.sig) → Buf (Elt Ideal) ℓ) (g : Dev Cert.ReferenceNormFfnIdeal.nD → PrngReg), Pre_ReferenceNormFfnIdeal m →
    θ_run (Cert.ReferenceNormFfnIdeal.defs (F := Ideal)) (onTc (τ := Cert.ReferenceNormFfnIdeal.τ) (Cert.ReferenceNormFfnIdeal.main (F := Ideal))) ⟨m, fun _ => 0, g⟩ (fun r => (∀ c : Dev Cert.ReferenceNormFfnIdeal.nD,
      r.2.mem ((c.tc : Thread Cert.ReferenceNormFfnIdeal.nD Cert.ReferenceNormFfnIdeal.τ).loc Cert.ReferenceNormFfnIdeal.main_arg0) = m ((c.tc : Thread Cert.ReferenceNormFfnIdeal.nD Cert.ReferenceNormFfnIdeal.τ).loc Cert.ReferenceNormFfnIdeal.main_arg0)
      ∧ r.2.mem ((c.tc : Thread Cert.ReferenceNormFfnIdeal.nD Cert.ReferenceNormFfnIdeal.τ).loc Cert.ReferenceNormFfnIdeal.main_arg1) = m ((c.tc : Thread Cert.ReferenceNormFfnIdeal.nD Cert.ReferenceNormFfnIdeal.τ).loc Cert.ReferenceNormFfnIdeal.main_arg1)
      ∧ r.2.mem ((c.tc : Thread Cert.ReferenceNormFfnIdeal.nD Cert.ReferenceNormFfnIdeal.τ).loc Cert.ReferenceNormFfnIdeal.main_arg2) = m ((c.tc : Thread Cert.ReferenceNormFfnIdeal.nD Cert.ReferenceNormFfnIdeal.τ).loc Cert.ReferenceNormFfnIdeal.main_arg2)
      ∧ r.2.mem ((c.tc : Thread Cert.ReferenceNormFfnIdeal.nD Cert.ReferenceNormFfnIdeal.τ).loc Cert.ReferenceNormFfnIdeal.main_arg3) = m ((c.tc : Thread Cert.ReferenceNormFfnIdeal.nD Cert.ReferenceNormFfnIdeal.τ).loc Cert.ReferenceNormFfnIdeal.main_arg3)
      ∧ r.2.mem ((c.tc : Thread Cert.ReferenceNormFfnIdeal.nD Cert.ReferenceNormFfnIdeal.τ).loc Cert.ReferenceNormFfnIdeal.main_arg4) = m ((c.tc : Thread Cert.ReferenceNormFfnIdeal.nD Cert.ReferenceNormFfnIdeal.τ).loc Cert.ReferenceNormFfnIdeal.main_arg4)
      ∧ r.2.mem ((c.tc : Thread Cert.ReferenceNormFfnIdeal.nD Cert.ReferenceNormFfnIdeal.τ).loc Cert.ReferenceNormFfnIdeal.main_arg5) = m ((c.tc : Thread Cert.ReferenceNormFfnIdeal.nD Cert.ReferenceNormFfnIdeal.τ).loc Cert.ReferenceNormFfnIdeal.main_arg5))
      ∧ r.2.sem = fun _ => 0)

def quiescent_KernelDownFwd [hKernelDownFwd : Cert.KernelDownFwd.Facts] : Prop :=
  ∀ (m : (ℓ : Loc Cert.KernelDownFwd.nD Cert.KernelDownFwd.τ Cert.KernelDownFwd.sig) → Buf (Elt Bits) ℓ) (g : Dev Cert.KernelDownFwd.nD → PrngReg), Pre_KernelDownFwd m →
    θ_run (Cert.KernelDownFwd.defs (F := Bits)) (onTc (τ := Cert.KernelDownFwd.τ) (Cert.KernelDownFwd.main (F := Bits))) ⟨m, fun _ => 0, g⟩ (fun r => (∀ c : Dev Cert.KernelDownFwd.nD,
      r.2.mem ((c.tc : Thread Cert.KernelDownFwd.nD Cert.KernelDownFwd.τ).loc Cert.KernelDownFwd.main_arg0) = m ((c.tc : Thread Cert.KernelDownFwd.nD Cert.KernelDownFwd.τ).loc Cert.KernelDownFwd.main_arg0)
      ∧ r.2.mem ((c.tc : Thread Cert.KernelDownFwd.nD Cert.KernelDownFwd.τ).loc Cert.KernelDownFwd.main_arg1) = m ((c.tc : Thread Cert.KernelDownFwd.nD Cert.KernelDownFwd.τ).loc Cert.KernelDownFwd.main_arg1)
      ∧ r.2.mem ((c.tc : Thread Cert.KernelDownFwd.nD Cert.KernelDownFwd.τ).loc Cert.KernelDownFwd.main_arg2) = m ((c.tc : Thread Cert.KernelDownFwd.nD Cert.KernelDownFwd.τ).loc Cert.KernelDownFwd.main_arg2)
      ∧ r.2.mem ((c.tc : Thread Cert.KernelDownFwd.nD Cert.KernelDownFwd.τ).loc Cert.KernelDownFwd.main_arg3) = m ((c.tc : Thread Cert.KernelDownFwd.nD Cert.KernelDownFwd.τ).loc Cert.KernelDownFwd.main_arg3))
      ∧ r.2.sem = fun _ => 0)

def quiescent_KernelDownFwdIdeal [hKernelDownFwdIdeal : Cert.KernelDownFwdIdeal.Facts] : Prop :=
  ∀ (m : (ℓ : Loc Cert.KernelDownFwdIdeal.nD Cert.KernelDownFwdIdeal.τ Cert.KernelDownFwdIdeal.sig) → Buf (Elt Ideal) ℓ) (g : Dev Cert.KernelDownFwdIdeal.nD → PrngReg), Pre_KernelDownFwdIdeal m →
    θ_run (Cert.KernelDownFwdIdeal.defs (F := Ideal)) (onTc (τ := Cert.KernelDownFwdIdeal.τ) (Cert.KernelDownFwdIdeal.main (F := Ideal))) ⟨m, fun _ => 0, g⟩ (fun r => (∀ c : Dev Cert.KernelDownFwdIdeal.nD,
      r.2.mem ((c.tc : Thread Cert.KernelDownFwdIdeal.nD Cert.KernelDownFwdIdeal.τ).loc Cert.KernelDownFwdIdeal.main_arg0) = m ((c.tc : Thread Cert.KernelDownFwdIdeal.nD Cert.KernelDownFwdIdeal.τ).loc Cert.KernelDownFwdIdeal.main_arg0)
      ∧ r.2.mem ((c.tc : Thread Cert.KernelDownFwdIdeal.nD Cert.KernelDownFwdIdeal.τ).loc Cert.KernelDownFwdIdeal.main_arg1) = m ((c.tc : Thread Cert.KernelDownFwdIdeal.nD Cert.KernelDownFwdIdeal.τ).loc Cert.KernelDownFwdIdeal.main_arg1)
      ∧ r.2.mem ((c.tc : Thread Cert.KernelDownFwdIdeal.nD Cert.KernelDownFwdIdeal.τ).loc Cert.KernelDownFwdIdeal.main_arg2) = m ((c.tc : Thread Cert.KernelDownFwdIdeal.nD Cert.KernelDownFwdIdeal.τ).loc Cert.KernelDownFwdIdeal.main_arg2)
      ∧ r.2.mem ((c.tc : Thread Cert.KernelDownFwdIdeal.nD Cert.KernelDownFwdIdeal.τ).loc Cert.KernelDownFwdIdeal.main_arg3) = m ((c.tc : Thread Cert.KernelDownFwdIdeal.nD Cert.KernelDownFwdIdeal.τ).loc Cert.KernelDownFwdIdeal.main_arg3))
      ∧ r.2.sem = fun _ => 0)

def quiescent_ReferenceDownFwdIdeal [hReferenceDownFwdIdeal : Cert.ReferenceDownFwdIdeal.Facts] : Prop :=
  ∀ (m : (ℓ : Loc Cert.ReferenceDownFwdIdeal.nD Cert.ReferenceDownFwdIdeal.τ Cert.ReferenceDownFwdIdeal.sig) → Buf (Elt Ideal) ℓ) (g : Dev Cert.ReferenceDownFwdIdeal.nD → PrngReg), Pre_ReferenceDownFwdIdeal m →
    θ_run (Cert.ReferenceDownFwdIdeal.defs (F := Ideal)) (onTc (τ := Cert.ReferenceDownFwdIdeal.τ) (Cert.ReferenceDownFwdIdeal.main (F := Ideal))) ⟨m, fun _ => 0, g⟩ (fun r => (∀ c : Dev Cert.ReferenceDownFwdIdeal.nD,
      r.2.mem ((c.tc : Thread Cert.ReferenceDownFwdIdeal.nD Cert.ReferenceDownFwdIdeal.τ).loc Cert.ReferenceDownFwdIdeal.main_arg0) = m ((c.tc : Thread Cert.ReferenceDownFwdIdeal.nD Cert.ReferenceDownFwdIdeal.τ).loc Cert.ReferenceDownFwdIdeal.main_arg0)
      ∧ r.2.mem ((c.tc : Thread Cert.ReferenceDownFwdIdeal.nD Cert.ReferenceDownFwdIdeal.τ).loc Cert.ReferenceDownFwdIdeal.main_arg1) = m ((c.tc : Thread Cert.ReferenceDownFwdIdeal.nD Cert.ReferenceDownFwdIdeal.τ).loc Cert.ReferenceDownFwdIdeal.main_arg1)
      ∧ r.2.mem ((c.tc : Thread Cert.ReferenceDownFwdIdeal.nD Cert.ReferenceDownFwdIdeal.τ).loc Cert.ReferenceDownFwdIdeal.main_arg2) = m ((c.tc : Thread Cert.ReferenceDownFwdIdeal.nD Cert.ReferenceDownFwdIdeal.τ).loc Cert.ReferenceDownFwdIdeal.main_arg2)
      ∧ r.2.mem ((c.tc : Thread Cert.ReferenceDownFwdIdeal.nD Cert.ReferenceDownFwdIdeal.τ).loc Cert.ReferenceDownFwdIdeal.main_arg3) = m ((c.tc : Thread Cert.ReferenceDownFwdIdeal.nD Cert.ReferenceDownFwdIdeal.τ).loc Cert.ReferenceDownFwdIdeal.main_arg3))
      ∧ r.2.sem = fun _ => 0)

def quiescent_KernelOFwd [hKernelOFwd : Cert.KernelOFwd.Facts] : Prop :=
  ∀ (m : (ℓ : Loc Cert.KernelOFwd.nD Cert.KernelOFwd.τ Cert.KernelOFwd.sig) → Buf (Elt Bits) ℓ) (g : Dev Cert.KernelOFwd.nD → PrngReg), Pre_KernelOFwd m →
    θ_run (Cert.KernelOFwd.defs (F := Bits)) (onTc (τ := Cert.KernelOFwd.τ) (Cert.KernelOFwd.main (F := Bits))) ⟨m, fun _ => 0, g⟩ (fun r => (∀ c : Dev Cert.KernelOFwd.nD,
      r.2.mem ((c.tc : Thread Cert.KernelOFwd.nD Cert.KernelOFwd.τ).loc Cert.KernelOFwd.main_arg0) = m ((c.tc : Thread Cert.KernelOFwd.nD Cert.KernelOFwd.τ).loc Cert.KernelOFwd.main_arg0)
      ∧ r.2.mem ((c.tc : Thread Cert.KernelOFwd.nD Cert.KernelOFwd.τ).loc Cert.KernelOFwd.main_arg1) = m ((c.tc : Thread Cert.KernelOFwd.nD Cert.KernelOFwd.τ).loc Cert.KernelOFwd.main_arg1)
      ∧ r.2.mem ((c.tc : Thread Cert.KernelOFwd.nD Cert.KernelOFwd.τ).loc Cert.KernelOFwd.main_arg2) = m ((c.tc : Thread Cert.KernelOFwd.nD Cert.KernelOFwd.τ).loc Cert.KernelOFwd.main_arg2)
      ∧ r.2.mem ((c.tc : Thread Cert.KernelOFwd.nD Cert.KernelOFwd.τ).loc Cert.KernelOFwd.main_arg3) = m ((c.tc : Thread Cert.KernelOFwd.nD Cert.KernelOFwd.τ).loc Cert.KernelOFwd.main_arg3)
      ∧ r.2.mem ((c.tc : Thread Cert.KernelOFwd.nD Cert.KernelOFwd.τ).loc Cert.KernelOFwd.main_arg4) = m ((c.tc : Thread Cert.KernelOFwd.nD Cert.KernelOFwd.τ).loc Cert.KernelOFwd.main_arg4)
      ∧ r.2.mem ((c.tc : Thread Cert.KernelOFwd.nD Cert.KernelOFwd.τ).loc Cert.KernelOFwd.main_arg5) = m ((c.tc : Thread Cert.KernelOFwd.nD Cert.KernelOFwd.τ).loc Cert.KernelOFwd.main_arg5))
      ∧ r.2.sem = fun _ => 0)

def quiescent_KernelOFwdIdeal [hKernelOFwdIdeal : Cert.KernelOFwdIdeal.Facts] : Prop :=
  ∀ (m : (ℓ : Loc Cert.KernelOFwdIdeal.nD Cert.KernelOFwdIdeal.τ Cert.KernelOFwdIdeal.sig) → Buf (Elt Ideal) ℓ) (g : Dev Cert.KernelOFwdIdeal.nD → PrngReg), Pre_KernelOFwdIdeal m →
    θ_run (Cert.KernelOFwdIdeal.defs (F := Ideal)) (onTc (τ := Cert.KernelOFwdIdeal.τ) (Cert.KernelOFwdIdeal.main (F := Ideal))) ⟨m, fun _ => 0, g⟩ (fun r => (∀ c : Dev Cert.KernelOFwdIdeal.nD,
      r.2.mem ((c.tc : Thread Cert.KernelOFwdIdeal.nD Cert.KernelOFwdIdeal.τ).loc Cert.KernelOFwdIdeal.main_arg0) = m ((c.tc : Thread Cert.KernelOFwdIdeal.nD Cert.KernelOFwdIdeal.τ).loc Cert.KernelOFwdIdeal.main_arg0)
      ∧ r.2.mem ((c.tc : Thread Cert.KernelOFwdIdeal.nD Cert.KernelOFwdIdeal.τ).loc Cert.KernelOFwdIdeal.main_arg1) = m ((c.tc : Thread Cert.KernelOFwdIdeal.nD Cert.KernelOFwdIdeal.τ).loc Cert.KernelOFwdIdeal.main_arg1)
      ∧ r.2.mem ((c.tc : Thread Cert.KernelOFwdIdeal.nD Cert.KernelOFwdIdeal.τ).loc Cert.KernelOFwdIdeal.main_arg2) = m ((c.tc : Thread Cert.KernelOFwdIdeal.nD Cert.KernelOFwdIdeal.τ).loc Cert.KernelOFwdIdeal.main_arg2)
      ∧ r.2.mem ((c.tc : Thread Cert.KernelOFwdIdeal.nD Cert.KernelOFwdIdeal.τ).loc Cert.KernelOFwdIdeal.main_arg3) = m ((c.tc : Thread Cert.KernelOFwdIdeal.nD Cert.KernelOFwdIdeal.τ).loc Cert.KernelOFwdIdeal.main_arg3)
      ∧ r.2.mem ((c.tc : Thread Cert.KernelOFwdIdeal.nD Cert.KernelOFwdIdeal.τ).loc Cert.KernelOFwdIdeal.main_arg4) = m ((c.tc : Thread Cert.KernelOFwdIdeal.nD Cert.KernelOFwdIdeal.τ).loc Cert.KernelOFwdIdeal.main_arg4)
      ∧ r.2.mem ((c.tc : Thread Cert.KernelOFwdIdeal.nD Cert.KernelOFwdIdeal.τ).loc Cert.KernelOFwdIdeal.main_arg5) = m ((c.tc : Thread Cert.KernelOFwdIdeal.nD Cert.KernelOFwdIdeal.τ).loc Cert.KernelOFwdIdeal.main_arg5))
      ∧ r.2.sem = fun _ => 0)

def quiescent_ReferenceOFwdIdeal [hReferenceOFwdIdeal : Cert.ReferenceOFwdIdeal.Facts] : Prop :=
  ∀ (m : (ℓ : Loc Cert.ReferenceOFwdIdeal.nD Cert.ReferenceOFwdIdeal.τ Cert.ReferenceOFwdIdeal.sig) → Buf (Elt Ideal) ℓ) (g : Dev Cert.ReferenceOFwdIdeal.nD → PrngReg), Pre_ReferenceOFwdIdeal m →
    θ_run (Cert.ReferenceOFwdIdeal.defs (F := Ideal)) (onTc (τ := Cert.ReferenceOFwdIdeal.τ) (Cert.ReferenceOFwdIdeal.main (F := Ideal))) ⟨m, fun _ => 0, g⟩ (fun r => (∀ c : Dev Cert.ReferenceOFwdIdeal.nD,
      r.2.mem ((c.tc : Thread Cert.ReferenceOFwdIdeal.nD Cert.ReferenceOFwdIdeal.τ).loc Cert.ReferenceOFwdIdeal.main_arg0) = m ((c.tc : Thread Cert.ReferenceOFwdIdeal.nD Cert.ReferenceOFwdIdeal.τ).loc Cert.ReferenceOFwdIdeal.main_arg0)
      ∧ r.2.mem ((c.tc : Thread Cert.ReferenceOFwdIdeal.nD Cert.ReferenceOFwdIdeal.τ).loc Cert.ReferenceOFwdIdeal.main_arg1) = m ((c.tc : Thread Cert.ReferenceOFwdIdeal.nD Cert.ReferenceOFwdIdeal.τ).loc Cert.ReferenceOFwdIdeal.main_arg1)
      ∧ r.2.mem ((c.tc : Thread Cert.ReferenceOFwdIdeal.nD Cert.ReferenceOFwdIdeal.τ).loc Cert.ReferenceOFwdIdeal.main_arg2) = m ((c.tc : Thread Cert.ReferenceOFwdIdeal.nD Cert.ReferenceOFwdIdeal.τ).loc Cert.ReferenceOFwdIdeal.main_arg2)
      ∧ r.2.mem ((c.tc : Thread Cert.ReferenceOFwdIdeal.nD Cert.ReferenceOFwdIdeal.τ).loc Cert.ReferenceOFwdIdeal.main_arg3) = m ((c.tc : Thread Cert.ReferenceOFwdIdeal.nD Cert.ReferenceOFwdIdeal.τ).loc Cert.ReferenceOFwdIdeal.main_arg3)
      ∧ r.2.mem ((c.tc : Thread Cert.ReferenceOFwdIdeal.nD Cert.ReferenceOFwdIdeal.τ).loc Cert.ReferenceOFwdIdeal.main_arg4) = m ((c.tc : Thread Cert.ReferenceOFwdIdeal.nD Cert.ReferenceOFwdIdeal.τ).loc Cert.ReferenceOFwdIdeal.main_arg4)
      ∧ r.2.mem ((c.tc : Thread Cert.ReferenceOFwdIdeal.nD Cert.ReferenceOFwdIdeal.τ).loc Cert.ReferenceOFwdIdeal.main_arg5) = m ((c.tc : Thread Cert.ReferenceOFwdIdeal.nD Cert.ReferenceOFwdIdeal.τ).loc Cert.ReferenceOFwdIdeal.main_arg5))
      ∧ r.2.sem = fun _ => 0)

def quiescent_KernelOBack [hKernelOBack : Cert.KernelOBack.Facts] : Prop :=
  ∀ (m : (ℓ : Loc Cert.KernelOBack.nD Cert.KernelOBack.τ Cert.KernelOBack.sig) → Buf (Elt Bits) ℓ) (g : Dev Cert.KernelOBack.nD → PrngReg), Pre_KernelOBack m →
    θ_run (Cert.KernelOBack.defs (F := Bits)) (onTc (τ := Cert.KernelOBack.τ) (Cert.KernelOBack.main (F := Bits))) ⟨m, fun _ => 0, g⟩ (fun r => (∀ c : Dev Cert.KernelOBack.nD,
      r.2.mem ((c.tc : Thread Cert.KernelOBack.nD Cert.KernelOBack.τ).loc Cert.KernelOBack.main_arg0) = m ((c.tc : Thread Cert.KernelOBack.nD Cert.KernelOBack.τ).loc Cert.KernelOBack.main_arg0)
      ∧ r.2.mem ((c.tc : Thread Cert.KernelOBack.nD Cert.KernelOBack.τ).loc Cert.KernelOBack.main_arg1) = m ((c.tc : Thread Cert.KernelOBack.nD Cert.KernelOBack.τ).loc Cert.KernelOBack.main_arg1)
      ∧ r.2.mem ((c.tc : Thread Cert.KernelOBack.nD Cert.KernelOBack.τ).loc Cert.KernelOBack.main_arg2) = m ((c.tc : Thread Cert.KernelOBack.nD Cert.KernelOBack.τ).loc Cert.KernelOBack.main_arg2)
      ∧ r.2.mem ((c.tc : Thread Cert.KernelOBack.nD Cert.KernelOBack.τ).loc Cert.KernelOBack.main_arg3) = m ((c.tc : Thread Cert.KernelOBack.nD Cert.KernelOBack.τ).loc Cert.KernelOBack.main_arg3)
      ∧ r.2.mem ((c.tc : Thread Cert.KernelOBack.nD Cert.KernelOBack.τ).loc Cert.KernelOBack.main_arg4) = m ((c.tc : Thread Cert.KernelOBack.nD Cert.KernelOBack.τ).loc Cert.KernelOBack.main_arg4)
      ∧ r.2.mem ((c.tc : Thread Cert.KernelOBack.nD Cert.KernelOBack.τ).loc Cert.KernelOBack.main_arg5) = m ((c.tc : Thread Cert.KernelOBack.nD Cert.KernelOBack.τ).loc Cert.KernelOBack.main_arg5)
      ∧ r.2.mem ((c.tc : Thread Cert.KernelOBack.nD Cert.KernelOBack.τ).loc Cert.KernelOBack.main_arg6) = m ((c.tc : Thread Cert.KernelOBack.nD Cert.KernelOBack.τ).loc Cert.KernelOBack.main_arg6)
      ∧ r.2.mem ((c.tc : Thread Cert.KernelOBack.nD Cert.KernelOBack.τ).loc Cert.KernelOBack.main_arg7) = m ((c.tc : Thread Cert.KernelOBack.nD Cert.KernelOBack.τ).loc Cert.KernelOBack.main_arg7))
      ∧ r.2.sem = fun _ => 0)

def quiescent_KernelOBackIdeal [hKernelOBackIdeal : Cert.KernelOBackIdeal.Facts] : Prop :=
  ∀ (m : (ℓ : Loc Cert.KernelOBackIdeal.nD Cert.KernelOBackIdeal.τ Cert.KernelOBackIdeal.sig) → Buf (Elt Ideal) ℓ) (g : Dev Cert.KernelOBackIdeal.nD → PrngReg), Pre_KernelOBackIdeal m →
    θ_run (Cert.KernelOBackIdeal.defs (F := Ideal)) (onTc (τ := Cert.KernelOBackIdeal.τ) (Cert.KernelOBackIdeal.main (F := Ideal))) ⟨m, fun _ => 0, g⟩ (fun r => (∀ c : Dev Cert.KernelOBackIdeal.nD,
      r.2.mem ((c.tc : Thread Cert.KernelOBackIdeal.nD Cert.KernelOBackIdeal.τ).loc Cert.KernelOBackIdeal.main_arg0) = m ((c.tc : Thread Cert.KernelOBackIdeal.nD Cert.KernelOBackIdeal.τ).loc Cert.KernelOBackIdeal.main_arg0)
      ∧ r.2.mem ((c.tc : Thread Cert.KernelOBackIdeal.nD Cert.KernelOBackIdeal.τ).loc Cert.KernelOBackIdeal.main_arg1) = m ((c.tc : Thread Cert.KernelOBackIdeal.nD Cert.KernelOBackIdeal.τ).loc Cert.KernelOBackIdeal.main_arg1)
      ∧ r.2.mem ((c.tc : Thread Cert.KernelOBackIdeal.nD Cert.KernelOBackIdeal.τ).loc Cert.KernelOBackIdeal.main_arg2) = m ((c.tc : Thread Cert.KernelOBackIdeal.nD Cert.KernelOBackIdeal.τ).loc Cert.KernelOBackIdeal.main_arg2)
      ∧ r.2.mem ((c.tc : Thread Cert.KernelOBackIdeal.nD Cert.KernelOBackIdeal.τ).loc Cert.KernelOBackIdeal.main_arg3) = m ((c.tc : Thread Cert.KernelOBackIdeal.nD Cert.KernelOBackIdeal.τ).loc Cert.KernelOBackIdeal.main_arg3)
      ∧ r.2.mem ((c.tc : Thread Cert.KernelOBackIdeal.nD Cert.KernelOBackIdeal.τ).loc Cert.KernelOBackIdeal.main_arg4) = m ((c.tc : Thread Cert.KernelOBackIdeal.nD Cert.KernelOBackIdeal.τ).loc Cert.KernelOBackIdeal.main_arg4)
      ∧ r.2.mem ((c.tc : Thread Cert.KernelOBackIdeal.nD Cert.KernelOBackIdeal.τ).loc Cert.KernelOBackIdeal.main_arg5) = m ((c.tc : Thread Cert.KernelOBackIdeal.nD Cert.KernelOBackIdeal.τ).loc Cert.KernelOBackIdeal.main_arg5)
      ∧ r.2.mem ((c.tc : Thread Cert.KernelOBackIdeal.nD Cert.KernelOBackIdeal.τ).loc Cert.KernelOBackIdeal.main_arg6) = m ((c.tc : Thread Cert.KernelOBackIdeal.nD Cert.KernelOBackIdeal.τ).loc Cert.KernelOBackIdeal.main_arg6)
      ∧ r.2.mem ((c.tc : Thread Cert.KernelOBackIdeal.nD Cert.KernelOBackIdeal.τ).loc Cert.KernelOBackIdeal.main_arg7) = m ((c.tc : Thread Cert.KernelOBackIdeal.nD Cert.KernelOBackIdeal.τ).loc Cert.KernelOBackIdeal.main_arg7))
      ∧ r.2.sem = fun _ => 0)

def quiescent_ReferenceOBackIdeal [hReferenceOBackIdeal : Cert.ReferenceOBackIdeal.Facts] : Prop :=
  ∀ (m : (ℓ : Loc Cert.ReferenceOBackIdeal.nD Cert.ReferenceOBackIdeal.τ Cert.ReferenceOBackIdeal.sig) → Buf (Elt Ideal) ℓ) (g : Dev Cert.ReferenceOBackIdeal.nD → PrngReg), Pre_ReferenceOBackIdeal m →
    θ_run (Cert.ReferenceOBackIdeal.defs (F := Ideal)) (onTc (τ := Cert.ReferenceOBackIdeal.τ) (Cert.ReferenceOBackIdeal.main (F := Ideal))) ⟨m, fun _ => 0, g⟩ (fun r => (∀ c : Dev Cert.ReferenceOBackIdeal.nD,
      r.2.mem ((c.tc : Thread Cert.ReferenceOBackIdeal.nD Cert.ReferenceOBackIdeal.τ).loc Cert.ReferenceOBackIdeal.main_arg0) = m ((c.tc : Thread Cert.ReferenceOBackIdeal.nD Cert.ReferenceOBackIdeal.τ).loc Cert.ReferenceOBackIdeal.main_arg0)
      ∧ r.2.mem ((c.tc : Thread Cert.ReferenceOBackIdeal.nD Cert.ReferenceOBackIdeal.τ).loc Cert.ReferenceOBackIdeal.main_arg1) = m ((c.tc : Thread Cert.ReferenceOBackIdeal.nD Cert.ReferenceOBackIdeal.τ).loc Cert.ReferenceOBackIdeal.main_arg1)
      ∧ r.2.mem ((c.tc : Thread Cert.ReferenceOBackIdeal.nD Cert.ReferenceOBackIdeal.τ).loc Cert.ReferenceOBackIdeal.main_arg2) = m ((c.tc : Thread Cert.ReferenceOBackIdeal.nD Cert.ReferenceOBackIdeal.τ).loc Cert.ReferenceOBackIdeal.main_arg2)
      ∧ r.2.mem ((c.tc : Thread Cert.ReferenceOBackIdeal.nD Cert.ReferenceOBackIdeal.τ).loc Cert.ReferenceOBackIdeal.main_arg3) = m ((c.tc : Thread Cert.ReferenceOBackIdeal.nD Cert.ReferenceOBackIdeal.τ).loc Cert.ReferenceOBackIdeal.main_arg3)
      ∧ r.2.mem ((c.tc : Thread Cert.ReferenceOBackIdeal.nD Cert.ReferenceOBackIdeal.τ).loc Cert.ReferenceOBackIdeal.main_arg4) = m ((c.tc : Thread Cert.ReferenceOBackIdeal.nD Cert.ReferenceOBackIdeal.τ).loc Cert.ReferenceOBackIdeal.main_arg4)
      ∧ r.2.mem ((c.tc : Thread Cert.ReferenceOBackIdeal.nD Cert.ReferenceOBackIdeal.τ).loc Cert.ReferenceOBackIdeal.main_arg5) = m ((c.tc : Thread Cert.ReferenceOBackIdeal.nD Cert.ReferenceOBackIdeal.τ).loc Cert.ReferenceOBackIdeal.main_arg5)
      ∧ r.2.mem ((c.tc : Thread Cert.ReferenceOBackIdeal.nD Cert.ReferenceOBackIdeal.τ).loc Cert.ReferenceOBackIdeal.main_arg6) = m ((c.tc : Thread Cert.ReferenceOBackIdeal.nD Cert.ReferenceOBackIdeal.τ).loc Cert.ReferenceOBackIdeal.main_arg6)
      ∧ r.2.mem ((c.tc : Thread Cert.ReferenceOBackIdeal.nD Cert.ReferenceOBackIdeal.τ).loc Cert.ReferenceOBackIdeal.main_arg7) = m ((c.tc : Thread Cert.ReferenceOBackIdeal.nD Cert.ReferenceOBackIdeal.τ).loc Cert.ReferenceOBackIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v49_2)) (v1 : (c : Dev Cert.KernelIdeal.nD) → Buf (Elt Ideal) ((c.tc : Thread Cert.KernelIdeal.nD Cert.KernelIdeal.τ).loc Cert.KernelIdeal.main_v49_0)) (v2 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_2) = v0 c
          ∧ r.2.mem ((c.tc : Thread Cert.KernelIdeal.nD Cert.KernelIdeal.τ).loc Cert.KernelIdeal.main_v49_0) = v1 c
          ∧ r.2.mem ((c.tc : Thread Cert.KernelIdeal.nD Cert.KernelIdeal.τ).loc Cert.KernelIdeal.main_v49_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)) →
    ∃ (v0 : (c : Dev Cert.KernelGuIdeal.nD) → Buf (Elt Ideal) ((c.tc : Thread Cert.KernelGuIdeal.nD Cert.KernelGuIdeal.τ).loc Cert.KernelGuIdeal.main_v0)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v0) = v0 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v6) = v0 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v6) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelNormIn_KernelNormInIdeal : Prop :=
  True

def algebraic_KernelNormInIdeal_ReferenceNormInIdeal [hKernelNormInIdeal : Cert.KernelNormInIdeal.Facts] [hReferenceNormInIdeal : Cert.ReferenceNormInIdeal.Facts] : Prop :=
  ∀ (m : (ℓ : Loc Cert.KernelNormInIdeal.nD Cert.KernelNormInIdeal.τ Cert.KernelNormInIdeal.sig) → Buf (Elt Ideal) ℓ) (g : Dev Cert.KernelNormInIdeal.nD → PrngReg)
    (m' : (ℓ : Loc Cert.ReferenceNormInIdeal.nD Cert.ReferenceNormInIdeal.τ Cert.ReferenceNormInIdeal.sig) → Buf (Elt Ideal) ℓ) (g' : Dev Cert.ReferenceNormInIdeal.nD → PrngReg), Pre_KernelNormInIdeal m →
    (∀ c : Dev Cert.KernelNormInIdeal.nD,
      m' ((c.tc : Thread Cert.ReferenceNormInIdeal.nD Cert.ReferenceNormInIdeal.τ).loc Cert.ReferenceNormInIdeal.main_arg0) = m ((c.tc : Thread Cert.KernelNormInIdeal.nD Cert.KernelNormInIdeal.τ).loc Cert.KernelNormInIdeal.main_arg0)
      ∧ m' ((c.tc : Thread Cert.ReferenceNormInIdeal.nD Cert.ReferenceNormInIdeal.τ).loc Cert.ReferenceNormInIdeal.main_arg1) = m ((c.tc : Thread Cert.KernelNormInIdeal.nD Cert.KernelNormInIdeal.τ).loc Cert.KernelNormInIdeal.main_arg1)
      ∧ m' ((c.tc : Thread Cert.ReferenceNormInIdeal.nD Cert.ReferenceNormInIdeal.τ).loc Cert.ReferenceNormInIdeal.main_arg2) = m ((c.tc : Thread Cert.KernelNormInIdeal.nD Cert.KernelNormInIdeal.τ).loc Cert.KernelNormInIdeal.main_arg2)
      ∧ m' ((c.tc : Thread Cert.ReferenceNormInIdeal.nD Cert.ReferenceNormInIdeal.τ).loc Cert.ReferenceNormInIdeal.main_arg3) = m ((c.tc : Thread Cert.KernelNormInIdeal.nD Cert.KernelNormInIdeal.τ).loc Cert.KernelNormInIdeal.main_arg3)
      ∧ m' ((c.tc : Thread Cert.ReferenceNormInIdeal.nD Cert.ReferenceNormInIdeal.τ).loc Cert.ReferenceNormInIdeal.main_arg4) = m ((c.tc : Thread Cert.KernelNormInIdeal.nD Cert.KernelNormInIdeal.τ).loc Cert.KernelNormInIdeal.main_arg4)
      ∧ m' ((c.tc : Thread Cert.ReferenceNormInIdeal.nD Cert.ReferenceNormInIdeal.τ).loc Cert.ReferenceNormInIdeal.main_arg5) = m ((c.tc : Thread Cert.KernelNormInIdeal.nD Cert.KernelNormInIdeal.τ).loc Cert.KernelNormInIdeal.main_arg5)) →
    ∃ (v0 : (c : Dev Cert.KernelNormInIdeal.nD) → Buf (Elt Ideal) ((c.tc : Thread Cert.KernelNormInIdeal.nD Cert.KernelNormInIdeal.τ).loc Cert.KernelNormInIdeal.main_v0_0)) (v1 : (c : Dev Cert.KernelNormInIdeal.nD) → Buf (Elt Ideal) ((c.tc : Thread Cert.KernelNormInIdeal.nD Cert.KernelNormInIdeal.τ).loc Cert.KernelNormInIdeal.main_v0_1)) (v2 : (c : Dev Cert.KernelNormInIdeal.nD) → Buf (Elt Ideal) ((c.tc : Thread Cert.KernelNormInIdeal.nD Cert.KernelNormInIdeal.τ).loc Cert.KernelNormInIdeal.main_v0_2)) (v3 : (c : Dev Cert.KernelNormInIdeal.nD) → Buf (Elt Ideal) ((c.tc : Thread Cert.KernelNormInIdeal.nD Cert.KernelNormInIdeal.τ).loc Cert.KernelNormInIdeal.main_v0_3)),
      θ_run (Cert.KernelNormInIdeal.defs (F := Ideal)) (onTc (τ := Cert.KernelNormInIdeal.τ) (Cert.KernelNormInIdeal.main (F := Ideal))) ⟨m, fun _ => 0, g⟩ (fun r => ∀ c : Dev Cert.KernelNormInIdeal.nD,
          r.2.mem ((c.tc : Thread Cert.KernelNormInIdeal.nD Cert.KernelNormInIdeal.τ).loc Cert.KernelNormInIdeal.main_v0_0) = v0 c
          ∧ r.2.mem ((c.tc : Thread Cert.KernelNormInIdeal.nD Cert.KernelNormInIdeal.τ).loc Cert.KernelNormInIdeal.main_v0_1) = v1 c
          ∧ r.2.mem ((c.tc : Thread Cert.KernelNormInIdeal.nD Cert.KernelNormInIdeal.τ).loc Cert.KernelNormInIdeal.main_v0_2) = v2 c
          ∧ r.2.mem ((c.tc : Thread Cert.KernelNormInIdeal.nD Cert.KernelNormInIdeal.τ).loc Cert.KernelNormInIdeal.main_v0_3) = v3 c
          ∧ r.2.mem ((c.tc : Thread Cert.KernelNormInIdeal.nD Cert.KernelNormInIdeal.τ).loc Cert.KernelNormInIdeal.main_arg0) = m ((c.tc : Thread Cert.KernelNormInIdeal.nD Cert.KernelNormInIdeal.τ).loc Cert.KernelNormInIdeal.main_arg0)
          ∧ r.2.mem ((c.tc : Thread Cert.KernelNormInIdeal.nD Cert.KernelNormInIdeal.τ).loc Cert.KernelNormInIdeal.main_arg1) = m ((c.tc : Thread Cert.KernelNormInIdeal.nD Cert.KernelNormInIdeal.τ).loc Cert.KernelNormInIdeal.main_arg1)
          ∧ r.2.mem ((c.tc : Thread Cert.KernelNormInIdeal.nD Cert.KernelNormInIdeal.τ).loc Cert.KernelNormInIdeal.main_arg2) = m ((c.tc : Thread Cert.KernelNormInIdeal.nD Cert.KernelNormInIdeal.τ).loc Cert.KernelNormInIdeal.main_arg2)
          ∧ r.2.mem ((c.tc : Thread Cert.KernelNormInIdeal.nD Cert.KernelNormInIdeal.τ).loc Cert.KernelNormInIdeal.main_arg3) = m ((c.tc : Thread Cert.KernelNormInIdeal.nD Cert.KernelNormInIdeal.τ).loc Cert.KernelNormInIdeal.main_arg3)
          ∧ r.2.mem ((c.tc : Thread Cert.KernelNormInIdeal.nD Cert.KernelNormInIdeal.τ).loc Cert.KernelNormInIdeal.main_arg4) = m ((c.tc : Thread Cert.KernelNormInIdeal.nD Cert.KernelNormInIdeal.τ).loc Cert.KernelNormInIdeal.main_arg4)
          ∧ r.2.mem ((c.tc : Thread Cert.KernelNormInIdeal.nD Cert.KernelNormInIdeal.τ).loc Cert.KernelNormInIdeal.main_arg5) = m ((c.tc : Thread Cert.KernelNormInIdeal.nD Cert.KernelNormInIdeal.τ).loc Cert.KernelNormInIdeal.main_arg5))
      ∧ θ_run (Cert.ReferenceNormInIdeal.defs (F := Ideal)) (onTc (τ := Cert.ReferenceNormInIdeal.τ) (Cert.ReferenceNormInIdeal.main (F := Ideal))) ⟨m', fun _ => 0, g'⟩ (fun r => ∀ c : Dev Cert.ReferenceNormInIdeal.nD,
          r.2.mem ((c.tc : Thread Cert.ReferenceNormInIdeal.nD Cert.ReferenceNormInIdeal.τ).loc Cert.ReferenceNormInIdeal.main_v52) = v0 c
          ∧ r.2.mem ((c.tc : Thread Cert.ReferenceNormInIdeal.nD Cert.ReferenceNormInIdeal.τ).loc Cert.ReferenceNormInIdeal.main_v27) = v1 c
          ∧ r.2.mem ((c.tc : Thread Cert.ReferenceNormInIdeal.nD Cert.ReferenceNormInIdeal.τ).loc Cert.ReferenceNormInIdeal.main_v30) = v2 c
          ∧ r.2.mem ((c.tc : Thread Cert.ReferenceNormInIdeal.nD Cert.ReferenceNormInIdeal.τ).loc Cert.ReferenceNormInIdeal.main_v35) = v3 c
          ∧ r.2.mem ((c.tc : Thread Cert.ReferenceNormInIdeal.nD Cert.ReferenceNormInIdeal.τ).loc Cert.ReferenceNormInIdeal.main_arg0) = m' ((c.tc : Thread Cert.ReferenceNormInIdeal.nD Cert.ReferenceNormInIdeal.τ).loc Cert.ReferenceNormInIdeal.main_arg0)
          ∧ r.2.mem ((c.tc : Thread Cert.ReferenceNormInIdeal.nD Cert.ReferenceNormInIdeal.τ).loc Cert.ReferenceNormInIdeal.main_arg1) = m' ((c.tc : Thread Cert.ReferenceNormInIdeal.nD Cert.ReferenceNormInIdeal.τ).loc Cert.ReferenceNormInIdeal.main_arg1)
          ∧ r.2.mem ((c.tc : Thread Cert.ReferenceNormInIdeal.nD Cert.ReferenceNormInIdeal.τ).loc Cert.ReferenceNormInIdeal.main_arg2) = m' ((c.tc : Thread Cert.ReferenceNormInIdeal.nD Cert.ReferenceNormInIdeal.τ).loc Cert.ReferenceNormInIdeal.main_arg2)
          ∧ r.2.mem ((c.tc : Thread Cert.ReferenceNormInIdeal.nD Cert.ReferenceNormInIdeal.τ).loc Cert.ReferenceNormInIdeal.main_arg3) = m' ((c.tc : Thread Cert.ReferenceNormInIdeal.nD Cert.ReferenceNormInIdeal.τ).loc Cert.ReferenceNormInIdeal.main_arg3)
          ∧ r.2.mem ((c.tc : Thread Cert.ReferenceNormInIdeal.nD Cert.ReferenceNormInIdeal.τ).loc Cert.ReferenceNormInIdeal.main_arg4) = m' ((c.tc : Thread Cert.ReferenceNormInIdeal.nD Cert.ReferenceNormInIdeal.τ).loc Cert.ReferenceNormInIdeal.main_arg4)
          ∧ r.2.mem ((c.tc : Thread Cert.ReferenceNormInIdeal.nD Cert.ReferenceNormInIdeal.τ).loc Cert.ReferenceNormInIdeal.main_arg5) = m' ((c.tc : Thread Cert.ReferenceNormInIdeal.nD Cert.ReferenceNormInIdeal.τ).loc Cert.ReferenceNormInIdeal.main_arg5))

def preserves_KernelNormFfn_KernelNormFfnIdeal : Prop :=
  True

def algebraic_KernelNormFfnIdeal_ReferenceNormFfnIdeal [hKernelNormFfnIdeal : Cert.KernelNormFfnIdeal.Facts] [hReferenceNormFfnIdeal : Cert.ReferenceNormFfnIdeal.Facts] : Prop :=
  ∀ (m : (ℓ : Loc Cert.KernelNormFfnIdeal.nD Cert.KernelNormFfnIdeal.τ Cert.KernelNormFfnIdeal.sig) → Buf (Elt Ideal) ℓ) (g : Dev Cert.KernelNormFfnIdeal.nD → PrngReg)
    (m' : (ℓ : Loc Cert.ReferenceNormFfnIdeal.nD Cert.ReferenceNormFfnIdeal.τ Cert.ReferenceNormFfnIdeal.sig) → Buf (Elt Ideal) ℓ) (g' : Dev Cert.ReferenceNormFfnIdeal.nD → PrngReg), Pre_KernelNormFfnIdeal m →
    (∀ c : Dev Cert.KernelNormFfnIdeal.nD,
      m' ((c.tc : Thread Cert.ReferenceNormFfnIdeal.nD Cert.ReferenceNormFfnIdeal.τ).loc Cert.ReferenceNormFfnIdeal.main_arg0) = m ((c.tc : Thread Cert.KernelNormFfnIdeal.nD Cert.KernelNormFfnIdeal.τ).loc Cert.KernelNormFfnIdeal.main_arg0)
      ∧ m' ((c.tc : Thread Cert.ReferenceNormFfnIdeal.nD Cert.ReferenceNormFfnIdeal.τ).loc Cert.ReferenceNormFfnIdeal.main_arg1) = m ((c.tc : Thread Cert.KernelNormFfnIdeal.nD Cert.KernelNormFfnIdeal.τ).loc Cert.KernelNormFfnIdeal.main_arg1)
      ∧ m' ((c.tc : Thread Cert.ReferenceNormFfnIdeal.nD Cert.ReferenceNormFfnIdeal.τ).loc Cert.ReferenceNormFfnIdeal.main_arg2) = m ((c.tc : Thread Cert.KernelNormFfnIdeal.nD Cert.KernelNormFfnIdeal.τ).loc Cert.KernelNormFfnIdeal.main_arg2)
      ∧ m' ((c.tc : Thread Cert.ReferenceNormFfnIdeal.nD Cert.ReferenceNormFfnIdeal.τ).loc Cert.ReferenceNormFfnIdeal.main_arg3) = m ((c.tc : Thread Cert.KernelNormFfnIdeal.nD Cert.KernelNormFfnIdeal.τ).loc Cert.KernelNormFfnIdeal.main_arg3)
      ∧ m' ((c.tc : Thread Cert.ReferenceNormFfnIdeal.nD Cert.ReferenceNormFfnIdeal.τ).loc Cert.ReferenceNormFfnIdeal.main_arg4) = m ((c.tc : Thread Cert.KernelNormFfnIdeal.nD Cert.KernelNormFfnIdeal.τ).loc Cert.KernelNormFfnIdeal.main_arg4)
      ∧ m' ((c.tc : Thread Cert.ReferenceNormFfnIdeal.nD Cert.ReferenceNormFfnIdeal.τ).loc Cert.ReferenceNormFfnIdeal.main_arg5) = m ((c.tc : Thread Cert.KernelNormFfnIdeal.nD Cert.KernelNormFfnIdeal.τ).loc Cert.KernelNormFfnIdeal.main_arg5)) →
    ∃ (v0 : (c : Dev Cert.KernelNormFfnIdeal.nD) → Buf (Elt Ideal) ((c.tc : Thread Cert.KernelNormFfnIdeal.nD Cert.KernelNormFfnIdeal.τ).loc Cert.KernelNormFfnIdeal.main_v0_0)) (v1 : (c : Dev Cert.KernelNormFfnIdeal.nD) → Buf (Elt Ideal) ((c.tc : Thread Cert.KernelNormFfnIdeal.nD Cert.KernelNormFfnIdeal.τ).loc Cert.KernelNormFfnIdeal.main_v0_1)) (v2 : (c : Dev Cert.KernelNormFfnIdeal.nD) → Buf (Elt Ideal) ((c.tc : Thread Cert.KernelNormFfnIdeal.nD Cert.KernelNormFfnIdeal.τ).loc Cert.KernelNormFfnIdeal.main_v0_2)) (v3 : (c : Dev Cert.KernelNormFfnIdeal.nD) → Buf (Elt Ideal) ((c.tc : Thread Cert.KernelNormFfnIdeal.nD Cert.KernelNormFfnIdeal.τ).loc Cert.KernelNormFfnIdeal.main_v0_3)),
      θ_run (Cert.KernelNormFfnIdeal.defs (F := Ideal)) (onTc (τ := Cert.KernelNormFfnIdeal.τ) (Cert.KernelNormFfnIdeal.main (F := Ideal))) ⟨m, fun _ => 0, g⟩ (fun r => ∀ c : Dev Cert.KernelNormFfnIdeal.nD,
          r.2.mem ((c.tc : Thread Cert.KernelNormFfnIdeal.nD Cert.KernelNormFfnIdeal.τ).loc Cert.KernelNormFfnIdeal.main_v0_0) = v0 c
          ∧ r.2.mem ((c.tc : Thread Cert.KernelNormFfnIdeal.nD Cert.KernelNormFfnIdeal.τ).loc Cert.KernelNormFfnIdeal.main_v0_1) = v1 c
          ∧ r.2.mem ((c.tc : Thread Cert.KernelNormFfnIdeal.nD Cert.KernelNormFfnIdeal.τ).loc Cert.KernelNormFfnIdeal.main_v0_2) = v2 c
          ∧ r.2.mem ((c.tc : Thread Cert.KernelNormFfnIdeal.nD Cert.KernelNormFfnIdeal.τ).loc Cert.KernelNormFfnIdeal.main_v0_3) = v3 c
          ∧ r.2.mem ((c.tc : Thread Cert.KernelNormFfnIdeal.nD Cert.KernelNormFfnIdeal.τ).loc Cert.KernelNormFfnIdeal.main_arg0) = m ((c.tc : Thread Cert.KernelNormFfnIdeal.nD Cert.KernelNormFfnIdeal.τ).loc Cert.KernelNormFfnIdeal.main_arg0)
          ∧ r.2.mem ((c.tc : Thread Cert.KernelNormFfnIdeal.nD Cert.KernelNormFfnIdeal.τ).loc Cert.KernelNormFfnIdeal.main_arg1) = m ((c.tc : Thread Cert.KernelNormFfnIdeal.nD Cert.KernelNormFfnIdeal.τ).loc Cert.KernelNormFfnIdeal.main_arg1)
          ∧ r.2.mem ((c.tc : Thread Cert.KernelNormFfnIdeal.nD Cert.KernelNormFfnIdeal.τ).loc Cert.KernelNormFfnIdeal.main_arg2) = m ((c.tc : Thread Cert.KernelNormFfnIdeal.nD Cert.KernelNormFfnIdeal.τ).loc Cert.KernelNormFfnIdeal.main_arg2)
          ∧ r.2.mem ((c.tc : Thread Cert.KernelNormFfnIdeal.nD Cert.KernelNormFfnIdeal.τ).loc Cert.KernelNormFfnIdeal.main_arg3) = m ((c.tc : Thread Cert.KernelNormFfnIdeal.nD Cert.KernelNormFfnIdeal.τ).loc Cert.KernelNormFfnIdeal.main_arg3)
          ∧ r.2.mem ((c.tc : Thread Cert.KernelNormFfnIdeal.nD Cert.KernelNormFfnIdeal.τ).loc Cert.KernelNormFfnIdeal.main_arg4) = m ((c.tc : Thread Cert.KernelNormFfnIdeal.nD Cert.KernelNormFfnIdeal.τ).loc Cert.KernelNormFfnIdeal.main_arg4)
          ∧ r.2.mem ((c.tc : Thread Cert.KernelNormFfnIdeal.nD Cert.KernelNormFfnIdeal.τ).loc Cert.KernelNormFfnIdeal.main_arg5) = m ((c.tc : Thread Cert.KernelNormFfnIdeal.nD Cert.KernelNormFfnIdeal.τ).loc Cert.KernelNormFfnIdeal.main_arg5))
      ∧ θ_run (Cert.ReferenceNormFfnIdeal.defs (F := Ideal)) (onTc (τ := Cert.ReferenceNormFfnIdeal.τ) (Cert.ReferenceNormFfnIdeal.main (F := Ideal))) ⟨m', fun _ => 0, g'⟩ (fun r => ∀ c : Dev Cert.ReferenceNormFfnIdeal.nD,
          r.2.mem ((c.tc : Thread Cert.ReferenceNormFfnIdeal.nD Cert.ReferenceNormFfnIdeal.τ).loc Cert.ReferenceNormFfnIdeal.main_v57) = v0 c
          ∧ r.2.mem ((c.tc : Thread Cert.ReferenceNormFfnIdeal.nD Cert.ReferenceNormFfnIdeal.τ).loc Cert.ReferenceNormFfnIdeal.main_v32) = v1 c
          ∧ r.2.mem ((c.tc : Thread Cert.ReferenceNormFfnIdeal.nD Cert.ReferenceNormFfnIdeal.τ).loc Cert.ReferenceNormFfnIdeal.main_v35) = v2 c
          ∧ r.2.mem ((c.tc : Thread Cert.ReferenceNormFfnIdeal.nD Cert.ReferenceNormFfnIdeal.τ).loc Cert.ReferenceNormFfnIdeal.main_v40) = v3 c
          ∧ r.2.mem ((c.tc : Thread Cert.ReferenceNormFfnIdeal.nD Cert.ReferenceNormFfnIdeal.τ).loc Cert.ReferenceNormFfnIdeal.main_arg0) = m' ((c.tc : Thread Cert.ReferenceNormFfnIdeal.nD Cert.ReferenceNormFfnIdeal.τ).loc Cert.ReferenceNormFfnIdeal.main_arg0)
          ∧ r.2.mem ((c.tc : Thread Cert.ReferenceNormFfnIdeal.nD Cert.ReferenceNormFfnIdeal.τ).loc Cert.ReferenceNormFfnIdeal.main_arg1) = m' ((c.tc : Thread Cert.ReferenceNormFfnIdeal.nD Cert.ReferenceNormFfnIdeal.τ).loc Cert.ReferenceNormFfnIdeal.main_arg1)
          ∧ r.2.mem ((c.tc : Thread Cert.ReferenceNormFfnIdeal.nD Cert.ReferenceNormFfnIdeal.τ).loc Cert.ReferenceNormFfnIdeal.main_arg2) = m' ((c.tc : Thread Cert.ReferenceNormFfnIdeal.nD Cert.ReferenceNormFfnIdeal.τ).loc Cert.ReferenceNormFfnIdeal.main_arg2)
          ∧ r.2.mem ((c.tc : Thread Cert.ReferenceNormFfnIdeal.nD Cert.ReferenceNormFfnIdeal.τ).loc Cert.ReferenceNormFfnIdeal.main_arg3) = m' ((c.tc : Thread Cert.ReferenceNormFfnIdeal.nD Cert.ReferenceNormFfnIdeal.τ).loc Cert.ReferenceNormFfnIdeal.main_arg3)
          ∧ r.2.mem ((c.tc : Thread Cert.ReferenceNormFfnIdeal.nD Cert.ReferenceNormFfnIdeal.τ).loc Cert.ReferenceNormFfnIdeal.main_arg4) = m' ((c.tc : Thread Cert.ReferenceNormFfnIdeal.nD Cert.ReferenceNormFfnIdeal.τ).loc Cert.ReferenceNormFfnIdeal.main_arg4)
          ∧ r.2.mem ((c.tc : Thread Cert.ReferenceNormFfnIdeal.nD Cert.ReferenceNormFfnIdeal.τ).loc Cert.ReferenceNormFfnIdeal.main_arg5) = m' ((c.tc : Thread Cert.ReferenceNormFfnIdeal.nD Cert.ReferenceNormFfnIdeal.τ).loc Cert.ReferenceNormFfnIdeal.main_arg5))

def preserves_KernelDownFwd_KernelDownFwdIdeal : Prop :=
  True

def algebraic_KernelDownFwdIdeal_ReferenceDownFwdIdeal [hKernelDownFwdIdeal : Cert.KernelDownFwdIdeal.Facts] [hReferenceDownFwdIdeal : Cert.ReferenceDownFwdIdeal.Facts] : Prop :=
  ∀ (m : (ℓ : Loc Cert.KernelDownFwdIdeal.nD Cert.KernelDownFwdIdeal.τ Cert.KernelDownFwdIdeal.sig) → Buf (Elt Ideal) ℓ) (g : Dev Cert.KernelDownFwdIdeal.nD → PrngReg)
    (m' : (ℓ : Loc Cert.ReferenceDownFwdIdeal.nD Cert.ReferenceDownFwdIdeal.τ Cert.ReferenceDownFwdIdeal.sig) → Buf (Elt Ideal) ℓ) (g' : Dev Cert.ReferenceDownFwdIdeal.nD → PrngReg), Pre_KernelDownFwdIdeal m →
    (∀ c : Dev Cert.KernelDownFwdIdeal.nD,
      m' ((c.tc : Thread Cert.ReferenceDownFwdIdeal.nD Cert.ReferenceDownFwdIdeal.τ).loc Cert.ReferenceDownFwdIdeal.main_arg0) = m ((c.tc : Thread Cert.KernelDownFwdIdeal.nD Cert.KernelDownFwdIdeal.τ).loc Cert.KernelDownFwdIdeal.main_arg0)
      ∧ m' ((c.tc : Thread Cert.ReferenceDownFwdIdeal.nD Cert.ReferenceDownFwdIdeal.τ).loc Cert.ReferenceDownFwdIdeal.main_arg1) = m ((c.tc : Thread Cert.KernelDownFwdIdeal.nD Cert.KernelDownFwdIdeal.τ).loc Cert.KernelDownFwdIdeal.main_arg1)
      ∧ m' ((c.tc : Thread Cert.ReferenceDownFwdIdeal.nD Cert.ReferenceDownFwdIdeal.τ).loc Cert.ReferenceDownFwdIdeal.main_arg2) = m ((c.tc : Thread Cert.KernelDownFwdIdeal.nD Cert.KernelDownFwdIdeal.τ).loc Cert.KernelDownFwdIdeal.main_arg2)
      ∧ m' ((c.tc : Thread Cert.ReferenceDownFwdIdeal.nD Cert.ReferenceDownFwdIdeal.τ).loc Cert.ReferenceDownFwdIdeal.main_arg3) = m ((c.tc : Thread Cert.KernelDownFwdIdeal.nD Cert.KernelDownFwdIdeal.τ).loc Cert.KernelDownFwdIdeal.main_arg3)) →
    ∃ (v0 : (c : Dev Cert.KernelDownFwdIdeal.nD) → Buf (Elt Ideal) ((c.tc : Thread Cert.KernelDownFwdIdeal.nD Cert.KernelDownFwdIdeal.τ).loc Cert.KernelDownFwdIdeal.main_v0_0)) (v1 : (c : Dev Cert.KernelDownFwdIdeal.nD) → Buf (Elt Ideal) ((c.tc : Thread Cert.KernelDownFwdIdeal.nD Cert.KernelDownFwdIdeal.τ).loc Cert.KernelDownFwdIdeal.main_v0_1)),
      θ_run (Cert.KernelDownFwdIdeal.defs (F := Ideal)) (onTc (τ := Cert.KernelDownFwdIdeal.τ) (Cert.KernelDownFwdIdeal.main (F := Ideal))) ⟨m, fun _ => 0, g⟩ (fun r => ∀ c : Dev Cert.KernelDownFwdIdeal.nD,
          r.2.mem ((c.tc : Thread Cert.KernelDownFwdIdeal.nD Cert.KernelDownFwdIdeal.τ).loc Cert.KernelDownFwdIdeal.main_v0_0) = v0 c
          ∧ r.2.mem ((c.tc : Thread Cert.KernelDownFwdIdeal.nD Cert.KernelDownFwdIdeal.τ).loc Cert.KernelDownFwdIdeal.main_v0_1) = v1 c
          ∧ r.2.mem ((c.tc : Thread Cert.KernelDownFwdIdeal.nD Cert.KernelDownFwdIdeal.τ).loc Cert.KernelDownFwdIdeal.main_arg0) = m ((c.tc : Thread Cert.KernelDownFwdIdeal.nD Cert.KernelDownFwdIdeal.τ).loc Cert.KernelDownFwdIdeal.main_arg0)
          ∧ r.2.mem ((c.tc : Thread Cert.KernelDownFwdIdeal.nD Cert.KernelDownFwdIdeal.τ).loc Cert.KernelDownFwdIdeal.main_arg1) = m ((c.tc : Thread Cert.KernelDownFwdIdeal.nD Cert.KernelDownFwdIdeal.τ).loc Cert.KernelDownFwdIdeal.main_arg1)
          ∧ r.2.mem ((c.tc : Thread Cert.KernelDownFwdIdeal.nD Cert.KernelDownFwdIdeal.τ).loc Cert.KernelDownFwdIdeal.main_arg2) = m ((c.tc : Thread Cert.KernelDownFwdIdeal.nD Cert.KernelDownFwdIdeal.τ).loc Cert.KernelDownFwdIdeal.main_arg2)
          ∧ r.2.mem ((c.tc : Thread Cert.KernelDownFwdIdeal.nD Cert.KernelDownFwdIdeal.τ).loc Cert.KernelDownFwdIdeal.main_arg3) = m ((c.tc : Thread Cert.KernelDownFwdIdeal.nD Cert.KernelDownFwdIdeal.τ).loc Cert.KernelDownFwdIdeal.main_arg3))
      ∧ θ_run (Cert.ReferenceDownFwdIdeal.defs (F := Ideal)) (onTc (τ := Cert.ReferenceDownFwdIdeal.τ) (Cert.ReferenceDownFwdIdeal.main (F := Ideal))) ⟨m', fun _ => 0, g'⟩ (fun r => ∀ c : Dev Cert.ReferenceDownFwdIdeal.nD,
          r.2.mem ((c.tc : Thread Cert.ReferenceDownFwdIdeal.nD Cert.ReferenceDownFwdIdeal.τ).loc Cert.ReferenceDownFwdIdeal.main_v5) = v0 c
          ∧ r.2.mem ((c.tc : Thread Cert.ReferenceDownFwdIdeal.nD Cert.ReferenceDownFwdIdeal.τ).loc Cert.ReferenceDownFwdIdeal.main_v6) = v1 c
          ∧ r.2.mem ((c.tc : Thread Cert.ReferenceDownFwdIdeal.nD Cert.ReferenceDownFwdIdeal.τ).loc Cert.ReferenceDownFwdIdeal.main_arg0) = m' ((c.tc : Thread Cert.ReferenceDownFwdIdeal.nD Cert.ReferenceDownFwdIdeal.τ).loc Cert.ReferenceDownFwdIdeal.main_arg0)
          ∧ r.2.mem ((c.tc : Thread Cert.ReferenceDownFwdIdeal.nD Cert.ReferenceDownFwdIdeal.τ).loc Cert.ReferenceDownFwdIdeal.main_arg1) = m' ((c.tc : Thread Cert.ReferenceDownFwdIdeal.nD Cert.ReferenceDownFwdIdeal.τ).loc Cert.ReferenceDownFwdIdeal.main_arg1)
          ∧ r.2.mem ((c.tc : Thread Cert.ReferenceDownFwdIdeal.nD Cert.ReferenceDownFwdIdeal.τ).loc Cert.ReferenceDownFwdIdeal.main_arg2) = m' ((c.tc : Thread Cert.ReferenceDownFwdIdeal.nD Cert.ReferenceDownFwdIdeal.τ).loc Cert.ReferenceDownFwdIdeal.main_arg2)
          ∧ r.2.mem ((c.tc : Thread Cert.ReferenceDownFwdIdeal.nD Cert.ReferenceDownFwdIdeal.τ).loc Cert.ReferenceDownFwdIdeal.main_arg3) = m' ((c.tc : Thread Cert.ReferenceDownFwdIdeal.nD Cert.ReferenceDownFwdIdeal.τ).loc Cert.ReferenceDownFwdIdeal.main_arg3))

def preserves_KernelOFwd_KernelOFwdIdeal : Prop :=
  True

def algebraic_KernelOFwdIdeal_ReferenceOFwdIdeal [hKernelOFwdIdeal : Cert.KernelOFwdIdeal.Facts] [hReferenceOFwdIdeal : Cert.ReferenceOFwdIdeal.Facts] : Prop :=
  ∀ (m : (ℓ : Loc Cert.KernelOFwdIdeal.nD Cert.KernelOFwdIdeal.τ Cert.KernelOFwdIdeal.sig) → Buf (Elt Ideal) ℓ) (g : Dev Cert.KernelOFwdIdeal.nD → PrngReg)
    (m' : (ℓ : Loc Cert.ReferenceOFwdIdeal.nD Cert.ReferenceOFwdIdeal.τ Cert.ReferenceOFwdIdeal.sig) → Buf (Elt Ideal) ℓ) (g' : Dev Cert.ReferenceOFwdIdeal.nD → PrngReg), Pre_KernelOFwdIdeal m →
    (∀ c : Dev Cert.KernelOFwdIdeal.nD,
      m' ((c.tc : Thread Cert.ReferenceOFwdIdeal.nD Cert.ReferenceOFwdIdeal.τ).loc Cert.ReferenceOFwdIdeal.main_arg0) = m ((c.tc : Thread Cert.KernelOFwdIdeal.nD Cert.KernelOFwdIdeal.τ).loc Cert.KernelOFwdIdeal.main_arg0)
      ∧ m' ((c.tc : Thread Cert.ReferenceOFwdIdeal.nD Cert.ReferenceOFwdIdeal.τ).loc Cert.ReferenceOFwdIdeal.main_arg1) = m ((c.tc : Thread Cert.KernelOFwdIdeal.nD Cert.KernelOFwdIdeal.τ).loc Cert.KernelOFwdIdeal.main_arg1)
      ∧ m' ((c.tc : Thread Cert.ReferenceOFwdIdeal.nD Cert.ReferenceOFwdIdeal.τ).loc Cert.ReferenceOFwdIdeal.main_arg2) = m ((c.tc : Thread Cert.KernelOFwdIdeal.nD Cert.KernelOFwdIdeal.τ).loc Cert.KernelOFwdIdeal.main_arg2)
      ∧ m' ((c.tc : Thread Cert.ReferenceOFwdIdeal.nD Cert.ReferenceOFwdIdeal.τ).loc Cert.ReferenceOFwdIdeal.main_arg3) = m ((c.tc : Thread Cert.KernelOFwdIdeal.nD Cert.KernelOFwdIdeal.τ).loc Cert.KernelOFwdIdeal.main_arg3)
      ∧ m' ((c.tc : Thread Cert.ReferenceOFwdIdeal.nD Cert.ReferenceOFwdIdeal.τ).loc Cert.ReferenceOFwdIdeal.main_arg4) = m ((c.tc : Thread Cert.KernelOFwdIdeal.nD Cert.KernelOFwdIdeal.τ).loc Cert.KernelOFwdIdeal.main_arg4)
      ∧ m' ((c.tc : Thread Cert.ReferenceOFwdIdeal.nD Cert.ReferenceOFwdIdeal.τ).loc Cert.ReferenceOFwdIdeal.main_arg5) = m ((c.tc : Thread Cert.KernelOFwdIdeal.nD Cert.KernelOFwdIdeal.τ).loc Cert.KernelOFwdIdeal.main_arg5)) →
    ∃ (v0 : (c : Dev Cert.KernelOFwdIdeal.nD) → Buf (Elt Ideal) ((c.tc : Thread Cert.KernelOFwdIdeal.nD Cert.KernelOFwdIdeal.τ).loc Cert.KernelOFwdIdeal.main_v0_0)) (v1 : (c : Dev Cert.KernelOFwdIdeal.nD) → Buf (Elt Ideal) ((c.tc : Thread Cert.KernelOFwdIdeal.nD Cert.KernelOFwdIdeal.τ).loc Cert.KernelOFwdIdeal.main_v0_1)) (v2 : (c : Dev Cert.KernelOFwdIdeal.nD) → Buf (Elt Ideal) ((c.tc : Thread Cert.KernelOFwdIdeal.nD Cert.KernelOFwdIdeal.τ).loc Cert.KernelOFwdIdeal.main_v0_2)),
      θ_run (Cert.KernelOFwdIdeal.defs (F := Ideal)) (onTc (τ := Cert.KernelOFwdIdeal.τ) (Cert.KernelOFwdIdeal.main (F := Ideal))) ⟨m, fun _ => 0, g⟩ (fun r => ∀ c : Dev Cert.KernelOFwdIdeal.nD,
          r.2.mem ((c.tc : Thread Cert.KernelOFwdIdeal.nD Cert.KernelOFwdIdeal.τ).loc Cert.KernelOFwdIdeal.main_v0_0) = v0 c
          ∧ r.2.mem ((c.tc : Thread Cert.KernelOFwdIdeal.nD Cert.KernelOFwdIdeal.τ).loc Cert.KernelOFwdIdeal.main_v0_1) = v1 c
          ∧ r.2.mem ((c.tc : Thread Cert.KernelOFwdIdeal.nD Cert.KernelOFwdIdeal.τ).loc Cert.KernelOFwdIdeal.main_v0_2) = v2 c
          ∧ r.2.mem ((c.tc : Thread Cert.KernelOFwdIdeal.nD Cert.KernelOFwdIdeal.τ).loc Cert.KernelOFwdIdeal.main_arg0) = m ((c.tc : Thread Cert.KernelOFwdIdeal.nD Cert.KernelOFwdIdeal.τ).loc Cert.KernelOFwdIdeal.main_arg0)
          ∧ r.2.mem ((c.tc : Thread Cert.KernelOFwdIdeal.nD Cert.KernelOFwdIdeal.τ).loc Cert.KernelOFwdIdeal.main_arg1) = m ((c.tc : Thread Cert.KernelOFwdIdeal.nD Cert.KernelOFwdIdeal.τ).loc Cert.KernelOFwdIdeal.main_arg1)
          ∧ r.2.mem ((c.tc : Thread Cert.KernelOFwdIdeal.nD Cert.KernelOFwdIdeal.τ).loc Cert.KernelOFwdIdeal.main_arg2) = m ((c.tc : Thread Cert.KernelOFwdIdeal.nD Cert.KernelOFwdIdeal.τ).loc Cert.KernelOFwdIdeal.main_arg2)
          ∧ r.2.mem ((c.tc : Thread Cert.KernelOFwdIdeal.nD Cert.KernelOFwdIdeal.τ).loc Cert.KernelOFwdIdeal.main_arg3) = m ((c.tc : Thread Cert.KernelOFwdIdeal.nD Cert.KernelOFwdIdeal.τ).loc Cert.KernelOFwdIdeal.main_arg3)
          ∧ r.2.mem ((c.tc : Thread Cert.KernelOFwdIdeal.nD Cert.KernelOFwdIdeal.τ).loc Cert.KernelOFwdIdeal.main_arg4) = m ((c.tc : Thread Cert.KernelOFwdIdeal.nD Cert.KernelOFwdIdeal.τ).loc Cert.KernelOFwdIdeal.main_arg4)
          ∧ r.2.mem ((c.tc : Thread Cert.KernelOFwdIdeal.nD Cert.KernelOFwdIdeal.τ).loc Cert.KernelOFwdIdeal.main_arg5) = m ((c.tc : Thread Cert.KernelOFwdIdeal.nD Cert.KernelOFwdIdeal.τ).loc Cert.KernelOFwdIdeal.main_arg5))
      ∧ θ_run (Cert.ReferenceOFwdIdeal.defs (F := Ideal)) (onTc (τ := Cert.ReferenceOFwdIdeal.τ) (Cert.ReferenceOFwdIdeal.main (F := Ideal))) ⟨m', fun _ => 0, g'⟩ (fun r => ∀ c : Dev Cert.ReferenceOFwdIdeal.nD,
          r.2.mem ((c.tc : Thread Cert.ReferenceOFwdIdeal.nD Cert.ReferenceOFwdIdeal.τ).loc Cert.ReferenceOFwdIdeal.main_v7) = v0 c
          ∧ r.2.mem ((c.tc : Thread Cert.ReferenceOFwdIdeal.nD Cert.ReferenceOFwdIdeal.τ).loc Cert.ReferenceOFwdIdeal.main_v8) = v1 c
          ∧ r.2.mem ((c.tc : Thread Cert.ReferenceOFwdIdeal.nD Cert.ReferenceOFwdIdeal.τ).loc Cert.ReferenceOFwdIdeal.main_v1) = v2 c
          ∧ r.2.mem ((c.tc : Thread Cert.ReferenceOFwdIdeal.nD Cert.ReferenceOFwdIdeal.τ).loc Cert.ReferenceOFwdIdeal.main_arg0) = m' ((c.tc : Thread Cert.ReferenceOFwdIdeal.nD Cert.ReferenceOFwdIdeal.τ).loc Cert.ReferenceOFwdIdeal.main_arg0)
          ∧ r.2.mem ((c.tc : Thread Cert.ReferenceOFwdIdeal.nD Cert.ReferenceOFwdIdeal.τ).loc Cert.ReferenceOFwdIdeal.main_arg1) = m' ((c.tc : Thread Cert.ReferenceOFwdIdeal.nD Cert.ReferenceOFwdIdeal.τ).loc Cert.ReferenceOFwdIdeal.main_arg1)
          ∧ r.2.mem ((c.tc : Thread Cert.ReferenceOFwdIdeal.nD Cert.ReferenceOFwdIdeal.τ).loc Cert.ReferenceOFwdIdeal.main_arg2) = m' ((c.tc : Thread Cert.ReferenceOFwdIdeal.nD Cert.ReferenceOFwdIdeal.τ).loc Cert.ReferenceOFwdIdeal.main_arg2)
          ∧ r.2.mem ((c.tc : Thread Cert.ReferenceOFwdIdeal.nD Cert.ReferenceOFwdIdeal.τ).loc Cert.ReferenceOFwdIdeal.main_arg3) = m' ((c.tc : Thread Cert.ReferenceOFwdIdeal.nD Cert.ReferenceOFwdIdeal.τ).loc Cert.ReferenceOFwdIdeal.main_arg3)
          ∧ r.2.mem ((c.tc : Thread Cert.ReferenceOFwdIdeal.nD Cert.ReferenceOFwdIdeal.τ).loc Cert.ReferenceOFwdIdeal.main_arg4) = m' ((c.tc : Thread Cert.ReferenceOFwdIdeal.nD Cert.ReferenceOFwdIdeal.τ).loc Cert.ReferenceOFwdIdeal.main_arg4)
          ∧ r.2.mem ((c.tc : Thread Cert.ReferenceOFwdIdeal.nD Cert.ReferenceOFwdIdeal.τ).loc Cert.ReferenceOFwdIdeal.main_arg5) = m' ((c.tc : Thread Cert.ReferenceOFwdIdeal.nD Cert.ReferenceOFwdIdeal.τ).loc Cert.ReferenceOFwdIdeal.main_arg5))

def preserves_KernelOBack_KernelOBackIdeal : Prop :=
  True

def algebraic_KernelOBackIdeal_ReferenceOBackIdeal [hKernelOBackIdeal : Cert.KernelOBackIdeal.Facts] [hReferenceOBackIdeal : Cert.ReferenceOBackIdeal.Facts] : Prop :=
  ∀ (m : (ℓ : Loc Cert.KernelOBackIdeal.nD Cert.KernelOBackIdeal.τ Cert.KernelOBackIdeal.sig) → Buf (Elt Ideal) ℓ) (g : Dev Cert.KernelOBackIdeal.nD → PrngReg)
    (m' : (ℓ : Loc Cert.ReferenceOBackIdeal.nD Cert.ReferenceOBackIdeal.τ Cert.ReferenceOBackIdeal.sig) → Buf (Elt Ideal) ℓ) (g' : Dev Cert.ReferenceOBackIdeal.nD → PrngReg), Pre_KernelOBackIdeal m →
    (∀ c : Dev Cert.KernelOBackIdeal.nD,
      m' ((c.tc : Thread Cert.ReferenceOBackIdeal.nD Cert.ReferenceOBackIdeal.τ).loc Cert.ReferenceOBackIdeal.main_arg0) = m ((c.tc : Thread Cert.KernelOBackIdeal.nD Cert.KernelOBackIdeal.τ).loc Cert.KernelOBackIdeal.main_arg0)
      ∧ m' ((c.tc : Thread Cert.ReferenceOBackIdeal.nD Cert.ReferenceOBackIdeal.τ).loc Cert.ReferenceOBackIdeal.main_arg1) = m ((c.tc : Thread Cert.KernelOBackIdeal.nD Cert.KernelOBackIdeal.τ).loc Cert.KernelOBackIdeal.main_arg1)
      ∧ m' ((c.tc : Thread Cert.ReferenceOBackIdeal.nD Cert.ReferenceOBackIdeal.τ).loc Cert.ReferenceOBackIdeal.main_arg2) = m ((c.tc : Thread Cert.KernelOBackIdeal.nD Cert.KernelOBackIdeal.τ).loc Cert.KernelOBackIdeal.main_arg2)
      ∧ m' ((c.tc : Thread Cert.ReferenceOBackIdeal.nD Cert.ReferenceOBackIdeal.τ).loc Cert.ReferenceOBackIdeal.main_arg3) = m ((c.tc : Thread Cert.KernelOBackIdeal.nD Cert.KernelOBackIdeal.τ).loc Cert.KernelOBackIdeal.main_arg3)
      ∧ m' ((c.tc : Thread Cert.ReferenceOBackIdeal.nD Cert.ReferenceOBackIdeal.τ).loc Cert.ReferenceOBackIdeal.main_arg4) = m ((c.tc : Thread Cert.KernelOBackIdeal.nD Cert.KernelOBackIdeal.τ).loc Cert.KernelOBackIdeal.main_arg4)
      ∧ m' ((c.tc : Thread Cert.ReferenceOBackIdeal.nD Cert.ReferenceOBackIdeal.τ).loc Cert.ReferenceOBackIdeal.main_arg5) = m ((c.tc : Thread Cert.KernelOBackIdeal.nD Cert.KernelOBackIdeal.τ).loc Cert.KernelOBackIdeal.main_arg5)
      ∧ m' ((c.tc : Thread Cert.ReferenceOBackIdeal.nD Cert.ReferenceOBackIdeal.τ).loc Cert.ReferenceOBackIdeal.main_arg6) = m ((c.tc : Thread Cert.KernelOBackIdeal.nD Cert.KernelOBackIdeal.τ).loc Cert.KernelOBackIdeal.main_arg6)
      ∧ m' ((c.tc : Thread Cert.ReferenceOBackIdeal.nD Cert.ReferenceOBackIdeal.τ).loc Cert.ReferenceOBackIdeal.main_arg7) = m ((c.tc : Thread Cert.KernelOBackIdeal.nD Cert.KernelOBackIdeal.τ).loc Cert.KernelOBackIdeal.main_arg7)) →
    ∃ (v0 : (c : Dev Cert.KernelOBackIdeal.nD) → Buf (Elt Ideal) ((c.tc : Thread Cert.KernelOBackIdeal.nD Cert.KernelOBackIdeal.τ).loc Cert.KernelOBackIdeal.main_v0_0)) (v1 : (c : Dev Cert.KernelOBackIdeal.nD) → Buf (Elt Ideal) ((c.tc : Thread Cert.KernelOBackIdeal.nD Cert.KernelOBackIdeal.τ).loc Cert.KernelOBackIdeal.main_v0_1)) (v2 : (c : Dev Cert.KernelOBackIdeal.nD) → Buf (Elt Ideal) ((c.tc : Thread Cert.KernelOBackIdeal.nD Cert.KernelOBackIdeal.τ).loc Cert.KernelOBackIdeal.main_v0_2)) (v3 : (c : Dev Cert.KernelOBackIdeal.nD) → Buf (Elt Ideal) ((c.tc : Thread Cert.KernelOBackIdeal.nD Cert.KernelOBackIdeal.τ).loc Cert.KernelOBackIdeal.main_v0_3)) (v4 : (c : Dev Cert.KernelOBackIdeal.nD) → Buf (Elt Ideal) ((c.tc : Thread Cert.KernelOBackIdeal.nD Cert.KernelOBackIdeal.τ).loc Cert.KernelOBackIdeal.main_v0_4)) (v5 : (c : Dev Cert.KernelOBackIdeal.nD) → Buf (Elt Ideal) ((c.tc : Thread Cert.KernelOBackIdeal.nD Cert.KernelOBackIdeal.τ).loc Cert.KernelOBackIdeal.main_v0_5)),
      θ_run (Cert.KernelOBackIdeal.defs (F := Ideal)) (onTc (τ := Cert.KernelOBackIdeal.τ) (Cert.KernelOBackIdeal.main (F := Ideal))) ⟨m, fun _ => 0, g⟩ (fun r => ∀ c : Dev Cert.KernelOBackIdeal.nD,
          r.2.mem ((c.tc : Thread Cert.KernelOBackIdeal.nD Cert.KernelOBackIdeal.τ).loc Cert.KernelOBackIdeal.main_v0_0) = v0 c
          ∧ r.2.mem ((c.tc : Thread Cert.KernelOBackIdeal.nD Cert.KernelOBackIdeal.τ).loc Cert.KernelOBackIdeal.main_v0_1) = v1 c
          ∧ r.2.mem ((c.tc : Thread Cert.KernelOBackIdeal.nD Cert.KernelOBackIdeal.τ).loc Cert.KernelOBackIdeal.main_v0_2) = v2 c
          ∧ r.2.mem ((c.tc : Thread Cert.KernelOBackIdeal.nD Cert.KernelOBackIdeal.τ).loc Cert.KernelOBackIdeal.main_v0_3) = v3 c
          ∧ r.2.mem ((c.tc : Thread Cert.KernelOBackIdeal.nD Cert.KernelOBackIdeal.τ).loc Cert.KernelOBackIdeal.main_v0_4) = v4 c
          ∧ r.2.mem ((c.tc : Thread Cert.KernelOBackIdeal.nD Cert.KernelOBackIdeal.τ).loc Cert.KernelOBackIdeal.main_v0_5) = v5 c
          ∧ r.2.mem ((c.tc : Thread Cert.KernelOBackIdeal.nD Cert.KernelOBackIdeal.τ).loc Cert.KernelOBackIdeal.main_arg0) = m ((c.tc : Thread Cert.KernelOBackIdeal.nD Cert.KernelOBackIdeal.τ).loc Cert.KernelOBackIdeal.main_arg0)
          ∧ r.2.mem ((c.tc : Thread Cert.KernelOBackIdeal.nD Cert.KernelOBackIdeal.τ).loc Cert.KernelOBackIdeal.main_arg1) = m ((c.tc : Thread Cert.KernelOBackIdeal.nD Cert.KernelOBackIdeal.τ).loc Cert.KernelOBackIdeal.main_arg1)
          ∧ r.2.mem ((c.tc : Thread Cert.KernelOBackIdeal.nD Cert.KernelOBackIdeal.τ).loc Cert.KernelOBackIdeal.main_arg2) = m ((c.tc : Thread Cert.KernelOBackIdeal.nD Cert.KernelOBackIdeal.τ).loc Cert.KernelOBackIdeal.main_arg2)
          ∧ r.2.mem ((c.tc : Thread Cert.KernelOBackIdeal.nD Cert.KernelOBackIdeal.τ).loc Cert.KernelOBackIdeal.main_arg3) = m ((c.tc : Thread Cert.KernelOBackIdeal.nD Cert.KernelOBackIdeal.τ).loc Cert.KernelOBackIdeal.main_arg3)
          ∧ r.2.mem ((c.tc : Thread Cert.KernelOBackIdeal.nD Cert.KernelOBackIdeal.τ).loc Cert.KernelOBackIdeal.main_arg4) = m ((c.tc : Thread Cert.KernelOBackIdeal.nD Cert.KernelOBackIdeal.τ).loc Cert.KernelOBackIdeal.main_arg4)
          ∧ r.2.mem ((c.tc : Thread Cert.KernelOBackIdeal.nD Cert.KernelOBackIdeal.τ).loc Cert.KernelOBackIdeal.main_arg5) = m ((c.tc : Thread Cert.KernelOBackIdeal.nD Cert.KernelOBackIdeal.τ).loc Cert.KernelOBackIdeal.main_arg5)
          ∧ r.2.mem ((c.tc : Thread Cert.KernelOBackIdeal.nD Cert.KernelOBackIdeal.τ).loc Cert.KernelOBackIdeal.main_arg6) = m ((c.tc : Thread Cert.KernelOBackIdeal.nD Cert.KernelOBackIdeal.τ).loc Cert.KernelOBackIdeal.main_arg6)
          ∧ r.2.mem ((c.tc : Thread Cert.KernelOBackIdeal.nD Cert.KernelOBackIdeal.τ).loc Cert.KernelOBackIdeal.main_arg7) = m ((c.tc : Thread Cert.KernelOBackIdeal.nD Cert.KernelOBackIdeal.τ).loc Cert.KernelOBackIdeal.main_arg7))
      ∧ θ_run (Cert.ReferenceOBackIdeal.defs (F := Ideal)) (onTc (τ := Cert.ReferenceOBackIdeal.τ) (Cert.ReferenceOBackIdeal.main (F := Ideal))) ⟨m', fun _ => 0, g'⟩ (fun r => ∀ c : Dev Cert.ReferenceOBackIdeal.nD,
          r.2.mem ((c.tc : Thread Cert.ReferenceOBackIdeal.nD Cert.ReferenceOBackIdeal.τ).loc Cert.ReferenceOBackIdeal.main_v127) = v0 c
          ∧ r.2.mem ((c.tc : Thread Cert.ReferenceOBackIdeal.nD Cert.ReferenceOBackIdeal.τ).loc Cert.ReferenceOBackIdeal.main_v128) = v1 c
          ∧ r.2.mem ((c.tc : Thread Cert.ReferenceOBackIdeal.nD Cert.ReferenceOBackIdeal.τ).loc Cert.ReferenceOBackIdeal.main_v129) = v2 c
          ∧ r.2.mem ((c.tc : Thread Cert.ReferenceOBackIdeal.nD Cert.ReferenceOBackIdeal.τ).loc Cert.ReferenceOBackIdeal.main_v130) = v3 c
          ∧ r.2.mem ((c.tc : Thread Cert.ReferenceOBackIdeal.nD Cert.ReferenceOBackIdeal.τ).loc Cert.ReferenceOBackIdeal.main_v7) = v4 c
          ∧ r.2.mem ((c.tc : Thread Cert.ReferenceOBackIdeal.nD Cert.ReferenceOBackIdeal.τ).loc Cert.ReferenceOBackIdeal.main_v126) = v5 c
          ∧ r.2.mem ((c.tc : Thread Cert.ReferenceOBackIdeal.nD Cert.ReferenceOBackIdeal.τ).loc Cert.ReferenceOBackIdeal.main_arg0) = m' ((c.tc : Thread Cert.ReferenceOBackIdeal.nD Cert.ReferenceOBackIdeal.τ).loc Cert.ReferenceOBackIdeal.main_arg0)
          ∧ r.2.mem ((c.tc : Thread Cert.ReferenceOBackIdeal.nD Cert.ReferenceOBackIdeal.τ).loc Cert.ReferenceOBackIdeal.main_arg1) = m' ((c.tc : Thread Cert.ReferenceOBackIdeal.nD Cert.ReferenceOBackIdeal.τ).loc Cert.ReferenceOBackIdeal.main_arg1)
          ∧ r.2.mem ((c.tc : Thread Cert.ReferenceOBackIdeal.nD Cert.ReferenceOBackIdeal.τ).loc Cert.ReferenceOBackIdeal.main_arg2) = m' ((c.tc : Thread Cert.ReferenceOBackIdeal.nD Cert.ReferenceOBackIdeal.τ).loc Cert.ReferenceOBackIdeal.main_arg2)
          ∧ r.2.mem ((c.tc : Thread Cert.ReferenceOBackIdeal.nD Cert.ReferenceOBackIdeal.τ).loc Cert.ReferenceOBackIdeal.main_arg3) = m' ((c.tc : Thread Cert.ReferenceOBackIdeal.nD Cert.ReferenceOBackIdeal.τ).loc Cert.ReferenceOBackIdeal.main_arg3)
          ∧ r.2.mem ((c.tc : Thread Cert.ReferenceOBackIdeal.nD Cert.ReferenceOBackIdeal.τ).loc Cert.ReferenceOBackIdeal.main_arg4) = m' ((c.tc : Thread Cert.ReferenceOBackIdeal.nD Cert.ReferenceOBackIdeal.τ).loc Cert.ReferenceOBackIdeal.main_arg4)
          ∧ r.2.mem ((c.tc : Thread Cert.ReferenceOBackIdeal.nD Cert.ReferenceOBackIdeal.τ).loc Cert.ReferenceOBackIdeal.main_arg5) = m' ((c.tc : Thread Cert.ReferenceOBackIdeal.nD Cert.ReferenceOBackIdeal.τ).loc Cert.ReferenceOBackIdeal.main_arg5)
          ∧ r.2.mem ((c.tc : Thread Cert.ReferenceOBackIdeal.nD Cert.ReferenceOBackIdeal.τ).loc Cert.ReferenceOBackIdeal.main_arg6) = m' ((c.tc : Thread Cert.ReferenceOBackIdeal.nD Cert.ReferenceOBackIdeal.τ).loc Cert.ReferenceOBackIdeal.main_arg6)
          ∧ r.2.mem ((c.tc : Thread Cert.ReferenceOBackIdeal.nD Cert.ReferenceOBackIdeal.τ).loc Cert.ReferenceOBackIdeal.main_arg7) = m' ((c.tc : Thread Cert.ReferenceOBackIdeal.nD Cert.ReferenceOBackIdeal.τ).loc Cert.ReferenceOBackIdeal.main_arg7))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelGu : Cert.KernelGu.Facts) (hKernelGuIdeal : Cert.KernelGuIdeal.Facts) (hReferenceGuIdeal : Cert.ReferenceGuIdeal.Facts) (hKernelO : Cert.KernelO.Facts) (hKernelOIdeal : Cert.KernelOIdeal.Facts) (hReferenceOIdeal : Cert.ReferenceOIdeal.Facts) (hKernelIn : Cert.KernelIn.Facts) (hKernelInIdeal : Cert.KernelInIdeal.Facts) (hReferenceInIdeal : Cert.ReferenceInIdeal.Facts) (hKernelNormIn : Cert.KernelNormIn.Facts) (hKernelNormInIdeal : Cert.KernelNormInIdeal.Facts) (hReferenceNormInIdeal : Cert.ReferenceNormInIdeal.Facts) (hKernelNormFfn : Cert.KernelNormFfn.Facts) (hKernelNormFfnIdeal : Cert.KernelNormFfnIdeal.Facts) (hReferenceNormFfnIdeal : Cert.ReferenceNormFfnIdeal.Facts) (hKernelDownFwd : Cert.KernelDownFwd.Facts) (hKernelDownFwdIdeal : Cert.KernelDownFwdIdeal.Facts) (hReferenceDownFwdIdeal : Cert.ReferenceDownFwdIdeal.Facts) (hKernelOFwd : Cert.KernelOFwd.Facts) (hKernelOFwdIdeal : Cert.KernelOFwdIdeal.Facts) (hReferenceOFwdIdeal : Cert.ReferenceOFwdIdeal.Facts) (hKernelOBack : Cert.KernelOBack.Facts) (hKernelOBackIdeal : Cert.KernelOBackIdeal.Facts) (hReferenceOBackIdeal : Cert.ReferenceOBackIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelNormIn (hKernelNormIn := hKernelNormIn)
    ∧ quiescent_KernelNormInIdeal (hKernelNormInIdeal := hKernelNormInIdeal)
    ∧ quiescent_ReferenceNormInIdeal (hReferenceNormInIdeal := hReferenceNormInIdeal)
    ∧ quiescent_KernelNormFfn (hKernelNormFfn := hKernelNormFfn)
    ∧ quiescent_KernelNormFfnIdeal (hKernelNormFfnIdeal := hKernelNormFfnIdeal)
    ∧ quiescent_ReferenceNormFfnIdeal (hReferenceNormFfnIdeal := hReferenceNormFfnIdeal)
    ∧ quiescent_KernelDownFwd (hKernelDownFwd := hKernelDownFwd)
    ∧ quiescent_KernelDownFwdIdeal (hKernelDownFwdIdeal := hKernelDownFwdIdeal)
    ∧ quiescent_ReferenceDownFwdIdeal (hReferenceDownFwdIdeal := hReferenceDownFwdIdeal)
    ∧ quiescent_KernelOFwd (hKernelOFwd := hKernelOFwd)
    ∧ quiescent_KernelOFwdIdeal (hKernelOFwdIdeal := hKernelOFwdIdeal)
    ∧ quiescent_ReferenceOFwdIdeal (hReferenceOFwdIdeal := hReferenceOFwdIdeal)
    ∧ quiescent_KernelOBack (hKernelOBack := hKernelOBack)
    ∧ quiescent_KernelOBackIdeal (hKernelOBackIdeal := hKernelOBackIdeal)
    ∧ quiescent_ReferenceOBackIdeal (hReferenceOBackIdeal := hReferenceOBackIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
    ∧ preserves_KernelGu_KernelGuIdeal
    ∧ algebraic_KernelGuIdeal_ReferenceGuIdeal (hKernelGuIdeal := hKernelGuIdeal) (hReferenceGuIdeal := hReferenceGuIdeal)
    ∧ preserves_KernelO_KernelOIdeal
    ∧ algebraic_KernelOIdeal_ReferenceOIdeal (hKernelOIdeal := hKernelOIdeal) (hReferenceOIdeal := hReferenceOIdeal)
    ∧ preserves_KernelIn_KernelInIdeal
    ∧ algebraic_KernelInIdeal_ReferenceInIdeal (hKernelInIdeal := hKernelInIdeal) (hReferenceInIdeal := hReferenceInIdeal)
    ∧ preserves_KernelNormIn_KernelNormInIdeal
    ∧ algebraic_KernelNormInIdeal_ReferenceNormInIdeal (hKernelNormInIdeal := hKernelNormInIdeal) (hReferenceNormInIdeal := hReferenceNormInIdeal)
    ∧ preserves_KernelNormFfn_KernelNormFfnIdeal
    ∧ algebraic_KernelNormFfnIdeal_ReferenceNormFfnIdeal (hKernelNormFfnIdeal := hKernelNormFfnIdeal) (hReferenceNormFfnIdeal := hReferenceNormFfnIdeal)
    ∧ preserves_KernelDownFwd_KernelDownFwdIdeal
    ∧ algebraic_KernelDownFwdIdeal_ReferenceDownFwdIdeal (hKernelDownFwdIdeal := hKernelDownFwdIdeal) (hReferenceDownFwdIdeal := hReferenceDownFwdIdeal)
    ∧ preserves_KernelOFwd_KernelOFwdIdeal
    ∧ algebraic_KernelOFwdIdeal_ReferenceOFwdIdeal (hKernelOFwdIdeal := hKernelOFwdIdeal) (hReferenceOFwdIdeal := hReferenceOFwdIdeal)
    ∧ preserves_KernelOBack_KernelOBackIdeal
    ∧ algebraic_KernelOBackIdeal_ReferenceOBackIdeal (hKernelOBackIdeal := hKernelOBackIdeal) (hReferenceOBackIdeal := hReferenceOBackIdeal)
-- ==== Pre_finite.lean ====
abbrev S16384x384 : Shape := ⟨2, ![16384, 384]⟩
abbrev S16384x128 : Shape := ⟨2, ![16384, 128]⟩
abbrev S16384x2048 : Shape := ⟨2, ![16384, 2048]⟩
abbrev S_ : Shape := ⟨0, ![]⟩

class Facts : Prop where
  bcast_S_S16384x384 : S_.BroadcastsInDim S16384x384 (![] : Fin 0 → Fin S16384x384.rank)
  reducesTo_S16384x384_S_d0_1 : S16384x384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  slices_S16384x2048_S16384x128_0_1920 : S16384x2048.Slices ![0, 1920] S16384x128
  bitsLt_bf16_f32 : FTy.bits .bf16 < FTy.bits .f32

variable [Facts]

def fn_part1 {F : FTy → Type} [FloatOps F] (main_v15 : IVec S_ 1) (main_v17 : FVec F S16384x384 .f32) : IVec S_ 1 :=
  let main_cst_4 : FVec F S_ .f32 := constant S_ .f32 0x7F800000#32
  let main_v18 : FVec F S16384x384 .f32 := broadcastInDim S16384x384 ![] bcast_S_S16384x384 main_cst_4
  let main_v19 : IVec S16384x384 1 := cmpf .olt main_v17 main_v18
  let main_c_5 : IVec S_ 1 := constantI S_ 1 1#1
  let main_v20 : IVec S_ 1 := (fun x v => Host.reduce IntOp.andi x v reducesTo_S16384x384_S_d0_1 h_S_) main_v19 main_c_5
  let main_v21 : IVec S_ 1 := andi main_v15 main_v20
  main_v21

def fn {F : FTy → Type} [FloatOps F] (main_arg0 : FVec F S16384x384 .f32) (main_arg1 : FVec F S16384x128 .f32) (main_arg2 : FVec F S16384x2048 .bf16) (main_arg3 : FVec F S16384x384 .bf16) : IVec S_ 1 :=
  let main_v0 : FVec F S16384x384 .f32 := Host.absf main_arg0
  let main_cst : FVec F S_ .f32 := constant S_ .f32 0x7F800000#32
  let main_v1 : FVec F S16384x384 .f32 := broadcastInDim S16384x384 ![] bcast_S_S16384x384 main_cst
  let main_v2 : IVec S16384x384 1 := cmpf .olt main_v0 main_v1
  let main_c : IVec S_ 1 := constantI S_ 1 1#1
  let main_v3 : IVec S_ 1 := (fun x v => Host.reduce IntOp.andi x v reducesTo_S16384x384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .bf16 := (extractStridedSlice S16384x128 ![0, 1920] · slices_S16384x2048_S16384x128_0_1920) main_arg2
  let main_v10 : FVec F S16384x128 .f32 := (extf .f32 · bitsLt_bf16_f32) main_v9
  let main_v11 : FVec F S16384x128 .f32 := Host.absf main_v10
  let main_cst_2 : FVec F S_ .f32 := constant S_ .f32 0x7F800000#32
  let main_v12 : FVec F S16384x128 .f32 := broadcastInDim S16384x128 ![] bcast_S_S16384x128 main_cst_2
  let main_v13 : IVec S16384x128 1 := cmpf .olt main_v11 main_v12
  let main_c_3 : IVec S_ 1 := constantI S_ 1 1#1
  let main_v14 : IVec S_ 1 := (fun x v => Host.reduce IntOp.andi x v reducesTo_S16384x128_S_d0_1 h_S_) main_v13 main_c_3
  let main_v15 : IVec S_ 1 := andi main_v8 main_v14
  let main_v16 : FVec F S16384x384 .f32 := (extf .f32 · bitsLt_bf16_f32) main_arg3
  let main_v17 : FVec F S16384x384 .f32 := Host.absf main_v16
  fn_part1 (F := F) main_v15 main_v17
-- ==== Kernel.lean ====
abbrev S16384x384 : Shape := ⟨2, ![16384, 384]⟩
abbrev S16384x128 : Shape := ⟨2, ![16384, 128]⟩
abbrev S16384x2048 : Shape := ⟨2, ![16384, 2048]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S6x1x16384 : Shape := ⟨3, ![6, 1, 16384]⟩
abbrev S2x64x3x16384 : Shape := ⟨4, ![2, 64, 3, 16384]⟩
abbrev S16384x6x64 : Shape := ⟨3, ![16384, 6, 64]⟩
abbrev S16384x6 : Shape := ⟨2, ![16384, 6]⟩
abbrev S6x16384 : Shape := ⟨2, ![6, 16384]⟩
abbrev S512x384 : Shape := ⟨2, ![512, 384]⟩
abbrev S2048x128 : Shape := ⟨2, ![2048, 128]⟩
abbrev S6x1x512 : Shape := ⟨3, ![6, 1, 512]⟩
abbrev S32x512x384 : Shape := ⟨3, ![32, 512, 384]⟩
abbrev S1x512x384 : Shape := ⟨3, ![1, 512, 384]⟩
abbrev S512x128 : Shape := ⟨2, ![512, 128]⟩
abbrev S2048x512 : Shape := ⟨2, ![2048, 512]⟩
abbrev S1x1x512 : Shape := ⟨3, ![1, 1, 512]⟩
abbrev S1x512 : Shape := ⟨2, ![1, 512]⟩
abbrev S1x512x128 : Shape := ⟨3, ![1, 512, 128]⟩

abbrev nBuf : Space → Nat
  | .hbm => 65
  | .vmem => 17
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x2048, .bf16⟩
  | .hbm, ⟨3, _⟩ => ⟨S16384x384, .bf16⟩
  | .hbm, ⟨4, _⟩ => ⟨S16384x128, .bf16⟩
  | .hbm, ⟨5, _⟩ => ⟨S16384x128, .f32⟩
  | .hbm, ⟨6, _⟩ => ⟨S16384x384, .f32⟩
  | .hbm, ⟨7, _⟩ => ⟨S16384x2x3x64, .f32⟩
  | .hbm, ⟨8, _⟩ => ⟨S16384x2x64, .f32⟩
  | .hbm, ⟨9, _⟩ => ⟨S2x16384x16384x3, .f32⟩
  | .hbm, ⟨10, _⟩ => ⟨S2x3x16384x16384, .f32⟩
  | .hbm, ⟨11, _⟩ => ⟨S_, .f32⟩
  | .hbm, ⟨12, _⟩ => ⟨S2x3x16384x16384, .f32⟩
  | .hbm, ⟨13, _⟩ => ⟨S2x3x16384x16384, .f32⟩
  | .hbm, ⟨14, _⟩ => ⟨S_, .f32⟩
  | .hbm, ⟨15, _⟩ => ⟨S2x3x16384, .f32⟩
  | .hbm, ⟨16, _⟩ => ⟨S2x3x16384x1, .f32⟩
  | .hbm, ⟨17, _⟩ => ⟨S2x3x16384x16384, .f32⟩
  | .hbm, ⟨18, _⟩ => ⟨S2x3x16384x16384, .f32⟩
  | .hbm, ⟨19, _⟩ => ⟨S2x3x16384x16384, .f32⟩
  | .hbm, ⟨20, _⟩ => ⟨S_, .f32⟩
  | .hbm, ⟨21, _⟩ => ⟨S2x3x16384, .f32⟩
  | .hbm, ⟨22, _⟩ => ⟨S2x3x16384x1, .f32⟩
  | .hbm, ⟨23, _⟩ => ⟨S2x3x16384x1, .f32⟩
  | .hbm, ⟨24, _⟩ => ⟨S2x3x16384x1, .f32⟩
  | .hbm, ⟨25, _⟩ => ⟨S6x1x16384, .f32⟩
  | .hbm, ⟨26, _⟩ => ⟨S16384x2x3x64, .f32⟩
  | .hbm, ⟨27, _⟩ => ⟨S16384x2x64, .f32⟩
  | .hbm, ⟨28, _⟩ => ⟨S16384x2x64, .f32⟩
  | .hbm, ⟨29, _⟩ => ⟨S2x16384x16384x3, .f32⟩
  | .hbm, ⟨30, _⟩ => ⟨S2x3x16384x16384, .f32⟩
  | .hbm, ⟨31, _⟩ => ⟨S_, .f32⟩
  | .hbm, ⟨32, _⟩ => ⟨S2x3x16384x16384, .f32⟩
  | .hbm, ⟨33, _⟩ => ⟨S2x3x16384x16384, .f32⟩
  | .hbm, ⟨34, _⟩ => ⟨S_, .f32⟩
  | .hbm, ⟨35, _⟩ => ⟨S2x3x16384, .f32⟩
  | .hbm, ⟨36, _⟩ => ⟨S_, .f32⟩
  | .hbm, ⟨37, _⟩ => ⟨S2x3x16384, .f32⟩
  | .hbm, ⟨38, _⟩ => ⟨S2x3x16384, .f32⟩
  | .hbm, ⟨39, _⟩ => ⟨S2x3x16384x1, .f32⟩
  | .hbm, ⟨40, _⟩ => ⟨S2x3x16384x16384, .f32⟩
  | .hbm, ⟨41, _⟩ => ⟨S2x3x16384x16384, .f32⟩
  | .hbm, ⟨42, _⟩ => ⟨S2x3x16384x16384, .f32⟩
  | .hbm, ⟨43, _⟩ => ⟨S_, .f32⟩
  | .hbm, ⟨44, _⟩ => ⟨S2x3x16384, .f32⟩
  | .hbm, ⟨45, _⟩ => ⟨S2x3x16384x1, .f32⟩
  | .hbm, ⟨46, _⟩ => ⟨S2x3x16384x16384, .f32⟩
  | .hbm, ⟨47, _⟩ => ⟨S2x3x16384x16384, .f32⟩
  | .hbm, ⟨48, _⟩ => ⟨S2x64x3x16384, .f32⟩
  | .hbm, ⟨49, _⟩ => ⟨S16384x2x3x64, .f32⟩
  | .hbm, ⟨50, _⟩ => ⟨S16384x384, .f32⟩
  | .hbm, ⟨51, _⟩ => ⟨S16384x384, .f32⟩
  | .hbm, ⟨52, _⟩ => ⟨S16384x6x64, .f32⟩
  | .hbm, ⟨53, _⟩ => ⟨S_, .f32⟩
  | .hbm, ⟨54, _⟩ => ⟨S16384x6, .f32⟩
  | .hbm, ⟨55, _⟩ => ⟨S6x16384, .f32⟩
  | .hbm, ⟨56, _⟩ => ⟨S6x1x16384, .f32⟩
  | .hbm, ⟨57, _⟩ => ⟨S_, .f32⟩
  | .hbm, ⟨58, _⟩ => ⟨S16384x384, .f32⟩
  | .hbm, ⟨59, _⟩ => ⟨S16384x384, .f32⟩
  | .hbm, ⟨60, _⟩ => ⟨S16384x384, .bf16⟩
  | .hbm, ⟨61, _⟩ => ⟨S16384x128, .bf16⟩
  | .hbm, ⟨62, _⟩ => ⟨S16384x128, .f32⟩
  | .hbm, ⟨63, _⟩ => ⟨S16384x128, .f32⟩
  | .hbm, ⟨64, _⟩ => ⟨S16384x384, .f32⟩
  | .local _ .vmem, ⟨0, _⟩ => ⟨S512x384, .bf16⟩
  | .local _ .vmem, ⟨1, _⟩ => ⟨S512x384, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x384, .bf16⟩
  | .local _ .vmem, ⟨7, _⟩ => ⟨S512x384, .bf16⟩
  | .local _ .vmem, ⟨8, _⟩ => ⟨S6x1x512, .f32⟩
  | .local _ .vmem, ⟨9, _⟩ => ⟨S6x1x512, .f32⟩
  | .local _ .vmem, ⟨10, _⟩ => ⟨S6x1x512, .f32⟩
  | .local _ .vmem, ⟨11, _⟩ => ⟨S6x1x512, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S32x512x384, .f32⟩
  | _, _ => ⟨S16384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49_0 : Ref sig .tc := ⟨.hbm, 62, rfl⟩
abbrev main_v49_1 : Ref sig .tc := ⟨.hbm, 63, rfl⟩
abbrev main_v49_2 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg1 : BitVec 32 := BitVec.ofNat 32 (i 1).val
  let v227 : Index := Scalar.indexCast arg1
  let c0_119 : Index := 0#32
  let c0_120 : Index := 0#32
  ![v227.toNat, 0, 0]
def k0_off2 (i : grid0.Coords) : Fin 3 → Nat :=
  let arg1 : BitVec 32 := BitVec.ofNat 32 (i 1).val
  let v81 : Index := Scalar.indexCast arg1
  let c0_41 : Index := 0#32
  let c0_42 : Index := 0#32
  ![v81.toNat, 0, 0]
def k0_off3 (i : grid0.Coords) : Fin 3 → Nat :=
  let arg1 : BitVec 32 := BitVec.ofNat 32 (i 1).val
  let v143 : Index := Scalar.indexCast arg1
  let c0_72 : Index := 0#32
  let c128_73 : Index := 128#32
  ![v143.toNat, 0, 128]
def k0_off4 (i : grid0.Coords) : Fin 3 → Nat :=
  let arg1 : BitVec 32 := BitVec.ofNat 32 (i 1).val
  let v207 : Index := Scalar.indexCast arg1
  let c0_105 : Index := 0#32
  let c256_106 : Index := 256#32
  ![v207.toNat, 0, 256]
def k0_cond3 (i : grid0.Coords) : BitVec 1 :=
  let arg0 : BitVec 32 := BitVec.ofNat 32 (i 0).val
  let c7_i32 : BitVec 32 := 7#32
  let v223 : BitVec 1 := Scalar.cmpi .eq arg0 c7_i32
  let v224 : BitVec 32 := Scalar.extui v223
  let c0_i32_117 : BitVec 32 := 0#32
  let v225 : BitVec 1 := Scalar.cmpi .ne v224 c0_i32_117
  v225

def k0_off5 (i : grid0.Coords) : Fin 3 → Nat :=
  let arg1 : BitVec 32 := BitVec.ofNat 32 (i 1).val
  let v226 : Index := Scalar.indexCast arg1
  let c0_118 : Index := 0#32
  let c0_119 : Index := 0#32
  ![v226.toNat, 0, 0]
def k0_mult1 (i : grid0.Coords) : BitVec 32 :=
  let arg1 : BitVec 32 := BitVec.ofNat 32 (i 1).val
  let c512_i32 : BitVec 32 := 512#32
  let v235 : BitVec 32 := Scalar.muli arg1 c512_i32
  v235
def k0_off6 (i : grid0.Coords) : Fin 2 → Nat :=
  let arg1 : BitVec 32 := BitVec.ofNat 32 (i 1).val
  let c512_i32 : BitVec 32 := 512#32
  let v235 : BitVec 32 := Scalar.muli arg1 c512_i32
  let v236 : BitVec 32 := v235
  let c0_i32_123 : BitVec 32 := 0#32
  ![v236.toNat, 0]
def k0_off7 (i : grid0.Coords) : Fin 3 → Nat :=
  let arg1 : BitVec 32 := BitVec.ofNat 32 (i 1).val
  let c0_i32_124 : BitVec 32 := 0#32
  let c0_i32_125 : BitVec 32 := 0#32
  ![arg1.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S6x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S6x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S16384x384 : Shape := ⟨2, ![16384, 384]⟩
abbrev S16384x128 : Shape := ⟨2, ![16384, 128]⟩
abbrev S16384x2048 : Shape := ⟨2, ![16384, 2048]⟩
abbrev S16384x2x3x64 : Shape := ⟨4, ![16384, 2, 3, 64]⟩
abbrev S16384x2x64 : Shape := ⟨3, ![16384, 2, 64]⟩
abbrev S2x16384x16384x3 : Shape := ⟨4, ![2, 16384, 16384, 3]⟩
abbrev S2x3x16384x16384 : Shape := ⟨4, ![2, 3, 16384, 16384]⟩
abbrev S_ : Shape := ⟨0, ![]⟩
abbrev S2x3x16384 : Shape := ⟨3, ![2, 3, 16384]⟩
abbrev S2x3x16384x1 : Shape := ⟨4, ![2, 3, 16384, 1]⟩
abbrev S2x64x3x16384 : Shape := ⟨4, ![2, 64, 3, 16384]⟩
abbrev S2x64x16384 : Shape := ⟨3, ![2, 64, 16384]⟩
abbrev S2x16384x3x64 : Shape := ⟨4, ![2, 16384, 3, 64]⟩
abbrev S2x16384x64 : Shape := ⟨3, ![2, 16384, 64]⟩

abbrev nBuf : Space → Nat
  | .hbm => 86
  | .vmem => 0
  | .smem => 0
  | _ => 0

abbrev bufTy : (tb : Table) → Fin (tcTables nBuf tb) → BufTy
  | .hbm, ⟨0, _⟩ => ⟨S16384x384, .f32⟩
  | .hbm, ⟨1, _⟩ => ⟨S16384x128, .f32⟩
  | .hbm, ⟨2, _⟩ => ⟨S16384x2048, .bf16⟩
  | .hbm, ⟨3, _⟩ => ⟨S16384x384, .bf16⟩
  | .hbm, ⟨4, _⟩ => ⟨S16384x128, .bf16⟩
  | .hbm, ⟨5, _⟩ => ⟨S16384x128, .f32⟩
  | .hbm, ⟨6, _⟩ => ⟨S16384x2x3x64, .f32⟩
  | .hbm, ⟨7, _⟩ => ⟨S16384x2x64, .f32⟩
  | .hbm, ⟨8, _⟩ => ⟨S16384x2x64, .f32⟩
  | .hbm, ⟨9, _⟩ => ⟨S2x16384x16384x3, .f32⟩
  | .hbm, ⟨10, _⟩ => ⟨S2x3x16384x16384, .f32⟩
  | .hbm, ⟨11, _⟩ => ⟨S_, .f32⟩
  | .hbm, ⟨12, _⟩ => ⟨S2x3x16384x16384, .f32⟩
  | .hbm, ⟨13, _⟩ => ⟨S2x3x16384x16384, .f32⟩
  | .hbm, ⟨14, _⟩ => ⟨S_, .f32⟩
  | .hbm, ⟨15, _⟩ => ⟨S2x3x16384, .f32⟩
  | .hbm, ⟨16, _⟩ => ⟨S2x3x16384x1, .f32⟩
  | .hbm, ⟨17, _⟩ => ⟨S2x3x16384x16384, .f32⟩
  | .hbm, ⟨18, _⟩ => ⟨S2x3x16384x16384, .i1⟩
  | .hbm, ⟨19, _⟩ => ⟨S2x3x16384x16384, .f32⟩
  | .hbm, ⟨20, _⟩ => ⟨S_, .f32⟩
  | .hbm, ⟨21, _⟩ => ⟨S2x3x16384, .f32⟩
  | .hbm, ⟨22, _⟩ => ⟨S_, .f32⟩
  | .hbm, ⟨23, _⟩ => ⟨S2x3x16384, .f32⟩
  | .hbm, ⟨24, _⟩ => ⟨S2x3x16384, .f32⟩
  | .hbm, ⟨25, _⟩ => ⟨S_, .f32⟩
  | .hbm, ⟨26, _⟩ => ⟨S2x3x16384, .f32⟩
  | .hbm, ⟨27, _⟩ => ⟨S2x3x16384, .i1⟩
  | .hbm, ⟨28, _⟩ => ⟨S_, .f32⟩
  | .hbm, ⟨29, _⟩ => ⟨S2x3x16384, .f32⟩
  | .hbm, ⟨30, _⟩ => ⟨S2x3x16384, .i1⟩
  | .hbm, ⟨31, _⟩ => ⟨S_, .f32⟩
  | .hbm, ⟨32, _⟩ => ⟨S2x3x16384, .f32⟩
  | .hbm, ⟨33, _⟩ => ⟨S_, .f32⟩
  | .hbm, ⟨34, _⟩ => ⟨S2x3x16384, .f32⟩
  | .hbm, ⟨35, _⟩ => ⟨S_, .f32⟩
  | .hbm, ⟨36, _⟩ => ⟨S2x3x16384, .f32⟩
  | .hbm, ⟨37, _⟩ => ⟨S2x3x16384, .f32⟩
  | .hbm, ⟨38, _⟩ => ⟨S2x3x16384, .f32⟩
  | .hbm, ⟨39, _⟩ => ⟨S2x3x16384x1, .f32⟩
  | .hbm, ⟨40, _⟩ => ⟨S2x3x16384x16384, .f32⟩
  | .hbm, ⟨41, _⟩ => ⟨S2x3x16384x16384, .f32⟩
  | .hbm, ⟨42, _⟩ => ⟨S2x3x16384x16384, .f32⟩
  | .hbm, ⟨43, _⟩ => ⟨S_, .f32⟩
  | .hbm, ⟨44, _⟩ => ⟨S2x3x16384, .f32⟩
  | .hbm, ⟨45, _⟩ => ⟨S2x3x16384x1, .f32⟩
  | .hbm, ⟨46, _⟩ => ⟨S2x3x16384x16384, .f32⟩
  | .hbm, ⟨47, _⟩ => ⟨S2x3x16384x16384, .f32⟩
  | .hbm, ⟨48, _⟩ => ⟨S2x3x16384x1, .f32⟩
  | .hbm, ⟨49, _⟩ => ⟨S_, .f32⟩
  | .hbm, ⟨50, _⟩ => ⟨S2x3x16384x1, .f32⟩
  | .hbm, ⟨51, _⟩ => ⟨S2x3x16384x1, .f32⟩
  | .hbm, ⟨52, _⟩ => ⟨S2x64x3x16384, .f32⟩
  | .hbm, ⟨53, _⟩ => ⟨S16384x2x3x64, .f32⟩
  | .hbm, ⟨54, _⟩ => ⟨S16384x384, .f32⟩
  | .hbm, ⟨55, _⟩ => ⟨S16384x384, .f32⟩
  | .hbm, ⟨56, _⟩ => ⟨S16384x2x3x64, .f32⟩
  | .hbm, ⟨57, _⟩ => ⟨S2x64x3x16384, .f32⟩
  | .hbm, ⟨58, _⟩ => ⟨S2x3x16384x16384, .f32⟩
  | .hbm, ⟨59, _⟩ => ⟨S2x64x16384, .f32⟩
  | .hbm, ⟨60, _⟩ => ⟨S16384x2x64, .f32⟩
  | .hbm, ⟨61, _⟩ => ⟨S2x3x16384x16384, .f32⟩
  | .hbm, ⟨62, _⟩ => ⟨S2x3x16384x16384, .f32⟩
  | .hbm, ⟨63, _⟩ => ⟨S2x3x16384x16384, .f32⟩
  | .hbm, ⟨64, _⟩ => ⟨S_, .f32⟩
  | .hbm, ⟨65, _⟩ => ⟨S2x3x16384, .f32⟩
  | .hbm, ⟨66, _⟩ => ⟨S2x3x16384x1, .f32⟩
  | .hbm, ⟨67, _⟩ => ⟨S2x3x16384x1, .f32⟩
  | .hbm, ⟨68, _⟩ => ⟨S2x3x16384x16384, .f32⟩
  | .hbm, ⟨69, _⟩ => ⟨S2x3x16384x16384, .f32⟩
  | .hbm, ⟨70, _⟩ => ⟨S_, .f32⟩
  | .hbm, ⟨71, _⟩ => ⟨S2x3x16384, .f32⟩
  | .hbm, ⟨72, _⟩ => ⟨S2x3x16384x16384, .f32⟩
  | .hbm, ⟨73, _⟩ => ⟨S2x3x16384x16384, .f32⟩
  | .hbm, ⟨74, _⟩ => ⟨S2x3x16384x16384, .f32⟩
  | .hbm, ⟨75, _⟩ => ⟨S_, .f32⟩
  | .hbm, ⟨76, _⟩ => ⟨S2x3x16384x16384, .f32⟩
  | .hbm, ⟨77, _⟩ => ⟨S2x3x16384x16384, .f32⟩
  | .hbm, ⟨78, _⟩ => ⟨S2x16384x16384x3, .f32⟩
  | .hbm, ⟨79, _⟩ => ⟨S2x16384x3x64, .f32⟩
  | .hbm, ⟨80, _⟩ => ⟨S16384x2x3x64, .f32⟩
  | .hbm, ⟨81, _⟩ => ⟨S2x16384x64, .f32⟩
  | .hbm, ⟨82, _⟩ => ⟨S16384x2x64, .f32⟩
  | .hbm, ⟨83, _⟩ => ⟨S16384x128, .f32⟩
  | .hbm, ⟨84, _⟩ => ⟨S16384x128, .f32⟩
  | .hbm, ⟨85, _⟩ => ⟨S16384x384, .f32⟩
  | _, _ => ⟨S16384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== KernelDown.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelGu.lean ====
abbrev S16384x1024 : Shape := ⟨2, ![16384, 1024]⟩
abbrev S16384x5632 : Shape := ⟨2, ![16384, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceGuIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelO.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceOIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelIn.lean ====
abbrev S16384x1024 : Shape := ⟨2, ![16384, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S_, .f32⟩
  | .hbm, ⟨3, _⟩ => ⟨S1024x2048, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelNormIn.lean ====
abbrev S16384x2048 : Shape := ⟨2, ![16384, 2048]⟩
abbrev S1024x2048 : Shape := ⟨2, ![1024, 2048]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceNormInIdeal.lean ====
abbrev S16384x2048 : Shape := ⟨2, ![16384, 2048]⟩
abbrev S1024x2048 : Shape := ⟨2, ![1024, 2048]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1024x2048, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x2048, .f32⟩
  | .hbm, ⟨7, _⟩ => ⟨S1024x2048, .f32⟩
  | .hbm, ⟨8, _⟩ => ⟨S_, .f32⟩
  | .hbm, ⟨9, _⟩ => ⟨S1x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x2048, .f32⟩
  | .hbm, ⟨37, _⟩ => ⟨S16384x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S16384x1, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S_, .f32⟩
  | .hbm, ⟨64, _⟩ => ⟨S16384, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== KernelNormFfn.lean ====
abbrev S16384x5632 : Shape := ⟨2, ![16384, 5632]⟩
abbrev S2x1024x2816 : Shape := ⟨3, ![2, 1024, 2816]⟩
abbrev S16384x1024 : Shape := ⟨2, ![16384, 1024]⟩
abbrev S1x1024 : Shape := ⟨2, ![1, 1024]⟩
abbrev S512x5632 : Shape := ⟨2, ![512, 5632]⟩
abbrev S512x1024 : Shape := ⟨2, ![512, 1024]⟩
abbrev S512x2816 : Shape := ⟨2, ![512, 2816]⟩
abbrev S1x1024x2816 : Shape := ⟨3, ![1, 1024, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x5632, .bf16⟩
  | .hbm, ⟨1, _⟩ => ⟨S2x1024x2816, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S2x1024x2816, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceNormFfnIdeal.lean ====
abbrev S16384x5632 : Shape := ⟨2, ![16384, 5632]⟩
abbrev S2x1024x2816 : Shape := ⟨3, ![2, 1024, 2816]⟩
abbrev S16384x1024 : Shape := ⟨2, ![16384, 1024]⟩
abbrev S1x1024 : Shape := ⟨2, ![1, 1024]⟩
abbrev S1x1024x2816 : Shape := ⟨3, ![1, 1024, 2816]⟩
abbrev S1024x2816 : Shape := ⟨2, ![1024, 2816]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S2x1024x2816, .bf16⟩
  | .hbm, ⟨2, _⟩ => ⟨S16384x1024, .f32⟩
  | .hbm, ⟨3, _⟩ => ⟨S1x1024, .f32⟩
  | .hbm, ⟨4, _⟩ => ⟨S1x1024, .f32⟩
  | .hbm, ⟨5, _⟩ => ⟨S16384x1024, .f32⟩
  | .hbm, ⟨6, _⟩ => ⟨S16384x5632, .f32⟩
  | .hbm, ⟨7, _⟩ => ⟨S1x1024x2816, .bf16⟩
  | .hbm, ⟨8, _⟩ => ⟨S1024x2816, .bf16⟩
  | .hbm, ⟨9, _⟩ => ⟨S1x1024x2816, .bf16⟩
  | .hbm, ⟨10, _⟩ => ⟨S1024x2816, .bf16⟩
  | .hbm, ⟨11, _⟩ => ⟨S1024x5632, .bf16⟩
  | .hbm, ⟨12, _⟩ => ⟨S1024x5632, .f32⟩
  | .hbm, ⟨13, _⟩ => ⟨S_, .f32⟩
  | .hbm, ⟨14, _⟩ => ⟨S1x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x5632, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .f32⟩
  | .hbm, ⟨74, _⟩ => ⟨S16384x1024, .f32⟩
  | .hbm, ⟨75, _⟩ => ⟨S16384x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== KernelDownFwd.lean ====
abbrev S16384x1024 : Shape := ⟨2, ![16384, 1024]⟩
abbrev S16384x2816 : Shape := ⟨2, ![16384, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S2816x1024, .bf16⟩
  | .hbm, ⟨3, _⟩ => ⟨S1x1024, .f32⟩
  | .hbm, ⟨4, _⟩ => ⟨S16384x1024, .f32⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceDownFwdIdeal.lean ====
abbrev S16384x1024 : Shape := ⟨2, ![16384, 1024]⟩
abbrev S16384x2816 : Shape := ⟨2, ![16384, 2816]⟩
abbrev S2816x1024 : Shape := ⟨2, ![2816, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S2816x1024, .bf16⟩
  | .hbm, ⟨3, _⟩ => ⟨S1x1024, .f32⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelOFwd.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1x1024 : Shape := ⟨2, ![1, 1024]⟩
abbrev S512x1024 : Shape := ⟨2, ![512, 1024]⟩
abbrev S512x256 : Shape := ⟨2, ![512, 256]⟩
abbrev S512x384 : Shape := ⟨2, ![512, 384]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x384, .bf16⟩
  | .hbm, ⟨3, _⟩ => ⟨S16384x384, .bf16⟩
  | .hbm, ⟨4, _⟩ => ⟨S1024x1024, .bf16⟩
  | .hbm, ⟨5, _⟩ => ⟨S1x1024, .f32⟩
  | .hbm, ⟨6, _⟩ => ⟨S16384x1024, .f32⟩
  | .hbm, ⟨7, _⟩ => ⟨S16384x1024, .bf16⟩
  | .hbm, ⟨8, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceOFwdIdeal.lean ====
abbrev S16384x1024 : Shape := ⟨2, ![16384, 1024]⟩
abbrev S16384x256 : Shape := ⟨2, ![16384, 256]⟩
abbrev S16384x384 : Shape := ⟨2, ![16384, 384]⟩
abbrev S1024x1024 : Shape := ⟨2, ![1024, 1024]⟩
abbrev S1x1024 : Shape := ⟨2, ![1, 1024]⟩
abbrev S16384x640 : Shape := ⟨2, ![16384, 640]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x384, .bf16⟩
  | .hbm, ⟨3, _⟩ => ⟨S16384x384, .bf16⟩
  | .hbm, ⟨4, _⟩ => ⟨S1024x1024, .bf16⟩
  | .hbm, ⟨5, _⟩ => ⟨S1x1024, .f32⟩
  | .hbm, ⟨6, _⟩ => ⟨S16384x640, .bf16⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KernelOBack.lean ====
abbrev S16384x1024 : Shape := ⟨2, ![16384, 1024]⟩
abbrev S1x1024 : Shape := ⟨2, ![1, 1024]⟩
abbrev S1024x1024 : Shape := ⟨2, ![1024, 1024]⟩
abbrev S16384x256 : Shape := ⟨2, ![16384, 256]⟩
abbrev S16384x384 : Shape := ⟨2, ![16384, 384]⟩
abbrev S512x1024 : Shape := ⟨2, ![512, 1024]⟩
abbrev S512x256 : Shape := ⟨2, ![512, 256]⟩
abbrev S512x384 : Shape := ⟨2, ![512, 384]⟩
abbrev S1024 : Shape := ⟨1, ![1024]⟩
abbrev S512 : Shape := ⟨1, ![512]⟩
abbrev S512x1 : Shape := ⟨2, ![512, 1]⟩
abbrev S1x256 : Shape := ⟨2, ![1, 256]⟩
abbrev S256 : Shape := ⟨1, ![256]⟩
abbrev S1x384 : Shape := ⟨2, ![1, 384]⟩
abbrev S384 : Shape := ⟨1, ![384]⟩

abbrev nBuf : Space → Nat
  | .hbm => 14
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024, .f32⟩
  | .hbm, ⟨3, _⟩ => ⟨S1024x1024, .bf16⟩
  | .hbm, ⟨4, _⟩ => ⟨S16384x256, .bf16⟩
  | .hbm, ⟨5, _⟩ => ⟨S16384x384, .bf16⟩
  | .hbm, ⟨6, _⟩ => ⟨S16384x384, .bf16⟩
  | .hbm, ⟨7, _⟩ => ⟨S1x1024, .f32⟩
  | .hbm, ⟨8, _⟩ => ⟨S16384x1024, .bf16⟩
  | .hbm, ⟨9, _⟩ => ⟨S16384x256, .bf16⟩
  | .hbm, ⟨10, _⟩ => ⟨S16384x384, .bf16⟩
  | .hbm, ⟨11, _⟩ => ⟨S16384x384, .bf16⟩
  | .hbm, ⟨12, _⟩ => ⟨S1x1024, .f32⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1024x1024, .bf16⟩
  | .local _ .vmem, ⟨6, _⟩ => ⟨S512x256, .bf16⟩
  | .local _ .vmem, ⟨7, _⟩ => ⟨S512x256, .bf16⟩
  | .local _ .vmem, ⟨8, _⟩ => ⟨S512x384, .bf16⟩
  | .local _ .vmem, ⟨9, _⟩ => ⟨S512x384, .bf16⟩
  | .local _ .vmem, ⟨10, _⟩ => ⟨S512x384, .bf16⟩
  | .local _ .vmem, ⟨11, _⟩ => ⟨S512x384, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S1x1024, .f32⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x384 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceOBackIdeal.lean ====
abbrev S16384x1024 : Shape := ⟨2, ![16384, 1024]⟩
abbrev S1x1024 : Shape := ⟨2, ![1, 1024]⟩
abbrev S1024x1024 : Shape := ⟨2, ![1024, 1024]⟩
abbrev S16384x256 : Shape := ⟨2, ![16384, 256]⟩
abbrev S16384x384 : Shape := ⟨2, ![16384, 384]⟩
abbrev S_ : Shape := ⟨0, ![]⟩
abbrev S1024 : Shape := ⟨1, ![1024]⟩
abbrev S1x256 : Shape := ⟨2, ![1, 256]⟩
abbrev S1x384 : Shape := ⟨2, ![1, 384]⟩
abbrev S16384 : Shape := ⟨1, ![16384]⟩
abbrev S16384x1 : Shape := ⟨2, ![16384, 1]⟩
abbrev S16384x640 : Shape := ⟨2, ![16384, 640]⟩
abbrev S384 : Shape := ⟨1, ![384]⟩
abbrev S256 : Shape := ⟨1, ![256]⟩
abbrev S1x640 : Shape := ⟨2, ![1, 640]⟩

abbrev nBuf : Space → Nat
  | .hbm => 164
  | .vmem => 0
  | .smem => 0
  | _ => 0

abbrev hbmTy0_0 (i : Nat) : BufTy := match i % 128 with
  | 0 => ⟨S16384x1024, .f32⟩
  | 1 => ⟨S16384x1024, .bf16⟩
  | 2 => ⟨S1x1024, .f32⟩
  | 3 => ⟨S1024x1024, .bf16⟩
  | 4 => ⟨S16384x256, .bf16⟩
  | 5 => ⟨S16384x384, .bf16⟩
  | 6 => ⟨S16384x384, .bf16⟩
  | 7 => ⟨S1x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S16384x1024, .f32⟩
  | 14 => ⟨S_, .f32⟩
  | 15 => ⟨S1024, .f32⟩
  | 16 => ⟨S1x1024, .f32⟩
  | 17 => ⟨S1x256, .f32⟩
  | 18 => ⟨S1x384, .f32⟩
  | 19 => ⟨S1x384, .f32⟩
  | 20 => ⟨S16384x256, .f32⟩
  | 21 => ⟨S16384x384, .f32⟩
  | 22 => ⟨S16384x384, .f32⟩
  | 23 => ⟨S16384x256, .f32⟩
  | 24 => ⟨S_, .f32⟩
  | 25 => ⟨S16384, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S16384x256, .f32⟩
  | 39 => ⟨S16384x256, .f32⟩
  | 40 => ⟨S16384x256, .f32⟩
  | 41 => ⟨S16384x256, .f32⟩
  | 42 => ⟨S16384x384, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S_, .f32⟩
  | 50 => ⟨S16384x1, .f32⟩
  | 51 => ⟨S16384x1, .f32⟩
  | 52 => ⟨S16384x1, .f32⟩
  | 53 => ⟨S16384x1, .f32⟩
  | 54 => ⟨S_, .f32⟩
  | 55 => ⟨S16384x1, .f32⟩
  | 56 => ⟨S16384x1, .f32⟩
  | 57 => ⟨S16384x384, .f32⟩
  | 58 => ⟨S16384x384, .f32⟩
  | 59 => ⟨S16384x384, .f32⟩
  | 60 => ⟨S16384x384, .f32⟩
  | 61 => ⟨S16384x640, .f32⟩
  | 62 => ⟨S16384x384, .f32⟩
  | 63 => ⟨S_, .f32⟩
  | 64 => ⟨S16384, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x384, .f32⟩
  | 78 => ⟨S16384x384, .f32⟩
  | 79 => ⟨S16384x384, .f32⟩
  | 80 => ⟨S16384x384, .f32⟩
  | 81 => ⟨S16384x1024, .f32⟩
  | 82 => ⟨S1024x1024, .f32⟩
  | 83 => ⟨S16384x1024, .f32⟩
  | 84 => ⟨S16384x1024, .f32⟩
  | 85 => ⟨S16384x640, .f32⟩
  | 86 => ⟨S16384x384, .f32⟩
  | 87 => ⟨S16384x384, .f32⟩
  | 88 => ⟨S_, .f32⟩
  | 89 => ⟨S384, .f32⟩
  | 90 => ⟨S1x384, .f32⟩
  | 91 => ⟨S16384x384, .f32⟩
  | 92 => ⟨S16384x384, .f32⟩
  | 93 => ⟨S16384x384, .f32⟩
  | 94 => ⟨S_, .f32⟩
  | 95 => ⟨S16384, .f32⟩
  | 96 => ⟨S16384x1, .f32⟩
  | 97 => ⟨S16384x384, .f32⟩
  | 98 => ⟨S16384x384, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384, .f32⟩
  | 105 => ⟨S16384x384, .f32⟩
  | 106 => ⟨S16384x384, .f32⟩
  | 107 => ⟨S16384x384, .f32⟩
  | 108 => ⟨S16384x384, .f32⟩
  | 109 => ⟨S16384x384, .f32⟩
  | 110 => ⟨S16384x256, .f32⟩
  | 111 => ⟨S16384x384, .f32⟩
  | 112 => ⟨S16384x384, .f32⟩
  | 113 => ⟨S_, .f32⟩
  | 114 => ⟨S384, .f32⟩
  | 115 => ⟨S1x384, .f32⟩
  | 116 => ⟨S16384x384, .f32⟩
  | 117 => ⟨S16384x384, .f32⟩
  | 118 => ⟨S16384x384, .f32⟩
  | 119 => ⟨S_, .f32⟩
  | 120 => ⟨S16384, .f32⟩
  | 121 => ⟨S16384x1, .f32⟩
  | 122 => ⟨S16384x384, .f32⟩
  | 123 => ⟨S16384x384, .f32⟩
  | 124 => ⟨S16384x1, .f32⟩
  | 125 => ⟨S_, .f32⟩
  | 126 => ⟨S16384x1, .f32⟩
  | 127 => ⟨S16384x1, .f32⟩
  | _ => ⟨S16384x1024, .f32⟩

abbrev hbmTy0_1 (i : Nat) : BufTy := match i % 128 with
  | 0 => ⟨S_, .f32⟩
  | 1 => ⟨S16384, .f32⟩
  | 2 => ⟨S16384x384, .f32⟩
  | 3 => ⟨S16384x384, .f32⟩
  | 4 => ⟨S16384x384, .f32⟩
  | 5 => ⟨S16384x384, .f32⟩
  | 6 => ⟨S16384x384, .f32⟩
  | 7 => ⟨S16384x256, .f32⟩
  | 8 => ⟨S_, .f32⟩
  | 9 => ⟨S256, .f32⟩
  | 10 => ⟨S1x256, .f32⟩
  | 11 => ⟨S16384x256, .f32⟩
  | 12 => ⟨S16384x256, .f32⟩
  | 13 => ⟨S16384x256, .f32⟩
  | 14 => ⟨S_, .f32⟩
  | 15 => ⟨S16384, .f32⟩
  | 16 => ⟨S16384x1, .f32⟩
  | 17 => ⟨S16384x256, .f32⟩
  | 18 => ⟨S16384x256, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384, .f32⟩
  | 25 => ⟨S16384x256, .f32⟩
  | 26 => ⟨S16384x256, .f32⟩
  | 27 => ⟨S16384x256, .f32⟩
  | 28 => ⟨S16384x256, .f32⟩
  | 29 => ⟨S16384x256, .f32⟩
  | 30 => ⟨S1x640, .f32⟩
  | 31 => ⟨S1x1024, .f32⟩
  | 32 => ⟨S16384x1024, .bf16⟩
  | 33 => ⟨S16384x256, .bf16⟩
  | 34 => ⟨S16384x384, .bf16⟩
  | 35 => ⟨S16384x384, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_14 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_16 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_17 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_18 : Ref sig .tc := ⟨.hbm, 125, rfl⟩
abbrev main_v98 : Ref sig .tc := ⟨.hbm, 126, rfl⟩
abbrev main_v99 : Ref sig .tc := ⟨.hbm, 127, rfl⟩
abbrev main_cst_19 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_20 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_21 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_22 : Ref sig .tc := ⟨.hbm, 148, rfl⟩
abbrev main_v117 : Ref sig .tc := ⟨.hbm, 149, rfl⟩
abbrev main_v118 : Ref sig .tc := ⟨.hbm, 150, rfl⟩
abbrev main_cst_23 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩

abbrev nD : Nat := 1
abbrev τ : Topo := Topo.v7x

variable {F : FTy → Type} [FloatOps F]
-- ==== Proof.Step.lean ====
/-
  What one grid point of the attention's backward kernel computes, as functions of the blocks it reads: the
  kernel's own operations in the kernel's own order, over any floating-point model. `dvStep` and `dkStep` are the
  new contents of the two results kept in the pipeline, `dqStep0`, `dqStep1` and `dqStep2` of the three lane blocks of
  the query block's row of the scratch, and `rowStep` of that row.
-/
module

public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic

variable {F : FTy → Type} [FloatOps F]

/-! ## The pieces of the blocks that the kernel loads -/

section Pieces

variable (q : Vec F S512x384 .bf16) (l : Vec F S6x1x512 .f32)

/-- The first head pair's 128 columns of a query block. -/
abbrev colsA : Vec F S512x128 .bf16 := VecWindow.window q ![0, 0] S512x128.size inb_S512x384_S512x128_0_0
/-- The second head pair's columns. -/
abbrev colsB : Vec F S512x128 .bf16 := VecWindow.window q ![0, 128] S512x128.size inb_S512x384_S512x128_0_128
/-- The third head pair's columns. -/
abbrev colsC : Vec F S512x128 .bf16 := VecWindow.window q ![0, 256] S512x128.size inb_S512x384_S512x128_0_256

/-- The six heads' rows of a block of per-query numbers. -/
abbrev hd0 : Vec F S1x1x512 .f32 := VecWindow.window l ![0, 0, 0] S1x1x512.size inb_S6x1x512_S1x1x512_0_0_0
abbrev hd1 : Vec F S1x1x512 .f32 := VecWindow.window l ![1, 0, 0] S1x1x512.size inb_S6x1x512_S1x1x512_1_0_0
abbrev hd2 : Vec F S1x1x512 .f32 := VecWindow.window l ![2, 0, 0] S1x1x512.size inb_S6x1x512_S1x1x512_2_0_0
abbrev hd3 : Vec F S1x1x512 .f32 := VecWindow.window l ![3, 0, 0] S1x1x512.size inb_S6x1x512_S1x1x512_3_0_0
abbrev hd4 : Vec F S1x1x512 .f32 := VecWindow.window l ![4, 0, 0] S1x1x512.size inb_S6x1x512_S1x1x512_4_0_0
abbrev hd5 : Vec F S1x1x512 .f32 := VecWindow.window l ![5, 0, 0] S1x1x512.size inb_S6x1x512_S1x1x512_5_0_0

end Pieces

/-! ## The step -/

section Steps

variable (q : Vec F S512x384 .bf16) (k v : Vec F S2048x128 .bf16) (d : Vec F S512x384 .bf16)
  (l e : Vec F S6x1x512 .f32)

/-- Heads 0 and 1's part of `dv`. -/
def dvA : FVec F S2048x128 .f32 :=
  k0_pay36 (k0_pay27 (colsA d)) (k0_pay30 (k0_pay9 k) (k0_pay20 (colsA q)) (colsA d) (hd0 l))
    (k0_pay33 (k0_pay10 k) (k0_pay20 (colsA q)) (hd1 l))

/-- Head 1's weighted score gradient, before its rounding. -/
def dsB : FVec F S2048x512 .f32 :=
  k0_pay34 (k0_pay10 k) (k0_pay17 v) (k0_pay20 (colsA q)) (colsA d) (hd1 l) (hd1 e)

/-- Heads 0 and 1's part of `dk`. -/
def dkA : FVec F S2048x128 .f32 :=
  k0_pay37 (k0_pay24 k0_pay21 (k0_pay22 (F := F)) (k0_pay23 (colsA q)))
    (k0_pay31 (k0_pay9 k) (k0_pay16 v) (k0_pay20 (colsA q)) (colsA d) k0_pay21 (k0_pay22 (F := F)) (hd0 l) (hd0 e))
    (dsB q k v d l e)

/-- The first lane block of the scratch row, from its contents before. -/
def dqStep0 (w : Vec F S1x512x128 .f32) : FVec F S1x512x128 .f32 :=
  k0_pay38 (k0_pay10 k) (k0_pay32 (k0_pay9 k) (k0_pay16 v) (k0_pay20 (colsA q)) (colsA d) (hd0 l) (hd0 e))
    (dsB q k v d l e) w

/-- Heads 0 to 3's part of `dv`. -/
def dvB : FVec F S2048x128 .f32 :=
  k0_pay53 (k0_pay12 k) (dvA q k d l) (k0_pay39 (colsB q)) (k0_pay46 (colsB d)) (k0_pay47 (colsB d))
    (k0_pay48 (k0_pay9 k) (colsB q) (hd2 l)) (hd3 l)

/-- Heads 0 to 3's part of `dk`. -/
def dkB : FVec F S2048x128 .f32 :=
  k0_pay54 (k0_pay12 k) (k0_pay19 v) (dkA q k v d l e) (k0_pay39 (colsB q)) (colsB d) (k0_pay42 (colsB q))
    (k0_pay43 (colsB q)) (k0_pay48 (k0_pay9 k) (colsB q) (hd2 l)) (k0_pay49 (k0_pay16 v) (colsB d)) (hd2 e) (hd3 l)
    (hd3 e)

/-- The second lane block of the scratch row, from its contents before. -/
def dqStep1 (w : Vec F S1x512x128 .f32) : FVec F S1x512x128 .f32 :=
  k0_pay55 (k0_pay9 k) (k0_pay12 k) (k0_pay19 v) (k0_pay39 (colsB q)) (colsB d)
    (k0_pay48 (k0_pay9 k) (colsB q) (hd2 l)) (k0_pay49 (k0_pay16 v) (colsB d)) (hd2 e) (hd3 l) (hd3 e) w

/-- The third lane block of the scratch row, from its contents before. -/
def dqStep2 (w : Vec F S1x512x128 .f32) : FVec F S1x512x128 .f32 :=
  k0_pay71 (k0_pay12 k) (k0_pay19 v) (colsC d)
    (k0_pay65 (k0_pay11 k) (k0_pay18 v) (colsC q) (colsC d) (hd4 l) (hd4 e)) (k0_pay68 (k0_pay12 k) (colsC q))
    (hd5 l) (hd5 e) w

/-- `dv`'s block after the point, from its contents before. -/
def dvStep (w : Vec F S2048x128 .f32) : FVec F S2048x128 .f32 :=
  k0_pay72 (k0_pay62 (colsC d)) (k0_pay66 (k0_pay11 k) (dvB q k d l) (colsC q) (colsC d) (hd4 l))
    (k0_pay68 (k0_pay12 k) (colsC q)) (hd5 l) w

/-- `dk`'s block after the point, from its contents before. -/
def dkStep (w : Vec F S2048x128 .f32) : FVec F S2048x128 .f32 :=
  k0_pay73 (k0_pay19 v) (colsC d) (k0_pay59 (colsC q))
    (k0_pay67 (k0_pay11 k) (k0_pay18 v) (dkB q k v d l e) (colsC q) (colsC d) (hd4 l) (hd4 e))
    (k0_pay68 (k0_pay12 k) (colsC q)) (hd5 l) (hd5 e) w

end Steps

/-! ## The scratch row -/

/-- The first 128 columns lie in a row. -/
theorem inb_laneA : ∀ a, (![0, 0, 0] : Fin 3 → ℕ) a + S1x512x128.size a ≤ S1x512x384.size a := by decide
/-- The middle 128 columns lie in a row. -/
theorem inb_laneB : ∀ a, (![0, 0, 128] : Fin 3 → ℕ) a + S1x512x128.size a ≤ S1x512x384.size a := by decide
/-- The last 128 columns lie in a row. -/
theorem inb_laneC : ∀ a, (![0, 0, 256] : Fin 3 → ℕ) a + S1x512x128.size a ≤ S1x512x384.size a := by decide

/-- The three lane blocks of a row. -/
abbrev laneA (r : Vec F S1x512x384 .f32) : Vec F S1x512x128 .f32 := VecWindow.window r ![0, 0, 0] S1x512x128.size inb_laneA
abbrev laneB (r : Vec F S1x512x384 .f32) : Vec F S1x512x128 .f32 := VecWindow.window r ![0, 0, 128] S1x512x128.size inb_laneB
abbrev laneC (r : Vec F S1x512x384 .f32) : Vec F S1x512x128 .f32 := VecWindow.window r ![0, 0, 256] S1x512x128.size inb_laneC

/-- The scratch row after the point's three sums, from its contents before them. -/
def rowStep (q : Vec F S512x384 .bf16) (k v : Vec F S2048x128 .bf16) (d : Vec F S512x384 .bf16)
    (l e : Vec F S6x1x512 .f32) (r : Vec F S1x512x384 .f32) : Vec F S1x512x384 .f32 :=
  VecWindow.put (VecWindow.put (VecWindow.put r
      ![0, 0, 0] S1x512x128.size (dqStep0 q k v d l e (laneA r)))
      ![0, 0, 128] S1x512x128.size (dqStep1 q k v d l e (laneB r)))
      ![0, 0, 256] S1x512x128.size (dqStep2 q k v d l e (laneC r))

/-- A row lies in the scratch. -/
theorem inb_row (n : ℕ) (h : n < 32) : ∀ a, (![n, 0, 0] : Fin 3 → ℕ) a + S1x512x384.size a ≤ S32x512x384.size a := by
  intro a; fin_cases a
  · show n + 1 ≤ 32; omega
  · show 0 + 512 ≤ 512; omega
  · show 0 + 384 ≤ 384; omega
/-- A row's first columns lie in the scratch. -/
theorem inb_rowA (n : ℕ) (h : n < 32) : ∀ a, (![n, 0, 0] : Fin 3 → ℕ) a + S1x512x128.size a ≤ S32x512x384.size a := by
  intro a; fin_cases a
  · show n + 1 ≤ 32; omega
  · show 0 + 512 ≤ 512; omega
  · show 0 + 128 ≤ 384; omega
/-- A row's middle columns lie in the scratch. -/
theorem inb_rowB (n : ℕ) (h : n < 32) : ∀ a, (![n, 0, 128] : Fin 3 → ℕ) a + S1x512x128.size a ≤ S32x512x384.size a := by
  intro a; fin_cases a
  · show n + 1 ≤ 32; omega
  · show 0 + 512 ≤ 512; omega
  · show 128 + 128 ≤ 384; omega
/-- A row's last columns lie in the scratch. -/
theorem inb_rowC (n : ℕ) (h : n < 32) : ∀ a, (![n, 0, 256] : Fin 3 → ℕ) a + S1x512x128.size a ≤ S32x512x384.size a := by
  intro a; fin_cases a
  · show n + 1 ≤ 32; omega
  · show 0 + 512 ≤ 512; omega
  · show 256 + 128 ≤ 384; omega

/-- Row `n` of the scratch. -/
abbrev rowOf (W : Vec F S32x512x384 .f32) (n : ℕ) (h : n < 32) : Vec F S1x512x384 .f32 :=
  VecWindow.window W ![n, 0, 0] S1x512x384.size (inb_row n h)
/-- The scratch with row `n` replaced. -/
abbrev setRow (W : Vec F S32x512x384 .f32) (n : ℕ) (r : Vec F S1x512x384 .f32) : Vec F S32x512x384 .f32 :=
  VecWindow.put W ![n, 0, 0] S1x512x384.size r

/-- A lane block of a row is the scratch's lane block there. -/
theorem laneA_rowOf (W : Vec F S32x512x384 .f32) (n : ℕ) (h : n < 32) :
    VecWindow.window W ![n, 0, 0] S1x512x128.size (inb_rowA n h) = laneA (rowOf W n h) := by
  funext y; refine congrArg W (funext fun a => Fin.ext ?_)
  fin_cases a
  · show n + 1 * (y 0).val = n + 1 * (0 + 1 * (y 0).val); omega
  · show 0 + 1 * (y 1).val = 0 + 1 * (0 + 1 * (y 1).val); omega
  · show 0 + 1 * (y 2).val = 0 + 1 * (0 + 1 * (y 2).val); omega
/-- The middle columns of the scratch's row. -/
theorem laneB_rowOf (W : Vec F S32x512x384 .f32) (n : ℕ) (h : n < 32) :
    VecWindow.window W ![n, 0, 128] S1x512x128.size (inb_rowB n h) = laneB (rowOf W n h) := by
  funext y; refine congrArg W (funext fun a => Fin.ext ?_)
  fin_cases a
  · show n + 1 * (y 0).val = n + 1 * (0 + 1 * (y 0).val); omega
  · show 0 + 1 * (y 1).val = 0 + 1 * (0 + 1 * (y 1).val); omega
  · show 128 + 1 * (y 2).val = 0 + 1 * (128 + 1 * (y 2).val); omega
/-- The last columns of the scratch's row. -/
theorem laneC_rowOf (W : Vec F S32x512x384 .f32) (n : ℕ) (h : n < 32) :
    VecWindow.window W ![n, 0, 256] S1x512x128.size (inb_rowC n h) = laneC (rowOf W n h) := by
  funext y; refine congrArg W (funext fun a => Fin.ext ?_)
  fin_cases a
  · show n + 1 * (y 0).val = n + 1 * (0 + 1 * (y 0).val); omega
  · show 0 + 1 * (y 1).val = 0 + 1 * (0 + 1 * (y 1).val); omega
  · show 256 + 1 * (y 2).val = 0 + 1 * (256 + 1 * (y 2).val); omega

/-- The three lane blocks cover a row: what it held before the three writes does not matter. -/
theorem put_cover (r r' : Vec F S1x512x384 .f32) (a b c : Vec F S1x512x128 .f32) :
    VecWindow.put (VecWindow.put (VecWindow.put r ![0, 0, 0] S1x512x128.size a) ![0, 0, 128] S1x512x128.size b) ![0, 0, 256]
        S1x512x128.size c
      = VecWindow.put (VecWindow.put (VecWindow.put r' ![0, 0, 0] S1x512x128.size a) ![0, 0, 128] S1x512x128.size b) ![0, 0, 256]
        S1x512x128.size c := by
  funext y
  have y0 : (y 0).val < 1 := (y 0).isLt
  have y1 : (y 1).val < 512 := (y 1).isLt
  have y2 : (y 2).val < 384 := (y 2).isLt
  unfold VecWindow.put
  split
  · rfl
  · rename_i hC
    split
    · rfl
    · rename_i hB
      split
      · rfl
      · rename_i hA
        exfalso
        have in_lane : ∀ o : ℕ, o ≤ (y 2).val → (y 2).val < o + 128 → ∀ x : Fin 3, (![0, 0, o] : Fin 3 → ℕ) x ≤ (y x).val
            ∧ (y x).val < (![0, 0, o] : Fin 3 → ℕ) x + (![1, 512, 128] : Fin 3 → ℕ) x := by
          intro o h h' x
          fin_cases x
          · show 0 ≤ (y 0).val ∧ (y 0).val < 0 + 1; omega
          · show 0 ≤ (y 1).val ∧ (y 1).val < 0 + 512; omega
          · exact ⟨h, h'⟩
        by_cases h1 : (y 2).val < 128
        · exact hA (in_lane 0 (by omega) (by omega))
        · by_cases h2 : (y 2).val < 256
          · exact hB (in_lane 128 (by omega) (by omega))
          · exact hC (in_lane 256 (by omega) (by omega))

/-- Writing a row's own contents back changes nothing. -/
theorem setRow_rowOf (W : Vec F S32x512x384 .f32) (n : ℕ) (h : n < 32) : setRow W n (rowOf W n h) = W := by
  funext y
  unfold setRow VecWindow.put
  split
  · rename_i hy
    refine congrArg W (funext fun a => Fin.ext ?_)
    have := hy a
    show (![n, 0, 0] : Fin 3 → ℕ) a + 1 * ((y a).val - (![n, 0, 0] : Fin 3 → ℕ) a) = (y a).val
    omega
  · rfl

/-- Writing a lane block into a row of the scratch is replacing the row by the row so written. -/
theorem put_setRow (W : Vec F S32x512x384 .f32) (n o : ℕ) (ho : o + 128 ≤ 384) (r : Vec F S1x512x384 .f32)
    (a : Vec F S1x512x128 .f32) :
    VecWindow.put (setRow W n r) ![n, 0, o] S1x512x128.size a
      = setRow W n (VecWindow.put r ![0, 0, o] S1x512x128.size a) := by
  funext y
  have y1 : (y 1).val < 512 := (y 1).isLt
  have y2 : (y 2).val < 384 := (y 2).isLt
  have key : ∀ (o s : ℕ), (∀ x : Fin 3, (![n, 0, o] : Fin 3 → ℕ) x ≤ (y x).val
      ∧ (y x).val < (![n, 0, o] : Fin 3 → ℕ) x + (![1, 512, s] : Fin 3 → ℕ) x)
      ↔ ((y 0).val = n ∧ o ≤ (y 2).val ∧ (y 2).val < o + s) := fun o s => by
    constructor
    · intro h
      have h0 := h 0; have h2 := h 2
      simp at h0 h2
      omega
    · rintro ⟨h0, h2, h3⟩ x
      fin_cases x
      · show n ≤ (y 0).val ∧ (y 0).val < n + 1; omega
      · show 0 ≤ (y 1).val ∧ (y 1).val < 0 + 512; omega
      · show o ≤ (y 2).val ∧ (y 2).val < o + s; omega
  by_cases h0 : (y 0).val = n
  · have hr := (key 0 384).mpr ⟨h0, by omega, by omega⟩
    have eR : ∀ r' : Vec F S1x512x384 .f32, setRow W n r' y
        = r' (Rect.unitLocal (s := S32x512x384) (off := ![n, 0, 0]) (size := S1x512x384.size) y hr) :=
      fun r' => dif_pos hr
    rw [eR]
    by_cases hc : o ≤ (y 2).val ∧ (y 2).val < o + 128
    · refine (dif_pos ((key o 128).mpr ⟨h0, hc⟩)).trans ?_
      have hz : ∀ x : Fin 3, (![0, 0, o] : Fin 3 → ℕ) x
            ≤ ((Rect.unitLocal (s := S32x512x384) (off := ![n, 0, 0]) (size := S1x512x384.size) y hr) x).val
          ∧ ((Rect.unitLocal (s := S32x512x384) (off := ![n, 0, 0]) (size := S1x512x384.size) y hr) x).val
            < (![0, 0, o] : Fin 3 → ℕ) x + S1x512x128.size x := by
        intro x
        fin_cases x
        · show 0 ≤ (y 0).val - n ∧ (y 0).val - n < 0 + 1; omega
        · show 0 ≤ (y 1).val - 0 ∧ (y 1).val - 0 < 0 + 512; omega
        · show o ≤ (y 2).val - 0 ∧ (y 2).val - 0 < o + 128; omega
      refine Eq.trans ?_ (dif_pos hz).symm
      refine congrArg a (funext fun x => Fin.ext ?_)
      fin_cases x
      · show (y 0).val - n = (y 0).val - n - 0; omega
      · show (y 1).val - 0 = (y 1).val - 0 - 0; omega
      · show (y 2).val - o = (y 2).val - 0 - o; omega
    · refine (dif_neg fun h => hc ((key o 128).mp h).2).trans ?_
      rw [eR]
      unfold VecWindow.put
      rw [dif_neg]
      intro h
      have e1 : o ≤ (y 2).val - 0 ∧ (y 2).val - 0 < o + 128 := h 2
      exact hc (by omega)
  · have e : ∀ r' : Vec F S1x512x384 .f32, setRow W n r' y = W y := fun r' =>
      dif_neg fun h => h0 ((key 0 384).mp h).1
    refine (dif_neg fun h => h0 ((key o 128).mp h).1).trans ?_
    rw [e, e]

end Cert.KernelIdeal.Hand

end
-- ==== Proof.Row.lean ====
/-
  The scratch buffer of the attention's backward kernel as rows, one for each query block: what the writes of a
  point leave in its row, what the loads and the copy read of it.
-/
module

public import proofs.«01_k».proof.Proof.Step
public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The grid coordinates as conditions -/

/-- The first key block's points are those that set the scratch row to zero. -/
theorem fstOf (i : grid0.Coords) : (k0_cond2 i = 1#1) = ((i 0).val = 0) := by
  have h : ∀ a : Fin 8, (Scalar.cmpi .ne (Scalar.extui (Scalar.cmpi .eq (BitVec.ofNat 32 a.val) 0#32)) 0#32 = 1#1) = (a.val = 0) := by decide
  exact h (i 0)
/-- The last key block's points are those that write the scratch row out. -/
theorem lstOf (i : grid0.Coords) : (k0_cond3 i = 1#1) = ((i 0).val = 7) := by
  have h : ∀ a : Fin 8, (Scalar.cmpi .ne (Scalar.extui (Scalar.cmpi .eq (BitVec.ofNat 32 a.val) 7#32)) 0#32 = 1#1) = (a.val = 7) := by decide
  exact h (i 0)
/-- The first query block's points are those that set `dk` and `dv` to zero. -/
theorem resetOf (i : grid0.Coords) : (Scalar.cmpi .ne (Scalar.extui (Scalar.cmpi .eq (BitVec.ofNat 32 (i 1).val) 0#32)) 0#32 = 1#1) = ((i 1).val = 0) := by
  have h : ∀ a : Fin 32, (Scalar.cmpi .ne (Scalar.extui (Scalar.cmpi .eq (BitVec.ofNat 32 a.val) 0#32)) 0#32 = 1#1) = (a.val = 0) := by decide
  exact h (i 1)

/-- The scratch and the result in main memory, whole. -/
abbrev scM : Memref sig .tc .vmem S32x512x384 .f32 := Memref.whole cc0_scratch0
abbrev hbM : Memref sig .tc .hbm S16384x384 .f32 := Memref.whole main_v49_2
/-- Full ownership of a buffer with given contents. -/
abbrev pt (c : Dev nD) {sp : Space} {S : Shape} {e : EltTy} (M : Memref sig .tc sp S e)
    (f : Buf (Elt F) (M.view.loc (c : Thread nD τ))) : sProp 𝕄 := M.view.loc (c : Thread nD τ) ↦{fullShare} f

/-- What is loaded of a block after a condition has or has not overwritten it whole. -/
theorem read_reset {sp : Space} (M : Memref sig .tc sp S2048x128 .f32) (f : M.view.ty.Contents (Elt F)) (z : Vec F S2048x128 .f32)
    {p r : Prop} [Decidable p] [Decidable r] (h : p = r) :
    M.view.readAt (Elt F) (Rect.unit (s := S2048x128) ![0, 0] S2048x128.size inb_S2048x128_S2048x128_0_0).toLoadRect
        (if _ : p then M.view.writes (Elt F) f [⟨Rect.unit ![0, 0] S2048x128.size inb_S2048x128_S2048x128_0_0, z⟩] else f)
      = if r then z else M.view.read (Elt F) f := by
  rw [View.readAt_full]
  by_cases hp : p
  · rw [dif_pos hp, if_pos (h ▸ hp), View.read_writes_full]
  · rw [dif_neg hp, if_neg (h ▸ hp)]

/-- Ownership of a buffer depends on its contents alone. -/
theorem pt_congr (c : Dev nD) {sp : Space} {S : Shape} {e : EltTy} {M : Memref sig .tc sp S e}
    {f g : Buf (Elt F) (M.view.loc (c : Thread nD τ))} (h : f = g) : pt c M f ⊢ pt c M g := by
  subst h; exact .rfl

/-! ## Writes and loads of the scratch row -/

section Row

variable (i : grid0.Coords) {f : (scM).view.ty.Contents (Elt F)} {L : List (View.Piece (Elt F) S32x512x384 .f32)} {g : Vec F S32x512x384 .f32}
  {r : Vec F S1x512x384 .f32}

/-- The scratch under the writes `L` is `g` with the point's row replaced by `r`. -/
def RowIs (f : (scM).view.ty.Contents (Elt F)) (L : List (View.Piece (Elt F) S32x512x384 .f32)) (g : Vec F S32x512x384 .f32)
    (r : Vec F S1x512x384 .f32) : Prop := (scM).view.read (Elt F) ((scM).view.writes (Elt F) f L) = setRow g (i 1).val r

/-- With no store the row is the scratch's. -/
theorem RowIs.nil : RowIs i f [] f (rowOf f (i 1).val (i 1).isLt) := (setRow_rowOf f _ _).symm

/-- At the first key block the row starts at zero. -/
theorem RowIs.zero (hc : k0_cond2 i = 1#1) (z : Vec F S1x512x384 .f32) :
    RowIs i f [⟨Rect.unit (s := S32x512x384) (k0_off1 i) S1x512x384.size (k0_off1_inb i hc), z⟩] f z :=
  View.read_writes_cons_put _ _ _ _ [] (k0_off1_eq i)

/-- A store into the row's first 128 columns. -/
theorem RowIs.laneA (h : RowIs i f L g r) (a : Vec F S1x512x128 .f32) :
    RowIs i f (⟨Rect.unit (s := S32x512x384) (k0_off2 i) S1x512x128.size (k0_off2_inb i), a⟩ :: L) g (VecWindow.put r ![0, 0, 0] S1x512x128.size a) :=
  (View.read_writes_cons_put _ _ _ _ L (k0_off2_eq i)).trans ((congrArg (fun x : Vec F S32x512x384 .f32 => VecWindow.put x _ _ a) (show _ = _ from h)).trans (put_setRow g _ 0 (by decide) r a))
/-- A store into the row's middle 128 columns. -/
theorem RowIs.laneB (h : RowIs i f L g r) (a : Vec F S1x512x128 .f32) :
    RowIs i f (⟨Rect.unit (s := S32x512x384) (k0_off3 i) S1x512x128.size (k0_off3_inb i), a⟩ :: L) g (VecWindow.put r ![0, 0, 128] S1x512x128.size a) :=
  (View.read_writes_cons_put _ _ _ _ L (k0_off3_eq i)).trans ((congrArg (fun x : Vec F S32x512x384 .f32 => VecWindow.put x _ _ a) (show _ = _ from h)).trans (put_setRow g _ 128 (by decide) r a))
/-- A store into the row's last 128 columns. -/
theorem RowIs.laneC (h : RowIs i f L g r) (a : Vec F S1x512x128 .f32) :
    RowIs i f (⟨Rect.unit (s := S32x512x384) (k0_off4 i) S1x512x128.size (k0_off4_inb i), a⟩ :: L) g (VecWindow.put r ![0, 0, 256] S1x512x128.size a) :=
  (View.read_writes_cons_put _ _ _ _ L (k0_off4_eq i)).trans ((congrArg (fun x : Vec F S32x512x384 .f32 => VecWindow.put x _ _ a) (show _ = _ from h)).trans (put_setRow g _ 256 (by decide) r a))
/-- At the last key block the whole row is stored. -/
theorem RowIs.all (hc : k0_cond3 i = 1#1) (h : RowIs i f L g r) (z : Vec F S1x512x384 .f32) :
    RowIs i f (⟨Rect.unit (s := S32x512x384) (k0_off5 i) S1x512x384.size (k0_off5_inb i hc), z⟩ :: L) g z :=
  (View.read_writes_cons_put _ _ _ _ L (k0_off5_eq i)).trans ((congrArg (fun x : Vec F S32x512x384 .f32 => VecWindow.put x _ _ z) (show _ = _ from h)).trans (VecWindow.put_put_same g _ _ r z))

/-- A load of the row's first 128 columns. -/
theorem RowIs.loadA (h : RowIs i f L g r) :
    (scM).view.readAt (Elt F) (Rect.unit (s := S32x512x384) (k0_off2 i) S1x512x128.size (k0_off2_inb i)).toLoadRect ((scM).view.writes (Elt F) f L)
      = Hand.laneA r := by
  rw [View.readAt_unit _ _ _ (k0_off2_eq i) (inb_rowA (i 1).val (i 1).isLt), laneA_rowOf _ _ (i 1).isLt, (show _ = _ from h)]
  exact congrArg Hand.laneA (VecWindow.window_put_same g _ _ _ r)
/-- A load of the row's middle 128 columns. -/
theorem RowIs.loadB (h : RowIs i f L g r) :
    (scM).view.readAt (Elt F) (Rect.unit (s := S32x512x384) (k0_off3 i) S1x512x128.size (k0_off3_inb i)).toLoadRect ((scM).view.writes (Elt F) f L)
      = Hand.laneB r := by
  rw [View.readAt_unit _ _ _ (k0_off3_eq i) (inb_rowB (i 1).val (i 1).isLt), laneB_rowOf _ _ (i 1).isLt, (show _ = _ from h)]
  exact congrArg Hand.laneB (VecWindow.window_put_same g _ _ _ r)
/-- A load of the row's last 128 columns. -/
theorem RowIs.loadC (h : RowIs i f L g r) :
    (scM).view.readAt (Elt F) (Rect.unit (s := S32x512x384) (k0_off4 i) S1x512x128.size (k0_off4_inb i)).toLoadRect ((scM).view.writes (Elt F) f L)
      = Hand.laneC r := by
  rw [View.readAt_unit _ _ _ (k0_off4_eq i) (inb_rowC (i 1).val (i 1).isLt), laneC_rowOf _ _ (i 1).isLt, (show _ = _ from h)]
  exact congrArg Hand.laneC (VecWindow.window_put_same g _ _ _ r)
/-- At the last key block the whole row is loaded. -/
theorem RowIs.loadAll (hc : k0_cond3 i = 1#1) (h : RowIs i f L g r) :
    (scM).view.readAt (Elt F) (Rect.unit (s := S32x512x384) (k0_off5 i) S1x512x384.size (k0_off5_inb i hc)).toLoadRect ((scM).view.writes (Elt F) f L)
      = r := by
  rw [View.readAt_unit _ _ _ (k0_off5_eq i) (inb_row (i 1).val (i 1).isLt), (show _ = _ from h)]
  exact VecWindow.window_put_same g _ _ _ r

/-- A write of an earlier lane block does not change a later one. -/
theorem laneB_putA (a : Vec F S1x512x128 .f32) : Hand.laneB (VecWindow.put r ![0, 0, 0] S1x512x128.size a) = Hand.laneB r :=
  VecWindow.window_put_of_disjoint r _ _ _ _ _ _ 2 (.inr (by decide))
/-- A store into the first columns leaves the last. -/
theorem laneC_putA (a : Vec F S1x512x128 .f32) : Hand.laneC (VecWindow.put r ![0, 0, 0] S1x512x128.size a) = Hand.laneC r :=
  VecWindow.window_put_of_disjoint r _ _ _ _ _ _ 2 (.inr (by decide))
/-- A store into the middle columns leaves the last. -/
theorem laneC_putB (a : Vec F S1x512x128 .f32) : Hand.laneC (VecWindow.put r ![0, 0, 128] S1x512x128.size a) = Hand.laneC r :=
  VecWindow.window_put_of_disjoint r _ _ _ _ _ _ 2 (.inr (by decide))

/-- The three writes of the point's sums, the last one first. -/
abbrev stepPieces (q : Vec F S512x384 .bf16) (k v : Vec F S2048x128 .bf16) (d : Vec F S512x384 .bf16)
    (l e : Vec F S6x1x512 .f32) (r : Vec F S1x512x384 .f32) (L : List (View.Piece (Elt F) S32x512x384 .f32)) :
    List (View.Piece (Elt F) S32x512x384 .f32) :=
  ⟨Rect.unit (s := S32x512x384) (k0_off4 i) S1x512x128.size (k0_off4_inb i), dqStep2 q k v d l e (Hand.laneC r)⟩
    :: ⟨Rect.unit (s := S32x512x384) (k0_off3 i) S1x512x128.size (k0_off3_inb i), dqStep1 q k v d l e (Hand.laneB r)⟩
    :: ⟨Rect.unit (s := S32x512x384) (k0_off2 i) S1x512x128.size (k0_off2_inb i), dqStep0 q k v d l e (Hand.laneA r)⟩ :: L

/-- The three sums write the row they make of the row they load. -/
theorem RowIs.step (h : RowIs i f L g r) (q : Vec F S512x384 .bf16) (k v : Vec F S2048x128 .bf16) (d : Vec F S512x384 .bf16)
    (l e : Vec F S6x1x512 .f32) : RowIs i f (stepPieces i q k v d l e r L) g (rowStep q k v d l e r) :=
  ((h.laneA i _).laneB i _).laneC i _

end Row

/-- A row of the scratch as the block of rows the copy reads it as. -/
def flat (r : Vec F S1x512x384 .f32) : Vec F S512x384 .f32 := fun y =>
  r (Shape.reshapeEquiv squeezes_S1x512x384_S512x384.numel_eq y)
/-- The result in main memory with the query block `n` replaced by a row of the scratch. -/
abbrev setOut (X : Vec F S16384x384 .f32) (n : ℕ) (r : Vec F S1x512x384 .f32) : Vec F S16384x384 .f32 :=
  VecWindow.put X ![512 * n, 0] S512x384.size (flat r)

/-- The copy reads the scratch row that the point's last write left. -/
theorem RowIs.copied {i : grid0.Coords} {f : (scM).view.ty.Contents (Elt F)} {L : List (View.Piece (Elt F) S32x512x384 .f32)} {g : Vec F S32x512x384 .f32}
    {r : Vec F S1x512x384 .f32} (h : RowIs i f L g r) {off : Fin 3 → ℕ} (ho : off = ![(i 1).val, 0, 0])
    (inb : ∀ a, off a + S1x512x384.size a ≤ S32x512x384.size a) (h₀ : ∀ a, (Rect.unit (s := S32x512x384) off S1x512x384.size inb).stride a = 1) :
    View.read (Elt F) ((scM.slice (Rect.unit (s := S32x512x384) off S1x512x384.size inb) h₀).squeeze S512x384 squeezes_S1x512x384_S512x384).view
      ((scM).view.writes (Elt F) f L) = flat r := by
  subst ho
  have e : (scM).view.writes (Elt F) f L = setRow g (i 1).val r := h
  rw [e]
  exact congrArg flat (VecWindow.window_put_same g _ _ _ r)

/-- The copy writes the query block's rows of the result. -/
theorem setOut_write (n : ℕ) (X : Vec F S16384x384 .f32) (w : Vec F S512x384 .f32) {off : Fin 2 → ℕ} (ho : off = ![512 * n, 0])
    (inb : ∀ a, off a + S512x384.size a ≤ S16384x384.size a) (h₀ : ∀ a, (Rect.unit (s := S16384x384) off S512x384.size inb).stride a = 1) :
    View.write (Elt F) (hbM.slice (Rect.unit (s := S16384x384) off S512x384.size inb) h₀).view X w Finset.univ
      = VecWindow.put X ![512 * n, 0] S512x384.size w := by
  subst ho
  rw [VecWindow.put_eq_updateSlice X _ _ inb]
  exact View.write_whole_slice_unit (Val := Elt F) main_v49_2 ![512 * n, 0] S512x384.size inb X w

end Cert.KernelIdeal.Hand

end
-- ==== Proof.BodyFst.lean ====
/-
  A point of the first key block: the scratch row is set to zero and gets its three sums.
-/
module

public import proofs.«01_k».proof.Proof.Row
public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- A point of the first key block: the scratch row is set to zero and gets its three sums. -/
theorem run_fst (c : Dev nD) (i : grid0.Coords) (M2 : Memref sig .tc .vmem S512x384 .bf16) (h2 : M2.IsWhole) (M3 : Memref sig .tc .vmem S2048x128 .bf16) (h3 : M3.IsWhole)
    (M4 : Memref sig .tc .vmem S2048x128 .bf16) (h4 : M4.IsWhole) (M5 : Memref sig .tc .vmem S512x384 .bf16) (h5 : M5.IsWhole) (M6 : Memref sig .tc .vmem S6x1x512 .f32) (h6 : M6.IsWhole)
    (M7 : Memref sig .tc .vmem S6x1x512 .f32) (h7 : M7.IsWhole) (M8 : Memref sig .tc .vmem S2048x128 .f32) (h8 : M8.IsWhole) (M9 : Memref sig .tc .vmem S2048x128 .f32) (h9 : M9.IsWhole)
    (q : Vec F S512x384 .bf16) (k v : Vec F S2048x128 .bf16) (d : Vec F S512x384 .bf16) (l e : Vec F S6x1x512 .f32)
    (dk dv : Vec F S2048x128 .f32) (W : Vec F S32x512x384 .f32) (K : PUnit → sProp 𝕄)
    (hc2 : k0_cond2 i = 1#1) (hc3 : ¬ k0_cond3 i = 1#1) :
    iprop(owns (c : Thread nD τ) M2 fullShare q ∗ owns (c : Thread nD τ) M3 fullShare k ∗ owns (c : Thread nD τ) M4 fullShare v
        ∗ owns (c : Thread nD τ) M5 fullShare d ∗ owns (c : Thread nD τ) M6 fullShare l ∗ owns (c : Thread nD τ) M7 fullShare e
        ∗ owns (c : Thread nD τ) M8 fullShare dk ∗ owns (c : Thread nD τ) M9 fullShare dv
        ∗ pt c scM W
        ∗ (owns (c : Thread nD τ) M2 fullShare q -∗ owns (c : Thread nD τ) M3 fullShare k -∗ owns (c : Thread nD τ) M4 fullShare v
          -∗ owns (c : Thread nD τ) M5 fullShare d -∗ owns (c : Thread nD τ) M6 fullShare l -∗ owns (c : Thread nD τ) M7 fullShare e
          -∗ owns (c : Thread nD τ) M8 fullShare (dkStep q k v d l e (if (i 1).val = 0 then k0_pay2 else dk))
          -∗ owns (c : Thread nD τ) M9 fullShare (dvStep q k d l (if (i 1).val = 0 then k0_pay3 else dv))
          -∗ pt c scM (setRow W (i 1).val (rowStep q k v d l e k0_pay4)) -∗ K ⟨⟩))
      ⊢ wp frame (wpE (defs₀ (F := F)) Variants.none c none) Set.univ
        (cc0_ax_bwd i M2 h2 M3 h3 M4 h4 M5 h5 M6 h6 M7 h7 M8 h8 M9 h9 hbM (Memref.isWhole_whole _) scM (Memref.isWhole_whole _) cc0_scratch1) K := by
  simp only [cc0_ax_bwd_eq_skeleton]; unfold cc0_ax_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, H11, Hk⟩
  subst e2 e3 e4 e5 e6 e7 e8 e9
  have r3 : M3.view.readAt (Elt F) (Rect.unit (s := S2048x128) ![0, 0] S2048x128.size inb_S2048x128_S2048x128_0_0).toLoadRect f3 = M3.view.read (Elt F) f3 := View.readAt_full ..
  have r4 : M4.view.readAt (Elt F) (Rect.unit (s := S2048x128) ![0, 0] S2048x128.size inb_S2048x128_S2048x128_0_0).toLoadRect f4 = M4.view.read (Elt F) f4 := View.readAt_full ..
  sl_exec (disch := first | sl_exact hc2 | sl_exact hc3)
  sl_step
  iapply Hk $$ [H2] [H3] [H4] [H5] [H6] [H7] [H8] [H9] [H11]
  · iexists f2; isplitr; · ipureintro; rfl
    iexact H2
  · iexists f3; isplitr; · ipureintro; rfl
    iexact H3
  · iexists f4; isplitr; · ipureintro; rfl
    iexact H4
  · iexists f5; isplitr; · ipureintro; rfl
    iexact H5
  · iexists f6; isplitr; · ipureintro; rfl
    iexact H6
  · iexists f7; isplitr; · ipureintro; rfl
    iexact H7
  · iexists _; isplitr; swap; · iexact H8
    ipureintro
    refine (View.read_writes_full ..).trans ?_
    have h219 : run_fst.sl.v219 c i M8 f8 = _ := read_reset M8 f8 k0_pay2 (resetOf i)
    rw [h219]
    delta run_fst.sl.r run_fst.sl.r_1 run_fst.sl.r_2 run_fst.sl.r_3 run_fst.sl.r_4 run_fst.sl.r_5 run_fst.sl.r_6 run_fst.sl.r_7 run_fst.sl.r_8 run_fst.sl.r_9 run_fst.sl.r_10 run_fst.sl.r_11 run_fst.sl.r_12 run_fst.sl.r_13 run_fst.sl.r_14 run_fst.sl.r_15 run_fst.sl.r_16 run_fst.sl.r_17 run_fst.sl.r_18 run_fst.sl.r_19 run_fst.sl.r_20 run_fst.sl.r_21 run_fst.sl.r_22 run_fst.sl.r_23 run_fst.sl.r_24 run_fst.sl.r_25 run_fst.sl.r_26 run_fst.sl.r_27 run_fst.sl.r_28 run_fst.sl.r_29 run_fst.sl.r_30 run_fst.sl.r_31 run_fst.sl.r_32 run_fst.sl.r_33 run_fst.sl.r_34 run_fst.sl.r_35 run_fst.sl.r_36 run_fst.sl.r_37
    rfl
  · iexists _; isplitr; swap; · iexact H9
    ipureintro
    refine (View.read_writes_full ..).trans ?_
    have h215 : run_fst.sl.v215 c i M9 f9 = _ := read_reset M9 f9 k0_pay3 (resetOf i)
    rw [h215]
    delta run_fst.sl.r run_fst.sl.r_1 run_fst.sl.r_2 run_fst.sl.r_3 run_fst.sl.r_4 run_fst.sl.r_5 run_fst.sl.r_6 run_fst.sl.r_7 run_fst.sl.r_8 run_fst.sl.r_9 run_fst.sl.r_10 run_fst.sl.r_11 run_fst.sl.r_12 run_fst.sl.r_13 run_fst.sl.r_14 run_fst.sl.r_15 run_fst.sl.r_16 run_fst.sl.r_17 run_fst.sl.r_18 run_fst.sl.r_19 run_fst.sl.r_20 run_fst.sl.r_21 run_fst.sl.r_22 run_fst.sl.r_23 run_fst.sl.r_24 run_fst.sl.r_25 run_fst.sl.r_26 run_fst.sl.r_27 run_fst.sl.r_28 run_fst.sl.r_29 run_fst.sl.r_30 run_fst.sl.r_31 run_fst.sl.r_32 run_fst.sl.r_33 run_fst.sl.r_34 run_fst.sl.r_35 run_fst.sl.r_36 run_fst.sl.r_37
    rfl
  · have hA : RowIs i W _ W _ := RowIs.zero i hc2 (k0_pay4 (F := F))
    refine pt_congr c ?_
    have lA : run_fst.sl.v82 i hc2 = _ := RowIs.loadA i (RowIs.zero i hc2 (k0_pay4 (F := F)) (f := (scM).view.junk))
    have hB := (RowIs.zero i hc2 (k0_pay4 (F := F)) (f := (scM).view.junk)).laneA i (dqStep0 (View.read (Elt F) M2.view f2) (View.read (Elt F) M3.view f3) (View.read (Elt F) M4.view f4) (View.read (Elt F) M5.view f5) (View.read (Elt F) M6.view f6) (View.read (Elt F) M7.view f7) (laneA k0_pay4))
    have e0 : k0_pay38 (run_fst.sl.r_1 c M3 f3) (run_fst.sl.r_15 c M2 M3 M4 M5 M6 M7 f2 f3 f4 f5 f6 f7)
                    (run_fst.sl.r_17 c M2 M3 M4 M5 M6 M7 f2 f3 f4 f5 f6 f7) (run_fst.sl.v82 i hc2) = (dqStep0 (View.read (Elt F) M2.view f2) (View.read (Elt F) M3.view f3) (View.read (Elt F) M4.view f4) (View.read (Elt F) M5.view f5) (View.read (Elt F) M6.view f6) (View.read (Elt F) M7.view f7) (laneA k0_pay4)) := by
      rw [lA]
      delta run_fst.sl.r run_fst.sl.r_1 run_fst.sl.r_2 run_fst.sl.r_3 run_fst.sl.r_4 run_fst.sl.r_5 run_fst.sl.r_6 run_fst.sl.r_7 run_fst.sl.r_8 run_fst.sl.r_9 run_fst.sl.r_10 run_fst.sl.r_11 run_fst.sl.r_12 run_fst.sl.r_13 run_fst.sl.r_14 run_fst.sl.r_15 run_fst.sl.r_16 run_fst.sl.r_17 run_fst.sl.r_18 run_fst.sl.r_19 run_fst.sl.r_20 run_fst.sl.r_21 run_fst.sl.r_22 run_fst.sl.r_23 run_fst.sl.r_24 run_fst.sl.r_25 run_fst.sl.r_26 run_fst.sl.r_27 run_fst.sl.r_28 run_fst.sl.r_29 run_fst.sl.r_30 run_fst.sl.r_31 run_fst.sl.r_32 run_fst.sl.r_33 run_fst.sl.r_34 run_fst.sl.r_35 run_fst.sl.r_36 run_fst.sl.r_37
      rfl
    have lB : run_fst.sl.v144 c i M2 M3 M4 M5 M6 M7 hc2 f2 f3 f4 f5 f6 f7 = laneB k0_pay4 := by
      delta run_fst.sl.v144 run_fst.sl.H11_2
      rw [e0]
      exact (hB.loadB i).trans (laneB_putA _)
    have e1 : run_fst.sl.r_30 c i M2 M3 M4 M5 M6 M7 hc2 f2 f3 f4 f5 f6 f7 = (dqStep1 (View.read (Elt F) M2.view f2) (View.read (Elt F) M3.view f3) (View.read (Elt F) M4.view f4) (View.read (Elt F) M5.view f5) (View.read (Elt F) M6.view f6) (View.read (Elt F) M7.view f7) (laneB k0_pay4)) := by
      unfold run_fst.sl.r_30
      rw [lB]
      delta run_fst.sl.r run_fst.sl.r_1 run_fst.sl.r_2 run_fst.sl.r_3 run_fst.sl.r_4 run_fst.sl.r_5 run_fst.sl.r_6 run_fst.sl.r_7 run_fst.sl.r_8 run_fst.sl.r_9 run_fst.sl.r_10 run_fst.sl.r_11 run_fst.sl.r_12 run_fst.sl.r_13 run_fst.sl.r_14 run_fst.sl.r_15 run_fst.sl.r_16 run_fst.sl.r_17 run_fst.sl.r_18 run_fst.sl.r_19 run_fst.sl.r_20 run_fst.sl.r_21 run_fst.sl.r_22 run_fst.sl.r_23 run_fst.sl.r_24 run_fst.sl.r_25 run_fst.sl.r_26 run_fst.sl.r_27 run_fst.sl.r_28 run_fst.sl.r_29 run_fst.sl.r_30 run_fst.sl.r_31 run_fst.sl.r_32 run_fst.sl.r_33 run_fst.sl.r_34 run_fst.sl.r_35 run_fst.sl.r_36 run_fst.sl.r_37
      rfl
    have lC : run_fst.sl.v208 c i M2 M3 M4 M5 M6 M7 hc2 f2 f3 f4 f5 f6 f7 = laneC k0_pay4 := by
      delta run_fst.sl.v208 run_fst.sl.H11_3 run_fst.sl.H11_2
      rw [e0, e1]
      exact ((hB.laneB i _).loadC i).trans ((laneC_putB _).trans (laneC_putA _))
    refine Eq.trans ?_ (hA.step i (View.read (Elt F) M2.view f2) (View.read (Elt F) M3.view f3) (View.read (Elt F) M4.view f4) (View.read (Elt F) M5.view f5) (View.read (Elt F) M6.view f6) (View.read (Elt F) M7.view f7))
    delta run_fst.sl.H11_3 run_fst.sl.H11_2
    rw [lC, e0, e1]
    delta run_fst.sl.r run_fst.sl.r_1 run_fst.sl.r_2 run_fst.sl.r_3 run_fst.sl.r_4 run_fst.sl.r_5 run_fst.sl.r_6 run_fst.sl.r_7 run_fst.sl.r_8 run_fst.sl.r_9 run_fst.sl.r_10 run_fst.sl.r_11 run_fst.sl.r_12 run_fst.sl.r_13 run_fst.sl.r_14 run_fst.sl.r_15 run_fst.sl.r_16 run_fst.sl.r_17 run_fst.sl.r_18 run_fst.sl.r_19 run_fst.sl.r_20 run_fst.sl.r_21 run_fst.sl.r_22 run_fst.sl.r_23 run_fst.sl.r_24 run_fst.sl.r_25 run_fst.sl.r_26 run_fst.sl.r_27 run_fst.sl.r_28 run_fst.sl.r_29 run_fst.sl.r_30 run_fst.sl.r_31 run_fst.sl.r_32 run_fst.sl.r_33 run_fst.sl.r_34 run_fst.sl.r_35 run_fst.sl.r_36 run_fst.sl.r_37
    rfl

end Cert.KernelIdeal.Hand

end
-- ==== Proof.BodyMid.lean ====
/-
  A point of a middle key block: the scratch row gets its three sums.
-/
module

public import proofs.«01_k».proof.Proof.Row
public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- A point of a middle key block: the scratch row gets its three sums. -/
theorem run_mid (c : Dev nD) (i : grid0.Coords) (M2 : Memref sig .tc .vmem S512x384 .bf16) (h2 : M2.IsWhole) (M3 : Memref sig .tc .vmem S2048x128 .bf16) (h3 : M3.IsWhole)
    (M4 : Memref sig .tc .vmem S2048x128 .bf16) (h4 : M4.IsWhole) (M5 : Memref sig .tc .vmem S512x384 .bf16) (h5 : M5.IsWhole) (M6 : Memref sig .tc .vmem S6x1x512 .f32) (h6 : M6.IsWhole)
    (M7 : Memref sig .tc .vmem S6x1x512 .f32) (h7 : M7.IsWhole) (M8 : Memref sig .tc .vmem S2048x128 .f32) (h8 : M8.IsWhole) (M9 : Memref sig .tc .vmem S2048x128 .f32) (h9 : M9.IsWhole)
    (q : Vec F S512x384 .bf16) (k v : Vec F S2048x128 .bf16) (d : Vec F S512x384 .bf16) (l e : Vec F S6x1x512 .f32)
    (dk dv : Vec F S2048x128 .f32) (W : Vec F S32x512x384 .f32) (K : PUnit → sProp 𝕄)
    (hc2 : ¬ k0_cond2 i = 1#1) (hc3 : ¬ k0_cond3 i = 1#1) :
    iprop(owns (c : Thread nD τ) M2 fullShare q ∗ owns (c : Thread nD τ) M3 fullShare k ∗ owns (c : Thread nD τ) M4 fullShare v
        ∗ owns (c : Thread nD τ) M5 fullShare d ∗ owns (c : Thread nD τ) M6 fullShare l ∗ owns (c : Thread nD τ) M7 fullShare e
        ∗ owns (c : Thread nD τ) M8 fullShare dk ∗ owns (c : Thread nD τ) M9 fullShare dv
        ∗ pt c scM W
        ∗ (owns (c : Thread nD τ) M2 fullShare q -∗ owns (c : Thread nD τ) M3 fullShare k -∗ owns (c : Thread nD τ) M4 fullShare v
          -∗ owns (c : Thread nD τ) M5 fullShare d -∗ owns (c : Thread nD τ) M6 fullShare l -∗ owns (c : Thread nD τ) M7 fullShare e
          -∗ owns (c : Thread nD τ) M8 fullShare (dkStep q k v d l e (if (i 1).val = 0 then k0_pay2 else dk))
          -∗ owns (c : Thread nD τ) M9 fullShare (dvStep q k d l (if (i 1).val = 0 then k0_pay3 else dv))
          -∗ pt c scM (setRow W (i 1).val (rowStep q k v d l e (rowOf W (i 1).val (i 1).isLt))) -∗ K ⟨⟩))
      ⊢ wp frame (wpE (defs₀ (F := F)) Variants.none c none) Set.univ
        (cc0_ax_bwd i M2 h2 M3 h3 M4 h4 M5 h5 M6 h6 M7 h7 M8 h8 M9 h9 hbM (Memref.isWhole_whole _) scM (Memref.isWhole_whole _) cc0_scratch1) K := by
  simp only [cc0_ax_bwd_eq_skeleton]; unfold cc0_ax_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, H11, Hk⟩
  subst e2 e3 e4 e5 e6 e7 e8 e9
  have r3 : M3.view.readAt (Elt F) (Rect.unit (s := S2048x128) ![0, 0] S2048x128.size inb_S2048x128_S2048x128_0_0).toLoadRect f3 = M3.view.read (Elt F) f3 := View.readAt_full ..
  have r4 : M4.view.readAt (Elt F) (Rect.unit (s := S2048x128) ![0, 0] S2048x128.size inb_S2048x128_S2048x128_0_0).toLoadRect f4 = M4.view.read (Elt F) f4 := View.readAt_full ..
  sl_exec (disch := first | sl_exact hc2 | sl_exact hc3)
  sl_step
  iapply Hk $$ [H2] [H3] [H4] [H5] [H6] [H7] [H8] [H9] [H11]
  · iexists f2; isplitr; · ipureintro; rfl
    iexact H2
  · iexists f3; isplitr; · ipureintro; rfl
    iexact H3
  · iexists f4; isplitr; · ipureintro; rfl
    iexact H4
  · iexists f5; isplitr; · ipureintro; rfl
    iexact H5
  · iexists f6; isplitr; · ipureintro; rfl
    iexact H6
  · iexists f7; isplitr; · ipureintro; rfl
    iexact H7
  · iexists _; isplitr; swap; · iexact H8
    ipureintro
    refine (View.read_writes_full ..).trans ?_
    have h219 : run_mid.sl.v219 c i M8 f8 = _ := read_reset M8 f8 k0_pay2 (resetOf i)
    rw [h219]
    delta run_mid.sl.r run_mid.sl.r_1 run_mid.sl.r_2 run_mid.sl.r_3 run_mid.sl.r_4 run_mid.sl.r_5 run_mid.sl.r_6 run_mid.sl.r_7 run_mid.sl.r_8 run_mid.sl.r_9 run_mid.sl.r_10 run_mid.sl.r_11 run_mid.sl.r_12 run_mid.sl.r_13 run_mid.sl.r_14 run_mid.sl.r_15 run_mid.sl.r_16 run_mid.sl.r_17 run_mid.sl.r_18 run_mid.sl.r_19 run_mid.sl.r_20 run_mid.sl.r_21 run_mid.sl.r_22 run_mid.sl.r_23 run_mid.sl.r_24 run_mid.sl.r_25 run_mid.sl.r_26 run_mid.sl.r_27 run_mid.sl.r_28 run_mid.sl.r_29 run_mid.sl.r_30 run_mid.sl.r_31 run_mid.sl.r_32 run_mid.sl.r_33 run_mid.sl.r_34 run_mid.sl.r_35 run_mid.sl.r_36 run_mid.sl.r_37
    rfl
  · iexists _; isplitr; swap; · iexact H9
    ipureintro
    refine (View.read_writes_full ..).trans ?_
    have h215 : run_mid.sl.v215 c i M9 f9 = _ := read_reset M9 f9 k0_pay3 (resetOf i)
    rw [h215]
    delta run_mid.sl.r run_mid.sl.r_1 run_mid.sl.r_2 run_mid.sl.r_3 run_mid.sl.r_4 run_mid.sl.r_5 run_mid.sl.r_6 run_mid.sl.r_7 run_mid.sl.r_8 run_mid.sl.r_9 run_mid.sl.r_10 run_mid.sl.r_11 run_mid.sl.r_12 run_mid.sl.r_13 run_mid.sl.r_14 run_mid.sl.r_15 run_mid.sl.r_16 run_mid.sl.r_17 run_mid.sl.r_18 run_mid.sl.r_19 run_mid.sl.r_20 run_mid.sl.r_21 run_mid.sl.r_22 run_mid.sl.r_23 run_mid.sl.r_24 run_mid.sl.r_25 run_mid.sl.r_26 run_mid.sl.r_27 run_mid.sl.r_28 run_mid.sl.r_29 run_mid.sl.r_30 run_mid.sl.r_31 run_mid.sl.r_32 run_mid.sl.r_33 run_mid.sl.r_34 run_mid.sl.r_35 run_mid.sl.r_36 run_mid.sl.r_37
    rfl
  · refine pt_congr c ?_
    refine Eq.trans ?_ ((RowIs.nil i).step i (View.read (Elt F) M2.view f2) (View.read (Elt F) M3.view f3) (View.read (Elt F) M4.view f4) (View.read (Elt F) M5.view f5) (View.read (Elt F) M6.view f6) (View.read (Elt F) M7.view f7))
    delta run_mid.sl.v208 run_mid.sl.v144 run_mid.sl.r run_mid.sl.r_1 run_mid.sl.r_2 run_mid.sl.r_3 run_mid.sl.r_4 run_mid.sl.r_5 run_mid.sl.r_6 run_mid.sl.r_7 run_mid.sl.r_8 run_mid.sl.r_9 run_mid.sl.r_10 run_mid.sl.r_11 run_mid.sl.r_12 run_mid.sl.r_13 run_mid.sl.r_14 run_mid.sl.r_15 run_mid.sl.r_16 run_mid.sl.r_17 run_mid.sl.r_18 run_mid.sl.r_19 run_mid.sl.r_20 run_mid.sl.r_21 run_mid.sl.r_22 run_mid.sl.r_23 run_mid.sl.r_24 run_mid.sl.r_25 run_mid.sl.r_26 run_mid.sl.r_27 run_mid.sl.r_28 run_mid.sl.r_29 run_mid.sl.r_30 run_mid.sl.r_31 run_mid.sl.r_32 run_mid.sl.r_33 run_mid.sl.r_34 run_mid.sl.r_35 run_mid.sl.r_36 run_mid.sl.r_37
    have lA' : View.readAt (Elt F) scM.view (Rect.unit (s := S32x512x384) (k0_off2 i) S1x512x128.size (k0_off2_inb i)).toLoadRect W = _ := (RowIs.nil i).loadA
    have lB' : View.readAt (Elt F) scM.view (Rect.unit (s := S32x512x384) (k0_off3 i) S1x512x128.size (k0_off3_inb i)).toLoadRect W = _ := (RowIs.nil i).loadB
    have lC' : View.readAt (Elt F) scM.view (Rect.unit (s := S32x512x384) (k0_off4 i) S1x512x128.size (k0_off4_inb i)).toLoadRect W = _ := (RowIs.nil i).loadC
    rw [lA', lB', lC']
    rfl

end Cert.KernelIdeal.Hand

end
-- ==== Proof.BodyLst.lean ====
/-
  A point of the last key block: the scratch row gets its three sums, is scaled, and is copied to the result.
-/
module

public import proofs.«01_k».proof.Proof.Row
public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1600000 in
/-- A point of the last key block: the scratch row gets its three sums, is scaled, and is copied to the result. -/
theorem run_lst (c : Dev nD) (i : grid0.Coords) (M2 : Memref sig .tc .vmem S512x384 .bf16) (h2 : M2.IsWhole) (M3 : Memref sig .tc .vmem S2048x128 .bf16) (h3 : M3.IsWhole)
    (M4 : Memref sig .tc .vmem S2048x128 .bf16) (h4 : M4.IsWhole) (M5 : Memref sig .tc .vmem S512x384 .bf16) (h5 : M5.IsWhole) (M6 : Memref sig .tc .vmem S6x1x512 .f32) (h6 : M6.IsWhole)
    (M7 : Memref sig .tc .vmem S6x1x512 .f32) (h7 : M7.IsWhole) (M8 : Memref sig .tc .vmem S2048x128 .f32) (h8 : M8.IsWhole) (M9 : Memref sig .tc .vmem S2048x128 .f32) (h9 : M9.IsWhole)
    (q : Vec F S512x384 .bf16) (k v : Vec F S2048x128 .bf16) (d : Vec F S512x384 .bf16) (l e : Vec F S6x1x512 .f32)
    (dk dv : Vec F S2048x128 .f32) (W : Vec F S32x512x384 .f32) (X : Vec F S16384x384 .f32) (Wt : Waits sig Unit) (K : PUnit → sProp 𝕄)
    (hc2 : ¬ k0_cond2 i = 1#1) (hc3 : k0_cond3 i = 1#1) :
    iprop(owns (c : Thread nD τ) M2 fullShare q ∗ owns (c : Thread nD τ) M3 fullShare k ∗ owns (c : Thread nD τ) M4 fullShare v
        ∗ owns (c : Thread nD τ) M5 fullShare d ∗ owns (c : Thread nD τ) M6 fullShare l ∗ owns (c : Thread nD τ) M7 fullShare e
        ∗ owns (c : Thread nD τ) M8 fullShare dk ∗ owns (c : Thread nD τ) M9 fullShare dv
        ∗ pt c scM W ∗ pt c hbM X ∗ semVal ((c : Thread nD τ), SemLoc.dma 16) 0 ∗ owes (c : Thread nD τ) 0 Wt
        ∗ (owns (c : Thread nD τ) M2 fullShare q -∗ owns (c : Thread nD τ) M3 fullShare k -∗ owns (c : Thread nD τ) M4 fullShare v
          -∗ owns (c : Thread nD τ) M5 fullShare d -∗ owns (c : Thread nD τ) M6 fullShare l -∗ owns (c : Thread nD τ) M7 fullShare e
          -∗ owns (c : Thread nD τ) M8 fullShare (dkStep q k v d l e (if (i 1).val = 0 then k0_pay2 else dk))
          -∗ owns (c : Thread nD τ) M9 fullShare (dvStep q k d l (if (i 1).val = 0 then k0_pay3 else dv))
          -∗ pt c scM (setRow W (i 1).val (k0_pay1 (rowStep q k v d l e (rowOf W (i 1).val (i 1).isLt))))
          -∗ pt c hbM (setOut X (i 1).val (k0_pay1 (rowStep q k v d l e (rowOf W (i 1).val (i 1).isLt))))
          -∗ semVal ((c : Thread nD τ), SemLoc.dma 16) 0 -∗ (∃ W', owes (c : Thread nD τ) 0 W') -∗ K ⟨⟩))
      ⊢ wp frame (wpE (defs₀ (F := F)) Variants.none c none) Set.univ
        (cc0_ax_bwd i M2 h2 M3 h3 M4 h4 M5 h5 M6 h6 M7 h7 M8 h8 M9 h9 hbM (Memref.isWhole_whole _) scM (Memref.isWhole_whole _) cc0_scratch1) K := by
  simp only [cc0_ax_bwd_eq_skeleton]; unfold cc0_ax_bwd_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, H11, H10, Hs, HW, Hk⟩
  subst e2 e3 e4 e5 e6 e7 e8 e9
  have r3 : M3.view.readAt (Elt F) (Rect.unit (s := S2048x128) ![0, 0] S2048x128.size inb_S2048x128_S2048x128_0_0).toLoadRect f3 = M3.view.read (Elt F) f3 := View.readAt_full ..
  have r4 : M4.view.readAt (Elt F) (Rect.unit (s := S2048x128) ![0, 0] S2048x128.size inb_S2048x128_S2048x128_0_0).toLoadRect f4 = M4.view.read (Elt F) f4 := View.readAt_full ..
  sl_exec (disch := first | sl_exact hc2 | sl_exact hc3)
  sl_step
  have hR := (RowIs.nil (f := W) i).step i (View.read (Elt F) M2.view f2) (View.read (Elt F) M3.view f3) (View.read (Elt F) M4.view f4) (View.read (Elt F) M5.view f5) (View.read (Elt F) M6.view f6) (View.read (Elt F) M7.view f7)
  have h3 : run_lst.sl.H11_3 c i M2 M3 M4 M5 M6 M7 W f2 f3 f4 f5 f6 f7 = stepPieces i (View.read (Elt F) M2.view f2) (View.read (Elt F) M3.view f3) (View.read (Elt F) M4.view f4) (View.read (Elt F) M5.view f5) (View.read (Elt F) M6.view f6) (View.read (Elt F) M7.view f7) (rowOf W (i 1).val (i 1).isLt) [] := by
    delta run_lst.sl.H11_3 run_lst.sl.v208 run_lst.sl.v144 run_lst.sl.r run_lst.sl.r_1 run_lst.sl.r_2 run_lst.sl.r_3 run_lst.sl.r_4 run_lst.sl.r_5 run_lst.sl.r_6 run_lst.sl.r_7 run_lst.sl.r_8 run_lst.sl.r_9 run_lst.sl.r_10 run_lst.sl.r_11 run_lst.sl.r_12 run_lst.sl.r_13 run_lst.sl.r_14 run_lst.sl.r_15 run_lst.sl.r_16 run_lst.sl.r_17 run_lst.sl.r_18 run_lst.sl.r_19 run_lst.sl.r_20 run_lst.sl.r_21 run_lst.sl.r_22 run_lst.sl.r_23 run_lst.sl.r_24 run_lst.sl.r_25 run_lst.sl.r_26 run_lst.sl.r_27 run_lst.sl.r_28 run_lst.sl.r_29 run_lst.sl.r_30 run_lst.sl.r_31 run_lst.sl.r_32 run_lst.sl.r_33 run_lst.sl.r_34 run_lst.sl.r_35 run_lst.sl.r_36 run_lst.sl.r_37
    have lA' : View.readAt (Elt F) scM.view (Rect.unit (s := S32x512x384) (k0_off2 i) S1x512x128.size (k0_off2_inb i)).toLoadRect W = _ := (RowIs.nil i).loadA
    have lB' : View.readAt (Elt F) scM.view (Rect.unit (s := S32x512x384) (k0_off3 i) S1x512x128.size (k0_off3_inb i)).toLoadRect W = _ := (RowIs.nil i).loadB
    have lC' : View.readAt (Elt F) scM.view (Rect.unit (s := S32x512x384) (k0_off4 i) S1x512x128.size (k0_off4_inb i)).toLoadRect W = _ := (RowIs.nil i).loadC
    rw [lA', lB', lC']
    rfl
  have hv : run_lst.sl.v227 c i M2 M3 M4 M5 M6 M7 W hc3 f2 f3 f4 f5 f6 f7 = rowStep (View.read (Elt F) M2.view f2) (View.read (Elt F) M3.view f3) (View.read (Elt F) M4.view f4) (View.read (Elt F) M5.view f5) (View.read (Elt F) M6.view f6) (View.read (Elt F) M7.view f7) (rowOf W (i 1).val (i 1).isLt) := by
    delta run_lst.sl.v227
    rw [h3]
    exact (RowIs.loadAll i hc3 ((((RowIs.nil (f := (scM).view.junk) i).laneA i _).laneB i _).laneC i _)).trans (put_cover _ (rowOf W (i 1).val (i 1).isLt) _ _ _)
  have hd : run_lst.sl.dma42 c i M2 M3 M4 M5 M6 M7 W hc3 f2 f3 f4 f5 f6 f7
      = flat (k0_pay1 (rowStep (View.read (Elt F) M2.view f2) (View.read (Elt F) M3.view f3) (View.read (Elt F) M4.view f4) (View.read (Elt F) M5.view f5) (View.read (Elt F) M6.view f6) (View.read (Elt F) M7.view f7) (rowOf W (i 1).val (i 1).isLt))) := by
    delta run_lst.sl.dma42 run_lst.sl.H11_4
    rw [hv, h3]
    exact (RowIs.all i hc3 hR _).copied (k0_off7_eq i) _ _
  have hw := setOut_write (i 1).val X (flat (k0_pay1 (rowStep (View.read (Elt F) M2.view f2) (View.read (Elt F) M3.view f3) (View.read (Elt F) M4.view f4) (View.read (Elt F) M5.view f5) (View.read (Elt F) M6.view f6) (View.read (Elt F) M7.view f7) (rowOf W (i 1).val (i 1).isLt)))) (k0_off6_eq i)
    (k0_off6_inb i hc3) (fun _ => rfl)
  iapply Hk $$ [H2] [H3] [H4] [H5] [H6] [H7] [H8] [H9] [H11] [H10] [Hs] [HW]
  · iexists f2; isplitr; · ipureintro; rfl
    iexact H2
  · iexists f3; isplitr; · ipureintro; rfl
    iexact H3
  · iexists f4; isplitr; · ipureintro; rfl
    iexact H4
  · iexists f5; isplitr; · ipureintro; rfl
    iexact H5
  · iexists f6; isplitr; · ipureintro; rfl
    iexact H6
  · iexists f7; isplitr; · ipureintro; rfl
    iexact H7
  · iexists _; isplitr; swap; · iexact H8
    ipureintro
    refine (View.read_writes_full ..).trans ?_
    have h219 : run_lst.sl.v219 c i M8 f8 = _ := read_reset M8 f8 k0_pay2 (resetOf i)
    rw [h219]
    delta run_lst.sl.r run_lst.sl.r_1 run_lst.sl.r_2 run_lst.sl.r_3 run_lst.sl.r_4 run_lst.sl.r_5 run_lst.sl.r_6 run_lst.sl.r_7 run_lst.sl.r_8 run_lst.sl.r_9 run_lst.sl.r_10 run_lst.sl.r_11 run_lst.sl.r_12 run_lst.sl.r_13 run_lst.sl.r_14 run_lst.sl.r_15 run_lst.sl.r_16 run_lst.sl.r_17 run_lst.sl.r_18 run_lst.sl.r_19 run_lst.sl.r_20 run_lst.sl.r_21 run_lst.sl.r_22 run_lst.sl.r_23 run_lst.sl.r_24 run_lst.sl.r_25 run_lst.sl.r_26 run_lst.sl.r_27 run_lst.sl.r_28 run_lst.sl.r_29 run_lst.sl.r_30 run_lst.sl.r_31 run_lst.sl.r_32 run_lst.sl.r_33 run_lst.sl.r_34 run_lst.sl.r_35 run_lst.sl.r_36 run_lst.sl.r_37
    rfl
  · iexists _; isplitr; swap; · iexact H9
    ipureintro
    refine (View.read_writes_full ..).trans ?_
    have h215 : run_lst.sl.v215 c i M9 f9 = _ := read_reset M9 f9 k0_pay3 (resetOf i)
    rw [h215]
    delta run_lst.sl.r run_lst.sl.r_1 run_lst.sl.r_2 run_lst.sl.r_3 run_lst.sl.r_4 run_lst.sl.r_5 run_lst.sl.r_6 run_lst.sl.r_7 run_lst.sl.r_8 run_lst.sl.r_9 run_lst.sl.r_10 run_lst.sl.r_11 run_lst.sl.r_12 run_lst.sl.r_13 run_lst.sl.r_14 run_lst.sl.r_15 run_lst.sl.r_16 run_lst.sl.r_17 run_lst.sl.r_18 run_lst.sl.r_19 run_lst.sl.r_20 run_lst.sl.r_21 run_lst.sl.r_22 run_lst.sl.r_23 run_lst.sl.r_24 run_lst.sl.r_25 run_lst.sl.r_26 run_lst.sl.r_27 run_lst.sl.r_28 run_lst.sl.r_29 run_lst.sl.r_30 run_lst.sl.r_31 run_lst.sl.r_32 run_lst.sl.r_33 run_lst.sl.r_34 run_lst.sl.r_35 run_lst.sl.r_36 run_lst.sl.r_37
    rfl
  · refine pt_congr c ?_
    refine Eq.trans ?_ (RowIs.all i hc3 ((RowIs.nil i).step i (View.read (Elt F) M2.view f2) (View.read (Elt F) M3.view f3) (View.read (Elt F) M4.view f4) (View.read (Elt F) M5.view f5) (View.read (Elt F) M6.view f6) (View.read (Elt F) M7.view f7)) _)
    delta run_lst.sl.H11_4
    rw [hv, h3]
    rfl
  · refine pt_congr c ?_
    delta run_lst.sl.H10_w0
    rw [hd]
    exact hw
  · iexact Hs
  · iexists _; iexact HW

end Cert.KernelIdeal.Hand

end
-- ==== Proof.Point.lean ====
/-
  One point of the attention's backward kernel, whichever key block it belongs to.
-/
module

public import proofs.«01_k».proof.Proof.BodyFst
public import proofs.«01_k».proof.Proof.BodyMid
public import proofs.«01_k».proof.Proof.BodyLst
public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- What a point leaves in its row of the scratch buffer: the first key block starts from zeros, the last scales. -/
def pointRow (i : grid0.Coords) (q : Vec F S512x384 .bf16) (k v : Vec F S2048x128 .bf16) (d : Vec F S512x384 .bf16) (l e : Vec F S6x1x512 .f32)
    (r : Vec F S1x512x384 .f32) : Vec F S1x512x384 .f32 :=
  if (i 0).val = 7 then k0_pay1 (rowStep q k v d l e (if (i 0).val = 0 then k0_pay4 else r))
  else rowStep q k v d l e (if (i 0).val = 0 then k0_pay4 else r)

/-- One point of the kernel: the blocks of `dk` and `dv` and the row of the scratch buffer get their sums, and at the
    last key block the row goes out. -/
theorem run_point (c : Dev nD) (i : grid0.Coords) (M2 : Memref sig .tc .vmem S512x384 .bf16) (h2 : M2.IsWhole) (M3 : Memref sig .tc .vmem S2048x128 .bf16) (h3 : M3.IsWhole)
    (M4 : Memref sig .tc .vmem S2048x128 .bf16) (h4 : M4.IsWhole) (M5 : Memref sig .tc .vmem S512x384 .bf16) (h5 : M5.IsWhole) (M6 : Memref sig .tc .vmem S6x1x512 .f32) (h6 : M6.IsWhole)
    (M7 : Memref sig .tc .vmem S6x1x512 .f32) (h7' : M7.IsWhole) (M8 : Memref sig .tc .vmem S2048x128 .f32) (h8 : M8.IsWhole) (M9 : Memref sig .tc .vmem S2048x128 .f32) (h9 : M9.IsWhole)
    (q : Vec F S512x384 .bf16) (k v : Vec F S2048x128 .bf16) (d : Vec F S512x384 .bf16) (l e : Vec F S6x1x512 .f32)
    (dk dv : Vec F S2048x128 .f32) (W : Vec F S32x512x384 .f32) (X : Vec F S16384x384 .f32) (Wt : Waits sig Unit) (K : PUnit → sProp 𝕄) :
    iprop(owns (c : Thread nD τ) M2 fullShare q ∗ owns (c : Thread nD τ) M3 fullShare k ∗ owns (c : Thread nD τ) M4 fullShare v
        ∗ owns (c : Thread nD τ) M5 fullShare d ∗ owns (c : Thread nD τ) M6 fullShare l ∗ owns (c : Thread nD τ) M7 fullShare e
        ∗ owns (c : Thread nD τ) M8 fullShare dk ∗ owns (c : Thread nD τ) M9 fullShare dv
        ∗ pt c scM W ∗ pt c hbM X ∗ semVal ((c : Thread nD τ), SemLoc.dma 16) 0 ∗ owes (c : Thread nD τ) 0 Wt
        ∗ (owns (c : Thread nD τ) M2 fullShare q -∗ owns (c : Thread nD τ) M3 fullShare k -∗ owns (c : Thread nD τ) M4 fullShare v
          -∗ owns (c : Thread nD τ) M5 fullShare d -∗ owns (c : Thread nD τ) M6 fullShare l -∗ owns (c : Thread nD τ) M7 fullShare e
          -∗ owns (c : Thread nD τ) M8 fullShare (dkStep q k v d l e (if (i 1).val = 0 then k0_pay2 else dk))
          -∗ owns (c : Thread nD τ) M9 fullShare (dvStep q k d l (if (i 1).val = 0 then k0_pay3 else dv))
          -∗ pt c scM (setRow W (i 1).val (pointRow i q k v d l e (rowOf W (i 1).val (i 1).isLt)))
          -∗ pt c hbM (if (i 0).val = 7 then setOut X (i 1).val (pointRow i q k v d l e (rowOf W (i 1).val (i 1).isLt)) else X)
          -∗ semVal ((c : Thread nD τ), SemLoc.dma 16) 0 -∗ (∃ W', owes (c : Thread nD τ) 0 W') -∗ K ⟨⟩))
      ⊢ wp frame (wpE (defs₀ (F := F)) Variants.none c none) Set.univ
        (cc0_ax_bwd i M2 h2 M3 h3 M4 h4 M5 h5 M6 h6 M7 h7' M8 h8 M9 h9 hbM (Memref.isWhole_whole _) scM (Memref.isWhole_whole _) cc0_scratch1) K := by
  have hl := lstOf i
  have hf := fstOf i
  by_cases h7 : (i 0).val = 7
  · have h0 : ¬ (i 0).val = 0 := by omega
    unfold pointRow
    simp only [if_pos h7, if_neg h0]
    exact run_lst c i M2 h2 M3 h3 M4 h4 M5 h5 M6 h6 M7 h7' M8 h8 M9 h9 q k v d l e dk dv W X Wt K (fun h => h0 (hf ▸ h)) (hl ▸ h7)
  · by_cases h0 : (i 0).val = 0
    · unfold pointRow
      simp only [if_neg h7, if_pos h0]
      iintro ⟨H2, H3, H4, H5, H6, H7, H8, H9, H11, H10, Hs, Hw, Hk⟩
      iapply run_fst c i M2 h2 M3 h3 M4 h4 M5 h5 M6 h6 M7 h7' M8 h8 M9 h9 q k v d l e dk dv W K (hf ▸ h0) (fun h => h7 (hl ▸ h))
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      iintro H2 H3 H4 H5 H6 H7 H8 H9 H11
      iapply Hk $$ [H2] [H3] [H4] [H5] [H6] [H7] [H8] [H9] [H11] [H10] [Hs] [Hw]
      · iexact H2
      · iexact H3
      · iexact H4
      · iexact H5
      · iexact H6
      · iexact H7
      · iexact H8
      · iexact H9
      · iexact H11
      · iexact H10
      · iexact Hs
      · iexists Wt; iexact Hw
    · unfold pointRow
      simp only [if_neg h7, if_neg h0]
      iintro ⟨H2, H3, H4, H5, H6, H7, H8, H9, H11, H10, Hs, Hw, Hk⟩
      iapply run_mid c i M2 h2 M3 h3 M4 h4 M5 h5 M6 h6 M7 h7' M8 h8 M9 h9 q k v d l e dk dv W K (fun h => h0 (hf ▸ h)) (fun h => h7 (hl ▸ h))
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      iintro H2 H3 H4 H5 H6 H7 H8 H9 H11
      iapply Hk $$ [H2] [H3] [H4] [H5] [H6] [H7] [H8] [H9] [H11] [H10] [Hs] [Hw]
      · iexact H2
      · iexact H3
      · iexact H4
      · iexact H5
      · iexact H6
      · iexact H7
      · iexact H8
      · iexact H9
      · iexact H11
      · iexact H10
      · iexact Hs
      · iexists Wt; iexact Hw

end Cert.KernelIdeal.Hand

end
-- ==== Proof.Frame.lean ====
/-
  The run of the attention's backward kernel: what every buffer holds after each point, the launch, and the frame
  claims read off the run.
-/
module

public import proofs.«01_k».proof.Proof.Point
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameValue
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The points of the grid -/

/-- Point `t`'s key block is its quotient by 32. -/
theorem coord0 (t : Fin cfg0.N) : (grid0.coords t 0).val = t.val / 32 := by
  rw [Pipeline.Grid.coords_val t 0 (S := 32) (B := 8) (by decide) rfl]
  have : t.val < 256 := t.isLt
  omega
/-- Point `t`'s query block is its rest by 32. -/
theorem coord1 (t : Fin cfg0.N) : (grid0.coords t 1).val = t.val % 32 := by
  rw [Pipeline.Grid.coords_val t 1 (S := 1) (B := 32) (by decide) rfl, Nat.div_one]

/-- The point of number `n`. -/
def at_ (n : ℕ) : Fin cfg0.N := ⟨n % 256, Nat.mod_lt _ (by decide)⟩
/-- A point's number names the point. -/
theorem at_val (t : Fin cfg0.N) : at_ t.val = t := Fin.ext (Nat.mod_eq_of_lt t.isLt)

/-! ## What the points leave -/

/-- The block of scaled queries at point `t`. -/
def blk0 (c : Dev nD) (t : Fin cfg0.N) : Vec F S512x384 .bf16 := iblk m c 0 t
/-- The block of keys at point `t`. -/
def blk1 (c : Dev nD) (t : Fin cfg0.N) : Vec F S2048x128 .bf16 := iblk m c 1 t
/-- The block of values at point `t`. -/
def blk2 (c : Dev nD) (t : Fin cfg0.N) : Vec F S2048x128 .bf16 := iblk m c 2 t
/-- The block of the output's gradient at point `t`. -/
def blk3 (c : Dev nD) (t : Fin cfg0.N) : Vec F S512x384 .bf16 := iblk m c 3 t
/-- The block of log-sum-exps at point `t`. -/
def blk4 (c : Dev nD) (t : Fin cfg0.N) : Vec F S6x1x512 .f32 := iblk m c 4 t
/-- The block of row sums at point `t`. -/
def blk5 (c : Dev nD) (t : Fin cfg0.N) : Vec F S6x1x512 .f32 := iblk m c 5 t

/-- The block of `dk` after point `n`. -/
def dkAt (c : Dev nD) : ℕ → Vec F S2048x128 .f32
  | 0 => dkStep (blk0 m c (at_ 0)) (blk1 m c (at_ 0)) (blk2 m c (at_ 0)) (blk3 m c (at_ 0)) (blk4 m c (at_ 0)) (blk5 m c (at_ 0)) k0_pay2
  | n + 1 => dkStep (blk0 m c (at_ (n + 1))) (blk1 m c (at_ (n + 1))) (blk2 m c (at_ (n + 1))) (blk3 m c (at_ (n + 1))) (blk4 m c (at_ (n + 1)))
      (blk5 m c (at_ (n + 1))) (if (n + 1) % 32 = 0 then k0_pay2 else dkAt c n)
/-- The block of `dv` after point `n`. -/
def dvAt (c : Dev nD) : ℕ → Vec F S2048x128 .f32
  | 0 => dvStep (blk0 m c (at_ 0)) (blk1 m c (at_ 0)) (blk3 m c (at_ 0)) (blk4 m c (at_ 0)) k0_pay3
  | n + 1 => dvStep (blk0 m c (at_ (n + 1))) (blk1 m c (at_ (n + 1))) (blk3 m c (at_ (n + 1))) (blk4 m c (at_ (n + 1)))
      (if (n + 1) % 32 = 0 then k0_pay3 else dvAt c n)
/-- The scratch row of query block `i` after key block `j`. -/
def rowAt (c : Dev nD) (i : ℕ) : ℕ → Vec F S1x512x384 .f32
  | 0 => rowStep (blk0 m c (at_ i)) (blk1 m c (at_ i)) (blk2 m c (at_ i)) (blk3 m c (at_ i)) (blk4 m c (at_ i)) (blk5 m c (at_ i)) k0_pay4
  | j + 1 => pointRow (grid0.coords (at_ ((j + 1) * 32 + i))) (blk0 m c (at_ ((j + 1) * 32 + i))) (blk1 m c (at_ ((j + 1) * 32 + i)))
      (blk2 m c (at_ ((j + 1) * 32 + i))) (blk3 m c (at_ ((j + 1) * 32 + i))) (blk4 m c (at_ ((j + 1) * 32 + i))) (blk5 m c (at_ ((j + 1) * 32 + i)))
      (rowAt c i j)
/-- The result left in HBM before point `n`: the rows of the query blocks passed at the last key block. -/
def outAt (c : Dev nD) : ℕ → Vec F S16384x384 .f32
  | 0 => V m c main_v49_2
  | n + 1 => if n / 32 = 7 then setOut (outAt c n) (n % 32) (rowAt m c (n % 32) (n / 32)) else outAt c n

/-- Before point `n` the scratch rows of the last 32 points hold what those left. -/
def RowsAt (c : Dev nD) (n : ℕ) (W : Vec F S32x512x384 .f32) : Prop :=
  ∀ (a : ℕ) (h : a < 32) (b : ℕ), b * 32 + a < n → n ≤ b * 32 + a + 32 → rowOf W a h = rowAt m c a b

/-- A row just written reads as written. -/
theorem rowOf_setRow_same (W : Vec F S32x512x384 .f32) (n : ℕ) (h : n < 32) (r : Vec F S1x512x384 .f32) : rowOf (setRow W n r) n h = r :=
  VecWindow.window_put_same W _ _ _ r
/-- Writing a row leaves the others. -/
theorem rowOf_setRow_ne (W : Vec F S32x512x384 .f32) (n k : ℕ) (h : k < 32) (hk : k ≠ n) (r : Vec F S1x512x384 .f32) :
    rowOf (setRow W n r) k h = rowOf W k h := by
  refine VecWindow.window_put_of_disjoint W _ _ _ _ _ r (0 : Fin 3) ?_
  show k + 1 ≤ n ∨ n + 1 ≤ k
  omega

/-- The row a point leaves, from rows that hold what the points before left. -/
theorem pointRow_eq (c : Dev nD) (t : Fin cfg0.N) (W : Vec F S32x512x384 .f32) (h : RowsAt m c t.val W) :
    pointRow (grid0.coords t) (blk0 m c t) (blk1 m c t) (blk2 m c t) (blk3 m c t) (blk4 m c t) (blk5 m c t)
        (rowOf W (grid0.coords t 1).val (grid0.coords t 1).isLt) = rowAt m c (t.val % 32) (t.val / 32) := by
  have hlt : t.val < 256 := t.isLt
  obtain hj | ⟨j, hj⟩ : t.val / 32 = 0 ∨ ∃ j, t.val / 32 = j + 1 := by
    rcases t.val / 32 with _ | j
    · exact .inl rfl
    · exact .inr ⟨j, rfl⟩
  · have ht : at_ (t.val % 32) = t := by
      have e : t.val % 32 = t.val := by omega
      rw [e, at_val]
    rw [hj]
    unfold rowAt pointRow
    rw [ht, coord0, hj, if_neg (by decide), if_pos rfl]
  · have ht : at_ ((j + 1) * 32 + t.val % 32) = t := by
      have e : (j + 1) * 32 + t.val % 32 = t.val := by omega
      rw [e, at_val]
    have hw : rowOf W (grid0.coords t 1).val (grid0.coords t 1).isLt = rowAt m c (t.val % 32) j := by
      have h32 : (grid0.coords t 1).val < 32 := (grid0.coords t 1).isLt
      rw [h _ h32 j (by rw [coord1]; omega) (by rw [coord1]; omega), coord1]
    rw [hw, hj]
    conv_rhs => unfold rowAt
    rw [ht]

/-- The rows after a point hold what it and the 31 points before left. -/
theorem rowsAt_succ (c : Dev nD) (t : Fin cfg0.N) (W : Vec F S32x512x384 .f32) (h : RowsAt m c t.val W) :
    RowsAt m c (t.val + 1) (setRow W (grid0.coords t 1).val (rowAt m c (t.val % 32) (t.val / 32))) := by
  intro a ha b hb hb'
  rw [coord1]
  by_cases he : a = t.val % 32
  · have hq : b = t.val / 32 := by omega
    subst he hq
    exact rowOf_setRow_same W _ ha _
  · rw [rowOf_setRow_ne W _ _ ha he]
    exact h a ha b (by omega) (by omega)

/-! ## @main up to the region -/

set_option maxHeartbeats 800000 in
/-- The host operations, then the region. -/
theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-! ## The body's own cell and buffers -/

/-- The one cell of the body's own transfers. -/
abbrev osem0 : Fin 1 → SemLoc sig := fun j => (![SemLoc.dma 16] : Fin 1 → SemLoc sig) j
/-- The kernel's own semaphore is not one of the windows'. -/
theorem ownSemFacts0 : Pipeline.OwnSemFacts spec0 osem0 := by decide
/-- The kernel owns one semaphore. -/
theorem ownSems0_one (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 16) 0 := by
  rw [Pipeline.ownSems0_eq_of_list c osem0 [0] (by decide) (by decide)]; rfl

/-- No buffer left in HBM is only read. -/
def H0 : Finset (Ref sig .tc) := ∅
/-- The arrays read in place are not windows'. -/
theorem H0_sub : H0 ⊆ Pipeline.restRefs sig spec0 := by decide
/-- The result the body writes itself. -/
def R0 : Finset (Ref sig .tc) := {main_v49_2}
/-- The array written in place is not a window's. -/
theorem R0_sub : R0 ⊆ Pipeline.restRefs sig spec0 \ H0 := by decide

/-- The contents after the run: the written result's, the others as the region found them. -/
def G (c : Dev nD) : (b : Ref sig .tc) → Buf (Elt F) ((c : Thread nD τ).loc b) := Function.update (V m c) main_v49_2 (outAt m c 256)

/-- What the launch hands over and takes back, part by part. -/
theorem PhiRG_eq (c : Dev nD) (X : (b : Ref sig .tc) → Buf (Elt F) ((c : Thread nD τ).loc b)) (Y : Vec F S16384x384 .f32) (h : X main_v49_2 = Y)
    (Z : (c : Dev nD) → (b : Ref sig .tc) → Buf (Elt F) ((c : Thread nD τ).loc b)) (hZ : Z c = X) :
    (Pipeline.ΦDRG osem0 spec0 H0 R0 (V m) Z c : sProp 𝕄)
      = iprop((∃ f : Vec F S32x512x384 .f32, pt c scM f) ∗ (∃ r, prngReg c r) ∗ semVal ((c : Thread nD τ), SemLoc.dma 16) 0
          ∗ bigSep (∅ : Finset (Ref sig .tc)) (fun b => ((c : Thread nD τ).loc b) ↦{fullShare} V m c b) ∗ pt c hbM Y) := by
  rw [Pipeline.ΦDRG_eq, scopedRest0_eq, ownSems0_one, show R0 = {main_v49_2} from rfl, Pipeline.routed_singleton, hZ, h]
  rfl

/-! ## The proof data -/

/-- Between points: the scratch rows of the last 32 points, the result's rows, the cell at zero. -/
def Phi (c : Dev nD) (n : ℕ) : sProp 𝕄 :=
  iprop((∃ W : Vec F S32x512x384 .f32, ⌜RowsAt m c n W⌝ ∗ pt c scM W) ∗ (∃ r, prngReg c r) ∗ semVal ((c : Thread nD τ), SemLoc.dma 16) 0
    ∗ bigSep (∅ : Finset (Ref sig .tc)) (fun b => ((c : Thread nD τ).loc b) ↦{fullShare} V m c b) ∗ pt c hbM (outAt m c n))

/-- The windows' contents and the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => blk3 m c t
    | ⟨4, _⟩ => blk4 m c t
    | ⟨5, _⟩ => blk5 m c t
    | ⟨6, _⟩ => dkAt m c t.val
    | ⟨7, _⟩ => dvAt m c t.val
  Φ n := Phi m c n.val
  q _ := fullShare
  owed _ := 0

/-- A window's array starts with what the lines before the launch left. -/
theorem A_eq (c : Dev nD) (w : Fin cfg0.W) : (dats m 0 c).A w = V m c (Pipeline.arrRef spec0 w) := by
  dsimp only [dats]
/-- Window 0 after a point. -/
theorem after_0 (c : Dev nD) (t : Fin cfg0.N) : (dats m 0 c).after 0 t = blk0 m c t := by
  dsimp only [dats]
/-- Window 1 after a point. -/
theorem after_1 (c : Dev nD) (t : Fin cfg0.N) : (dats m 0 c).after 1 t = blk1 m c t := by
  dsimp only [dats]
/-- Window 2 after a point. -/
theorem after_2 (c : Dev nD) (t : Fin cfg0.N) : (dats m 0 c).after 2 t = blk2 m c t := by
  dsimp only [dats]
/-- Window 3 after a point. -/
theorem after_3 (c : Dev nD) (t : Fin cfg0.N) : (dats m 0 c).after 3 t = blk3 m c t := by
  dsimp only [dats]
/-- Window 4 after a point. -/
theorem after_4 (c : Dev nD) (t : Fin cfg0.N) : (dats m 0 c).after 4 t = blk4 m c t := by
  dsimp only [dats]
/-- Window 5 after a point. -/
theorem after_5 (c : Dev nD) (t : Fin cfg0.N) : (dats m 0 c).after 5 t = blk5 m c t := by
  dsimp only [dats]
/-- Window 6 after a point. -/
theorem after_6 (c : Dev nD) (t : Fin cfg0.N) : (dats m 0 c).after 6 t = dkAt m c t.val := by
  dsimp only [dats]
/-- Window 7 after a point. -/
theorem after_7 (c : Dev nD) (t : Fin cfg0.N) : (dats m 0 c).after 7 t = dvAt m c t.val := by
  dsimp only [dats]
/-- Window 0 before a point. -/
theorem before_0 (c : Dev nD) (t : Fin cfg0.N) (d) : (dats m 0 c).before 0 t d = blk0 m c t :=
  ((dats m 0 c).before_in_eq_fetched 0 rfl (fun _ => rfl) (fun _ _ _ => rfl)
    (fun t => by rw [after_0]; unfold Dat.blockOf blk0 iblk; rw [A_eq]; try rfl) t d).trans
    (by unfold Dat.fetched Dat.blockOf blk0 iblk; rw [A_eq]; try rfl)
/-- Window 1 before a point. -/
theorem before_1 (c : Dev nD) (t : Fin cfg0.N) (d) : (dats m 0 c).before 1 t d = blk1 m c t :=
  ((dats m 0 c).before_in_eq_fetched 1 rfl (fun _ => rfl) (fun _ _ _ => rfl)
    (fun t => by rw [after_1]; unfold Dat.blockOf blk1 iblk; rw [A_eq]; try rfl) t d).trans
    (by unfold Dat.fetched Dat.blockOf blk1 iblk; rw [A_eq]; try rfl)
/-- Window 2 before a point. -/
theorem before_2 (c : Dev nD) (t : Fin cfg0.N) (d) : (dats m 0 c).before 2 t d = blk2 m c t :=
  ((dats m 0 c).before_in_eq_fetched 2 rfl (fun _ => rfl) (fun _ _ _ => rfl)
    (fun t => by rw [after_2]; unfold Dat.blockOf blk2 iblk; rw [A_eq]; try rfl) t d).trans
    (by unfold Dat.fetched Dat.blockOf blk2 iblk; rw [A_eq]; try rfl)
/-- Window 3 before a point. -/
theorem before_3 (c : Dev nD) (t : Fin cfg0.N) (d) : (dats m 0 c).before 3 t d = blk3 m c t :=
  ((dats m 0 c).before_in_eq_fetched 3 rfl (fun _ => rfl) (fun _ _ _ => rfl)
    (fun t => by rw [after_3]; unfold Dat.blockOf blk3 iblk; rw [A_eq]; try rfl) t d).trans
    (by unfold Dat.fetched Dat.blockOf blk3 iblk; rw [A_eq]; try rfl)
/-- Window 4 before a point. -/
theorem before_4 (c : Dev nD) (t : Fin cfg0.N) (d) : (dats m 0 c).before 4 t d = blk4 m c t :=
  ((dats m 0 c).before_in_eq_fetched 4 rfl (fun _ => rfl) (fun _ _ _ => rfl)
    (fun t => by rw [after_4]; unfold Dat.blockOf blk4 iblk; rw [A_eq]; try rfl) t d).trans
    (by unfold Dat.fetched Dat.blockOf blk4 iblk; rw [A_eq]; try rfl)
/-- Window 5 before a point. -/
theorem before_5 (c : Dev nD) (t : Fin cfg0.N) (d) : (dats m 0 c).before 5 t d = blk5 m c t :=
  ((dats m 0 c).before_in_eq_fetched 5 rfl (fun _ => rfl) (fun _ _ _ => rfl)
    (fun t => by rw [after_5]; unfold Dat.blockOf blk5 iblk; rw [A_eq]; try rfl) t d).trans
    (by unfold Dat.fetched Dat.blockOf blk5 iblk; rw [A_eq]; try rfl)

/-- Window 6 does not go out before a point that is not the first of its key block. -/
theorem flush_pred6 (t : Fin cfg0.N) (h : t.val % 32 ≠ 0) :
    (cfg0.win 6).flush ⟨t.val - 1, Nat.lt_of_le_of_lt (Nat.sub_le _ _) t.isLt⟩ = false := by
  rw [Bool.eq_false_iff]; intro hf
  have := (flush0_6 _).mp hf
  dsimp only at this; omega
/-- Window 7 does not go out before a point that is not the first of its key block. -/
theorem flush_pred7 (t : Fin cfg0.N) (h : t.val % 32 ≠ 0) :
    (cfg0.win 7).flush ⟨t.val - 1, Nat.lt_of_le_of_lt (Nat.sub_le _ _) t.isLt⟩ = false := by
  rw [Bool.eq_false_iff]; intro hf
  have := (flush0_7 _).mp hf
  dsimp only at this; omega

/-- The block of `dk` a point adds to. -/
theorem dkAt_step (c : Dev nD) (t : Fin cfg0.N) (d) :
    dkStep (blk0 m c t) (blk1 m c t) (blk2 m c t) (blk3 m c t) (blk4 m c t) (blk5 m c t)
      (if (grid0.coords t 1).val = 0 then k0_pay2 else (dats m 0 c).before 6 t d) = dkAt m c t.val := by
  rw [coord1]
  by_cases h : t.val % 32 = 0
  · rw [if_pos h]
    generalize hn : t.val = n at h
    have ht : t = at_ n := by rw [← hn, at_val]
    rcases n with _ | n
    · rw [ht]; rfl
    · rw [ht]; unfold dkAt; rw [if_pos h]
  · rw [if_neg h, Dat.before_out_kept _ 6 rfl t (by rintro h0; rw [h0] at h; exact h rfl) (flush_pred6 t h) (fun _ => rfl) (fun _ _ => rfl), after_6]
    dsimp only
    generalize hn : t.val = n at h
    have ht : t = at_ n := by rw [← hn, at_val]
    rcases n with _ | n
    · exact absurd rfl h
    · rw [ht]; conv_rhs => unfold dkAt
      rw [if_neg h]; rfl
/-- The block of `dv` a point adds to. -/
theorem dvAt_step (c : Dev nD) (t : Fin cfg0.N) (d) :
    dvStep (blk0 m c t) (blk1 m c t) (blk3 m c t) (blk4 m c t)
      (if (grid0.coords t 1).val = 0 then k0_pay3 else (dats m 0 c).before 7 t d) = dvAt m c t.val := by
  rw [coord1]
  by_cases h : t.val % 32 = 0
  · rw [if_pos h]
    generalize hn : t.val = n at h
    have ht : t = at_ n := by rw [← hn, at_val]
    rcases n with _ | n
    · rw [ht]; rfl
    · rw [ht]; unfold dvAt; rw [if_pos h]
  · rw [if_neg h, Dat.before_out_kept _ 7 rfl t (by rintro h0; rw [h0] at h; exact h rfl) (flush_pred7 t h) (fun _ => rfl) (fun _ _ => rfl), after_7]
    dsimp only
    generalize hn : t.val = n at h
    have ht : t = at_ n := by rw [← hn, at_val]
    rcases n with _ | n
    · exact absurd rfl h
    · rw [ht]; conv_rhs => unfold dvAt
      rw [if_neg h]; rfl

/-! ## The body at a point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)
abbrev ms6 (t : Fin cfg0.N) := win0_6.stage (cfg0.slots t 6)
abbrev ms7 (t : Fin cfg0.N) := win0_7.stage (cfg0.slots t 7)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

/-- The body at a point, from the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Phi m c (t.val + 1) from rfl, show (dats m 0 c).Φ t.castSucc = Phi m c t.val from rfl]
  unfold Phi
  unfold Dat.owesAt Pipeline.owesWithin
  rw [show (dats m 0 c).owed t.castSucc = 0 from rfl, show (dats m 0 c).owed t.succ = 0 from rfl]
  rw [after_0, after_1, after_2, after_3, after_4, after_5, after_6, after_7]
  iintro ⟨⟨⟨%W, %hW, H11⟩, Hg, Hs, He, H10⟩, ⟨%Wt, -, HW⟩, ⟨%d2, H2⟩, ⟨%d3, H3⟩, ⟨%d4, H4⟩, ⟨%d5, H5⟩, ⟨%d6, H6⟩, ⟨%d7, H7⟩, ⟨%d8, H8⟩, ⟨%d9, H9⟩⟩
  rw [before_0, before_1, before_2, before_3, before_4, before_5]
  iapply run_point c (grid0.coords t) _ _ _ _ _ _ _ _ _ _ _ _ _ _ _ _ (blk0 m c t) (blk1 m c t) (blk2 m c t) (blk3 m c t) (blk4 m c t) (blk5 m c t) _ _ W (outAt m c t.val) Wt
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H10]; · iexact H10
  isplitl [Hs]; · iexact Hs
  isplitl [HW]; · iexact HW
  rw [pointRow_eq m c t W hW, dkAt_step, dvAt_step]
  iintro H2 H3 H4 H5 H6 H7 H8 H9 H11 H10 Hs ⟨%W', HW'⟩
  isplitl [H11 Hg Hs He H10]
  · isplitl [H11]
    · iexists _; isplitr; swap; · iexact H11
      ipureintro; exact rowsAt_succ m c t W hW
    isplitl [Hg]; · iexact Hg
    isplitl [Hs]; · iexact Hs
    isplitl [He]; · iexact He
    rw [show outAt m c (t.val + 1) = if (grid0.coords t 0).val = 7 then setOut (outAt m c t.val) (grid0.coords t 1).val (rowAt m c (t.val % 32) (t.val / 32)) else outAt m c t.val from by
      rw [coord0, coord1]; rfl]
    iexact H10
  isplitl [HW']
  · iexists W'; isplitr; · ipureintro; exact fun _ _ => Or.inl trivial
    iexact HW'
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The call's body at a point is the printed body. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every window's array as its points leave it, the result in HBM at the rows written, every other buffer as
    the region found it, every counter at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m) (hA := A_eq m) (G := G m)
    (hin := fun c => by
      rw [show (dats m 0 c).Φ 0 = Phi m c 0 from rfl]
      refine (BIBase.Entails.of_eq (PhiRG_eq m c (V m c) (V m c main_v49_2) rfl (V m) rfl)).trans ?_
      unfold Phi
      iintro ⟨⟨%W, H11⟩, Hr⟩
      isplitl [H11]
      · iexists W; isplitr; · ipureintro; exact fun a h b hb => absurd hb (Nat.not_lt_zero _)
        iexact H11
      iexact Hr)
    (hout := fun c => by
      rw [show (dats m 0 c).Φ (Fin.last (cfgs 0).N) = Phi m c 256 from rfl]
      refine BIBase.Entails.trans ?_ (BIBase.Entails.of_eq (PhiRG_eq m c (G m c) (outAt m c 256) (Function.update_self ..) (G m) rfl).symm)
      unfold Phi
      iintro ⟨⟨%W, -, H11⟩, Hr⟩
      isplitl [H11]
      · iexists W; iexact H11
      iexact Hr)

/-- The four arguments end as launched. -/
theorem args_kept {r : PUnit × MemSt nD τ sig (Elt F)} (h : Pipeline.FramePostRG cfgs (dats m) 0 R0 (V m) (G m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c)))⟩

/-- The frame: the arguments end as launched and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run_main m ρ)

end Cert.KernelIdeal.Hand

end
-- ==== Proof.Block.lean ====
/-
  What one grid point of the attention's backward kernel computes over the extended reals, read at an index. A block of
  queries holds six heads of 64 columns, a block of keys two groups of 64 columns, and head `h` reads group `h / 3`. The
  kernel works on pairs of heads, 128 columns at a time, and keeps the head or the group that it does not want at zero;
  here each of its products is read as the sum over the 64 columns of one head.
-/
module

public import proofs.«01_k».proof.Proof.Step
public import Idealize.ShloMosaic.Lib.Pointwise

@[expose] public section

set_option maxRecDepth 16384

noncomputable section

namespace Cert.KernelIdeal.Hand

open Cert.KernelIdeal Cert.KernelIdeal.Gen
open Idealize.ShloMosaic

/-! ## The formulas -/

/-- Column `c` of head `h` in a block of six heads. -/
abbrev hcol (h : Fin 6) (c : Fin 64) : Fin 384 := ⟨64 * h.val + c.val, by omega⟩
/-- Column `c` of group `g` in a block of two groups. -/
abbrev gcol (g : Fin 2) (c : Fin 64) : Fin 128 := ⟨64 * g.val + c.val, by omega⟩
/-- The group that head `h` reads. -/
abbrev grp (h : Fin 6) : Fin 2 := ⟨h.val / 3, by omega⟩
/-- The heads of group `g`. -/
abbrev head (g : Fin 2) (t : Fin 3) : Fin 6 := ⟨3 * g.val + t.val, by omega⟩

section Formulas

variable (q : Vec Ideal S512x384 .bf16) (k v : Vec Ideal S2048x128 .bf16) (d : Vec Ideal S512x384 .bf16)
  (l e : Vec Ideal S6x1x512 .f32)

/-- Head `h`'s product of key row `K` of `x` with query row `r` of `y`. -/
def score (x : Vec Ideal S2048x128 .bf16) (y : Vec Ideal S512x384 .bf16) (h : Fin 6) (K : Fin 2048) (r : Fin 512) : EReal :=
  ∑ c : Fin 64, x (ix2 K (gcol (grp h) c)) * y (ix2 r (hcol h c))

/-- Head `h`'s attention weight of key `K` in query `r`. -/
def wgt (h : Fin 6) (K : Fin 2048) (r : Fin 512) : EReal := Ideal.exp (score k q h K r - l (ix3 h 0 r))

/-- The gradient of head `h`'s score of key `K` in query `r`. -/
def gsc (h : Fin 6) (K : Fin 2048) (r : Fin 512) : EReal :=
  wgt q k l h K r * (score v d h K r - e (ix3 h 0 r))

/-- What the block pair adds to `dv` at key `K`, group `g`, column `c`. -/
def addV (g : Fin 2) (K : Fin 2048) (c : Fin 64) : EReal :=
  ∑ t : Fin 3, ∑ r : Fin 512, wgt q k l (head g t) K r * d (ix2 r (hcol (head g t) c))

/-- What the block pair adds to `dk` at key `K`, group `g`, column `c`. -/
def addK (g : Fin 2) (K : Fin 2048) (c : Fin 64) : EReal :=
  ∑ t : Fin 3, ∑ r : Fin 512, gsc q k v d l e (head g t) K r * q (ix2 r (hcol (head g t) c))

/-- What the block pair adds to the gradient of query `r` at head `h`, column `c`. -/
def addQ (h : Fin 6) (r : Fin 512) (c : Fin 64) : EReal :=
  ∑ K : Fin 2048, gsc q k v d l e h K r * k (ix2 K (gcol (grp h) c))

end Formulas

/-! ## The pieces of the blocks -/

/-- A window's element is the array's at the window's place. -/
theorem rect_emb_val {s : Shape} {off size : Fin s.rank → ℕ} {inb : ∀ a, off a + size a ≤ s.size a}
    (x : (Rect.unit off size inb).shape.Idx) (a : Fin s.rank) :
    ((Rect.unit off size inb).emb x a : ℕ) = off a + (x a : ℕ) := by
  show off a + 1 * (x a : ℕ) = _
  rw [Nat.one_mul]

/-- The first 128 columns of a query block, entry by entry. -/
theorem colsA_apply (q : Vec Ideal S512x384 .bf16) (r : Fin 512) (y : Fin 128) :
    colsA q (ix2 r y) = q (ix2 r ⟨0 + y.val, by omega⟩) := by
  unfold colsA VecWindow.window
  refine congrArg q (funext fun a => Fin.ext ?_)
  fin_cases a
  · exact (rect_emb_val _ _).trans (Nat.zero_add _)
  · exact rect_emb_val _ _

/-- The middle 128 columns of a query block, entry by entry. -/
theorem colsB_apply (q : Vec Ideal S512x384 .bf16) (r : Fin 512) (y : Fin 128) :
    colsB q (ix2 r y) = q (ix2 r ⟨128 + y.val, by omega⟩) := by
  unfold colsB VecWindow.window
  refine congrArg q (funext fun a => Fin.ext ?_)
  fin_cases a
  · exact (rect_emb_val _ _).trans (Nat.zero_add _)
  · exact rect_emb_val _ _

/-- The last 128 columns of a query block, entry by entry. -/
theorem colsC_apply (q : Vec Ideal S512x384 .bf16) (r : Fin 512) (y : Fin 128) :
    colsC q (ix2 r y) = q (ix2 r ⟨256 + y.val, by omega⟩) := by
  unfold colsC VecWindow.window
  refine congrArg q (funext fun a => Fin.ext ?_)
  fin_cases a
  · exact (rect_emb_val _ _).trans (Nat.zero_add _)
  · exact rect_emb_val _ _

/-- Row 0 of six, entry by entry. -/
theorem hd0_apply (l : Vec Ideal S6x1x512 .f32) (r : Fin 512) : hd0 l (ix3 0 0 r) = l (ix3 0 0 r) := by
  unfold hd0 VecWindow.window
  refine congrArg l (funext fun a => Fin.ext ?_)
  fin_cases a
  · exact rect_emb_val _ _
  · exact rect_emb_val _ _
  · exact (rect_emb_val _ _).trans (Nat.zero_add _)

/-- Row 1 of six, entry by entry. -/
theorem hd1_apply (l : Vec Ideal S6x1x512 .f32) (r : Fin 512) : hd1 l (ix3 0 0 r) = l (ix3 1 0 r) := by
  unfold hd1 VecWindow.window
  refine congrArg l (funext fun a => Fin.ext ?_)
  fin_cases a
  · exact rect_emb_val _ _
  · exact rect_emb_val _ _
  · exact (rect_emb_val _ _).trans (Nat.zero_add _)

/-- Row 2 of six, entry by entry. -/
theorem hd2_apply (l : Vec Ideal S6x1x512 .f32) (r : Fin 512) : hd2 l (ix3 0 0 r) = l (ix3 2 0 r) := by
  unfold hd2 VecWindow.window
  refine congrArg l (funext fun a => Fin.ext ?_)
  fin_cases a
  · exact rect_emb_val _ _
  · exact rect_emb_val _ _
  · exact (rect_emb_val _ _).trans (Nat.zero_add _)

/-- Row 3 of six, entry by entry. -/
theorem hd3_apply (l : Vec Ideal S6x1x512 .f32) (r : Fin 512) : hd3 l (ix3 0 0 r) = l (ix3 3 0 r) := by
  unfold hd3 VecWindow.window
  refine congrArg l (funext fun a => Fin.ext ?_)
  fin_cases a
  · exact rect_emb_val _ _
  · exact rect_emb_val _ _
  · exact (rect_emb_val _ _).trans (Nat.zero_add _)

/-- Row 4 of six, entry by entry. -/
theorem hd4_apply (l : Vec Ideal S6x1x512 .f32) (r : Fin 512) : hd4 l (ix3 0 0 r) = l (ix3 4 0 r) := by
  unfold hd4 VecWindow.window
  refine congrArg l (funext fun a => Fin.ext ?_)
  fin_cases a
  · exact rect_emb_val _ _
  · exact rect_emb_val _ _
  · exact (rect_emb_val _ _).trans (Nat.zero_add _)

/-- Row 5 of six, entry by entry. -/
theorem hd5_apply (l : Vec Ideal S6x1x512 .f32) (r : Fin 512) : hd5 l (ix3 0 0 r) = l (ix3 5 0 r) := by
  unfold hd5 VecWindow.window
  refine congrArg l (funext fun a => Fin.ext ?_)
  fin_cases a
  · exact rect_emb_val _ _
  · exact rect_emb_val _ _
  · exact (rect_emb_val _ _).trans (Nat.zero_add _)

/-- A choice by a lane's number below 64. -/
theorem select_lane {α : Type} (y : Fin 128) (a b : α) :
    Scalar.select (IntOp.cmpi CmpIPredicate.slt (BitVec.ofNat 32 y.val) 64#32) a b = if y.val < 64 then a else b := by
  have h : ∀ y : Fin 128, IntOp.cmpi CmpIPredicate.slt (BitVec.ofNat 32 y.val) 64#32 = if y.val < 64 then 1#1 else 0#1 := by decide
  rw [h y]
  split <;> rfl

/-- A sum over 128 lanes as two sums over 64. -/
theorem sum_lanes (f : Fin 128 → EReal) :
    ∑ y : Fin 128, f y = ∑ c : Fin 64, f ⟨c.val, by omega⟩ + ∑ c : Fin 64, f ⟨64 + c.val, by omega⟩ :=
  Fin.sum_univ_two_halves 64 64 rfl f

/-- The same where one half vanishes. -/
theorem sum_lower (f : Fin 128 → EReal) :
    ∑ y : Fin 128, (if y.val < 64 then f y else 0) = ∑ c : Fin 64, f ⟨c.val, by omega⟩ := by
  rw [sum_lanes]
  have h : ∀ c : Fin 64, ¬ 64 + c.val < 64 := fun c => by omega
  simp only [Fin.is_lt, ↓reduceIte, h, Finset.sum_const_zero, add_zero]

/-- A sum over 128 columns that is zero on the first half is the sum over the second half. -/
theorem sum_upper (f : Fin 128 → EReal) :
    ∑ y : Fin 128, (if y.val < 64 then 0 else f y) = ∑ c : Fin 64, f ⟨64 + c.val, by omega⟩ := by
  rw [sum_lanes]
  have h : ∀ c : Fin 64, ¬ 64 + c.val < 64 := fun c => by omega
  simp only [Fin.is_lt, ↓reduceIte, h, Finset.sum_const_zero, zero_add]

/-- Two products of elements at the same places. -/
theorem mul_at {x : Vec Ideal S2048x128 .bf16} {y : Vec Ideal S512x384 .bf16} {K : Fin 2048} {r : Fin 512}
    {a a' : Fin 128} {b b' : Fin 384} (h : a.val = a'.val) (h' : b.val = b'.val) :
    x (ix2 K a) * y (ix2 r b) = x (ix2 K a') * y (ix2 r b') := by
  rw [Fin.ext h, Fin.ext h']

/-! ## The weights and the score gradients, head by head -/

section Heads

variable (q : Vec Ideal S512x384 .bf16) (k v : Vec Ideal S2048x128 .bf16) (d : Vec Ideal S512x384 .bf16)
  (l e : Vec Ideal S6x1x512 .f32) (K : Fin 2048) (r : Fin 512)

/-- The transposed weights that the body computes for head 0. -/
theorem wgt0 : k0_pay28 (k0_pay9 k) (k0_pay20 (colsA q)) (hd0 l) (ix2 K r) = wgt q k l 0 K r := by
  have hq := colsA_apply q r
  generalize colsA q = q' at *
  have hl := hd0_apply l r
  generalize hd0 l = l' at *
  pointwise [k0_pay28, k0_pay9, k0_pay5, k0_pay6, k0_pay7, k0_pay20]
  unfold wgt score
  rw [hl]
  congr 2
  simp only [select_lane, zero_mul, ite_mul, hq]
  rw [sum_lower]
  refine Finset.sum_congr rfl fun c _ => mul_at ?_ ?_
  · show _ = 64 * (0 / 3) + c.val
    first | rfl | (dsimp only; omega)
  · show _ = 64 * 0 + c.val
    first | rfl | (dsimp only; omega)

/-- The transposed weights that the body computes for head 1. -/
theorem wgt1 : k0_pay33 (k0_pay10 k) (k0_pay20 (colsA q)) (hd1 l) (ix2 K r) = wgt q k l 1 K r := by
  have hq := colsA_apply q r
  generalize colsA q = q' at *
  have hl := hd1_apply l r
  generalize hd1 l = l' at *
  pointwise [k0_pay33, k0_pay10, k0_pay8, k0_pay5, k0_pay6, k0_pay7, k0_pay20]
  unfold wgt score
  rw [hl]
  congr 2
  simp only [select_lane, zero_mul, ite_mul, hq]
  rw [sum_upper]
  refine Finset.sum_congr rfl fun c _ => mul_at ?_ ?_
  · show _ = 64 * (1 / 3) + c.val
    first | rfl | (dsimp only; omega)
  · show _ = 64 * 1 + c.val
    first | rfl | (dsimp only; omega)

/-- The transposed weights that the body computes for head 2. -/
theorem wgt2 : k0_pay48 (k0_pay9 k) (colsB q) (hd2 l) (ix2 K r) = wgt q k l 2 K r := by
  have hq := colsB_apply q r
  generalize colsB q = q' at *
  have hl := hd2_apply l r
  generalize hd2 l = l' at *
  pointwise [k0_pay48, k0_pay39, k0_pay9, k0_pay5, k0_pay6, k0_pay7]
  unfold wgt score
  rw [hl]
  congr 2
  simp only [select_lane, zero_mul, ite_mul, hq]
  rw [sum_lower]
  refine Finset.sum_congr rfl fun c _ => mul_at ?_ ?_
  · show _ = 64 * (2 / 3) + c.val
    first | rfl | (dsimp only; omega)
  · show _ = 64 * 2 + c.val
    first | rfl | (dsimp only; omega)

/-- The transposed weights that the body computes for head 3. -/
theorem wgt3 : k0_pay51 (k0_pay12 k) (k0_pay39 (colsB q)) (hd3 l) (ix2 K r) = wgt q k l 3 K r := by
  have hq := colsB_apply q r
  generalize colsB q = q' at *
  have hl := hd3_apply l r
  generalize hd3 l = l' at *
  pointwise [k0_pay51, k0_pay39, k0_pay12, k0_pay5, k0_pay6, k0_pay7]
  unfold wgt score
  rw [hl]
  congr 2
  simp only [select_lane, zero_mul, ite_mul, hq]
  rw [sum_upper]
  refine Finset.sum_congr rfl fun c _ => mul_at ?_ ?_
  · show _ = 64 * (3 / 3) + c.val
    first | rfl | (dsimp only; omega)
  · show _ = 64 * 3 + c.val
    first | rfl | (dsimp only; omega)

/-- The transposed weights that the body computes for head 4. -/
theorem wgt4 : k0_pay63 (k0_pay11 k) (colsC q) (hd4 l) (ix2 K r) = wgt q k l 4 K r := by
  have hq := colsC_apply q r
  generalize colsC q = q' at *
  have hl := hd4_apply l r
  generalize hd4 l = l' at *
  pointwise [k0_pay63, k0_pay56, k0_pay11, k0_pay8, k0_pay5, k0_pay6, k0_pay7]
  unfold wgt score
  rw [hl]
  congr 2
  simp only [select_lane, zero_mul, ite_mul, hq]
  rw [sum_lower]
  refine Finset.sum_congr rfl fun c _ => mul_at ?_ ?_
  · show _ = 64 * (4 / 3) + c.val
    first | rfl | (dsimp only; omega)
  · show _ = 64 * 4 + c.val
    first | rfl | (dsimp only; omega)

/-- The transposed weights that the body computes for head 5. -/
theorem wgt5 : k0_pay69 (k0_pay68 (k0_pay12 k) (colsC q)) (hd5 l) (ix2 K r) = wgt q k l 5 K r := by
  have hq := colsC_apply q r
  generalize colsC q = q' at *
  have hl := hd5_apply l r
  generalize hd5 l = l' at *
  pointwise [k0_pay69, k0_pay68, k0_pay56, k0_pay12, k0_pay5, k0_pay6, k0_pay7]
  unfold wgt score
  rw [hl]
  congr 2
  simp only [select_lane, zero_mul, ite_mul, hq]
  rw [sum_upper]
  refine Finset.sum_congr rfl fun c _ => mul_at ?_ ?_
  · show _ = 64 * (5 / 3) + c.val
    first | rfl | (dsimp only; omega)
  · show _ = 64 * 5 + c.val
    first | rfl | (dsimp only; omega)

/-- The transposed score gradients that the body computes for head 0. -/
theorem gsc0 : k0_pay29 (k0_pay9 k) (k0_pay16 v) (k0_pay20 (colsA q)) (colsA d) (hd0 l) (hd0 e) (ix2 K r) = gsc q k v d l e 0 K r := by
  have hw := wgt0 q k l K r

  have hq := colsA_apply q r
  generalize colsA q = q' at *
  have hd := colsA_apply d r
  generalize colsA d = d' at *
  have hl := hd0_apply l r
  generalize hd0 l = l' at *
  have he := hd0_apply e r
  generalize hd0 e = e' at *
  pointwise [k0_pay29, k0_pay13, k0_pay14, k0_pay16]
  unfold gsc score
  rw [hw, he]
  congr 2
  simp only [select_lane, zero_mul, ite_mul, hd]
  rw [sum_lower]
  refine Finset.sum_congr rfl fun c _ => mul_at ?_ ?_
  · show _ = 64 * (0 / 3) + c.val
    first | rfl | (dsimp only; omega)
  · show _ = 64 * 0 + c.val
    first | rfl | (dsimp only; omega)

/-- The transposed score gradients that the body computes for head 1. -/
theorem gsc1 : dsB q k v d l e (ix2 K r) = gsc q k v d l e 1 K r := by
  have hw := wgt1 q k l K r
  unfold dsB
  have hq := colsA_apply q r
  generalize colsA q = q' at *
  have hd := colsA_apply d r
  generalize colsA d = d' at *
  have hl := hd1_apply l r
  generalize hd1 l = l' at *
  have he := hd1_apply e r
  generalize hd1 e = e' at *
  pointwise [dsB, k0_pay34, k0_pay13, k0_pay14, k0_pay15, k0_pay17]
  unfold gsc score
  rw [hw, he]
  congr 2
  simp only [select_lane, zero_mul, ite_mul, hd]
  rw [sum_upper]
  refine Finset.sum_congr rfl fun c _ => mul_at ?_ ?_
  · show _ = 64 * (1 / 3) + c.val
    first | rfl | (dsimp only; omega)
  · show _ = 64 * 1 + c.val
    first | rfl | (dsimp only; omega)

/-- The transposed score gradients that the body computes for head 2. -/
theorem gsc2 : k0_pay50 (k0_pay48 (k0_pay9 k) (colsB q) (hd2 l)) (k0_pay49 (k0_pay16 v) (colsB d)) (hd2 e) (ix2 K r) = gsc q k v d l e 2 K r := by
  have hw := wgt2 q k l K r

  have hq := colsB_apply q r
  generalize colsB q = q' at *
  have hd := colsB_apply d r
  generalize colsB d = d' at *
  have hl := hd2_apply l r
  generalize hd2 l = l' at *
  have he := hd2_apply e r
  generalize hd2 e = e' at *
  pointwise [k0_pay50, k0_pay49, k0_pay13, k0_pay14, k0_pay16]
  unfold gsc score
  rw [hw, he]
  congr 2
  simp only [select_lane, zero_mul, ite_mul, hd]
  rw [sum_lower]
  refine Finset.sum_congr rfl fun c _ => mul_at ?_ ?_
  · show _ = 64 * (2 / 3) + c.val
    first | rfl | (dsimp only; omega)
  · show _ = 64 * 2 + c.val
    first | rfl | (dsimp only; omega)

/-- The transposed score gradients that the body computes for head 3. -/
theorem gsc3 : k0_pay52 (k0_pay12 k) (k0_pay19 v) (k0_pay39 (colsB q)) (colsB d) (hd3 l) (hd3 e) (ix2 K r) = gsc q k v d l e 3 K r := by
  have hw := wgt3 q k l K r

  have hq := colsB_apply q r
  generalize colsB q = q' at *
  have hd := colsB_apply d r
  generalize colsB d = d' at *
  have hl := hd3_apply l r
  generalize hd3 l = l' at *
  have he := hd3_apply e r
  generalize hd3 e = e' at *
  pointwise [k0_pay52, k0_pay13, k0_pay14, k0_pay19]
  unfold gsc score
  rw [hw, he]
  congr 2
  simp only [select_lane, zero_mul, ite_mul, hd]
  rw [sum_upper]
  refine Finset.sum_congr rfl fun c _ => mul_at ?_ ?_
  · show _ = 64 * (3 / 3) + c.val
    first | rfl | (dsimp only; omega)
  · show _ = 64 * 3 + c.val
    first | rfl | (dsimp only; omega)

/-- The transposed score gradients that the body computes for head 4. -/
theorem gsc4 : k0_pay64 (k0_pay11 k) (k0_pay18 v) (colsC q) (colsC d) (hd4 l) (hd4 e) (ix2 K r) = gsc q k v d l e 4 K r := by
  have hw := wgt4 q k l K r

  have hq := colsC_apply q r
  generalize colsC q = q' at *
  have hd := colsC_apply d r
  generalize colsC d = d' at *
  have hl := hd4_apply l r
  generalize hd4 l = l' at *
  have he := hd4_apply e r
  generalize hd4 e = e' at *
  pointwise [k0_pay64, k0_pay13, k0_pay14, k0_pay15, k0_pay18]
  unfold gsc score
  rw [hw, he]
  congr 2
  simp only [select_lane, zero_mul, ite_mul, hd]
  rw [sum_lower]
  refine Finset.sum_congr rfl fun c _ => mul_at ?_ ?_
  · show _ = 64 * (4 / 3) + c.val
    first | rfl | (dsimp only; omega)
  · show _ = 64 * 4 + c.val
    first | rfl | (dsimp only; omega)

/-- The transposed score gradients that the body computes for head 5. -/
theorem gsc5 : k0_pay70 (k0_pay19 v) (colsC d) (k0_pay68 (k0_pay12 k) (colsC q)) (hd5 l) (hd5 e) (ix2 K r) = gsc q k v d l e 5 K r := by
  have hw := wgt5 q k l K r

  have hq := colsC_apply q r
  generalize colsC q = q' at *
  have hd := colsC_apply d r
  generalize colsC d = d' at *
  have hl := hd5_apply l r
  generalize hd5 l = l' at *
  have he := hd5_apply e r
  generalize hd5 e = e' at *
  pointwise [k0_pay70, k0_pay13, k0_pay14, k0_pay19]
  unfold gsc score
  rw [hw, he]
  congr 2
  simp only [select_lane, zero_mul, ite_mul, hd]
  rw [sum_upper]
  refine Finset.sum_congr rfl fun c _ => mul_at ?_ ?_
  · show _ = 64 * (5 / 3) + c.val
    first | rfl | (dsimp only; omega)
  · show _ = 64 * 5 + c.val
    first | rfl | (dsimp only; omega)

end Heads

end Cert.KernelIdeal.Hand
-- ==== Proof.BlockStep.lean ====
/-
  The new contents of the two results kept in the pipeline and of the scratch row after one grid point, read at an index:
  the contents before, plus the sums of `Block.lean` over the point's queries or keys.
-/
module

public import proofs.«01_k».proof.Proof.Block

@[expose] public section

set_option maxRecDepth 16384

noncomputable section

namespace Cert.KernelIdeal.Hand

open Cert.KernelIdeal Cert.KernelIdeal.Gen
open Idealize.ShloMosaic

section Steps

variable (q : Vec Ideal S512x384 .bf16) (k v : Vec Ideal S2048x128 .bf16) (d : Vec Ideal S512x384 .bf16)
  (l e : Vec Ideal S6x1x512 .f32)

/-- Two products by elements at the same place. -/
theorem term_at {f : EReal} {a : Vec Ideal S512x384 .bf16} {r : Fin 512} {n n' : ℕ} {hn : n < 384} {hn' : n' < 384}
    (h : n = n') : f * a (ix2 r ⟨n, hn⟩) = f * a (ix2 r ⟨n', hn'⟩) := by subst h; rfl
/-- A product with a key block's entry depends on the column's number alone. -/
theorem key_at {f : EReal} {a : Vec Ideal S2048x128 .bf16} {r : Fin 2048} {n n' : Fin 128}
    (h : n.val = n'.val) : f * a (ix2 r n) = f * a (ix2 r n') := by rw [Fin.ext h]

/-- `dv`'s block after the point. -/
theorem dvStep_apply (w : Vec Ideal S2048x128 .f32) (K : Fin 2048) (g : Fin 2) (c : Fin 64) :
    dvStep q k d l w (ix2 K (gcol g c)) = w (ix2 K (gcol g c)) + addV q k d l g K c := by
  unfold dvStep dvB dvA k0_pay72 k0_pay66 k0_pay53 k0_pay36 k0_pay30
  have hw0 := wgt0 q k l
  have hw1 := wgt1 q k l
  have hw2 := wgt2 q k l
  have hw3 := wgt3 q k l
  have hw4 := wgt4 q k l
  have hw5 := wgt5 q k l
  generalize k0_pay28 (k0_pay9 k) (k0_pay20 (colsA q)) (hd0 l) = w0 at hw0 ⊢
  generalize k0_pay33 (k0_pay10 k) (k0_pay20 (colsA q)) (hd1 l) = w1 at hw1 ⊢
  generalize k0_pay48 (k0_pay9 k) (colsB q) (hd2 l) = w2 at hw2 ⊢
  generalize k0_pay51 (k0_pay12 k) (k0_pay39 (colsB q)) (hd3 l) = w3 at hw3 ⊢
  generalize k0_pay63 (k0_pay11 k) (colsC q) (hd4 l) = w4 at hw4 ⊢
  generalize k0_pay69 (k0_pay68 (k0_pay12 k) (colsC q)) (hd5 l) = w5 at hw5 ⊢
  have hdA := colsA_apply d
  have hdB := colsB_apply d
  have hdC := colsC_apply d
  generalize colsA d = dA at *
  generalize colsB d = dB at *
  generalize colsC d = dC at *
  generalize hy : gcol g c = y
  pointwise [k0_pay27, k0_pay25, k0_pay26, k0_pay46, k0_pay47,
    k0_pay44, k0_pay45, k0_pay62, k0_pay60, k0_pay61]
  unfold addV
  rw [Fin.sum_univ_three]
  simp only [hw0, hw1, hw2, hw3, hw4, hw5, select_lane, hdA, hdB, hdC]
  fin_cases g
  · have h : y.val < 64 := by rw [← hy]; show 64 * 0 + c.val < 64; omega
    have hc : y.val = 0 + c.val := by rw [← hy]; rfl
    simp only [h, ↓reduceIte, Finset.sum_const_zero, add_zero, zero_add]
    refine congrArg (_ + ·) (congrArg₂ (· + ·) (congrArg₂ (· + ·) ?_ ?_) ?_)
    · exact Finset.sum_congr rfl fun x _ => term_at (by show _ = 64 * 0 + c.val; first | omega | (dsimp only; omega))
    · exact Finset.sum_congr rfl fun x _ => term_at (by show _ = 64 * 1 + c.val; first | omega | (dsimp only; omega))
    · exact Finset.sum_congr rfl fun x _ => term_at (by show _ = 64 * 2 + c.val; first | omega | (dsimp only; omega))
  · have h : ¬ y.val < 64 := by rw [← hy]; show ¬ 64 * 1 + c.val < 64; omega
    have hc : y.val = 64 + c.val := by rw [← hy]; rfl
    simp only [h, ↓reduceIte, Finset.sum_const_zero, add_zero, zero_add]
    refine congrArg (_ + ·) (congrArg₂ (· + ·) (congrArg₂ (· + ·) ?_ ?_) ?_)
    · exact Finset.sum_congr rfl fun x _ => term_at (by show _ = 64 * 3 + c.val; first | omega | (dsimp only; omega))
    · exact Finset.sum_congr rfl fun x _ => term_at (by show _ = 64 * 4 + c.val; first | omega | (dsimp only; omega))
    · exact Finset.sum_congr rfl fun x _ => term_at (by show _ = 64 * 5 + c.val; first | omega | (dsimp only; omega))

/-- `dk`'s block after the point. -/
theorem dkStep_apply (w : Vec Ideal S2048x128 .f32) (K : Fin 2048) (g : Fin 2) (c : Fin 64) :
    dkStep q k v d l e w (ix2 K (gcol g c)) = w (ix2 K (gcol g c)) + addK q k v d l e g K c := by
  unfold dkStep dkB dkA k0_pay73 k0_pay67 k0_pay54 k0_pay37 k0_pay35 k0_pay31
  have hs0 := gsc0 q k v d l e
  have hs1 := gsc1 q k v d l e
  have hs2 := gsc2 q k v d l e
  have hs3 := gsc3 q k v d l e
  have hs4 := gsc4 q k v d l e
  have hs5 := gsc5 q k v d l e
  generalize k0_pay29 (k0_pay9 k) (k0_pay16 v) (k0_pay20 (colsA q)) (colsA d) (hd0 l) (hd0 e) = s0 at hs0 ⊢
  generalize dsB q k v d l e = s1 at hs1 ⊢
  generalize k0_pay50 (k0_pay48 (k0_pay9 k) (colsB q) (hd2 l)) (k0_pay49 (k0_pay16 v) (colsB d)) (hd2 e) = s2 at hs2 ⊢
  generalize k0_pay52 (k0_pay12 k) (k0_pay19 v) (k0_pay39 (colsB q)) (colsB d) (hd3 l) (hd3 e) = s3 at hs3 ⊢
  generalize k0_pay64 (k0_pay11 k) (k0_pay18 v) (colsC q) (colsC d) (hd4 l) (hd4 e) = s4 at hs4 ⊢
  generalize k0_pay70 (k0_pay19 v) (colsC d) (k0_pay68 (k0_pay12 k) (colsC q)) (hd5 l) (hd5 e) = s5 at hs5 ⊢
  have hqA := colsA_apply q
  have hqB := colsB_apply q
  have hqC := colsC_apply q
  generalize colsA q = qA at *
  generalize colsB q = qB at *
  generalize colsC q = qC at *
  generalize hy : gcol g c = y
  pointwise [k0_pay24, k0_pay23, k0_pay20, k0_pay21,
    k0_pay22, k0_pay42, k0_pay43, k0_pay39, k0_pay40, k0_pay41, k0_pay59, k0_pay56, k0_pay57, k0_pay58]
  unfold addK
  rw [Fin.sum_univ_three]
  simp only [hs0, hs1, hs2, hs3, hs4, hs5, select_lane, hqA, hqB, hqC]
  fin_cases g
  · have h : y.val < 64 := by rw [← hy]; show 64 * 0 + c.val < 64; omega
    have hc : y.val = 0 + c.val := by rw [← hy]; rfl
    simp only [h, ↓reduceIte, Finset.sum_const_zero, add_zero, zero_add]
    refine congrArg (_ + ·) (congrArg₂ (· + ·) (congrArg₂ (· + ·) ?_ ?_) ?_)
    · exact Finset.sum_congr rfl fun x _ => term_at (by show _ = 64 * 0 + c.val; first | omega | (dsimp only; omega))
    · exact Finset.sum_congr rfl fun x _ => term_at (by show _ = 64 * 1 + c.val; first | omega | (dsimp only; omega))
    · exact Finset.sum_congr rfl fun x _ => term_at (by show _ = 64 * 2 + c.val; first | omega | (dsimp only; omega))
  · have h : ¬ y.val < 64 := by rw [← hy]; show ¬ 64 * 1 + c.val < 64; omega
    have hc : y.val = 64 + c.val := by rw [← hy]; rfl
    simp only [h, ↓reduceIte, Finset.sum_const_zero, add_zero, zero_add]
    refine congrArg (_ + ·) (congrArg₂ (· + ·) (congrArg₂ (· + ·) ?_ ?_) ?_)
    · exact Finset.sum_congr rfl fun x _ => term_at (by show _ = 64 * 3 + c.val; first | omega | (dsimp only; omega))
    · exact Finset.sum_congr rfl fun x _ => term_at (by show _ = 64 * 4 + c.val; first | omega | (dsimp only; omega))
    · exact Finset.sum_congr rfl fun x _ => term_at (by show _ = 64 * 5 + c.val; first | omega | (dsimp only; omega))

/-- Heads 0 and 1's lane block of the scratch row after the point. -/
theorem dqStep0_apply (w : Vec Ideal S1x512x128 .f32) (r : Fin 512) (b : Fin 2) (c : Fin 64) :
    dqStep0 q k v d l e w (ix3 0 r (gcol b c)) =
      w (ix3 0 r (gcol b c)) + addQ q k v d l e ⟨0 + b.val, by omega⟩ r c := by
  unfold dqStep0 k0_pay38 k0_pay35 k0_pay32
  have hs0 := gsc0 q k v d l e
  have hs1 := gsc1 q k v d l e
  generalize k0_pay29 (k0_pay9 k) (k0_pay16 v) (k0_pay20 (colsA q)) (colsA d) (hd0 l) (hd0 e) = s0 at hs0 ⊢
  generalize dsB q k v d l e = s1 at hs1 ⊢
  generalize hy : gcol b c = y
  pointwise [k0_pay10, k0_pay9, k0_pay5, k0_pay6, k0_pay7, k0_pay8]
  unfold addQ
  simp only [hs0, hs1, select_lane]
  fin_cases b
  · have h : y.val < 64 := by rw [← hy]; show 64 * 0 + c.val < 64; omega
    have hc : y.val = 0 + c.val := by rw [← hy]; rfl
    simp only [h, ↓reduceIte, Finset.sum_const_zero, add_zero, zero_add]
    exact congrArg (_ + ·) (Finset.sum_congr rfl fun x _ => key_at (by show _ = 64 * (0 / 3) + c.val; first | exact hc | (dsimp only; omega)))
  · have h : ¬ y.val < 64 := by rw [← hy]; show ¬ 64 * 1 + c.val < 64; omega
    have hc : y.val = 64 + c.val := by rw [← hy]; rfl
    simp only [h, ↓reduceIte, Finset.sum_const_zero, add_zero, zero_add]
    exact congrArg (_ + ·) (Finset.sum_congr rfl fun x _ => key_at (by show _ = 64 * (1 / 3) + c.val; first | exact hc | (dsimp only; omega)))

/-- Heads 2 and 3's lane block of the scratch row after the point. -/
theorem dqStep1_apply (w : Vec Ideal S1x512x128 .f32) (r : Fin 512) (b : Fin 2) (c : Fin 64) :
    dqStep1 q k v d l e w (ix3 0 r (gcol b c)) =
      w (ix3 0 r (gcol b c)) + addQ q k v d l e ⟨2 + b.val, by omega⟩ r c := by
  unfold dqStep1 k0_pay55
  have hs2 := gsc2 q k v d l e
  have hs3 := gsc3 q k v d l e
  generalize k0_pay50 (k0_pay48 (k0_pay9 k) (colsB q) (hd2 l)) (k0_pay49 (k0_pay16 v) (colsB d)) (hd2 e) = s2 at hs2 ⊢
  generalize k0_pay52 (k0_pay12 k) (k0_pay19 v) (k0_pay39 (colsB q)) (colsB d) (hd3 l) (hd3 e) = s3 at hs3 ⊢
  generalize hy : gcol b c = y
  pointwise [k0_pay12, k0_pay9, k0_pay5, k0_pay6, k0_pay7]
  unfold addQ
  simp only [hs2, hs3, select_lane]
  fin_cases b
  · have h : y.val < 64 := by rw [← hy]; show 64 * 0 + c.val < 64; omega
    have hc : y.val = 0 + c.val := by rw [← hy]; rfl
    simp only [h, ↓reduceIte, Finset.sum_const_zero, add_zero, zero_add]
    exact congrArg (_ + ·) (Finset.sum_congr rfl fun x _ => key_at (by show _ = 64 * (2 / 3) + c.val; first | exact hc | (dsimp only; omega)))
  · have h : ¬ y.val < 64 := by rw [← hy]; show ¬ 64 * 1 + c.val < 64; omega
    have hc : y.val = 64 + c.val := by rw [← hy]; rfl
    simp only [h, ↓reduceIte, Finset.sum_const_zero, add_zero, zero_add]
    exact congrArg (_ + ·) (Finset.sum_congr rfl fun x _ => key_at (by show _ = 64 * (3 / 3) + c.val; first | exact hc | (dsimp only; omega)))

/-- Heads 4 and 5's lane block of the scratch row after the point. -/
theorem dqStep2_apply (w : Vec Ideal S1x512x128 .f32) (r : Fin 512) (b : Fin 2) (c : Fin 64) :
    dqStep2 q k v d l e w (ix3 0 r (gcol b c)) =
      w (ix3 0 r (gcol b c)) + addQ q k v d l e ⟨4 + b.val, by omega⟩ r c := by
  unfold dqStep2 k0_pay71 k0_pay65
  have hs4 := gsc4 q k v d l e
  have hs5 := gsc5 q k v d l e
  generalize k0_pay64 (k0_pay11 k) (k0_pay18 v) (colsC q) (colsC d) (hd4 l) (hd4 e) = s4 at hs4 ⊢
  generalize k0_pay70 (k0_pay19 v) (colsC d) (k0_pay68 (k0_pay12 k) (colsC q)) (hd5 l) (hd5 e) = s5 at hs5 ⊢
  generalize hy : gcol b c = y
  pointwise [k0_pay11, k0_pay12, k0_pay8, k0_pay5, k0_pay6, k0_pay7]
  unfold addQ
  simp only [hs4, hs5, select_lane]
  fin_cases b
  · have h : y.val < 64 := by rw [← hy]; show 64 * 0 + c.val < 64; omega
    have hc : y.val = 0 + c.val := by rw [← hy]; rfl
    simp only [h, ↓reduceIte, Finset.sum_const_zero, add_zero, zero_add]
    exact congrArg (_ + ·) (Finset.sum_congr rfl fun x _ => key_at (by show _ = 64 * (4 / 3) + c.val; first | exact hc | (dsimp only; omega)))
  · have h : ¬ y.val < 64 := by rw [← hy]; show ¬ 64 * 1 + c.val < 64; omega
    have hc : y.val = 64 + c.val := by rw [← hy]; rfl
    simp only [h, ↓reduceIte, Finset.sum_const_zero, add_zero, zero_add]
    exact congrArg (_ + ·) (Finset.sum_congr rfl fun x _ => key_at (by show _ = 64 * (5 / 3) + c.val; first | exact hc | (dsimp only; omega)))

end Steps

end Cert.KernelIdeal.Hand
-- ==== Proof.Sums.lean ====
/-
  What the grid's run leaves in the three results, at each element, as sums over whole arrays: over all queries for `dv`
  and `dk`, over all keys for `dq`. The arrays are the ones the kernel is launched on: scaled queries, keys, values and
  the output's gradient, log-sum-exps and row sums.
-/
module

public import proofs.«01_k».proof.Proof.Frame
public import proofs.«01_k».proof.Proof.BlockStep
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.Pipeline Idealize.ShloMosaic.TcCoe

/-! ## The formulas over whole arrays -/

section Formulas

variable (Q : Vec Ideal S16384x384 .bf16) (K : Vec Ideal S16384x128 .bf16) (W : Vec Ideal S16384x2048 .bf16)
  (D : Vec Ideal S16384x384 .bf16) (L E : Vec Ideal S6x1x16384 .f32)

/-- Column `c` of group `g` of the values, the last 128 columns of the array that holds them. -/
abbrev vcol (g : Fin 2) (c : Fin 64) : Fin 2048 := ⟨1920 + (64 * g.val + c.val), by omega⟩

/-- Head `h`'s attention weight of key `κ` in query `ρ`. -/
def weight (h : Fin 6) (κ ρ : Fin 16384) : EReal :=
  Ideal.exp ((∑ c : Fin 64, K (ix2 κ (gcol (grp h) c)) * Q (ix2 ρ (hcol h c))) - L (ix3 h 0 ρ))

/-- The gradient of head `h`'s score of key `κ` in query `ρ`. -/
def gscore (h : Fin 6) (κ ρ : Fin 16384) : EReal :=
  weight Q K L h κ ρ * ((∑ c : Fin 64, W (ix2 κ (vcol (grp h) c)) * D (ix2 ρ (hcol h c))) - E (ix3 h 0 ρ))

/-- The values' gradient at key `κ`, group `g`, column `c`. -/
def sumV (g : Fin 2) (κ : Fin 16384) (c : Fin 64) : EReal :=
  ∑ t : Fin 3, ∑ ρ : Fin 16384, weight Q K L (head g t) κ ρ * D (ix2 ρ (hcol (head g t) c))

/-- The keys' gradient at key `κ`, group `g`, column `c`. -/
def sumK (g : Fin 2) (κ : Fin 16384) (c : Fin 64) : EReal :=
  ∑ t : Fin 3, ∑ ρ : Fin 16384, gscore Q K W D L E (head g t) κ ρ * Q (ix2 ρ (hcol (head g t) c))

/-- The queries' gradient at query `ρ`, head `h`, column `c`, before its scaling. -/
def sumQ (h : Fin 6) (ρ : Fin 16384) (c : Fin 64) : EReal :=
  ∑ κ : Fin 16384, gscore Q K W D L E h κ ρ * K (ix2 κ (gcol (grp h) c))

end Formulas

/-! ## The blocks of a point -/

/-- Each window's block at a point: the key block is the point's quotient by 32, the query block its rest. -/
theorem idx : ∀ t : Fin cfg0.N, win0_0.index t = ![t.val % 32, 0] ∧ win0_1.index t = ![t.val / 32, 0]
    ∧ win0_2.index t = ![t.val / 32, 15] ∧ win0_3.index t = ![t.val % 32, 0] ∧ win0_4.index t = ![0, 0, t.val % 32]
    ∧ win0_5.index t = ![0, 0, t.val % 32] ∧ win0_6.index t = ![t.val / 32, 0] ∧ win0_7.index t = ![t.val / 32, 0] := by
  decide +kernel

variable (m : (ℓ : Loc nD τ sig) → Buf (Elt Ideal) ℓ) (c : Dev nD)

/-- The scaled queries. -/
abbrev aQ : Vec Ideal S16384x384 .bf16 := V m c (arrRef spec0 0)
/-- The keys. -/
abbrev aK : Vec Ideal S16384x128 .bf16 := V m c (arrRef spec0 1)
/-- The array that holds the values. -/
abbrev aW : Vec Ideal S16384x2048 .bf16 := V m c (arrRef spec0 2)
/-- The output's gradient. -/
abbrev aD : Vec Ideal S16384x384 .bf16 := V m c (arrRef spec0 3)
/-- The log-sum-exps. -/
abbrev aL : Vec Ideal S6x1x16384 .f32 := V m c (arrRef spec0 4)
/-- The row sums. -/
abbrev aE : Vec Ideal S6x1x16384 .f32 := V m c (arrRef spec0 5)

/-- Row `r` of query block `i`. -/
abbrev qrow (i : Fin 32) (r : Fin 512) : Fin 16384 := ⟨i.val * 512 + r.val, by omega⟩
/-- Row `r` of key block `j`. -/
abbrev krow (j : Fin 8) (r : Fin 2048) : Fin 16384 := ⟨j.val * 2048 + r.val, by omega⟩

/-- Column `x` of the values, in the array that holds them. -/
abbrev wcol (x : Fin 128) : Fin 2048 := ⟨1920 + x.val, by omega⟩

section Point

variable (t : Fin cfg0.N) (i : Fin 32) (j : Fin 8) (hi : t.val % 32 = i.val) (hj : t.val / 32 = j.val)
include hi hj

omit hj in
/-- Where window 0 reads its array. -/
theorem read0 (X : Buf (Elt Ideal) ((c : Thread nD τ).loc (arrRef spec0 0))) (r : Fin 512) (x : Fin 384) :
    (((cfg0.win 0).blk t).view.read (Elt Ideal) X : Vec Ideal S512x384 .bf16) (ix2 r x) = X (ix2 (qrow i r) x) := by
  blk_ext [(idx t).1]
omit hj in
/-- A point's block of the scaled queries, entry by entry. -/
theorem blk0_apply (r : Fin 512) (x : Fin 384) : blk0 m c t (ix2 r x) = aQ m c (ix2 (qrow i r) x) := by
  unfold blk0 iblk
  exact read0 c t i hi (V m c (arrRef spec0 0)) r x
omit hi in
/-- Where window 1 reads its array. -/
theorem read1 (X : Buf (Elt Ideal) ((c : Thread nD τ).loc (arrRef spec0 1))) (r : Fin 2048) (x : Fin 128) :
    (((cfg0.win 1).blk t).view.read (Elt Ideal) X : Vec Ideal S2048x128 .bf16) (ix2 r x) = X (ix2 (krow j r) x) := by
  blk_ext [(idx t).2.1]
omit hi in
/-- A point's block of the keys, entry by entry. -/
theorem blk1_apply (r : Fin 2048) (x : Fin 128) : blk1 m c t (ix2 r x) = aK m c (ix2 (krow j r) x) := by
  unfold blk1 iblk
  exact read1 c t j hj (V m c (arrRef spec0 1)) r x
omit hi in
/-- Where window 2 reads its array. -/
theorem read2 (X : Buf (Elt Ideal) ((c : Thread nD τ).loc (arrRef spec0 2))) (r : Fin 2048) (x : Fin 128) :
    (((cfg0.win 2).blk t).view.read (Elt Ideal) X : Vec Ideal S2048x128 .bf16) (ix2 r x) = X (ix2 (krow j r) (wcol x)) := by
  blk_ext [(idx t).2.2.1]
omit hi in
/-- A point's block of the values, entry by entry. -/
theorem blk2_apply (r : Fin 2048) (x : Fin 128) : blk2 m c t (ix2 r x) = aW m c (ix2 (krow j r) (wcol x)) := by
  unfold blk2 iblk
  exact read2 c t j hj (V m c (arrRef spec0 2)) r x
omit hj in
/-- Where window 3 reads its array. -/
theorem read3 (X : Buf (Elt Ideal) ((c : Thread nD τ).loc (arrRef spec0 3))) (r : Fin 512) (x : Fin 384) :
    (((cfg0.win 3).blk t).view.read (Elt Ideal) X : Vec Ideal S512x384 .bf16) (ix2 r x) = X (ix2 (qrow i r) x) := by
  blk_ext [(idx t).2.2.2.1]
omit hj in
/-- A point's block of the output's gradient, entry by entry. -/
theorem blk3_apply (r : Fin 512) (x : Fin 384) : blk3 m c t (ix2 r x) = aD m c (ix2 (qrow i r) x) := by
  unfold blk3 iblk
  exact read3 c t i hi (V m c (arrRef spec0 3)) r x
omit hj in
/-- Where window 4 reads its array. -/
theorem read4 (X : Buf (Elt Ideal) ((c : Thread nD τ).loc (arrRef spec0 4))) (r : Fin 512) (h : Fin 6) :
    (((cfg0.win 4).blk t).view.read (Elt Ideal) X : Vec Ideal S6x1x512 .f32) (ix3 h 0 r) = X (ix3 h 0 (qrow i r)) := by
  blk_ext [(idx t).2.2.2.2.1]
omit hj in
/-- A point's block of the log-sum-exps, entry by entry. -/
theorem blk4_apply (r : Fin 512) (h : Fin 6) : blk4 m c t (ix3 h 0 r) = aL m c (ix3 h 0 (qrow i r)) := by
  unfold blk4 iblk
  exact read4 c t i hi (V m c (arrRef spec0 4)) r h
omit hj in
/-- Where window 5 reads its array. -/
theorem read5 (X : Buf (Elt Ideal) ((c : Thread nD τ).loc (arrRef spec0 5))) (r : Fin 512) (h : Fin 6) :
    (((cfg0.win 5).blk t).view.read (Elt Ideal) X : Vec Ideal S6x1x512 .f32) (ix3 h 0 r) = X (ix3 h 0 (qrow i r)) := by
  blk_ext [(idx t).2.2.2.2.2.1]
omit hj in
/-- A point's block of the row sums, entry by entry. -/
theorem blk5_apply (r : Fin 512) (h : Fin 6) : blk5 m c t (ix3 h 0 r) = aE m c (ix3 h 0 (qrow i r)) := by
  unfold blk5 iblk
  exact read5 c t i hi (V m c (arrRef spec0 5)) r h

/-- A point's weights are the whole arrays' at the blocks' rows. -/
theorem wgt_blk (h : Fin 6) (r : Fin 2048) (s : Fin 512) :
    wgt (blk0 m c t) (blk1 m c t) (blk4 m c t) h r s = weight (aQ m c) (aK m c) (aL m c) h (krow j r) (qrow i s) := by
  unfold wgt score weight
  simp only [blk0_apply m c t i hi, blk1_apply m c t j hj, blk4_apply m c t i hi]

/-- A point's score gradients are the whole arrays' at the blocks' rows. -/
theorem gsc_blk (h : Fin 6) (r : Fin 2048) (s : Fin 512) :
    gsc (blk0 m c t) (blk1 m c t) (blk2 m c t) (blk3 m c t) (blk4 m c t) (blk5 m c t) h r s
      = gscore (aQ m c) (aK m c) (aW m c) (aD m c) (aL m c) (aE m c) h (krow j r) (qrow i s) := by
  unfold gsc gscore
  rw [wgt_blk m c t i j hi hj]
  unfold score
  simp only [blk3_apply m c t i hi, blk2_apply m c t j hj, blk5_apply m c t i hi]

end Point

/-! ## The sums over the points -/

/-- A running sum that starts anew at every 32nd point. -/
theorem run_sum (f a : ℕ → EReal) (h0 : f 0 = 0 + a 0)
    (hs : ∀ n, f (n + 1) = (if (n + 1) % 32 = 0 then 0 else f n) + a (n + 1)) (n : ℕ) :
    f n = ∑ i ∈ Finset.range (n % 32 + 1), a (32 * (n / 32) + i) := by
  induction n with
  | zero => simp [h0]
  | succ n ih =>
    rw [hs n]
    by_cases hz : (n + 1) % 32 = 0
    · rw [if_pos hz, hz, Finset.sum_range_one, zero_add]
      exact congrArg a (show n + 1 = 32 * ((n + 1) / 32) + 0 by omega)
    · rw [if_neg hz, ih, show (n + 1) % 32 + 1 = (n % 32 + 1) + 1 by omega, Finset.sum_range_succ _ (n % 32 + 1)]
      rw [show (n + 1) / 32 = n / 32 by omega]
      exact congrArg (_ + ·) (congrArg a (show n + 1 = 32 * (n / 32) + (n % 32 + 1) by omega))

/-- A sum over 16384 queries by blocks of 512. -/
theorem sum_queries (f : Fin 16384 → EReal) : ∑ i : Fin 32, ∑ r : Fin 512, f (qrow i r) = ∑ ρ : Fin 16384, f ρ := by
  have h := Fin.sum_univ_univ_mul_add 32 512 (fun n => f ⟨n % 16384, Nat.mod_lt _ (by omega)⟩)
  refine Eq.trans (Finset.sum_congr rfl fun i _ => Finset.sum_congr rfl fun r _ => congrArg f (Fin.ext ?_))
    (h.trans (Finset.sum_congr rfl fun ρ _ => congrArg f (Fin.ext ?_)))
  · exact (Nat.mod_eq_of_lt (qrow i r).isLt).symm
  · exact Nat.mod_eq_of_lt ρ.isLt

/-- A sum over 16384 keys by blocks of 2048. -/
theorem sum_keys (f : Fin 16384 → EReal) : ∑ j : Fin 8, ∑ r : Fin 2048, f (krow j r) = ∑ κ : Fin 16384, f κ := by
  have h := Fin.sum_univ_univ_mul_add 8 2048 (fun n => f ⟨n % 16384, Nat.mod_lt _ (by omega)⟩)
  refine Eq.trans (Finset.sum_congr rfl fun i _ => Finset.sum_congr rfl fun r _ => congrArg f (Fin.ext ?_))
    (h.trans (Finset.sum_congr rfl fun ρ _ => congrArg f (Fin.ext ?_)))
  · exact (Nat.mod_eq_of_lt (krow i r).isLt).symm
  · exact Nat.mod_eq_of_lt ρ.isLt

/-- The keys' gradient starts at zero. -/
theorem pay2_apply (x : S2048x128.Idx) : (k0_pay2 (F := Ideal)) x = 0 := by pointwise [k0_pay2]
/-- The values' gradient starts at zero. -/
theorem pay3_apply (x : S2048x128.Idx) : (k0_pay3 (F := Ideal)) x = 0 := by pointwise [k0_pay3]
/-- The queries' gradient starts at zero. -/
theorem pay4_apply (x : S1x512x384.Idx) : (k0_pay4 (F := Ideal)) x = 0 := by pointwise [k0_pay4]

/-- `dk`'s block when it goes out, after the last query block. -/
theorem dkAt_last (t : Fin cfg0.N) (j : Fin 8) (ht : t.val % 32 = 31) (hj : t.val / 32 = j.val) (r : Fin 2048) (g : Fin 2) (x : Fin 64) :
    dkAt m c t.val (ix2 r (gcol g x)) = sumK (aQ m c) (aK m c) (aW m c) (aD m c) (aL m c) (aE m c) g (krow j r) x := by
  have h := run_sum (fun n => dkAt m c n (ix2 r (gcol g x)))
    (fun n => addK (blk0 m c (at_ n)) (blk1 m c (at_ n)) (blk2 m c (at_ n)) (blk3 m c (at_ n)) (blk4 m c (at_ n)) (blk5 m c (at_ n)) g r x)
    (by rw [dkAt, dkStep_apply, pay2_apply])
    (fun n => by rw [dkAt, dkStep_apply]; split <;> simp only [pay2_apply]) t.val
  refine h.trans ?_
  rw [ht, Finset.sum_range]
  unfold addK sumK
  rw [Finset.sum_comm]
  refine Finset.sum_congr rfl fun u _ => ?_
  rw [← sum_queries]
  refine Finset.sum_congr rfl fun i _ => Finset.sum_congr rfl fun s _ => ?_
  have hv : (at_ (32 * (t.val / 32) + i.val)).val = 32 * (t.val / 32) + i.val := by
    show _ % 256 = _
    have := t.isLt
    omega
  rw [gsc_blk m c _ i j (by omega) (by omega), blk0_apply m c _ i (by omega)]

/-- `dv`'s block when it goes out. -/
theorem dvAt_last (t : Fin cfg0.N) (j : Fin 8) (ht : t.val % 32 = 31) (hj : t.val / 32 = j.val) (r : Fin 2048) (g : Fin 2) (x : Fin 64) :
    dvAt m c t.val (ix2 r (gcol g x)) = sumV (aQ m c) (aK m c) (aD m c) (aL m c) g (krow j r) x := by
  have h := run_sum (fun n => dvAt m c n (ix2 r (gcol g x)))
    (fun n => addV (blk0 m c (at_ n)) (blk1 m c (at_ n)) (blk3 m c (at_ n)) (blk4 m c (at_ n)) g r x)
    (by rw [dvAt, dvStep_apply, pay3_apply])
    (fun n => by rw [dvAt, dvStep_apply]; split <;> simp only [pay3_apply]) t.val
  refine h.trans ?_
  rw [ht, Finset.sum_range]
  unfold addV sumV
  rw [Finset.sum_comm]
  refine Finset.sum_congr rfl fun u _ => ?_
  rw [← sum_queries]
  refine Finset.sum_congr rfl fun i _ => Finset.sum_congr rfl fun s _ => ?_
  have hv : (at_ (32 * (t.val / 32) + i.val)).val = 32 * (t.val / 32) + i.val := by
    show _ % 256 = _
    have := t.isLt
    omega
  rw [wgt_blk m c _ i j (by omega) (by omega), blk3_apply m c _ i (by omega)]

end Cert.KernelIdeal.Hand
-- ==== Proof.Results.lean ====
/-
  The three result arrays after the run, whole: `dk` and `dv` are put together from the blocks that go out after the last
  query block, `dq` from the rows of the scratch that are copied out at the last key block.
-/
module

public import proofs.«01_k».proof.Proof.Sums

@[expose] public section

set_option maxRecDepth 16384

noncomputable section

namespace Cert.KernelIdeal.Hand

open Cert.KernelIdeal Cert.KernelIdeal.Gen
open Idealize.ShloMosaic Idealize.ShloMosaic.Pipeline Idealize.ShloMosaic.TcCoe

/-- The group of a column of 128. -/
abbrev grpOf (y : Fin 128) : Fin 2 := ⟨y.val / 64, by omega⟩
/-- The head of a column of 384. -/
abbrev headOf (y : Fin 384) : Fin 6 := ⟨y.val / 64, by omega⟩
/-- A column's place in its group or head. -/
abbrev inGrp (y : Fin 128) : Fin 64 := ⟨y.val % 64, by omega⟩
abbrev inHead (y : Fin 384) : Fin 64 := ⟨y.val % 64, by omega⟩

/-- A column is its place in its group. -/
theorem gcol_grpOf (y : Fin 128) : gcol (grpOf y) (inGrp y) = y := Fin.ext (by show 64 * (y.val / 64) + y.val % 64 = _; omega)
/-- A column is its place in its head. -/
theorem hcol_headOf (y : Fin 384) : hcol (headOf y) (inHead y) = y := Fin.ext (by show 64 * (y.val / 64) + y.val % 64 = _; omega)

section Formulas

variable (Q : Vec Ideal S16384x384 .bf16) (K : Vec Ideal S16384x128 .bf16) (W : Vec Ideal S16384x2048 .bf16)
  (D : Vec Ideal S16384x384 .bf16) (L E : Vec Ideal S6x1x16384 .f32)

/-- `dk` as an array. -/
def arrK : Vec Ideal S16384x128 .f32 := fun i => sumK Q K W D L E (grpOf (i 1)) (i 0) (inGrp (i 1))
/-- `dv` as an array. -/
def arrV : Vec Ideal S16384x128 .f32 := fun i => sumV Q K D L (grpOf (i 1)) (i 0) (inGrp (i 1))
/-- `dq` as an array: the sums over the keys, scaled by an eighth. -/
def arrQ : Vec Ideal S16384x384 .f32 := fun i =>
  sumQ Q K W D L E (headOf (i 1)) (i 0) (inHead (i 1)) * Ideal.ofBits .f32 0x3E000000#32

end Formulas

variable (m : (ℓ : Loc nD τ sig) → Buf (Elt Ideal) ℓ) (c : Dev nD)

/-- Where `dk`'s block of a point lies in its array. -/
theorem emb6 (t : Fin cfg0.N) (j : Fin 8) (hj : t.val / 32 = j.val) (y : ((cfg0.win 6).xblock (cfg0.grid.coords t)).Idx)
    (x : S2048x128.Idx) (hx : x = (cfg0.win 6).xinj (cfg0.grid.coords t) y) :
    (((cfg0.win 6).blk t).view.emb y : S16384x128.Idx) = ix2 (krow j (x 0)) (x 1) := by
  subst hx
  refine funext fun a => Fin.ext ?_
  have e := (idx t).2.2.2.2.2.2.1
  match a with
  | ⟨0, _⟩ =>
    blk_simp [e]
    show _ = j.val * 2048 + _
    rw [hj]
    rfl
  | ⟨1, _⟩ =>
    blk_simp [e]
    rfl

/-- `dk`'s array after the run. -/
theorem final_dk : (dats m 0 c).arrAt 6 cfg0.N = arrK (aQ m c) (aK m c) (aW m c) (aD m c) (aL m c) (aE m c) := by
  refine Dat.arrAt_eq_of_covers _ 6 _ (by decide +kernel) fun t hf y => ?_
  have ht : t.val % 32 = 31 := (flush0_6 t).mp hf
  have hj : t.val / 32 < 8 := by have : t.val < 256 := t.isLt; omega
  generalize hx : ((cfg0.win 6).xinj (cfg0.grid.coords t) y : S2048x128.Idx) = x
  have he := emb6 t ⟨t.val / 32, hj⟩ rfl y x hx.symm
  refine Eq.trans ?_ (congrArg (arrK (aQ m c) (aK m c) (aW m c) (aD m c) (aL m c) (aE m c)) he).symm
  show dkAt m c t.val x = _
  unfold arrK
  obtain ⟨a, b, rfl⟩ : ∃ (a : Fin 2048) (b : Fin 128), x = ix2 a b := ⟨x 0, x 1, eq_ix2 x⟩
  have h := dkAt_last m c t ⟨t.val / 32, hj⟩ ht rfl a (grpOf b) (inGrp b)
  rw [gcol_grpOf] at h
  exact h

/-- Where `dv`'s block of a point lies in its array. -/
theorem emb7 (t : Fin cfg0.N) (j : Fin 8) (hj : t.val / 32 = j.val) (y : ((cfg0.win 7).xblock (cfg0.grid.coords t)).Idx)
    (x : S2048x128.Idx) (hx : x = (cfg0.win 7).xinj (cfg0.grid.coords t) y) :
    (((cfg0.win 7).blk t).view.emb y : S16384x128.Idx) = ix2 (krow j (x 0)) (x 1) := by
  subst hx
  refine funext fun a => Fin.ext ?_
  have e := (idx t).2.2.2.2.2.2.2
  match a with
  | ⟨0, _⟩ =>
    blk_simp [e]
    show _ = j.val * 2048 + _
    rw [hj]
    rfl
  | ⟨1, _⟩ =>
    blk_simp [e]
    rfl

/-- `dv`'s array after the run. -/
theorem final_dv : (dats m 0 c).arrAt 7 cfg0.N = arrV (aQ m c) (aK m c) (aD m c) (aL m c) := by
  refine Dat.arrAt_eq_of_covers _ 7 _ (by decide +kernel) fun t hf y => ?_
  have ht : t.val % 32 = 31 := (flush0_7 t).mp hf
  have hj : t.val / 32 < 8 := by have : t.val < 256 := t.isLt; omega
  generalize hx : ((cfg0.win 7).xinj (cfg0.grid.coords t) y : S2048x128.Idx) = x
  have he := emb7 t ⟨t.val / 32, hj⟩ rfl y x hx.symm
  refine Eq.trans ?_ (congrArg (arrV (aQ m c) (aK m c) (aD m c) (aL m c)) he).symm
  show dvAt m c t.val x = _
  unfold arrV
  obtain ⟨a, b, rfl⟩ : ∃ (a : Fin 2048) (b : Fin 128), x = ix2 a b := ⟨x 0, x 1, eq_ix2 x⟩
  have h := dvAt_last m c t ⟨t.val / 32, hj⟩ ht rfl a (grpOf b) (inGrp b)
  rw [gcol_grpOf] at h
  exact h

/-! ## The rows of the scratch buffer -/

section Rows

variable (r : Vec Ideal S1x512x384 .f32) (a : Vec Ideal S1x512x128 .f32)

/-- A lane of 128 columns put into a row, read inside the lane. -/
theorem put_in (o : ℕ) (s : Fin 512) (x : Fin 384) (y : Fin 128) (h : x.val = o + y.val) :
    VecWindow.put r ![0, 0, o] S1x512x128.size a (ix3 0 s x) = a (ix3 0 s y) := by
  unfold VecWindow.put
  rw [dif_pos]
  · refine congrArg a (funext fun e => Fin.ext ?_)
    match e with
    | ⟨0, _⟩ => rfl
    | ⟨1, _⟩ => rfl
    | ⟨2, _⟩ => show x.val - o = y.val; omega
  · intro e
    match e with
    | ⟨0, _⟩ => exact ⟨Nat.le_refl 0, Nat.zero_lt_one⟩
    | ⟨1, _⟩ => exact ⟨Nat.zero_le _, by show s.val < 0 + 512; omega⟩
    | ⟨2, _⟩ => exact ⟨by show o ≤ x.val; omega, by show x.val < o + 128; omega⟩

/-- The same read outside it. -/
theorem put_out (o : ℕ) (s : Fin 512) (x : Fin 384) (h : x.val < o ∨ o + 128 ≤ x.val) :
    VecWindow.put r ![0, 0, o] S1x512x128.size a (ix3 0 s x) = r (ix3 0 s x) := by
  unfold VecWindow.put
  refine dif_neg fun hh => ?_
  have h2 : o ≤ x.val ∧ x.val < o + 128 := hh 2
  omega

/-- A lane's element is the row's. -/
theorem window_lane (o : ℕ) (h : ∀ a, (![0, 0, o] : Fin 3 → ℕ) a + S1x512x128.size a ≤ S1x512x384.size a) (s : Fin 512) (x : Fin 384) (y : Fin 128)
    (hx : x.val = o + y.val) : VecWindow.window r ![0, 0, o] S1x512x128.size h (ix3 0 s y) = r (ix3 0 s x) := by
  refine congrArg r (funext fun e => Fin.ext ?_)
  match e with
  | ⟨0, _⟩ => rfl
  | ⟨1, _⟩ => show 0 + 1 * s.val = s.val; omega
  | ⟨2, _⟩ => show o + 1 * y.val = x.val; omega

variable (q : Vec Ideal S512x384 .bf16) (k v : Vec Ideal S2048x128 .bf16) (d : Vec Ideal S512x384 .bf16) (l e : Vec Ideal S6x1x512 .f32)

/-- A point adds to a row the sum over its keys. -/
theorem rowStep_apply (h : Fin 6) (s : Fin 512) (x : Fin 64) :
    rowStep q k v d l e r (ix3 0 s (hcol h x)) = r (ix3 0 s (hcol h x)) + addQ q k v d l e h s x := by
  unfold rowStep
  have hb : h.val % 2 < 2 := Nat.mod_lt _ (by decide)
  rcases (by omega : h.val / 2 = 0 ∨ h.val / 2 = 1 ∨ h.val / 2 = 2) with h0 | h0 | h0
  · rw [put_out _ _ _ _ _ (by show 64 * h.val + x.val < _ ∨ _; omega), put_out _ _ _ _ _ (by show 64 * h.val + x.val < _ ∨ _; omega),
      put_in _ _ 0 _ _ (gcol ⟨h.val % 2, hb⟩ x) (by show 64 * h.val + x.val = 0 + (64 * (h.val % 2) + x.val); omega), dqStep0_apply, laneA,
      window_lane _ 0 _ _ (hcol h x) (gcol ⟨h.val % 2, hb⟩ x) (by show 64 * h.val + x.val = 0 + (64 * (h.val % 2) + x.val); omega)]
    exact congrArg (fun z => _ + addQ q k v d l e z s x) (Fin.ext (by show 0 + h.val % 2 = h.val; omega))
  · rw [put_out _ _ _ _ _ (by show 64 * h.val + x.val < _ ∨ _; omega),
      put_in _ _ 128 _ _ (gcol ⟨h.val % 2, hb⟩ x) (by show 64 * h.val + x.val = 128 + (64 * (h.val % 2) + x.val); omega), dqStep1_apply, laneB,
      window_lane _ 128 _ _ (hcol h x) (gcol ⟨h.val % 2, hb⟩ x) (by show 64 * h.val + x.val = 128 + (64 * (h.val % 2) + x.val); omega)]
    exact congrArg (fun z => _ + addQ q k v d l e z s x) (Fin.ext (by show 2 + h.val % 2 = h.val; omega))
  · rw [put_in _ _ 256 _ _ (gcol ⟨h.val % 2, hb⟩ x) (by show 64 * h.val + x.val = 256 + (64 * (h.val % 2) + x.val); omega), dqStep2_apply, laneC,
      window_lane _ 256 _ _ (hcol h x) (gcol ⟨h.val % 2, hb⟩ x) (by show 64 * h.val + x.val = 256 + (64 * (h.val % 2) + x.val); omega)]
    exact congrArg (fun z => _ + addQ q k v d l e z s x) (Fin.ext (by show 4 + h.val % 2 = h.val; omega))

/-- The last point of a query block scales the row by an eighth. -/
theorem pay1_apply (y : S1x512x384.Idx) : k0_pay1 r y = r y * Ideal.ofBits .f32 0x3E000000#32 := by pointwise [k0_pay1]

end Rows

/-- What the keys of block `j` add to query block `i`'s row. -/
abbrev keyPart (i j : ℕ) (h : Fin 6) (s : Fin 512) (x : Fin 64) : EReal :=
  addQ (blk0 m c (at_ (j * 32 + i))) (blk1 m c (at_ (j * 32 + i))) (blk2 m c (at_ (j * 32 + i))) (blk3 m c (at_ (j * 32 + i)))
    (blk4 m c (at_ (j * 32 + i))) (blk5 m c (at_ (j * 32 + i))) h s x

/-- The number of the key block of a point. -/
theorem coord0_at (i : Fin 32) (j : ℕ) (hj : j < 8) : (grid0.coords (at_ (j * 32 + i.val)) 0).val = j := by
  rw [coord0]
  show (j * 32 + i.val) % 256 / 32 = j
  omega

/-- A row before the last key block: the sum over the key blocks so far. -/
theorem rowAt_sum (i : Fin 32) (h : Fin 6) (s : Fin 512) (x : Fin 64) (j : ℕ) (hj : j < 7) :
    rowAt m c i.val j (ix3 0 s (hcol h x)) = ∑ b ∈ Finset.range (j + 1), keyPart m c i.val b h s x := by
  induction j with
  | zero =>
    rw [rowAt, rowStep_apply, pay4_apply, zero_add, Finset.sum_range_one]
    unfold keyPart
    rw [Nat.zero_mul, Nat.zero_add]
  | succ n ih =>
    rw [rowAt, pointRow, coord0_at i (n + 1) (by omega), if_neg (by omega), if_neg (by omega), rowStep_apply, ih (by omega)]
    exact (Finset.sum_range_succ _ (n + 1)).symm

/-- A row when it goes out: the sum over all keys, scaled. -/
theorem rowAt_last (i : Fin 32) (h : Fin 6) (s : Fin 512) (x : Fin 64) :
    rowAt m c i.val 7 (ix3 0 s (hcol h x))
      = sumQ (aQ m c) (aK m c) (aW m c) (aD m c) (aL m c) (aE m c) h (qrow i s) x * Ideal.ofBits .f32 0x3E000000#32 := by
  rw [rowAt, pointRow, coord0_at i (6 + 1) (by omega), if_pos (by decide), if_neg (by decide), pay1_apply, rowStep_apply,
    rowAt_sum m c i h s x 6 (by decide)]
  refine congrArg (· * _) ?_
  refine (Finset.sum_range_succ (fun b => keyPart m c i.val b h s x) 7).symm.trans ?_
  rw [Finset.sum_range]
  unfold keyPart addQ sumQ
  rw [← sum_keys]
  refine Finset.sum_congr rfl fun j _ => Finset.sum_congr rfl fun u _ => ?_
  have hv : (at_ (j.val * 32 + i.val)).val = j.val * 32 + i.val := by
    show _ % 256 = _
    omega
  rw [gsc_blk m c _ i j (by omega) (by omega), blk1_apply m c _ j (by omega)]

/-- A copied row read in the result. -/
theorem setOut_in (X : Vec Ideal S16384x384 .f32) (n : ℕ) (r : Vec Ideal S1x512x384 .f32) (p : Fin 16384) (s : Fin 512) (x : Fin 384)
    (h : p.val = 512 * n + s.val) : setOut X n r (ix2 p x) = r (ix3 0 s x) := by
  show VecWindow.put X ![512 * n, 0] S512x384.size (flat r) (ix2 p x) = _
  unfold VecWindow.put
  rw [dif_pos]
  · have e : flat r (ix2 s x) = r (ix3 0 s x) := by
      unfold flat
      pointwise
    refine Eq.trans (congrArg (flat r) (funext fun a => Fin.ext ?_)) e
    match a with
    | ⟨0, _⟩ => show p.val - 512 * n = s.val; omega
    | ⟨1, _⟩ => rfl
  · intro a
    match a with
    | ⟨0, _⟩ => exact ⟨by show 512 * n ≤ p.val; omega, by show p.val < 512 * n + 512; omega⟩
    | ⟨1, _⟩ => exact ⟨Nat.zero_le _, by show x.val < 0 + 384; omega⟩

/-- The result outside the copied row. -/
theorem setOut_out (X : Vec Ideal S16384x384 .f32) (n : ℕ) (r : Vec Ideal S1x512x384 .f32) (p : Fin 16384) (x : Fin 384)
    (h : p.val / 512 ≠ n) : setOut X n r (ix2 p x) = X (ix2 p x) := by
  show VecWindow.put X ![512 * n, 0] S512x384.size (flat r) (ix2 p x) = _
  unfold VecWindow.put
  refine dif_neg fun hh => ?_
  have h2 : 512 * n ≤ p.val ∧ p.val < 512 * n + 512 := hh 0
  omega

/-- The result before a point of the last key block: the rows copied so far. -/
theorem outAt_rows (n : ℕ) (hn : n ≤ 32) (p : Fin 16384) (s : Fin 512) (x : Fin 384) (hp : p.val / 512 < n) (hs : p.val % 512 = s.val) :
    outAt m c (224 + n) (ix2 p x) = rowAt m c (p.val / 512) 7 (ix3 0 s x) := by
  induction n with
  | zero => omega
  | succ n ih =>
    rw [show 224 + (n + 1) = (224 + n) + 1 from rfl, outAt, if_pos (by omega), show (224 + n) % 32 = n by omega, show (224 + n) / 32 = 7 by omega]
    by_cases hq : p.val / 512 = n
    · rw [setOut_in _ n _ p s x (by omega), hq]
    · rw [setOut_out _ n _ p x hq]
      exact ih (by omega) (by omega)

/-- `dq`'s array after the run. -/
theorem final_dq : outAt m c 256 = arrQ (aQ m c) (aK m c) (aW m c) (aD m c) (aL m c) (aE m c) := by
  funext y
  obtain ⟨p, x, rfl⟩ : ∃ (p : Fin 16384) (x : Fin 384), y = ix2 p x := ⟨y 0, y 1, eq_ix2 y⟩
  have h := outAt_rows m c 32 (Nat.le_refl _) p ⟨p.val % 512, by omega⟩ x (by omega) rfl
  have h2 := rowAt_last m c ⟨p.val / 512, by omega⟩ (headOf x) ⟨p.val % 512, by omega⟩ (inHead x)
  rw [hcol_headOf] at h2
  refine h.trans (h2.trans ?_)
  show _ = sumQ _ _ _ _ _ _ (headOf x) p (inHead x) * _
  exact congrArg (fun z => sumQ _ _ _ _ _ _ (headOf x) z (inHead x) * _) (Fin.ext (by show p.val / 512 * 512 + p.val % 512 = p.val; omega))

end Cert.KernelIdeal.Hand
-- ==== Proof.Softmax.lean ====
/-
  One row of attention and its gradient over the real numbers: with real scores, weights through a log-sum-exp are the
  weights through a quotient by the sum, and two ways to write the gradient of the scores agree.
-/
module

public import Idealize.ShloMosaic.Lib.Pointwise
public import Idealize.ShloMosaic.Lib.IdealHost

@[expose] public section

noncomputable section

namespace Cert.Softmax

open Idealize.ShloMosaic

/-- The scale of the scores, 1/8. -/
theorem eighth : Ideal.ofBits .f32 0x3E000000#32 = ((1 / 8 : ℝ) : EReal) := by
  simp [Ideal.ofBits, Ideal.ieee, -EReal.coe_mul]
  norm_num

/-- The word a maximum starts at is the least value. -/
theorem least : Ideal.ofBits .f32 0xFF800000#32 = (⊥ : EReal) := by
  simp [Ideal.ofBits, Ideal.ieee]

/-- The word that the precondition compares with is the greatest value. -/
theorem greatest : Ideal.ofBits .f32 0x7F800000#32 = (⊤ : EReal) := by
  simp [Ideal.ofBits, Ideal.ieee]

/-- A sum of reals is the real sum. -/
theorem sum_coe {ι : Type} (s : Finset ι) (f : ι → ℝ) : ∑ i ∈ s, ((f i : ℝ) : EReal) = ((∑ i ∈ s, f i : ℝ) : EReal) := by
  classical
  induction s using Finset.induction with
  | empty => simp
  | insert a s ha ih => rw [Finset.sum_insert ha, Finset.sum_insert ha, ih, EReal.coe_add]

/-- The maximum of finitely many reals is a real. -/
theorem max_coe {n : ℕ} (hn : 0 < n) (s : Fin n → ℝ) :
    ∃ M : ℝ, Finset.fold max (Ideal.ofBits .f32 0xFF800000#32) (fun k => ((s k : ℝ) : EReal)) Finset.univ = (M : EReal) := by
  rw [least]
  have key : ∀ t : Finset (Fin n), t.Nonempty → ∃ M : ℝ, Finset.fold max (⊥ : EReal) (fun k => ((s k : ℝ) : EReal)) t = (M : EReal) := by
    intro t ht
    induction ht using Finset.Nonempty.cons_induction with
    | singleton a => exact ⟨s a, by simp⟩
    | cons a t ha _ ih =>
      obtain ⟨M, hM⟩ := ih
      refine ⟨max (s a) M, ?_⟩
      rw [Finset.fold_cons, hM]
      exact (EReal.coe_strictMono.monotone.map_max).symm
  exact key _ ⟨⟨0, hn⟩, Finset.mem_univ _⟩

section Row

variable {n : ℕ} (s : Fin n → ℝ) (M : ℝ)

/-- The sum of a row's exponentials. -/
def total : ℝ := ∑ k, Real.exp (s k - M)
/-- A row's weights. -/
def prob (k : Fin n) : ℝ := Real.exp (s k - M) / total s M
/-- The mean of `p` under the weights. -/
def mean (p : Fin n → ℝ) : ℝ := ∑ k, prob s M k * p k

/-- A sum of exponentials is positive. -/
theorem total_pos (hn : 0 < n) : 0 < total s M :=
  Finset.sum_pos (fun _ _ => Real.exp_pos _) ⟨⟨0, hn⟩, Finset.mem_univ _⟩

/-- The exponential of a shifted score. -/
theorem exp_shift (k : Fin n) : Ideal.exp ((s k : EReal) - (M : EReal)) = ((Real.exp (s k - M) : ℝ) : EReal) := by
  rw [← EReal.coe_sub, Ideal.exp_coe]

/-- The sum of a row's exponentials, as it is computed. -/
theorem total_coe : ∑ k, Ideal.exp ((s k : EReal) - (M : EReal)) = ((total s M : ℝ) : EReal) := by
  simp only [exp_shift]
  exact sum_coe _ _

/-- The log-sum-exp, as it is computed. -/
theorem lse_coe (hn : 0 < n) :
    (M : EReal) + Ideal.log (∑ k, Ideal.exp ((s k : EReal) - (M : EReal))) = ((M + Real.log (total s M) : ℝ) : EReal) := by
  rw [total_coe, Ideal.log_coe, if_neg (not_le.mpr (total_pos s M hn)), ← EReal.coe_add]

/-- A weight through the log-sum-exp. -/
theorem prob_lse (hn : 0 < n) (k : Fin n) :
    Ideal.exp ((s k : EReal) - ((M + Real.log (total s M) : ℝ) : EReal)) = ((prob s M k : ℝ) : EReal) := by
  rw [← EReal.coe_sub, Ideal.exp_coe, ← sub_sub, Real.exp_sub, Real.exp_log (total_pos s M hn)]
  rfl

/-- A quotient by a row's sum. -/
theorem div_total (hn : 0 < n) (x : ℝ) : Ideal.div (x : EReal) ((total s M : ℝ) : EReal) = ((x / total s M : ℝ) : EReal) := by
  rw [Ideal.div_coe (total_pos s M hn).ne', ← EReal.coe_mul, mul_one_div]

/-- A weight through the quotient. -/
theorem prob_div (hn : 0 < n) (k : Fin n) :
    Ideal.div (Ideal.exp ((s k : EReal) - (M : EReal))) ((total s M : ℝ) : EReal) = ((prob s M k : ℝ) : EReal) := by
  rw [exp_shift, div_total s M hn]
  rfl

/-- The gradient of a score, as differentiating the quotient writes it, is the weight times the distance from the mean. -/
theorem grad_coe (hn : 0 < n) (p : Fin n → ℝ) (k : Fin n) :
    (Ideal.div (p k : EReal) ((total s M : ℝ) : EReal)
        + -∑ j, (p j : EReal) * Ideal.div 1 (((total s M : ℝ) : EReal) * ((total s M : ℝ) : EReal)) * ((Real.exp (s j - M) : ℝ) : EReal))
      * ((Real.exp (s k - M) : ℝ) : EReal) = ((prob s M k * (p k - mean s M p) : ℝ) : EReal) := by
  have hZ := total_pos s M hn
  have h1 : Ideal.div 1 (((total s M : ℝ) : EReal) * ((total s M : ℝ) : EReal)) = ((1 / (total s M * total s M) : ℝ) : EReal) := by
    rw [← EReal.coe_mul, Ideal.div_coe (mul_pos hZ hZ).ne', one_mul]
  simp only [h1]
  simp only [div_total s M hn, ← EReal.coe_mul, sum_coe, ← EReal.coe_neg, ← EReal.coe_add]
  refine congrArg _ ?_
  have h2 : ∑ j, p j * (1 / (total s M * total s M)) * Real.exp (s j - M) = mean s M p / total s M := by
    unfold mean prob
    rw [Finset.sum_div]
    refine Finset.sum_congr rfl fun j _ => ?_
    field_simp
  rw [h2]
  unfold prob
  field_simp
  ring

end Row

/-- The weighted sum of dot products is the dot product with the weighted sums. -/
theorem mean_dot {n l : ℕ} (s : Fin n → ℝ) (M : ℝ) (v : Fin n → Fin l → ℝ) (d : Fin l → ℝ) :
    ∑ x, d x * ∑ k, v k x * prob s M k = mean s M fun k => ∑ x, v k x * d x := by
  unfold mean
  simp only [Finset.mul_sum]
  rw [Finset.sum_comm]
  refine Finset.sum_congr rfl fun k _ => Finset.sum_congr rfl fun x _ => ?_
  ring

end Cert.Softmax
-- ==== Proof.Spec.lean ====
/-
  The gradient of attention over the real numbers: six query heads in two groups of three, each group with its keys and
  values. Queries `q` and the output's gradient `d` have 384 columns, keys `k` and values `v` 128.
-/
module

public import proofs.«01_k».proof.Proof.Softmax

@[expose] public section

noncomputable section

namespace Cert.Attn

open Idealize.ShloMosaic Cert.Softmax

/-- Column `c` of group `g`. -/
abbrev colG (g : Fin 2) (c : Fin 64) : Fin 128 := ⟨64 * g.val + c.val, by omega⟩
/-- Column `c` of group `g` among the values' columns of the array that holds them. -/
abbrev colV (g : Fin 2) (c : Fin 64) : Fin 2048 := ⟨1920 + (64 * g.val + c.val), by omega⟩
/-- Column `c` of the group's head `t`. -/
abbrev colH (g : Fin 2) (t : Fin 3) (c : Fin 64) : Fin 384 := ⟨64 * (3 * g.val + t.val) + c.val, by omega⟩

variable (q d : Fin 16384 → Fin 384 → ℝ) (k v : Fin 16384 → Fin 128 → ℝ) (M : Fin 2 → Fin 3 → Fin 16384 → ℝ)

/-- The score of key `κ` in query `ρ`. -/
def score (g : Fin 2) (t : Fin 3) (ρ κ : Fin 16384) : ℝ := (∑ x, k κ (colG g x) * q ρ (colH g t x)) * (1 / 8)
/-- The gradient of the weight of key `κ` in query `ρ`. -/
def gradP (g : Fin 2) (t : Fin 3) (ρ κ : Fin 16384) : ℝ := ∑ x, v κ (colG g x) * d ρ (colH g t x)
/-- The weight of key `κ` in query `ρ`, the scores shifted by `M`. -/
def wt (g : Fin 2) (t : Fin 3) (ρ κ : Fin 16384) : ℝ := prob (score q k g t ρ) (M g t ρ) κ
/-- The gradient of the score of key `κ` in query `ρ`. -/
def gradS (g : Fin 2) (t : Fin 3) (ρ κ : Fin 16384) : ℝ :=
  wt q k M g t ρ κ * (gradP d v g t ρ κ - mean (score q k g t ρ) (M g t ρ) (gradP d v g t ρ))
/-- The gradient of the values. -/
def gradV (g : Fin 2) (κ : Fin 16384) (c : Fin 64) : ℝ := ∑ t, ∑ ρ, wt q k M g t ρ κ * d ρ (colH g t c)
/-- The gradient of the keys. -/
def gradK (g : Fin 2) (κ : Fin 16384) (c : Fin 64) : ℝ := ∑ t, ∑ ρ, gradS q d k v M g t ρ κ * (1 / 8) * q ρ (colH g t c)
/-- The gradient of the queries. -/
def gradQ (g : Fin 2) (t : Fin 3) (ρ : Fin 16384) (c : Fin 64) : ℝ := ∑ κ, gradS q d k v M g t ρ κ * (1 / 8) * k κ (colG g c)

/-- `M` is each row's maximum, as it is computed. -/
def IsMax : Prop := ∀ g t ρ,
  Finset.fold max (Ideal.ofBits .f32 0xFF800000#32) (fun κ => ((score q k g t ρ κ : ℝ) : EReal)) Finset.univ = ((M g t ρ : ℝ) : EReal)

/-- There are such maxima. -/
theorem exists_max : ∃ M, IsMax q k M := by
  choose M h using fun g t ρ => max_coe (by decide : 0 < 16384) (score q k g t ρ)
  exact ⟨M, h⟩

end Cert.Attn
-- ==== Proof.Stages.lean ====
/-
  The reference's steps, one function each, and what each gives at an index.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe
open Cert.Attn (colG colH colV)

/-- The scores: scaled products of queries and keys, by group, head, query and key. -/
def scores (q : FVec Ideal S16384x384 .f32) (k : FVec Ideal S16384x128 .f32) : FVec Ideal S2x3x16384x16384 .f32 :=
  mulf (transpose S2x3x16384x16384 [0, 3, 2, 1] (Host.dotGeneral (F := Ideal) dot_S16384x2x64_S16384x2x3x64_S2x16384x16384x3_2_3_0_02_1_1 none (shapeCast _ k shapeCasts_S16384x128_S16384x2x64) (shapeCast _ q shapeCasts_S16384x384_S16384x2x3x64)) transposes_S2x16384x16384x3_S2x3x16384x16384_0_3_2_1) (broadcastInDim S2x3x16384x16384 ![] bcast_S_S2x3x16384x16384 (constant S_ .f32 0x3E000000#32))

/-- A score is an eighth of the product of a key's and a query's columns. -/
theorem scores_apply (q : FVec Ideal S16384x384 .f32) (k : FVec Ideal S16384x128 .f32) (g : Fin 2) (t : Fin 3) (ρ κ : Fin 16384) :
    scores q k (ix4 g t ρ κ) = (∑ x : Fin 64, k (ix2 κ (colG g x)) * q (ix2 ρ (colH g t x))) * Ideal.ofBits .f32 0x3E000000#32 := by
  unfold scores
  pointwise
  have e1 : ∀ (x : Fin 64) h, (⟨g.val * 64 + x.val, h⟩ : Fin 128) = colG g x := fun x h =>
    Fin.ext (by dsimp only; omega)
  have e2 : ∀ (x : Fin 64) h, (⟨g.val * 192 + t.val * 64 + x.val, h⟩ : Fin 384) = colH g t x := fun x h =>
    Fin.ext (by dsimp only; omega)
  simp only [e1, e2]

/-- A maximum over the last of four axes, as the greatest along that axis. -/
theorem reduce_max {n0 n1 n2 n3 : ℕ} (s : FVec Ideal (⟨4, ![n0, n1, n2, n3]⟩ : Shape) .f32) {u : Shape} (z : FVec Ideal u .f32) (b : EReal)
    (h : (⟨4, ![n0, n1, n2, n3]⟩ : Shape).ReducesTo [3] ⟨3, ![n0, n1, n2]⟩) (hu : 0 < u.numel) (hb : z (Shape.Idx.first hu) = b)
    (g : Fin n0) (t : Fin n1) (ρ : Fin n2) :
    Host.reduce (FloatOps.maximumf (F := Ideal) (φ := .f32)) s z h hu (ix3 g t ρ) = Finset.univ.fold max b fun κ : Fin n3 => s (ix4 g t ρ κ) := by
  rw [Host.reduce_eq_fold, ← hb]
  exact Shape.ReducesTo.fold_fiber_r4_a3 h (ix3 g t ρ) max _ s

/-- The greater of the least value and a row's value. -/
theorem max_least (r : FVec Ideal S2x3x16384 .f32) (g : Fin 2) (t : Fin 3) (ρ : Fin 16384) :
    (maximumf (broadcastInDim S2x3x16384 ![] bcast_S_S2x3x16384 (constant S_ .f32 0xFF800000#32)) r) (ix3 g t ρ)
      = max (Ideal.ofBits .f32 0xFF800000#32) (r (ix3 g t ρ)) := by
  pointwise

/-- The greatest score of each row. -/
def tops (s : FVec Ideal S2x3x16384x16384 .f32) : FVec Ideal S2x3x16384 .f32 :=
  Host.reduce (FloatOps.maximumf (F := Ideal) (φ := .f32)) s (constant S_ .f32 0xFF800000#32) reducesTo_S2x3x16384x16384_S2x3x16384_d3 h_S_

/-- A row's greatest score, taken along its keys. -/
theorem tops_apply (s : FVec Ideal S2x3x16384x16384 .f32) (g : Fin 2) (t : Fin 3) (ρ : Fin 16384) :
    tops s (ix3 g t ρ) = Finset.fold max (Ideal.ofBits .f32 0xFF800000#32) (fun κ : Fin 16384 => s (ix4 g t ρ κ)) Finset.univ :=
  reduce_max s (constant S_ .f32 0xFF800000#32) (Ideal.ofBits .f32 0xFF800000#32) reducesTo_S2x3x16384x16384_S2x3x16384_d3 h_S_ rfl g t ρ

/-- The rows' maxima. -/
def maxima (s : FVec Ideal S2x3x16384x16384 .f32) : FVec Ideal S2x3x16384 .f32 :=
  maximumf (broadcastInDim S2x3x16384 ![] bcast_S_S2x3x16384 (constant S_ .f32 0xFF800000#32)) (tops s)

/-- A row's maximum, taken along its keys. -/
theorem maxima_apply (s : FVec Ideal S2x3x16384x16384 .f32) (g : Fin 2) (t : Fin 3) (ρ : Fin 16384) :
    maxima s (ix3 g t ρ) = max (Ideal.ofBits .f32 0xFF800000#32) (Finset.fold max (Ideal.ofBits .f32 0xFF800000#32) (fun κ : Fin 16384 => s (ix4 g t ρ κ)) Finset.univ) := by
  unfold maxima
  rw [max_least, tops_apply]

/-- The exponentials of scores less their rows' shifts. -/
def exps (s : FVec Ideal S2x3x16384x16384 .f32) (x : FVec Ideal S2x3x16384 .f32) : FVec Ideal S2x3x16384x16384 .f32 :=
  Host.exp (F := Ideal) (φ := .f32) (subf s (broadcastInDim S2x3x16384x16384 ![0, 1, 2, 3] bcast_S2x3x16384x1_S2x3x16384x16384_0_1_2_3 (broadcastInDim S2x3x16384x1 ![0, 1, 2] bcast_S2x3x16384_S2x3x16384x1_0_1_2 x)))

/-- Such an exponential at an index. -/
theorem exps_apply (s : FVec Ideal S2x3x16384x16384 .f32) (x : FVec Ideal S2x3x16384 .f32) (g : Fin 2) (t : Fin 3) (ρ κ : Fin 16384) :
    exps s x (ix4 g t ρ κ) = Ideal.exp (s (ix4 g t ρ κ) - x (ix3 g t ρ)) := by
  unfold exps
  pointwise

/-- The rows' sums. -/
def totals (e : FVec Ideal S2x3x16384x16384 .f32) : FVec Ideal S2x3x16384x1 .f32 :=
  broadcastInDim S2x3x16384x1 ![0, 1, 2] bcast_S2x3x16384_S2x3x16384x1_0_1_2 (Host.reduceAdd (F := Ideal) (φ := .f32) e (constant S_ .f32 0x00000000#32) reducesTo_S2x3x16384x16384_S2x3x16384_d3 h_S_)

/-- A row's sum, taken along its keys. -/
theorem totals_apply (e : FVec Ideal S2x3x16384x16384 .f32) (g : Fin 2) (t : Fin 3) (ρ : Fin 16384) (z : Fin 1) :
    totals e (ix4 g t ρ z) = ∑ κ : Fin 16384, e (ix4 g t ρ κ) := by
  unfold totals
  pointwise

/-- The gradient of the weights: products of the output's gradient and the values. -/
def weightGrads (d : FVec Ideal S16384x384 .bf16) (v : FVec Ideal S16384x2048 .bf16) : FVec Ideal S2x3x16384x16384 .f32 :=
  Host.dotGeneral (F := Ideal) dot_S2x64x3x16384_S16384x2x64_S2x3x16384x16384_1_2_23_0_0_1 none (transpose S2x64x3x16384 [1, 3, 2, 0] (shapeCast _ (extf .f32 d bitsLt_bf16_f32) shapeCasts_S16384x384_S16384x2x3x64) transposes_S16384x2x3x64_S2x64x3x16384_1_3_2_0) (shapeCast _ (extf .f32 (extractStridedSlice S16384x128 ![0, 1920] v slices_S16384x2048_S16384x128_0_1920) bitsLt_bf16_f32) shapeCasts_S16384x128_S16384x2x64)

/-- The gradient of a weight at an index. -/
theorem weightGrads_apply (d : FVec Ideal S16384x384 .bf16) (v : FVec Ideal S16384x2048 .bf16) (g : Fin 2) (t : Fin 3) (ρ κ : Fin 16384) :
    weightGrads d v (ix4 g t ρ κ) = ∑ x : Fin 64, d (ix2 ρ (colH g t x)) * v (ix2 κ (colV g x)) := by
  unfold weightGrads
  pointwise
  have e1 : ∀ (x : Fin 64) h, (⟨1920 + (g.val * 64 + x.val), h⟩ : Fin 2048) = colV g x := fun x h =>
    Fin.ext (by dsimp only; omega)
  have e2 : ∀ (x : Fin 64) h, (⟨g.val * 192 + t.val * 64 + x.val, h⟩ : Fin 384) = colH g t x := fun x h =>
    Fin.ext (by dsimp only; omega)
  simp only [e1, e2]

/-- The gradient of the scores, as differentiating the quotient writes it. -/
def scoreGrads (e p : FVec Ideal S2x3x16384x16384 .f32) (z : FVec Ideal S2x3x16384x1 .f32) : FVec Ideal S2x3x16384x16384 .f32 :=
  mulf (mulf (addf (Host.divf (F := Ideal) (φ := .f32) p (broadcastInDim S2x3x16384x16384 ![0, 1, 2, 3] bcast_S2x3x16384x1_S2x3x16384x16384_0_1_2_3 z)) (broadcastInDim S2x3x16384x16384 ![0, 1, 2] bcast_S2x3x16384_S2x3x16384x16384_0_1_2 (Host.reduceAdd (Host.negf (shapeCast _ (Host.reduceAdd (mulf (mulf p (broadcastInDim S2x3x16384x16384 ![0, 1, 2, 3] bcast_S2x3x16384x1_S2x3x16384x16384_0_1_2_3 (Host.divf (broadcastInDim S2x3x16384x1 ![] bcast_S_S2x3x16384x1 (constant S_ .f32 0x3F800000#32)) (mulf z z)))) e) (constant S_ .f32 0x00000000#32) reducesTo_S2x3x16384x16384_S2x3x16384_d3 h_S_) shapeCasts_S2x3x16384_S2x3x16384x1)) (constant S_ .f32 0x00000000#32) reducesTo_S2x3x16384x1_S2x3x16384_d3 h_S_))) e) (broadcastInDim S2x3x16384x16384 ![] bcast_S_S2x3x16384x16384 (constant S_ .f32 0x3E000000#32))

/-- The gradient of a score at an index. -/
theorem scoreGrads_apply (e p : FVec Ideal S2x3x16384x16384 .f32) (z : FVec Ideal S2x3x16384x1 .f32) (g : Fin 2) (t : Fin 3) (ρ κ : Fin 16384) :
    scoreGrads e p z (ix4 g t ρ κ) = (Ideal.div (p (ix4 g t ρ κ)) (z (ix4 g t ρ 0)) + ∑ _u : Fin 1, -∑ j : Fin 16384, p (ix4 g t ρ j) * Ideal.div 1 (z (ix4 g t ρ 0) * z (ix4 g t ρ 0)) * e (ix4 g t ρ j))
      * e (ix4 g t ρ κ) * Ideal.ofBits .f32 0x3E000000#32 := by
  unfold scoreGrads
  pointwise

/-- The gradient of the keys from that of the scores. -/
def keyGrads (s : FVec Ideal S2x3x16384x16384 .f32) (q : FVec Ideal S16384x384 .f32) : FVec Ideal S16384x128 .f32 :=
  shapeCast _ (transpose S16384x2x64 [1, 0, 2] (Host.dotGeneral (F := Ideal) dot_S2x16384x16384x3_S16384x2x3x64_S2x16384x64_23_02_1_3_0_1 none (transpose S2x16384x16384x3 [0, 3, 2, 1] s transposes_S2x3x16384x16384_S2x16384x16384x3_0_3_2_1) (shapeCast _ q shapeCasts_S16384x384_S16384x2x3x64)) transposes_S2x16384x64_S16384x2x64_1_0_2) shapeCasts_S16384x2x64_S16384x128

/-- The gradient of a key at an index. -/
theorem keyGrads_apply (s : FVec Ideal S2x3x16384x16384 .f32) (q : FVec Ideal S16384x384 .f32) (g : Fin 2) (κ : Fin 16384) (x : Fin 64) :
    keyGrads s q (ix2 κ (colG g x)) = ∑ ρ : Fin 16384, ∑ t : Fin 3, s (ix4 g t ρ κ) * q (ix2 ρ (colH g t x)) := by
  unfold keyGrads
  pointwise
  have e0 : ∀ h, (⟨(64 * g.val + x.val) / 64, h⟩ : Fin 2) = g := fun h => Fin.ext (by dsimp only; omega)
  have e2 : ∀ (t : Fin 3) h, (⟨(64 * g.val + x.val) / 64 * 192 + t.val * 64 + (64 * g.val + x.val) % 64, h⟩ : Fin 384) = colH g t x := fun t h =>
    Fin.ext (by dsimp only; omega)
  simp only [e0, e2]

/-- The gradient of the queries from that of the scores. -/
def queryGrads (s : FVec Ideal S2x3x16384x16384 .f32) (k : FVec Ideal S16384x128 .f32) : FVec Ideal S16384x384 .f32 :=
  shapeCast _ (transpose S16384x2x3x64 [1, 0, 2, 3] (Host.dotGeneral (F := Ideal) dot_S2x16384x16384x3_S16384x2x64_S2x16384x3x64_1_0_23_2_0_1 none (transpose S2x16384x16384x3 [0, 3, 2, 1] s transposes_S2x3x16384x16384_S2x16384x16384x3_0_3_2_1) (shapeCast _ k shapeCasts_S16384x128_S16384x2x64)) transposes_S2x16384x3x64_S16384x2x3x64_1_0_2_3) shapeCasts_S16384x2x3x64_S16384x384

/-- The gradient of a query at an index. -/
theorem queryGrads_apply (s : FVec Ideal S2x3x16384x16384 .f32) (k : FVec Ideal S16384x128 .f32) (g : Fin 2) (t : Fin 3) (ρ : Fin 16384) (x : Fin 64) :
    queryGrads s k (ix2 ρ (colH g t x)) = ∑ κ : Fin 16384, s (ix4 g t ρ κ) * k (ix2 κ (colG g x)) := by
  unfold queryGrads
  pointwise
  have e0 : ∀ h, (⟨(64 * (3 * g.val + t.val) + x.val) / 192, h⟩ : Fin 2) = g := fun h => Fin.ext (by dsimp only; omega)
  have e1 : ∀ h, (⟨(64 * (3 * g.val + t.val) + x.val) / 64 % 3, h⟩ : Fin 3) = t := fun h => Fin.ext (by dsimp only; omega)
  have e2 : ∀ h, (⟨(64 * (3 * g.val + t.val) + x.val) / 192 * 64 + (64 * (3 * g.val + t.val) + x.val) % 64, h⟩ : Fin 128) = colG g x := fun h =>
    Fin.ext (by dsimp only; omega)
  simp only [e0, e1, e2]

/-- The gradient of the values. -/
def valueGrads (d : FVec Ideal S16384x384 .bf16) (e : FVec Ideal S2x3x16384x16384 .f32) (z : FVec Ideal S2x3x16384x1 .f32) : FVec Ideal S16384x128 .f32 :=
  shapeCast _ (transpose S16384x2x64 [2, 0, 1] (Host.dotGeneral (F := Ideal) dot_S2x64x3x16384_S2x3x16384x16384_S2x64x16384_23_12_1_3_0_0 none (transpose S2x64x3x16384 [1, 3, 2, 0] (shapeCast _ (extf .f32 d bitsLt_bf16_f32) shapeCasts_S16384x384_S16384x2x3x64) transposes_S16384x2x3x64_S2x64x3x16384_1_3_2_0) (Host.divf (F := Ideal) (φ := .f32) e (broadcastInDim S2x3x16384x16384 ![0, 1, 2, 3] bcast_S2x3x16384x1_S2x3x16384x16384_0_1_2_3 z))) transposes_S2x64x16384_S16384x2x64_2_0_1) shapeCasts_S16384x2x64_S16384x128

/-- The gradient of a value at an index. -/
theorem valueGrads_apply (d : FVec Ideal S16384x384 .bf16) (e : FVec Ideal S2x3x16384x16384 .f32) (z : FVec Ideal S2x3x16384x1 .f32) (g : Fin 2) (κ : Fin 16384) (x : Fin 64) :
    valueGrads d e z (ix2 κ (colG g x)) = ∑ t : Fin 3, ∑ ρ : Fin 16384, d (ix2 ρ (colH g t x)) * Ideal.div (e (ix4 g t ρ κ)) (z (ix4 g t ρ 0)) := by
  unfold valueGrads
  pointwise
  have e0 : ∀ h, (⟨(64 * g.val + x.val) / 64, h⟩ : Fin 2) = g := fun h => Fin.ext (by dsimp only; omega)
  have e2 : ∀ (t : Fin 3) h, (⟨(64 * g.val + x.val) / 64 * 192 + t.val * 64 + (64 * g.val + x.val) % 64, h⟩ : Fin 384) = colH g t x := fun t h =>
    Fin.ext (by dsimp only; omega)
  simp only [e0, e2]

end Cert.ReferenceIdeal.Hand
-- ==== Proof.ReferenceValue.lean ====
/-
  The reference's three results where the arguments are real: the gradient of attention.
-/
module

public import proofs.«01_k».proof.Proof.Stages

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Cert.Attn (colG colH colV)

/-! ## The results as the steps' composition -/

section Steps

variable (q : FVec Ideal S16384x384 .f32) (k : FVec Ideal S16384x128 .f32) (v : FVec Ideal S16384x2048 .bf16) (d : FVec Ideal S16384x384 .bf16)

/-- The exponentials of the scores less their maxima. -/
def shifted : FVec Ideal S2x3x16384x16384 .f32 := exps (scores q k) (maxima (scores q k))
/-- The gradient of the scores. -/
def grads : FVec Ideal S2x3x16384x16384 .f32 := scoreGrads (shifted q k) (weightGrads d v) (totals (shifted q k))

end Steps

section Args

variable (m : (ℓ : Loc nD τ sig) → Buf (Elt Ideal) ℓ) (c : Dev nD)

/-- The four arguments. -/
abbrev argQ : FVec Ideal S16384x384 .f32 := m ((c.tc : Thread nD τ).loc main_arg0)
abbrev argK : FVec Ideal S16384x128 .f32 := m ((c.tc : Thread nD τ).loc main_arg1)
abbrev argV : FVec Ideal S16384x2048 .bf16 := m ((c.tc : Thread nD τ).loc main_arg2)
abbrev argD : FVec Ideal S16384x384 .bf16 := m ((c.tc : Thread nD τ).loc main_arg3)

/-- The keys' gradient is the steps' composition. -/
theorem out_keys : res_main_v66 m c = keyGrads (grads (argQ m c) (argK m c) (argV m c) (argD m c)) (argQ m c) := by
  unfold res_main_v66 keyGrads grads scoreGrads totals shifted exps maxima tops scores weightGrads
  rfl

/-- The queries' gradient is the steps' composition. -/
theorem out_queries : res_main_v67 m c = queryGrads (grads (argQ m c) (argK m c) (argV m c) (argD m c)) (argK m c) := by
  unfold res_main_v67 queryGrads grads scoreGrads totals shifted exps maxima tops scores weightGrads
  rfl

/-- Every run ends with the three gradients and leaves the arguments. -/
theorem run_steps (ρ : Dev nD → PrngReg) :
    θ_run defs (onTc (τ := τ) (main (F := Ideal))) ⟨m, fun _ => 0, ρ⟩ fun r => ∀ c : Dev nD,
      r.2.mem ((c.tc : Thread nD τ).loc main_v67) = queryGrads (grads (argQ m c) (argK m c) (argV m c) (argD m c)) (argK m c)
      ∧ r.2.mem ((c.tc : Thread nD τ).loc main_v66) = keyGrads (grads (argQ m c) (argK m c) (argV m c) (argD m c)) (argQ m c)
      ∧ r.2.mem ((c.tc : Thread nD τ).loc main_v65)
          = valueGrads (argD m c) (shifted (argQ m c) (argK m c)) (totals (shifted (argQ m c) (argK m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_queries m c), (h c).2.1.trans (out_keys m c),
      (h c).2.2.1.trans (by unfold valueGrads totals shifted exps maxima tops scores; rfl), (h c).2.2.2⟩) (run m ρ)

end Args

/-! ## At real arguments -/

section Real

variable {qr dr : Fin 16384 → Fin 384 → ℝ} {kr vr : Fin 16384 → Fin 128 → ℝ} {M : Fin 2 → Fin 3 → Fin 16384 → ℝ}
  {q : FVec Ideal S16384x384 .f32} {k : FVec Ideal S16384x128 .f32} {v : FVec Ideal S16384x2048 .bf16} {d : FVec Ideal S16384x384 .bf16}
  (hq : ∀ ρ x, q (ix2 ρ x) = ((qr ρ x : ℝ) : EReal)) (hk : ∀ κ x, k (ix2 κ x) = ((kr κ x : ℝ) : EReal))
  (hv : ∀ κ (g : Fin 2) (x : Fin 64), v (ix2 κ (colV g x)) = ((vr κ (colG g x) : ℝ) : EReal))
  (hd : ∀ ρ x, d (ix2 ρ x) = ((dr ρ x : ℝ) : EReal)) (hM : Attn.IsMax qr kr M)

include hq hk in
/-- The scores. -/
theorem scores_real (g : Fin 2) (t : Fin 3) (ρ κ : Fin 16384) : scores q k (ix4 g t ρ κ) = ((Attn.score qr kr g t ρ κ : ℝ) : EReal) := by
  rw [scores_apply]
  simp only [hq, hk, Softmax.eighth, ← EReal.coe_mul, Softmax.sum_coe]
  rfl

include hq hk hM in
/-- Their maxima. -/
theorem maxima_real (g : Fin 2) (t : Fin 3) (ρ : Fin 16384) : maxima (scores q k) (ix3 g t ρ) = ((M g t ρ : ℝ) : EReal) := by
  rw [maxima_apply, funext fun κ => scores_real hq hk g t ρ κ, hM g t ρ, Softmax.least, max_eq_right bot_le]

include hq hk hM in
/-- The exponentials. -/
theorem shifted_real (g : Fin 2) (t : Fin 3) (ρ κ : Fin 16384) :
    shifted q k (ix4 g t ρ κ) = ((Real.exp (Attn.score qr kr g t ρ κ - M g t ρ) : ℝ) : EReal) := by
  unfold shifted
  rw [exps_apply, scores_real hq hk, maxima_real hq hk hM]
  exact Softmax.exp_shift _ _ κ

include hq hk hM in
/-- Their sums. -/
theorem totals_real (g : Fin 2) (t : Fin 3) (ρ : Fin 16384) (z : Fin 1) :
    totals (shifted q k) (ix4 g t ρ z) = ((Softmax.total (Attn.score qr kr g t ρ) (M g t ρ) : ℝ) : EReal) := by
  rw [totals_apply]
  simp only [shifted_real hq hk hM, Softmax.sum_coe]
  rfl

include hv hd in
/-- The gradient of the weights. -/
theorem weightGrads_real (g : Fin 2) (t : Fin 3) (ρ κ : Fin 16384) : weightGrads d v (ix4 g t ρ κ) = ((Attn.gradP dr vr g t ρ κ : ℝ) : EReal) := by
  rw [weightGrads_apply]
  simp only [hv, hd, ← EReal.coe_mul, Softmax.sum_coe]
  exact congrArg _ (Finset.sum_congr rfl fun x _ => mul_comm _ _)

include hq hk hv hd hM in
/-- The gradient of the scores, with their scale. -/
theorem grads_real (g : Fin 2) (t : Fin 3) (ρ κ : Fin 16384) :
    grads q k v d (ix4 g t ρ κ) = ((Attn.gradS qr dr kr vr M g t ρ κ * (1 / 8) : ℝ) : EReal) := by
  unfold grads
  rw [scoreGrads_apply]
  simp only [weightGrads_real hv hd, totals_real hq hk hM, shifted_real hq hk hM, Finset.univ_unique, Finset.sum_singleton]
  rw [Softmax.grad_coe _ _ (by decide), Softmax.eighth, ← EReal.coe_mul]
  rfl

include hq hk hv hd hM in
/-- The keys' gradient. -/
theorem keyGrads_real (g : Fin 2) (κ : Fin 16384) (x : Fin 64) :
    keyGrads (grads q k v d) q (ix2 κ (colG g x)) = ((Attn.gradK qr dr kr vr M g κ x : ℝ) : EReal) := by
  rw [keyGrads_apply, Finset.sum_comm]
  simp only [grads_real hq hk hv hd hM, hq, ← EReal.coe_mul, Softmax.sum_coe]
  rfl

include hq hk hv hd hM in
/-- The queries' gradient. -/
theorem queryGrads_real (g : Fin 2) (t : Fin 3) (ρ : Fin 16384) (x : Fin 64) :
    queryGrads (grads q k v d) k (ix2 ρ (colH g t x)) = ((Attn.gradQ qr dr kr vr M g t ρ x : ℝ) : EReal) := by
  rw [queryGrads_apply]
  simp only [grads_real hq hk hv hd hM, hk, ← EReal.coe_mul, Softmax.sum_coe]
  rfl

include hq hk hd hM in
/-- The values' gradient. -/
theorem valueGrads_real (g : Fin 2) (κ : Fin 16384) (x : Fin 64) :
    valueGrads d (shifted q k) (totals (shifted q k)) (ix2 κ (colG g x)) = ((Attn.gradV qr dr kr M g κ x : ℝ) : EReal) := by
  rw [valueGrads_apply]
  simp only [totals_real hq hk hM, shifted_real hq hk hM, hd, Softmax.div_total _ _ (by decide : 0 < 16384), ← EReal.coe_mul, Softmax.sum_coe]
  exact congrArg _ (Finset.sum_congr rfl fun t _ => Finset.sum_congr rfl fun ρ _ => mul_comm _ _)

end Real

end Cert.ReferenceIdeal.Hand
-- ==== Proof.KernelValue.lean ====
/-
  The kernel's three results where the arguments are real: what the lines before the launch give, and the grid's sums
  over them, are the gradient of attention.
-/
module

public import proofs.«01_k».proof.Proof.Results
public import proofs.«01_k».proof.Proof.ReferenceValue

@[expose] public section

set_option maxRecDepth 16384

noncomputable section

namespace Cert.KernelIdeal.Hand

open Cert.KernelIdeal Cert.KernelIdeal.Gen
open Idealize.ShloMosaic Idealize.ShloMosaic.Pipeline Idealize.ShloMosaic.TcCoe

section Formulas

variable (q d : Fin 16384 → Fin 384 → ℝ) (k v : Fin 16384 → Fin 128 → ℝ) (M : Fin 2 → Fin 3 → Fin 16384 → ℝ)
  (Q : Vec Ideal S16384x384 .bf16) (K : Vec Ideal S16384x128 .bf16) (W : Vec Ideal S16384x2048 .bf16)
  (D : Vec Ideal S16384x384 .bf16) (L E : Vec Ideal S6x1x16384 .f32)

/-- A head belongs to its group. -/
theorem grp_head (g : Fin 2) (t : Fin 3) : grp (head g t) = g := Fin.ext (by show (3 * g.val + t.val) / 3 = g.val; omega)

/-- What the grid reads, where the arguments are real: the queries scaled, log-sum-exps and row means. -/
structure Reads : Prop where
  hQ : ∀ ρ x, Q (ix2 ρ x) = ((q ρ x * (1 / 8) : ℝ) : EReal)
  hK : ∀ κ x, K (ix2 κ x) = ((k κ x : ℝ) : EReal)
  hW : ∀ κ g x, W (ix2 κ (vcol g x)) = ((v κ (gcol g x) : ℝ) : EReal)
  hD : ∀ ρ x, D (ix2 ρ x) = ((d ρ x : ℝ) : EReal)
  hL : ∀ g t ρ, L (ix3 (head g t) 0 ρ) = ((M g t ρ + Real.log (Softmax.total (Attn.score q k g t ρ) (M g t ρ)) : ℝ) : EReal)
  hE : ∀ g t ρ, E (ix3 (head g t) 0 ρ) = ((Softmax.mean (Attn.score q k g t ρ) (M g t ρ) (Attn.gradP d v g t ρ) : ℝ) : EReal)

variable {q d k v M Q K W D L E} (R : Reads q d k v M Q K W D L E)
include R

/-- The weights are the real weights. -/
theorem weight_real (g : Fin 2) (t : Fin 3) (κ ρ : Fin 16384) : weight Q K L (head g t) κ ρ = ((Attn.wt q k M g t ρ κ : ℝ) : EReal) := by
  unfold weight
  simp only [grp_head, R.hQ, R.hK, R.hL, ← EReal.coe_mul, Softmax.sum_coe]
  refine Eq.trans ?_ (Softmax.prob_lse (Attn.score q k g t ρ) (M g t ρ) (by decide) κ)
  refine congrArg (fun z : ℝ => Ideal.exp ((z : EReal) - _)) ?_
  unfold Attn.score
  rw [Finset.sum_mul]
  exact Finset.sum_congr rfl fun x _ => (mul_assoc _ _ _).symm

/-- The scores' gradients are the real ones. -/
theorem gscore_real (g : Fin 2) (t : Fin 3) (κ ρ : Fin 16384) :
    gscore Q K W D L E (head g t) κ ρ = ((Attn.gradS q d k v M g t ρ κ : ℝ) : EReal) := by
  unfold gscore
  rw [weight_real R]
  simp only [grp_head, R.hW, R.hD, R.hE, ← EReal.coe_mul, Softmax.sum_coe, ← EReal.coe_sub]
  rfl

/-- The values' gradient. -/
theorem sumV_real (g : Fin 2) (κ : Fin 16384) (x : Fin 64) : sumV Q K D L g κ x = ((Attn.gradV q d k M g κ x : ℝ) : EReal) := by
  unfold sumV
  simp only [weight_real R, R.hD, ← EReal.coe_mul, Softmax.sum_coe]
  rfl

/-- The keys' gradient. -/
theorem sumK_real (g : Fin 2) (κ : Fin 16384) (x : Fin 64) : sumK Q K W D L E g κ x = ((Attn.gradK q d k v M g κ x : ℝ) : EReal) := by
  unfold sumK
  simp only [gscore_real R, R.hQ, ← EReal.coe_mul, Softmax.sum_coe]
  refine congrArg _ (Finset.sum_congr rfl fun t _ => Finset.sum_congr rfl fun ρ _ => ?_)
  ring

/-- The queries' gradient. -/
theorem sumQ_real (g : Fin 2) (t : Fin 3) (ρ : Fin 16384) (x : Fin 64) :
    sumQ Q K W D L E (head g t) ρ x * Ideal.ofBits .f32 0x3E000000#32 = ((Attn.gradQ q d k v M g t ρ x : ℝ) : EReal) := by
  unfold sumQ
  simp only [grp_head, gscore_real R, R.hK, Softmax.eighth, ← EReal.coe_mul, Softmax.sum_coe]
  refine congrArg _ ((Finset.sum_mul _ _ _).trans (Finset.sum_congr rfl fun κ _ => ?_))
  ring

end Formulas

/-! ## The lines before the launch -/

variable (m : (ℓ : Loc nD τ sig) → Buf (Elt Ideal) ℓ) (c : Dev nD)

/-- The four arguments. -/
abbrev argQ : Vec Ideal S16384x384 .f32 := m ((c.tc : Thread nD τ).loc main_arg0)
abbrev argK : Vec Ideal S16384x128 .f32 := m ((c.tc : Thread nD τ).loc main_arg1)
abbrev argV : Vec Ideal S16384x2048 .bf16 := m ((c.tc : Thread nD τ).loc main_arg2)
abbrev argD : Vec Ideal S16384x384 .bf16 := m ((c.tc : Thread nD τ).loc main_arg3)

/-- The lines before the launch scale the queries by an eighth. -/
theorem host_q (p : Fin 16384) (x : Fin 384) :
    (V m c main_v47 : Vec Ideal S16384x384 .bf16) (ix2 p x) = argQ m c (ix2 p x) * Ideal.ofBits .f32 0x3E000000#32 := by
  entry_read
  pointwise

/-- The lines before the launch pass the keys on. -/
theorem host_k (p : Fin 16384) (x : Fin 128) : (V m c main_v48 : Vec Ideal S16384x128 .bf16) (ix2 p x) = argK m c (ix2 p x) := by
  entry_read
  pointwise

/-- The log-sum-exps of scores `s` shifted by `x`. -/
def lseStep (s : FVec Ideal S2x3x16384x16384 .f32) (x : FVec Ideal S2x3x16384 .f32) : FVec Ideal S6x1x16384 .f32 :=
  shapeCast _ (addf (broadcastInDim S2x3x16384x1 ![0, 1, 2] bcast_S2x3x16384_S2x3x16384x1_0_1_2 x)
    (Host.log (F := Ideal) (φ := .f32) (ReferenceIdeal.Hand.totals (ReferenceIdeal.Hand.exps s x)))) shapeCasts_S2x3x16384x1_S6x1x16384

/-- A row's log-sum-exp at an index. -/
theorem lseStep_apply (s : FVec Ideal S2x3x16384x16384 .f32) (x : FVec Ideal S2x3x16384 .f32) (g : Fin 2) (t : Fin 3) (ρ : Fin 16384) :
    lseStep s x (ix3 (head g t) 0 ρ)
      = x (ix3 g t ρ) + Ideal.log (ReferenceIdeal.Hand.totals (ReferenceIdeal.Hand.exps s x) (ix4 g t ρ 0)) := by
  unfold lseStep
  generalize ReferenceIdeal.Hand.totals (ReferenceIdeal.Hand.exps s x) = z
  pointwise
  have e0 : ∀ h, (⟨(3 * g.val + t.val) / 3, h⟩ : Fin 2) = g := fun h => Fin.ext (by dsimp only; omega)
  have e1 : ∀ h, (⟨(3 * g.val + t.val) % 3, h⟩ : Fin 3) = t := fun h => Fin.ext (by dsimp only; omega)
  simp only [e0, e1]

/-- The log-sum-exps that the lines before the launch leave. -/
theorem V_lse : (V m c main_v18 : FVec Ideal S6x1x16384 .f32)
    = lseStep (ReferenceIdeal.Hand.scores (argQ m c) (argK m c)) (ReferenceIdeal.Hand.tops (ReferenceIdeal.Hand.scores (argQ m c) (argK m c))) := by
  entry_read
  unfold lseStep ReferenceIdeal.Hand.totals ReferenceIdeal.Hand.exps ReferenceIdeal.Hand.tops ReferenceIdeal.Hand.scores
  rfl

/-- The row sums of the output times its gradient: `d` by the weighted sums of the values. -/
def meanStep (d : FVec Ideal S16384x384 .bf16) (v : FVec Ideal S16384x2048 .bf16) (e : FVec Ideal S2x3x16384x16384 .f32)
    (z : FVec Ideal S2x3x16384x1 .f32) : FVec Ideal S6x1x16384 .f32 :=
  shapeCast _ (transpose S6x16384 [1, 0] (Host.reduceAdd (F := Ideal) (φ := .f32) (shapeCast S16384x6x64 (mulf (extf .f32 d bitsLt_bf16_f32)
    (shapeCast S16384x384 (transpose S16384x2x3x64 [3, 0, 2, 1] (Host.dotGeneral (F := Ideal) dot_S16384x2x64_S2x3x16384x16384_S2x64x3x16384_0_3_2_12_1_0 none
      (shapeCast S16384x2x64 (extf .f32 (extractStridedSlice S16384x128 ![0, 1920] v slices_S16384x2048_S16384x128_0_1920) bitsLt_bf16_f32) shapeCasts_S16384x128_S16384x2x64)
      (Host.divf (F := Ideal) (φ := .f32) e (broadcastInDim S2x3x16384x16384 ![0, 1, 2, 3] bcast_S2x3x16384x1_S2x3x16384x16384_0_1_2_3 z)))
      transposes_S2x64x3x16384_S16384x2x3x64_3_0_2_1) shapeCasts_S16384x2x3x64_S16384x384)) shapeCasts_S16384x384_S16384x6x64)
    (constant S_ .f32 0x00000000#32) reducesTo_S16384x6x64_S16384x6_d2 h_S_) transposes_S16384x6_S6x16384_1_0) shapeCasts_S6x16384_S6x1x16384

/-- Such a row sum at an index. -/
theorem meanStep_apply (d : FVec Ideal S16384x384 .bf16) (v : FVec Ideal S16384x2048 .bf16) (e : FVec Ideal S2x3x16384x16384 .f32)
    (z : FVec Ideal S2x3x16384x1 .f32) (g : Fin 2) (t : Fin 3) (ρ : Fin 16384) :
    meanStep d v e z (ix3 (head g t) 0 ρ)
      = ∑ x : Fin 64, d (ix2 ρ (hcol (head g t) x)) * ∑ κ : Fin 16384, v (ix2 κ (vcol g x)) * Ideal.div (e (ix4 g t ρ κ)) (z (ix4 g t ρ 0)) := by
  unfold meanStep
  pointwise
  have e0 : ∀ (x : Fin 64) h, (⟨(3 * g.val + t.val) * 64 + x.val, h⟩ : Fin 384) = hcol (head g t) x := fun x h =>
    Fin.ext (by show _ = 64 * (3 * g.val + t.val) + x.val; dsimp only; omega)
  have e1 : ∀ (x : Fin 64) h, (⟨((3 * g.val + t.val) * 64 + x.val) / 192, h⟩ : Fin 2) = g := fun x h =>
    Fin.ext (by dsimp only; omega)
  have e2 : ∀ (x : Fin 64) h, (⟨((3 * g.val + t.val) * 64 + x.val) / 64 % 3, h⟩ : Fin 3) = t := fun x h =>
    Fin.ext (by dsimp only; omega)
  have e3 : ∀ (x : Fin 64) h, (⟨1920 + (g.val * 64 + x.val), h⟩ : Fin 2048)
      = vcol g x := fun x h => Fin.ext (by show _ = 1920 + (64 * g.val + x.val); dsimp only; omega)
  simp only [e0, e1, e2, e3]

/-- The row sums that the lines before the launch leave. -/
theorem V_mean : (V m c main_v44 : FVec Ideal S6x1x16384 .f32)
    = meanStep (argD m c) (argV m c)
        (ReferenceIdeal.Hand.exps (ReferenceIdeal.Hand.scores (argQ m c) (argK m c)) (ReferenceIdeal.Hand.maxima (ReferenceIdeal.Hand.scores (argQ m c) (argK m c))))
        (ReferenceIdeal.Hand.totals (ReferenceIdeal.Hand.exps (ReferenceIdeal.Hand.scores (argQ m c) (argK m c)) (ReferenceIdeal.Hand.maxima (ReferenceIdeal.Hand.scores (argQ m c) (argK m c))))) := by
  entry_read
  unfold meanStep ReferenceIdeal.Hand.totals ReferenceIdeal.Hand.exps ReferenceIdeal.Hand.maxima ReferenceIdeal.Hand.tops ReferenceIdeal.Hand.scores
  rfl

/-! ## At real arguments -/

/-- The first array that the grid reads is the scaled queries. -/
theorem aQ_eq : aQ m c = V m c main_v47 := eq_of_heq (congr_arg_heq (V m c) (rfl : arrRef spec0 0 = main_v47))
/-- The second is the keys. -/
theorem aK_eq : aK m c = V m c main_v48 := eq_of_heq (congr_arg_heq (V m c) (rfl : arrRef spec0 1 = main_v48))
/-- The third is the array that holds the values. -/
theorem aW_eq : aW m c = V m c main_arg2 := eq_of_heq (congr_arg_heq (V m c) (rfl : arrRef spec0 2 = main_arg2))
/-- The fourth is the output's gradient. -/
theorem aD_eq : aD m c = V m c main_arg3 := eq_of_heq (congr_arg_heq (V m c) (rfl : arrRef spec0 3 = main_arg3))
/-- The fifth is the log-sum-exps. -/
theorem aL_eq : aL m c = V m c main_v18 := eq_of_heq (congr_arg_heq (V m c) (rfl : arrRef spec0 4 = main_v18))
/-- The sixth is the row sums. -/
theorem aE_eq : aE m c = V m c main_v44 := eq_of_heq (congr_arg_heq (V m c) (rfl : arrRef spec0 5 = main_v44))

/-- With real arguments the grid reads what the gradient needs. -/
theorem reads {q d : Fin 16384 → Fin 384 → ℝ} {k v : Fin 16384 → Fin 128 → ℝ} {M : Fin 2 → Fin 3 → Fin 16384 → ℝ}
    (hq : ∀ ρ x, argQ m c (ix2 ρ x) = ((q ρ x : ℝ) : EReal)) (hk : ∀ κ x, argK m c (ix2 κ x) = ((k κ x : ℝ) : EReal))
    (hv : ∀ κ g x, argV m c (ix2 κ (vcol g x)) = ((v κ (gcol g x) : ℝ) : EReal))
    (hd : ∀ ρ x, argD m c (ix2 ρ x) = ((d ρ x : ℝ) : EReal)) (hM : Attn.IsMax q k M) :
    Reads q d k v M (aQ m c) (aK m c) (aW m c) (aD m c) (aL m c) (aE m c) where
  hQ ρ x := by rw [aQ_eq, host_q, hq, Softmax.eighth, ← EReal.coe_mul]
  hK κ x := by rw [aK_eq, host_k, hk]
  hW κ g x := by rw [aW_eq, V_main_arg2]; exact hv κ g x
  hD ρ x := by rw [aD_eq, V_main_arg3]; exact hd ρ x
  hL g t ρ := by
    have hs := ReferenceIdeal.Hand.scores_real hq hk
    have ht : ∀ g t ρ, ReferenceIdeal.Hand.tops (ReferenceIdeal.Hand.scores (argQ m c) (argK m c)) (ix3 g t ρ) = ((M g t ρ : ℝ) : EReal) := fun g t ρ => by
      rw [ReferenceIdeal.Hand.tops_apply, funext fun κ => hs g t ρ κ, hM g t ρ]
    rw [aL_eq, V_lse, lseStep_apply, ReferenceIdeal.Hand.totals_apply]
    simp only [ReferenceIdeal.Hand.exps_apply, hs, ht]
    exact Softmax.lse_coe _ _ (by decide)
  hE g t ρ := by
    rw [aE_eq, V_mean, meanStep_apply]
    have he := ReferenceIdeal.Hand.shifted_real hq hk hM
    have hz := ReferenceIdeal.Hand.totals_real hq hk hM
    unfold ReferenceIdeal.Hand.shifted at he hz
    simp only [he, hz, hv, hd, Softmax.div_total _ _ (by decide : 0 < 16384), ← EReal.coe_mul, Softmax.sum_coe]
    exact congrArg _ (Softmax.mean_dot (Attn.score q k g t ρ) (M g t ρ) (fun κ x => v κ (gcol g x)) fun x => d ρ (hcol (head g t) x))

end Cert.KernelIdeal.Hand
-- ==== Proof.Finite.lean ====
/-
  What the precondition says: every entry of the queries, of the keys, of the values' columns and of the output's gradient
  is a real number.
-/
module

public import proofs.«01_k».proof.Proof.Gen.Pre_finite
public import proofs.«01_k».proof.Proof.Softmax

@[expose] public section

noncomputable section

namespace Cert.Pre_finite.Hand

open Idealize.ShloMosaic Cert.Pre_finite
open Cert.Pre_finite.Facts

/-- A conjunction is one exactly when both sides are. -/
theorem andi_one (a b : BitVec 1) : IntOp.andi a b = 1#1 ↔ a = 1#1 ∧ b = 1#1 := by
  revert a b; decide

/-- When the conjunction of all entries is one, each entry is. -/
theorem all_one {s : Shape} {axes : List (Fin s.rank)} (x : IVec s 1) (z : IVec S_ 1) (h : s.ReducesTo axes S_) (hu : 0 < S_.numel)
    (e : Host.reduce IntOp.andi x z h hu ix0 = 1#1) (i : s.Idx) : x i = 1#1 := by
  rw [Host.reduce_eq_fold] at e
  exact ((Finset.fold_op_rel_iff_and (r := fun _ y : BitVec 1 => y = 1#1) (fun {_ a b} => andi_one a b) (c := 1#1)).mp e).2 i
    (Finset.mem_filter.mpr ⟨Finset.mem_univ i, funext fun b => b.elim0⟩)

/-- An extended real whose absolute value is below the greatest is a real. -/
theorem real_of_abs {x : EReal} (h : max x (-x) < ⊤) : ∃ r : ℝ, x = (r : EReal) := by
  induction x with
  | bot => simp at h
  | top => simp at h
  | coe r => exact ⟨r, rfl⟩

/-- The test of the precondition at one entry. -/
theorem real_of_test {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : BitVec.ofBool (decide (max (x i : EReal) (-(x i : EReal)) < Ideal.ofBits .f32 0x7F800000#32)) = 1#1 := h
  rw [Softmax.greatest] at h'
  refine real_of_abs ?_
  by_contra hn
  rw [decide_eq_false hn] at h'
  exact absurd h' (by decide)

variable {q : FVec Ideal S16384x384 .f32} {k : FVec Ideal S16384x128 .f32} {v : FVec Ideal S16384x2048 .bf16} {d : FVec Ideal S16384x384 .bf16}

/-- The precondition, entry by entry. -/
theorem reals (h : fn (F := Ideal) q k v d = fun _ => 1#1) :
    (∀ i, ∃ r : ℝ, q i = (r : EReal)) ∧ (∀ i, ∃ r : ℝ, k i = (r : EReal))
      ∧ (∀ i, ∃ r : ℝ, extractStridedSlice S16384x128 ![0, 1920] v slices_S16384x2048_S16384x128_0_1920 i = (r : EReal))
      ∧ ∀ i, ∃ r : ℝ, d i = (r : EReal) := by
  have h0 := congrFun h ix0
  obtain ⟨h1, hd⟩ := (andi_one _ _).mp h0
  obtain ⟨h2, hv⟩ := (andi_one _ _).mp h1
  obtain ⟨hq, hk⟩ := (andi_one _ _).mp h2
  exact ⟨fun i => real_of_test q _ i (all_one _ _ _ _ hq i), fun i => real_of_test k _ i (all_one _ _ _ _ hk i),
    fun i => real_of_test _ _ i (all_one _ _ _ _ hv i), fun i => real_of_test (extf .f32 d bitsLt_bf16_f32) _ i (all_one _ _ _ _ hd i)⟩

/-- An entry of the slice is an entry of the values. -/
theorem slice_apply (κ : Fin 16384) (y : Fin 128) :
    extractStridedSlice S16384x128 ![0, 1920] v slices_S16384x2048_S16384x128_0_1920 (ix2 κ y) = v (ix2 κ ⟨1920 + y.val, by have := y.isLt; omega⟩) := by
  pointwise

end Cert.Pre_finite.Hand
-- ==== Proof.Value.lean ====
/-
  The kernel and the reference end with one result: where the four arguments are real, the three arrays that the kernel
  leaves are the three that the reference leaves.
-/
module

public import proofs.«01_k».proof.Proof.KernelValue
public import proofs.«01_k».proof.Proof.Finite

@[expose] public section

set_option maxRecDepth 16384

noncomputable section

namespace Cert.KernelIdeal.Hand

open Cert.KernelIdeal Cert.KernelIdeal.Gen
open Idealize.ShloMosaic Idealize.ShloMosaic.Pipeline Idealize.ShloMosaic.TcCoe Idealize.SL.Sem

/-- Every column of the keys and values belongs to a group. -/
theorem column_grp (y : Fin 128) : ∃ g x, y = gcol g x := ⟨grpOf y, inGrp y, (gcol_grpOf y).symm⟩

/-- Every column of the queries belongs to a head of a group. -/
theorem column_head (y : Fin 384) : ∃ g t x, y = hcol (head g t) x :=
  ⟨⟨y.val / 64 / 3, by omega⟩, ⟨y.val / 64 % 3, by omega⟩, inHead y, Fin.ext (by
    show y.val = 64 * (3 * (y.val / 64 / 3) + y.val / 64 % 3) + y.val % 64; omega)⟩

/-- A group's column names its group and place. -/
theorem grp_gcol (g : Fin 2) (x : Fin 64) : grpOf (gcol g x) = g ∧ inGrp (gcol g x) = x :=
  ⟨Fin.ext (by show (64 * g.val + x.val) / 64 = g.val; omega), Fin.ext (by show (64 * g.val + x.val) % 64 = x.val; omega)⟩

/-- A head's column names its head and place. -/
theorem head_hcol (h : Fin 6) (x : Fin 64) : headOf (hcol h x) = h ∧ inHead (hcol h x) = x :=
  ⟨Fin.ext (by show (64 * h.val + x.val) / 64 = h.val; omega), Fin.ext (by show (64 * h.val + x.val) % 64 = x.val; omega)⟩

section Formulas

variable (Q : Vec Ideal S16384x384 .bf16) (K : Vec Ideal S16384x128 .bf16) (W : Vec Ideal S16384x2048 .bf16)
  (D : Vec Ideal S16384x384 .bf16) (L E : Vec Ideal S6x1x16384 .f32)

/-- `dk` at a group's column. -/
theorem arrK_apply (g : Fin 2) (κ : Fin 16384) (x : Fin 64) : arrK Q K W D L E (ix2 κ (gcol g x)) = sumK Q K W D L E g κ x := by
  show sumK Q K W D L E (grpOf (gcol g x)) κ (inGrp (gcol g x)) = _
  rw [(grp_gcol g x).1, (grp_gcol g x).2]

/-- `dv` at a group's column. -/
theorem arrV_apply (g : Fin 2) (κ : Fin 16384) (x : Fin 64) : arrV Q K D L (ix2 κ (gcol g x)) = sumV Q K D L g κ x := by
  show sumV Q K D L (grpOf (gcol g x)) κ (inGrp (gcol g x)) = _
  rw [(grp_gcol g x).1, (grp_gcol g x).2]

/-- `dq` at a head's column. -/
theorem arrQ_apply (h : Fin 6) (ρ : Fin 16384) (x : Fin 64) :
    arrQ Q K W D L E (ix2 ρ (hcol h x)) = sumQ Q K W D L E h ρ x * Ideal.ofBits .f32 0x3E000000#32 := by
  show sumQ Q K W D L E (headOf (hcol h x)) ρ (inHead (hcol h x)) * _ = _
  rw [(head_hcol h x).1, (head_hcol h x).2]

end Formulas

variable (m : (ℓ : Loc nD τ sig) → Buf (Elt Ideal) ℓ) (c : Dev nD)

/-- The three arrays that the kernel leaves. -/
abbrev outQ : Vec Ideal S16384x384 .f32 := arrQ (aQ m c) (aK m c) (aW m c) (aD m c) (aL m c) (aE m c)
abbrev outK : Vec Ideal S16384x128 .f32 := arrK (aQ m c) (aK m c) (aW m c) (aD m c) (aL m c) (aE m c)
abbrev outV : Vec Ideal S16384x128 .f32 := arrV (aQ m c) (aK m c) (aD m c) (aL m c)

/-- The kernel's three arrays are the reference's where the arguments are real. -/
theorem outs (h : Pre_finite.fn (F := Ideal) (argQ m c) (argK m c) (argV m c) (argD m c) = fun _ => 1#1) :
    outQ m c = ReferenceIdeal.Hand.queryGrads (ReferenceIdeal.Hand.grads (argQ m c) (argK m c) (argV m c) (argD m c)) (argK m c)
      ∧ outK m c = ReferenceIdeal.Hand.keyGrads (ReferenceIdeal.Hand.grads (argQ m c) (argK m c) (argV m c) (argD m c)) (argQ m c)
      ∧ outV m c = ReferenceIdeal.Hand.valueGrads (argD m c) (ReferenceIdeal.Hand.shifted (argQ m c) (argK m c))
          (ReferenceIdeal.Hand.totals (ReferenceIdeal.Hand.shifted (argQ m c) (argK m c))) := by
  obtain ⟨hq', hk', hv', hd'⟩ := Pre_finite.Hand.reals h
  choose q hq using fun ρ x => hq' (ix2 ρ x)
  choose k hk using fun κ x => hk' (ix2 κ x)
  choose v hv using fun κ y => hv' (ix2 κ y)
  choose d hd using fun ρ x => hd' (ix2 ρ x)
  have hw : ∀ κ g x, argV m c (ix2 κ (vcol g x)) = ((v κ (gcol g x) : ℝ) : EReal) := fun κ g x =>
    (Pre_finite.Hand.slice_apply κ (gcol g x)).symm.trans (hv κ (gcol g x))
  obtain ⟨M, hM⟩ := Attn.exists_max q k
  have R := reads m c hq hk hw hd hM
  refine ⟨funext fun i => ?_, funext fun i => ?_, funext fun i => ?_⟩
  · obtain ⟨ρ, y, rfl⟩ : ∃ ρ y, i = ix2 ρ y := ⟨i 0, i 1, funext fun a => by fin_cases a <;> rfl⟩
    obtain ⟨g, t, x, rfl⟩ := column_head y
    exact (arrQ_apply _ _ _ _ _ _ (head g t) ρ x).trans
      ((sumQ_real R g t ρ x).trans (ReferenceIdeal.Hand.queryGrads_real hq hk hw hd hM g t ρ x).symm)
  · obtain ⟨κ, y, rfl⟩ : ∃ κ y, i = ix2 κ y := ⟨i 0, i 1, funext fun a => by fin_cases a <;> rfl⟩
    obtain ⟨g, x, rfl⟩ := column_grp y
    exact (arrK_apply _ _ _ _ _ _ g κ x).trans
      ((sumK_real R g κ x).trans (ReferenceIdeal.Hand.keyGrads_real hq hk hw hd hM g κ x).symm)
  · obtain ⟨κ, y, rfl⟩ : ∃ κ y, i = ix2 κ y := ⟨i 0, i 1, funext fun a => by fin_cases a <;> rfl⟩
    obtain ⟨g, x, rfl⟩ := column_grp y
    exact (arrV_apply _ _ _ _ g κ x).trans
      ((sumV_real R g κ x).trans (ReferenceIdeal.Hand.valueGrads_real hq hk hd hM g κ x).symm)

/-- Every run of the kernel ends with the three arrays and leaves the arguments. -/
theorem run_values (ρ : Dev nD → PrngReg) :
    θ_run defs (onTc (τ := τ) (main (F := Ideal))) ⟨m, fun _ => 0, ρ⟩ fun r => ∀ c : Dev nD,
      r.2.mem ((c.tc : Thread nD τ).loc main_v49_2) = outQ m c
      ∧ r.2.mem ((c.tc : Thread nD τ).loc main_v49_0) = outK m c
      ∧ r.2.mem ((c.tc : Thread nD τ).loc main_v49_1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨(h.1.2 c main_v49_2 (by decide)).trans ((Function.update_self ..).trans (final_dq m c)),
      ((h.1.1 c).1 6).trans (final_dk m c), ((h.1.1 c).1 7).trans (final_dv m c), args_kept m h.1 c⟩) (run_main m ρ)

end Cert.KernelIdeal.Hand
-- ==== Proof.WeightGrad.lean ====
/-
  The gradient of a weight: `x`'s and `dy`'s columns multiplied and summed over the 16384 tokens, and the same sum taken
  2048 tokens at a time, as the kernel's launch takes it for each tile of the weight.
-/
module

public import Idealize.ShloMosaic.Lib.Pipeline.ValueKit

@[expose] public section

noncomputable section

namespace Cert.Weight

open Idealize.ShloMosaic

/-- An array's entry at a row and a column given as numbers, zero off the array. -/
def entry {n k : ℕ} (a : (⟨2, ![n, k]⟩ : Shape).Idx → EReal) (r c : ℕ) : EReal :=
  if h : r < n ∧ c < k then a (ix2 ⟨r, h.1⟩ ⟨c, h.2⟩) else 0

/-- On the array `entry` is the array's own entry. -/
theorem entry_ix2 {n k : ℕ} (a : (⟨2, ![n, k]⟩ : Shape).Idx → EReal) (r : Fin n) (c : Fin k) :
    entry a r.val c.val = a (ix2 r c) := dif_pos ⟨r.isLt, c.isLt⟩

/-- An array's entry at any index whose coordinates are the two numbers. -/
theorem eq_entry {n k : ℕ} (a : (⟨2, ![n, k]⟩ : Shape).Idx → EReal) (i : (⟨2, ![n, k]⟩ : Shape).Idx) {r c : ℕ}
    (hr : (i 0).val = r) (hc : (i 1).val = c) : a i = entry a r c := by
  subst hr hc
  refine Eq.trans (congrArg a ?_) (entry_ix2 a (i 0) (i 1)).symm
  funext x
  match x with
  | ⟨0, _⟩ => rfl
  | ⟨1, _⟩ => rfl

/-- Two matrices with the same entries are one. -/
theorem ext_ix2 {n k : ℕ} {a b : (⟨2, ![n, k]⟩ : Shape).Idx → EReal} (h : ∀ r c, a (ix2 r c) = b (ix2 r c)) : a = b := by
  funext i
  have hi : i = ix2 (i 0) (i 1) := by
    funext x
    match x with
    | ⟨0, _⟩ => rfl
    | ⟨1, _⟩ => rfl
  rw [hi]
  exact h _ _

/-- The weight's gradient at row `r`, column `c`. -/
def grad {k l : ℕ} (x : (⟨2, ![16384, k]⟩ : Shape).Idx → EReal) (dy : (⟨2, ![16384, l]⟩ : Shape).Idx → EReal) (r c : ℕ) : EReal :=
  ∑ t : Fin 16384, entry x t.val r * entry dy t.val c

/-- The part of the gradient that chunk `b` of 2048 tokens gives. -/
def part {k l : ℕ} (x : (⟨2, ![16384, k]⟩ : Shape).Idx → EReal) (dy : (⟨2, ![16384, l]⟩ : Shape).Idx → EReal) (b r c : ℕ) : EReal :=
  ∑ t : Fin 2048, entry x (b * 2048 + t.val) r * entry dy (b * 2048 + t.val) c

/-- The eight chunks give the whole gradient. -/
theorem sum_part {k l : ℕ} (x : (⟨2, ![16384, k]⟩ : Shape).Idx → EReal) (dy : (⟨2, ![16384, l]⟩ : Shape).Idx → EReal) (r c : ℕ) :
    ∑ b ∈ Finset.range 8, part x dy b r c = grad x dy r c := by
  rw [← Fin.sum_univ_eq_sum_range (fun b => part x dy b r c) 8]
  exact Fin.sum_univ_univ_mul_add 8 2048 fun t => entry x t r * entry dy t c

/-- A launch that makes a gradient tile by tile. At each of its `N` points a scratch tile takes the product of two blocks of
    2048 tokens, starting from zero at every eighth point, and the eighth writes the tile back. -/
structure Launch (N : ℕ) {k l : ℕ} (u v : ℕ) (x : (⟨2, ![16384, k]⟩ : Shape).Idx → EReal) (dy : (⟨2, ![16384, l]⟩ : Shape).Idx → EReal) where
  /-- The first row and the first column of the tile made by a run of eight points. -/
  row : ℕ → ℕ
  col : ℕ → ℕ
  /-- The two blocks a point reads. -/
  blockX : Fin N → (⟨2, ![2048, u]⟩ : Shape).Idx → EReal
  blockY : Fin N → (⟨2, ![2048, v]⟩ : Shape).Idx → EReal
  blockX_eq : ∀ t s r, blockX t (ix2 s r) = entry x (t.val % 8 * 2048 + s.val) (row (t.val / 8) + r.val)
  blockY_eq : ∀ t s q, blockY t (ix2 s q) = entry dy (t.val % 8 * 2048 + s.val) (col (t.val / 8) + q.val)
  /-- The zero tile, and one point's step. -/
  zero : (⟨2, ![u, v]⟩ : Shape).Idx → EReal
  zero_eq : ∀ r q, zero (ix2 r q) = 0
  step : ((⟨2, ![u, v]⟩ : Shape).Idx → EReal) → ((⟨2, ![2048, u]⟩ : Shape).Idx → EReal) → ((⟨2, ![2048, v]⟩ : Shape).Idx → EReal)
    → (⟨2, ![u, v]⟩ : Shape).Idx → EReal
  step_eq : ∀ w a b r q, step w a b (ix2 r q) = w (ix2 r q) + ∑ s : Fin 2048, a (ix2 s r) * b (ix2 s q)
  /-- The scratch tile after a point, and the tile written back. -/
  tile : (n : ℕ) → n < N → (⟨2, ![u, v]⟩ : Shape).Idx → EReal
  first : ∀ t : Fin N, t.val % 8 = 0 → tile t.val t.isLt = step zero (blockX t) (blockY t)
  next : ∀ t : Fin N, ¬t.val % 8 = 0 → tile t.val t.isLt
    = step (tile (t.val - 1) (Nat.lt_of_le_of_lt (Nat.sub_le _ _) t.isLt)) (blockX t) (blockY t)
  out : (n : ℕ) → n < N → (⟨2, ![u, v]⟩ : Shape).Idx → EReal
  last : ∀ t : Fin N, t.val % 8 = 7 → out t.val t.isLt = tile t.val t.isLt

/-- The tile such a launch writes back is the gradient at the tile's rows and columns. -/
theorem Launch.out_eq {N k l u v : ℕ} {x : (⟨2, ![16384, k]⟩ : Shape).Idx → EReal} {dy : (⟨2, ![16384, l]⟩ : Shape).Idx → EReal}
    (L : Launch N u v x dy) {n b : ℕ} (hn : n < N) (hb : n = 8 * b + 7) (i : (⟨2, ![u, v]⟩ : Shape).Idx) :
    L.out n hn i = grad x dy (L.row b + (i 0).val) (L.col b + (i 1).val) := by
  subst hb
  have hpart : ∀ (t : Fin N) (r : Fin u) (q : Fin v), ∑ s : Fin 2048, L.blockX t (ix2 s r) * L.blockY t (ix2 s q)
      = part x dy (t.val % 8) (L.row (t.val / 8) + r.val) (L.col (t.val / 8) + q.val) :=
    fun t r q => Finset.sum_congr rfl fun s _ => by rw [L.blockX_eq, L.blockY_eq]
  have h := Pipeline.eq_sum_of_reset_step_apply_divmod (fun n h (i : Fin u × Fin v) => L.tile n h (ix2 i.1 i.2)) 8 (fun _ => 0)
      (fun p b i => part x dy b (L.row p + i.1.val) (L.col p + i.2.val))
      (fun t h i => by rw [L.first t h, L.step_eq, L.zero_eq, hpart]) (fun t h i => by rw [L.next t h, L.step_eq, hpart])
      ⟨8 * b + 7, hn⟩ (i 0, i 1)
  have hi : i = ix2 (i 0) (i 1) := by
    funext a
    match a with
    | ⟨0, _⟩ => rfl
    | ⟨1, _⟩ => rfl
  rw [L.last ⟨8 * b + 7, hn⟩ (by dsimp only; omega)]
  dsimp only at h ⊢
  rw [show (8 * b + 7) / 8 = b by omega, show (8 * b + 7) % 8 = 7 by omega, sum_part, zero_add] at h
  exact (congrArg (L.tile _ hn) hi).trans h

end Cert.Weight

end
-- ==== Proof.WeightDown.lean ====
/-
  The call that makes the gradient of `w_down`: what its launch leaves is the gradient, and so is what the reference leaves.
-/
module

public import proofs.«01_k».proof.Defs
public import proofs.«01_k».proof.Proof.WeightGrad
public import proofs.«01_k».proof.Proof.Gen.KernelDown
public import proofs.«01_k».proof.Proof.Gen.KernelDownIdeal.Value
public import proofs.«01_k».proof.Proof.Gen.ReferenceDownIdeal.Run
public import Idealize.ShloMosaic.Adequacy
public import Idealize.ShloMosaic.Init

@[expose] public section

set_option maxRecDepth 16384

noncomputable section

namespace Cert.KernelDownIdeal.Hand

open Cert.KernelDownIdeal Cert.KernelDownIdeal.Gen
open Idealize.ShloMosaic Idealize.ShloMosaic.TcCoe Idealize.SL.Sem
open Cert.Weight

variable (m : (ℓ : Loc nD τ sig) → Buf (Elt Ideal) ℓ) (c : Dev nD)

/-- The two arguments. -/
abbrev argX : Vec Ideal S16384x2816 .bf16 := m ((c.tc : Thread nD τ).loc main_arg0)
abbrev argY : Vec Ideal S16384x1024 .bf16 := m ((c.tc : Thread nD τ).loc main_arg1)

/-- The blocks a point reads: the chunk's rows of the two arguments, the first's columns those of the point's tile. -/
theorem index_eq : ∀ t : Fin cfg0.N, win0_0.index t = ![t.val % 8, t.val / 8] ∧ win0_1.index t = ![t.val % 8, 0] :=
  (by decide +kernel : ∀ t : Fin grid0.N, _)

/-- The two blocks. -/
abbrev blkX (t : Fin cfg0.N) : Vec Ideal S2048x1408 .bf16 := iblk m c 0 t
abbrev blkY (t : Fin cfg0.N) : Vec Ideal S2048x1024 .bf16 := iblk m c 1 t

/-- An entry of the first argument's block. -/
theorem blockX (t : Fin cfg0.N) (s : Fin 2048) (r : Fin 1408) :
    blkX m c t (ix2 s r) = entry (argX m c) (t.val % 8 * 2048 + s.val) (t.val / 8 * 1408 + r.val) := by
  refine Eq.trans ?_ (eq_entry (argX m c) (((cfg0.win 0).blk t).view.emb (ix2 s r)) ?_ ?_)
  · unfold blkX iblk
    entry_read
    rfl
  · blk_simp [(index_eq t).1]
  · blk_simp [(index_eq t).1]

/-- An entry of the second argument's block. -/
theorem blockY (t : Fin cfg0.N) (s : Fin 2048) (q : Fin 1024) :
    blkY m c t (ix2 s q) = entry (argY m c) (t.val % 8 * 2048 + s.val) (0 + q.val) := by
  refine Eq.trans ?_ (eq_entry (argY m c) (((cfg0.win 1).blk t).view.emb (ix2 s q)) ?_ ?_)
  · unfold blkY iblk
    entry_read
    rfl
  · blk_simp [(index_eq t).2]
  · blk_simp [(index_eq t).2]

/-- The first chunk starts from zero. -/
theorem start_apply (r : Fin 1408) (q : Fin 1024) : (k0_pay1 (F := Ideal)) (ix2 r q) = 0 := by
  pointwise [k0_pay1]

/-- One chunk's step adds the blocks' product. -/
theorem step_apply (w : Vec Ideal S1408x1024 .f32) (x : Vec Ideal S2048x1408 .bf16) (y : Vec Ideal S2048x1024 .bf16)
    (r : Fin 1408) (q : Fin 1024) : k0_pay2 w x y (ix2 r q) = w (ix2 r q) + ∑ s : Fin 2048, x (ix2 s r) * y (ix2 s q) := by
  pointwise [k0_pay2]

/-- At a run's first point the scratch tile is stepped from zero. -/
theorem scratch_first (t : Fin cfg0.N) (h : t.val % 8 = 0) :
    (outsAt0 m c t.val t.isLt).2 = k0_pay2 k0_pay1 (blkX m c t) (blkY m c t) := by
  rw [outsAt0_A m c t h (by omega)]
  frame_out

/-- At a later point it is stepped from what the point before left. -/
theorem scratch_next (t : Fin cfg0.N) (h : ¬t.val % 8 = 0) :
    (outsAt0 m c t.val t.isLt).2
      = k0_pay2 (outsAt0 m c (t.val - 1) (Nat.lt_of_le_of_lt (Nat.sub_le _ _) t.isLt)).2 (blkX m c t) (blkY m c t) := by
  by_cases h7 : t.val % 8 = 7
  · rw [outsAt0_C m c t h h7]
    frame_out
    exact congrArg (fun w => k0_pay2 w _ _) ((Memref.isWhole_whole cc0_scratch0).read_unread _)
  · rw [outsAt0_B m c t h h7]
    frame_out
    exact congrArg (fun w => k0_pay2 w _ _) ((Memref.isWhole_whole cc0_scratch0).read_unread _)

/-- The launch makes the gradient tile by tile: two tiles of 1408 rows. -/
def launch : Launch cfg0.N 1408 1024 (argX m c) (argY m c) where
  row := fun b => b * 1408
  col := fun _ => 0
  blockX := blkX m c
  blockY := blkY m c
  blockX_eq := blockX m c
  blockY_eq := blockY m c
  zero := k0_pay1 (F := Ideal)
  zero_eq := start_apply
  step := k0_pay2 (F := Ideal)
  step_eq := step_apply
  tile := fun n h => (outsAt0 m c n h).2
  first := scratch_first m c
  next := scratch_next m c
  out := fun n h => (outsAt0 m c n h).1
  last := fun t h7 => by
    rw [outsAt0_C m c t (by omega) h7]
    frame_out
    rfl

/-- The launch leaves the gradient. -/
theorem result_apply (r : Fin 2816) (q : Fin 1024) :
    (Value.G2 m c : Vec Ideal S2816x1024 .bf16) (ix2 r q) = grad (argX m c) (argY m c) r.val q.val := by
  have hp : Value.pt2Of (ix2 r q : S2816x1024.Idx) = 8 * (r.val / 1408) + 7 := by
    show 8 * (1 * (r.val / 1408 - 0) + 1 * (q.val / 1024 - 0)) + 7 = _
    omega
  have hN : Value.pt2Of (ix2 r q : S2816x1024.Idx) < cfg0.N := lt_of_lt_of_eq (by rw [hp]; omega) N_0.symm
  unfold Value.G2
  rw [dif_pos hN, ← Value.outsAt0_sweep m c _ hN]
  refine ((launch m c).out_eq hN hp _).trans (congrArg₂ (grad _ _) ?_ ?_)
  · show r.val / 1408 * 1408 + r.val % 1408 = r.val
    omega
  · show 0 + q.val % 1024 = q.val
    omega

end Cert.KernelDownIdeal.Hand

namespace Cert.ReferenceDownIdeal.Hand

open Cert.ReferenceDownIdeal Cert.ReferenceDownIdeal.Gen
open Idealize.ShloMosaic Idealize.ShloMosaic.TcCoe Idealize.SL.Sem
open Cert.Weight

/-- The reference's result is the gradient: it multiplies with the factors in the other order, and transposes. -/
theorem result_apply (x : FVec Ideal S16384x2816 .bf16) (y : FVec Ideal S16384x1024 .bf16) (r : Fin 2816) (q : Fin 1024) :
    truncf .bf16 (transpose S2816x1024 [1, 0] (Host.dotGeneral (F := Ideal) (φ₁ := .f32) (φ₂ := .f32)
      dot_S16384x1024_S16384x2816_S1024x2816_0_0_1_1_n_n none (extf .f32 y bitsLt_bf16_f32) (extf .f32 x bitsLt_bf16_f32))
      transposes_S1024x2816_S2816x1024_1_0) bitsLt_bf16_f32 (ix2 r q) = grad x y r.val q.val := by
  pointwise
  unfold grad
  refine Finset.sum_congr rfl fun t _ => ?_
  rw [entry_ix2, entry_ix2, mul_comm]

end Cert.ReferenceDownIdeal.Hand

namespace Cert.Proof.Down

open Idealize.ShloMosaic.Tactic Idealize.ShloMosaic.TcCoe
open Idealize.ShloMosaic Idealize.SL.Sem
open Cert.KernelDownIdeal

/-- The two programs have one text, so the kernel's frame is the one run's at `F := Bits`. -/
theorem frame_text : Cert.quiescent_KernelDown
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1))
          ∧ r.2.sem = fun _ => 0) := by
  sl_kernel_rfl

/-- The kernel as run in bits. -/
theorem frame_kernel : Cert.quiescent_KernelDown := frame_text.mpr fun m ρ _ => Gen.frame (F := Bits) m ρ

/-- The kernel over the extended reals. -/
theorem frame_ideal : Cert.quiescent_KernelDownIdeal := fun m ρ _ => Gen.frame (F := Ideal) m ρ

/-- The reference runs its operations and declares no semaphore. -/
theorem frame_reference : Cert.quiescent_ReferenceDownIdeal := fun m ρ _ =>
  (θ_run Cert.ReferenceDownIdeal.defs _ _).mono
    (fun r h => ⟨fun c => (h c).2, Idealize.ShloMosaic.sem_eq_zero_of_no_sems (by decide) r.2⟩)
    (Cert.ReferenceDownIdeal.Value.run (F := Ideal) m ρ)

/-- From memories that agree on the arguments, the kernel and the reference end with the same gradient. -/
theorem values : Cert.algebraic_KernelDownIdeal_ReferenceDownIdeal := fun m g m' g' _ hargs => by
  refine ⟨fun c => Value.G2 m c, Value.run m g, (θ_run Cert.ReferenceDownIdeal.defs _ _).mono (fun r h c => ⟨?_, (h c).2⟩)
    (Cert.ReferenceDownIdeal.Value.run (F := Ideal) m' g')⟩
  refine (h c).1.trans (Weight.ext_ix2 fun r q => ?_)
  rw [(hargs c).1, (hargs c).2]
  exact (Cert.ReferenceDownIdeal.Hand.result_apply _ _ r q).trans (Hand.result_apply m c r q).symm

end Cert.Proof.Down

end
-- ==== Proof.WeightGu.lean ====
/-
  The call that makes the gradient of `w_gu`: what its launch leaves is the gradient, and so is what the reference leaves.
-/
module

public import proofs.«01_k».proof.Defs
public import proofs.«01_k».proof.Proof.WeightGrad
public import proofs.«01_k».proof.Proof.Gen.KernelGu
public import proofs.«01_k».proof.Proof.Gen.KernelGuIdeal.Value
public import proofs.«01_k».proof.Proof.Gen.ReferenceGuIdeal.Run
public import Idealize.ShloMosaic.Adequacy
public import Idealize.ShloMosaic.Init

@[expose] public section

set_option maxRecDepth 16384

noncomputable section

namespace Cert.KernelGuIdeal.Hand

open Cert.KernelGuIdeal Cert.KernelGuIdeal.Gen
open Idealize.ShloMosaic Idealize.ShloMosaic.TcCoe Idealize.SL.Sem
open Cert.Weight

variable (m : (ℓ : Loc nD τ sig) → Buf (Elt Ideal) ℓ) (c : Dev nD)

/-- The two arguments. -/
abbrev argX : Vec Ideal S16384x1024 .bf16 := m ((c.tc : Thread nD τ).loc main_arg0)
abbrev argY : Vec Ideal S16384x5632 .bf16 := m ((c.tc : Thread nD τ).loc main_arg1)

/-- The blocks a point reads: the chunk's rows of the two arguments, the second's columns those of the point's tile. -/
theorem index_eq : ∀ t : Fin cfg0.N, win0_0.index t = ![t.val % 8, 0] ∧ win0_1.index t = ![t.val % 8, t.val / 8] :=
  (by decide +kernel : ∀ t : Fin grid0.N, _)

/-- The two blocks. -/
abbrev blkX (t : Fin cfg0.N) : Vec Ideal S2048x1024 .bf16 := iblk m c 0 t
abbrev blkY (t : Fin cfg0.N) : Vec Ideal S2048x1408 .bf16 := iblk m c 1 t

/-- An entry of the first argument's block. -/
theorem blockX (t : Fin cfg0.N) (s : Fin 2048) (r : Fin 1024) :
    blkX m c t (ix2 s r) = entry (argX m c) (t.val % 8 * 2048 + s.val) (0 + r.val) := by
  refine Eq.trans ?_ (eq_entry (argX m c) (((cfg0.win 0).blk t).view.emb (ix2 s r)) ?_ ?_)
  · unfold blkX iblk
    entry_read
    rfl
  · blk_simp [(index_eq t).1]
  · blk_simp [(index_eq t).1]

/-- An entry of the second argument's block. -/
theorem blockY (t : Fin cfg0.N) (s : Fin 2048) (q : Fin 1408) :
    blkY m c t (ix2 s q) = entry (argY m c) (t.val % 8 * 2048 + s.val) (t.val / 8 * 1408 + q.val) := by
  refine Eq.trans ?_ (eq_entry (argY m c) (((cfg0.win 1).blk t).view.emb (ix2 s q)) ?_ ?_)
  · unfold blkY iblk
    entry_read
    rfl
  · blk_simp [(index_eq t).2]
  · blk_simp [(index_eq t).2]

/-- The first chunk starts from zero. -/
theorem start_apply (r : Fin 1024) (q : Fin 1408) : (k0_pay1 (F := Ideal)) (ix2 r q) = 0 := by
  pointwise [k0_pay1]

/-- One chunk's step adds the blocks' product. -/
theorem step_apply (w : Vec Ideal S1024x1408 .f32) (x : Vec Ideal S2048x1024 .bf16) (y : Vec Ideal S2048x1408 .bf16)
    (r : Fin 1024) (q : Fin 1408) : k0_pay2 w x y (ix2 r q) = w (ix2 r q) + ∑ s : Fin 2048, x (ix2 s r) * y (ix2 s q) := by
  pointwise [k0_pay2]

/-- At a run's first point the scratch tile is stepped from zero. -/
theorem scratch_first (t : Fin cfg0.N) (h : t.val % 8 = 0) :
    (outsAt0 m c t.val t.isLt).2 = k0_pay2 k0_pay1 (blkX m c t) (blkY m c t) := by
  rw [outsAt0_A m c t h (by omega)]
  frame_out

/-- At a later point it is stepped from what the point before left. -/
theorem scratch_next (t : Fin cfg0.N) (h : ¬t.val % 8 = 0) :
    (outsAt0 m c t.val t.isLt).2
      = k0_pay2 (outsAt0 m c (t.val - 1) (Nat.lt_of_le_of_lt (Nat.sub_le _ _) t.isLt)).2 (blkX m c t) (blkY m c t) := by
  by_cases h7 : t.val % 8 = 7
  · rw [outsAt0_C m c t h h7]
    frame_out
    exact congrArg (fun w => k0_pay2 w _ _) ((Memref.isWhole_whole cc0_scratch0).read_unread _)
  · rw [outsAt0_B m c t h h7]
    frame_out
    exact congrArg (fun w => k0_pay2 w _ _) ((Memref.isWhole_whole cc0_scratch0).read_unread _)

/-- The launch makes the gradient tile by tile: four tiles of 1408 columns. -/
def launch : Launch cfg0.N 1024 1408 (argX m c) (argY m c) where
  row := fun _ => 0
  col := fun b => b * 1408
  blockX := blkX m c
  blockY := blkY m c
  blockX_eq := blockX m c
  blockY_eq := blockY m c
  zero := k0_pay1 (F := Ideal)
  zero_eq := start_apply
  step := k0_pay2 (F := Ideal)
  step_eq := step_apply
  tile := fun n h => (outsAt0 m c n h).2
  first := scratch_first m c
  next := scratch_next m c
  out := fun n h => (outsAt0 m c n h).1
  last := fun t h7 => by
    rw [outsAt0_C m c t (by omega) h7]
    frame_out
    rfl

/-- The launch leaves the gradient. -/
theorem result_apply (r : Fin 1024) (q : Fin 5632) :
    (Value.G2 m c : Vec Ideal S1024x5632 .bf16) (ix2 r q) = grad (argX m c) (argY m c) r.val q.val := by
  have hp : Value.pt2Of (ix2 r q : S1024x5632.Idx) = 8 * (q.val / 1408) + 7 := by
    show 8 * (4 * (r.val / 1024 - 0) + 1 * (q.val / 1408 - 0)) + 7 = _
    omega
  have hN : Value.pt2Of (ix2 r q : S1024x5632.Idx) < cfg0.N := lt_of_lt_of_eq (by rw [hp]; omega) N_0.symm
  unfold Value.G2
  rw [dif_pos hN, ← Value.outsAt0_sweep m c _ hN]
  refine ((launch m c).out_eq hN hp _).trans (congrArg₂ (grad _ _) ?_ ?_)
  · show 0 + r.val % 1024 = r.val
    omega
  · show q.val / 1408 * 1408 + q.val % 1408 = q.val
    omega

end Cert.KernelGuIdeal.Hand

namespace Cert.ReferenceGuIdeal.Hand

open Cert.ReferenceGuIdeal Cert.ReferenceGuIdeal.Gen
open Idealize.ShloMosaic Idealize.ShloMosaic.TcCoe Idealize.SL.Sem
open Cert.Weight

/-- The reference's result is the gradient: it multiplies with the factors in the other order, and transposes. -/
theorem result_apply (x : FVec Ideal S16384x1024 .bf16) (y : FVec Ideal S16384x5632 .bf16) (r : Fin 1024) (q : Fin 5632) :
    truncf .bf16 (transpose S1024x5632 [1, 0] (Host.dotGeneral (F := Ideal) (φ₁ := .f32) (φ₂ := .f32)
      dot_S16384x5632_S16384x1024_S5632x1024_0_0_1_1_n_n none (extf .f32 y bitsLt_bf16_f32) (extf .f32 x bitsLt_bf16_f32))
      transposes_S5632x1024_S1024x5632_1_0) bitsLt_bf16_f32 (ix2 r q) = grad x y r.val q.val := by
  pointwise
  unfold grad
  refine Finset.sum_congr rfl fun t _ => ?_
  rw [entry_ix2, entry_ix2, mul_comm]

end Cert.ReferenceGuIdeal.Hand

namespace Cert.Proof.Gu

open Idealize.ShloMosaic.Tactic Idealize.ShloMosaic.TcCoe
open Idealize.ShloMosaic Idealize.SL.Sem
open Cert.KernelGuIdeal

/-- The two programs have one text, so the kernel's frame is the one run's at `F := Bits`. -/
theorem frame_text : Cert.quiescent_KernelGu
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1))
          ∧ r.2.sem = fun _ => 0) := by
  sl_kernel_rfl

/-- The kernel as run in bits. -/
theorem frame_kernel : Cert.quiescent_KernelGu := frame_text.mpr fun m ρ _ => Gen.frame (F := Bits) m ρ

/-- The kernel over the extended reals. -/
theorem frame_ideal : Cert.quiescent_KernelGuIdeal := fun m ρ _ => Gen.frame (F := Ideal) m ρ

/-- The reference runs its operations and declares no semaphore. -/
theorem frame_reference : Cert.quiescent_ReferenceGuIdeal := fun m ρ _ =>
  (θ_run Cert.ReferenceGuIdeal.defs _ _).mono
    (fun r h => ⟨fun c => (h c).2, Idealize.ShloMosaic.sem_eq_zero_of_no_sems (by decide) r.2⟩)
    (Cert.ReferenceGuIdeal.Value.run (F := Ideal) m ρ)

/-- From memories that agree on the arguments, the kernel and the reference end with the same gradient. -/
theorem values : Cert.algebraic_KernelGuIdeal_ReferenceGuIdeal := fun m g m' g' _ hargs => by
  refine ⟨fun c => Value.G2 m c, Value.run m g, (θ_run Cert.ReferenceGuIdeal.defs _ _).mono (fun r h c => ⟨?_, (h c).2⟩)
    (Cert.ReferenceGuIdeal.Value.run (F := Ideal) m' g')⟩
  refine (h c).1.trans (Weight.ext_ix2 fun r q => ?_)
  rw [(hargs c).1, (hargs c).2]
  exact (Cert.ReferenceGuIdeal.Hand.result_apply _ _ r q).trans (Hand.result_apply m c r q).symm

end Cert.Proof.Gu

end
-- ==== Proof.WeightO.lean ====
/-
  The call that makes the gradient of `w_o`: what its launch leaves is the gradient, and so is what the reference leaves.
-/
module

public import proofs.«01_k».proof.Defs
public import proofs.«01_k».proof.Proof.WeightGrad
public import proofs.«01_k».proof.Proof.Gen.KernelO
public import proofs.«01_k».proof.Proof.Gen.KernelOIdeal.Value
public import proofs.«01_k».proof.Proof.Gen.ReferenceOIdeal.Run
public import Idealize.ShloMosaic.Adequacy
public import Idealize.ShloMosaic.Init

@[expose] public section

set_option maxRecDepth 16384

noncomputable section

namespace Cert.KernelOIdeal.Hand

open Cert.KernelOIdeal Cert.KernelOIdeal.Gen
open Idealize.ShloMosaic Idealize.ShloMosaic.TcCoe Idealize.SL.Sem
open Cert.Weight

variable (m : (ℓ : Loc nD τ sig) → Buf (Elt Ideal) ℓ) (c : Dev nD)

/-- The two arguments. -/
abbrev argX : Vec Ideal S16384x1024 .bf16 := m ((c.tc : Thread nD τ).loc main_arg0)
abbrev argY : Vec Ideal S16384x1024 .bf16 := m ((c.tc : Thread nD τ).loc main_arg1)

/-- The blocks a point reads: the chunk's rows of the two arguments, all their columns. -/
theorem index_eq : ∀ t : Fin cfg0.N, win0_0.index t = ![t.val % 8, 0] ∧ win0_1.index t = ![t.val % 8, 0] :=
  (by decide +kernel : ∀ t : Fin grid0.N, _)

/-- The two blocks. -/
abbrev blkX (t : Fin cfg0.N) : Vec Ideal S2048x1024 .bf16 := iblk m c 0 t
abbrev blkY (t : Fin cfg0.N) : Vec Ideal S2048x1024 .bf16 := iblk m c 1 t

/-- An entry of the first argument's block. -/
theorem blockX (t : Fin cfg0.N) (s : Fin 2048) (r : Fin 1024) :
    blkX m c t (ix2 s r) = entry (argX m c) (t.val % 8 * 2048 + s.val) (0 + r.val) := by
  refine Eq.trans ?_ (eq_entry (argX m c) (((cfg0.win 0).blk t).view.emb (ix2 s r)) ?_ ?_)
  · unfold blkX iblk
    entry_read
    rfl
  · blk_simp [(index_eq t).1]
  · blk_simp [(index_eq t).1]

/-- An entry of the second argument's block. -/
theorem blockY (t : Fin cfg0.N) (s : Fin 2048) (q : Fin 1024) :
    blkY m c t (ix2 s q) = entry (argY m c) (t.val % 8 * 2048 + s.val) (0 + q.val) := by
  refine Eq.trans ?_ (eq_entry (argY m c) (((cfg0.win 1).blk t).view.emb (ix2 s q)) ?_ ?_)
  · unfold blkY iblk
    entry_read
    rfl
  · blk_simp [(index_eq t).2]
  · blk_simp [(index_eq t).2]

/-- The first chunk starts from zero. -/
theorem start_apply (r : Fin 1024) (q : Fin 1024) : (k0_pay1 (F := Ideal)) (ix2 r q) = 0 := by
  pointwise [k0_pay1]

/-- One chunk's step adds the blocks' product. -/
theorem step_apply (w : Vec Ideal S1024x1024 .f32) (x : Vec Ideal S2048x1024 .bf16) (y : Vec Ideal S2048x1024 .bf16)
    (r : Fin 1024) (q : Fin 1024) : k0_pay2 w x y (ix2 r q) = w (ix2 r q) + ∑ s : Fin 2048, x (ix2 s r) * y (ix2 s q) := by
  pointwise [k0_pay2]

/-- At a run's first point the scratch tile is stepped from zero. -/
theorem scratch_first (t : Fin cfg0.N) (h : t.val % 8 = 0) :
    (outsAt0 m c t.val t.isLt).2 = k0_pay2 k0_pay1 (blkX m c t) (blkY m c t) := by
  rw [outsAt0_A m c t h (by omega)]
  frame_out

/-- At a later point it is stepped from what the point before left. -/
theorem scratch_next (t : Fin cfg0.N) (h : ¬t.val % 8 = 0) :
    (outsAt0 m c t.val t.isLt).2
      = k0_pay2 (outsAt0 m c (t.val - 1) (Nat.lt_of_le_of_lt (Nat.sub_le _ _) t.isLt)).2 (blkX m c t) (blkY m c t) := by
  by_cases h7 : t.val % 8 = 7
  · rw [outsAt0_C m c t h h7]
    frame_out
    exact congrArg (fun w => k0_pay2 w _ _) ((Memref.isWhole_whole cc0_scratch0).read_unread _)
  · rw [outsAt0_B m c t h h7]
    frame_out
    exact congrArg (fun w => k0_pay2 w _ _) ((Memref.isWhole_whole cc0_scratch0).read_unread _)

/-- The launch makes the gradient as one tile. -/
def launch : Launch cfg0.N 1024 1024 (argX m c) (argY m c) where
  row := fun _ => 0
  col := fun _ => 0
  blockX := blkX m c
  blockY := blkY m c
  blockX_eq := blockX m c
  blockY_eq := blockY m c
  zero := k0_pay1 (F := Ideal)
  zero_eq := start_apply
  step := k0_pay2 (F := Ideal)
  step_eq := step_apply
  tile := fun n h => (outsAt0 m c n h).2
  first := scratch_first m c
  next := scratch_next m c
  out := fun n h => (outsAt0 m c n h).1
  last := fun t h7 => by
    rw [outsAt0_C m c t (by omega) h7]
    frame_out
    rfl

/-- The launch leaves the gradient. -/
theorem result_apply (r : Fin 1024) (q : Fin 1024) :
    (Value.G2 m c : Vec Ideal S1024x1024 .bf16) (ix2 r q) = grad (argX m c) (argY m c) r.val q.val := by
  have hp : Value.pt2Of (ix2 r q : S1024x1024.Idx) = 8 * 0 + 7 := by
    show 8 * (1 * (r.val / 1024 - 0) + 1 * (q.val / 1024 - 0)) + 7 = _
    omega
  have hN : Value.pt2Of (ix2 r q : S1024x1024.Idx) < cfg0.N := lt_of_lt_of_eq (by rw [hp]; omega) N_0.symm
  unfold Value.G2
  rw [dif_pos hN, ← Value.outsAt0_sweep m c _ hN]
  refine ((launch m c).out_eq hN hp _).trans (congrArg₂ (grad _ _) ?_ ?_)
  · show 0 + r.val % 1024 = r.val
    omega
  · show 0 + q.val % 1024 = q.val
    omega

end Cert.KernelOIdeal.Hand

namespace Cert.ReferenceOIdeal.Hand

open Cert.ReferenceOIdeal Cert.ReferenceOIdeal.Gen
open Idealize.ShloMosaic Idealize.ShloMosaic.TcCoe Idealize.SL.Sem
open Cert.Weight

/-- The reference's result is the gradient: it multiplies with the factors in the other order, and transposes. -/
theorem result_apply (x : FVec Ideal S16384x1024 .bf16) (y : FVec Ideal S16384x1024 .bf16) (r : Fin 1024) (q : Fin 1024) :
    truncf .bf16 (transpose S1024x1024 [1, 0] (Host.dotGeneral (F := Ideal) (φ₁ := .f32) (φ₂ := .f32)
      dot_S16384x1024_S16384x1024_S1024x1024_0_0_1_1_n_n none (extf .f32 y bitsLt_bf16_f32) (extf .f32 x bitsLt_bf16_f32))
      transposes_S1024x1024_S1024x1024_1_0) bitsLt_bf16_f32 (ix2 r q) = grad x y r.val q.val := by
  pointwise
  unfold grad
  refine Finset.sum_congr rfl fun t _ => ?_
  rw [entry_ix2, entry_ix2, mul_comm]

end Cert.ReferenceOIdeal.Hand

namespace Cert.Proof.O

open Idealize.ShloMosaic.Tactic Idealize.ShloMosaic.TcCoe
open Idealize.ShloMosaic Idealize.SL.Sem
open Cert.KernelOIdeal

/-- The two programs have one text, so the kernel's frame is the one run's at `F := Bits`. -/
theorem frame_text : Cert.quiescent_KernelO
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1))
          ∧ r.2.sem = fun _ => 0) := by
  sl_kernel_rfl

/-- The kernel as run in bits. -/
theorem frame_kernel : Cert.quiescent_KernelO := frame_text.mpr fun m ρ _ => Gen.frame (F := Bits) m ρ

/-- The kernel over the extended reals. -/
theorem frame_ideal : Cert.quiescent_KernelOIdeal := fun m ρ _ => Gen.frame (F := Ideal) m ρ

/-- The reference runs its operations and declares no semaphore. -/
theorem frame_reference : Cert.quiescent_ReferenceOIdeal := fun m ρ _ =>
  (θ_run Cert.ReferenceOIdeal.defs _ _).mono
    (fun r h => ⟨fun c => (h c).2, Idealize.ShloMosaic.sem_eq_zero_of_no_sems (by decide) r.2⟩)
    (Cert.ReferenceOIdeal.Value.run (F := Ideal) m ρ)

/-- From memories that agree on the arguments, the kernel and the reference end with the same gradient. -/
theorem values : Cert.algebraic_KernelOIdeal_ReferenceOIdeal := fun m g m' g' _ hargs => by
  refine ⟨fun c => Value.G2 m c, Value.run m g, (θ_run Cert.ReferenceOIdeal.defs _ _).mono (fun r h c => ⟨?_, (h c).2⟩)
    (Cert.ReferenceOIdeal.Value.run (F := Ideal) m' g')⟩
  refine (h c).1.trans (Weight.ext_ix2 fun r q => ?_)
  rw [(hargs c).1, (hargs c).2]
  exact (Cert.ReferenceOIdeal.Hand.result_apply _ _ r q).trans (Hand.result_apply m c r q).symm

end Cert.Proof.O

end
-- ==== Proof.WeightIn.lean ====
/-
  The call that makes the gradient of `w_in`: what its launch leaves is the gradient, and so is what the reference leaves.
-/
module

public import proofs.«01_k».proof.Defs
public import proofs.«01_k».proof.Proof.WeightGrad
public import proofs.«01_k».proof.Proof.Gen.KernelIn
public import proofs.«01_k».proof.Proof.Gen.KernelInIdeal.Value
public import proofs.«01_k».proof.Proof.Gen.ReferenceInIdeal.Run
public import Idealize.ShloMosaic.Adequacy
public import Idealize.ShloMosaic.Init

@[expose] public section

set_option maxRecDepth 16384

noncomputable section

namespace Cert.KernelInIdeal.Hand

open Cert.KernelInIdeal Cert.KernelInIdeal.Gen
open Idealize.ShloMosaic Idealize.ShloMosaic.TcCoe Idealize.SL.Sem
open Cert.Weight

variable (m : (ℓ : Loc nD τ sig) → Buf (Elt Ideal) ℓ) (c : Dev nD)

/-- The two arguments. -/
abbrev argX : Vec Ideal S16384x1024 .bf16 := m ((c.tc : Thread nD τ).loc main_arg0)
abbrev argY : Vec Ideal S16384x2048 .bf16 := m ((c.tc : Thread nD τ).loc main_arg1)

/-- The blocks a point reads: the chunk's rows of the two arguments, the second's columns those of the point's tile. -/
theorem index_eq : ∀ t : Fin cfg0.N, win0_0.index t = ![t.val % 8, 0] ∧ win0_1.index t = ![t.val % 8, t.val / 8] :=
  (by decide +kernel : ∀ t : Fin grid0.N, _)

/-- The two blocks. -/
abbrev blkX (t : Fin cfg0.N) : Vec Ideal S2048x1024 .bf16 := iblk m c 0 t
abbrev blkY (t : Fin cfg0.N) : Vec Ideal S2048x1024 .bf16 := iblk m c 1 t

/-- An entry of the first argument's block. -/
theorem blockX (t : Fin cfg0.N) (s : Fin 2048) (r : Fin 1024) :
    blkX m c t (ix2 s r) = entry (argX m c) (t.val % 8 * 2048 + s.val) (0 + r.val) := by
  refine Eq.trans ?_ (eq_entry (argX m c) (((cfg0.win 0).blk t).view.emb (ix2 s r)) ?_ ?_)
  · unfold blkX iblk
    entry_read
    rfl
  · blk_simp [(index_eq t).1]
  · blk_simp [(index_eq t).1]

/-- An entry of the second argument's block. -/
theorem blockY (t : Fin cfg0.N) (s : Fin 2048) (q : Fin 1024) :
    blkY m c t (ix2 s q) = entry (argY m c) (t.val % 8 * 2048 + s.val) (t.val / 8 * 1024 + q.val) := by
  refine Eq.trans ?_ (eq_entry (argY m c) (((cfg0.win 1).blk t).view.emb (ix2 s q)) ?_ ?_)
  · unfold blkY iblk
    entry_read
    rfl
  · blk_simp [(index_eq t).2]
  · blk_simp [(index_eq t).2]

/-- The first chunk starts from zero. -/
theorem start_apply (r : Fin 1024) (q : Fin 1024) : (k0_pay1 (F := Ideal)) (ix2 r q) = 0 := by
  pointwise [k0_pay1]

/-- One chunk's step adds the blocks' product. -/
theorem step_apply (w : Vec Ideal S1024x1024 .f32) (x : Vec Ideal S2048x1024 .bf16) (y : Vec Ideal S2048x1024 .bf16)
    (r : Fin 1024) (q : Fin 1024) : k0_pay2 w x y (ix2 r q) = w (ix2 r q) + ∑ s : Fin 2048, x (ix2 s r) * y (ix2 s q) := by
  pointwise [k0_pay2]

/-- At a run's first point the scratch tile is stepped from zero. -/
theorem scratch_first (t : Fin cfg0.N) (h : t.val % 8 = 0) :
    (outsAt0 m c t.val t.isLt).2 = k0_pay2 k0_pay1 (blkX m c t) (blkY m c t) := by
  rw [outsAt0_A m c t h (by omega)]
  frame_out

/-- At a later point it is stepped from what the point before left. -/
theorem scratch_next (t : Fin cfg0.N) (h : ¬t.val % 8 = 0) :
    (outsAt0 m c t.val t.isLt).2
      = k0_pay2 (outsAt0 m c (t.val - 1) (Nat.lt_of_le_of_lt (Nat.sub_le _ _) t.isLt)).2 (blkX m c t) (blkY m c t) := by
  by_cases h7 : t.val % 8 = 7
  · rw [outsAt0_C m c t h h7]
    frame_out
    exact congrArg (fun w => k0_pay2 w _ _) ((Memref.isWhole_whole cc0_scratch0).read_unread _)
  · rw [outsAt0_B m c t h h7]
    frame_out
    exact congrArg (fun w => k0_pay2 w _ _) ((Memref.isWhole_whole cc0_scratch0).read_unread _)

/-- The launch makes the gradient tile by tile: two tiles of 1024 columns. -/
def launch : Launch cfg0.N 1024 1024 (argX m c) (argY m c) where
  row := fun _ => 0
  col := fun b => b * 1024
  blockX := blkX m c
  blockY := blkY m c
  blockX_eq := blockX m c
  blockY_eq := blockY m c
  zero := k0_pay1 (F := Ideal)
  zero_eq := start_apply
  step := k0_pay2 (F := Ideal)
  step_eq := step_apply
  tile := fun n h => (outsAt0 m c n h).2
  first := scratch_first m c
  next := scratch_next m c
  out := fun n h => (outsAt0 m c n h).1
  last := fun t h7 => by
    rw [outsAt0_C m c t (by omega) h7]
    frame_out
    rfl

/-- The launch leaves the gradient. -/
theorem result_apply (r : Fin 1024) (q : Fin 2048) :
    (Value.G2 m c : Vec Ideal S1024x2048 .bf16) (ix2 r q) = grad (argX m c) (argY m c) r.val q.val := by
  have hp : Value.pt2Of (ix2 r q : S1024x2048.Idx) = 8 * (q.val / 1024) + 7 := by
    show 8 * (2 * (r.val / 1024 - 0) + 1 * (q.val / 1024 - 0)) + 7 = _
    omega
  have hN : Value.pt2Of (ix2 r q : S1024x2048.Idx) < cfg0.N := lt_of_lt_of_eq (by rw [hp]; omega) N_0.symm
  unfold Value.G2
  rw [dif_pos hN, ← Value.outsAt0_sweep m c _ hN]
  refine ((launch m c).out_eq hN hp _).trans (congrArg₂ (grad _ _) ?_ ?_)
  · show 0 + r.val % 1024 = r.val
    omega
  · show q.val / 1024 * 1024 + q.val % 1024 = q.val
    omega

end Cert.KernelInIdeal.Hand

namespace Cert.ReferenceInIdeal.Hand

open Cert.ReferenceInIdeal Cert.ReferenceInIdeal.Gen
open Idealize.ShloMosaic Idealize.ShloMosaic.TcCoe Idealize.SL.Sem
open Cert.Weight

/-- The reference's result is the gradient: it multiplies with the factors in the other order, and transposes. -/
theorem result_apply (x : FVec Ideal S16384x1024 .bf16) (y : FVec Ideal S16384x2048 .bf16) (r : Fin 1024) (q : Fin 2048) :
    truncf .bf16 (transpose S1024x2048 [1, 0] (Host.dotGeneral (F := Ideal) (φ₁ := .f32) (φ₂ := .f32)
      dot_S16384x2048_S16384x1024_S2048x1024_0_0_1_1_n_n none (extf .f32 y bitsLt_bf16_f32) (extf .f32 x bitsLt_bf16_f32))
      transposes_S2048x1024_S1024x2048_1_0) bitsLt_bf16_f32 (ix2 r q) = grad x y r.val q.val := by
  pointwise
  unfold grad
  refine Finset.sum_congr rfl fun t _ => ?_
  rw [entry_ix2, entry_ix2, mul_comm]

end Cert.ReferenceInIdeal.Hand

namespace Cert.Proof.In

open Idealize.ShloMosaic.Tactic Idealize.ShloMosaic.TcCoe
open Idealize.ShloMosaic Idealize.SL.Sem
open Cert.KernelInIdeal

/-- The two programs have one text, so the kernel's frame is the one run's at `F := Bits`. -/
theorem frame_text : Cert.quiescent_KernelIn
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1))
          ∧ r.2.sem = fun _ => 0) := by
  sl_kernel_rfl

/-- The kernel as run in bits. -/
theorem frame_kernel : Cert.quiescent_KernelIn := frame_text.mpr fun m ρ _ => Gen.frame (F := Bits) m ρ

/-- The kernel over the extended reals. -/
theorem frame_ideal : Cert.quiescent_KernelInIdeal := fun m ρ _ => Gen.frame (F := Ideal) m ρ

/-- The reference runs its operations and declares no semaphore. -/
theorem frame_reference : Cert.quiescent_ReferenceInIdeal := fun m ρ _ =>
  (θ_run Cert.ReferenceInIdeal.defs _ _).mono
    (fun r h => ⟨fun c => (h c).2, Idealize.ShloMosaic.sem_eq_zero_of_no_sems (by decide) r.2⟩)
    (Cert.ReferenceInIdeal.Value.run (F := Ideal) m ρ)

/-- From memories that agree on the arguments, the kernel and the reference end with the same gradient. -/
theorem values : Cert.algebraic_KernelInIdeal_ReferenceInIdeal := fun m g m' g' _ hargs => by
  refine ⟨fun c => Value.G2 m c, Value.run m g, (θ_run Cert.ReferenceInIdeal.defs _ _).mono (fun r h c => ⟨?_, (h c).2⟩)
    (Cert.ReferenceInIdeal.Value.run (F := Ideal) m' g')⟩
  refine (h c).1.trans (Weight.ext_ix2 fun r q => ?_)
  rw [(hargs c).1, (hargs c).2]
  exact (Cert.ReferenceInIdeal.Hand.result_apply _ _ r q).trans (Hand.result_apply m c r q).symm

end Cert.Proof.In

end
-- ==== Proof.NormGrad.lean ====
/-
  The gradients of `(rms_norm(x, g) * (1 + sc) + sh) @ w`, row by row: the residual stream's as the kernel writes it and as
  differentiation writes it, and the sums over the 16384 tokens taken 512 at a time.
-/
module

public import proofs.«01_k».proof.Proof.WeightGrad

@[expose] public section

noncomputable section

namespace Cert.Norm

open Idealize.ShloMosaic
open Cert.Weight

/-- A row of an array. -/
def line {n : ℕ} (a : (⟨2, ![n, 1024]⟩ : Shape).Idx → EReal) (r : ℕ) : Fin 1024 → EReal := fun j => entry a r j.val

/-- A row's entry is the array's own. -/
theorem line_ix2 {n : ℕ} (a : (⟨2, ![n, 1024]⟩ : Shape).Idx → EReal) (r : Fin n) (j : Fin 1024) : line a r.val j = a (ix2 r j) :=
  entry_ix2 a r j

/-- The only row of an array that has one. -/
theorem line_zero (a : (⟨2, ![1, 1024]⟩ : Shape).Idx → EReal) (j : Fin 1024) : line a 0 j = a (ix2 0 j) := entry_ix2 a 0 j

/-- The number of entries of a row, as the programs' literal. -/
abbrev width : EReal := Ideal.ofBits .f32 1149239296#32

/-- The small number added to the mean of the squares. -/
abbrev small : EReal := Ideal.ofBits .f32 897988541#32

/-- Minus a half, the factor in the derivative of the inverse square root. -/
abbrev minusHalf : EReal := Ideal.ofBits .f32 3204448256#32

section Row

variable {n : ℕ} (w : EReal)

/-- The mean of a row's squares, with the small number added; `w` is the number of the row's entries. -/
def square (x : Fin n → EReal) : EReal := Ideal.div (∑ k, x k * x k) w + small

/-- The factor that normalises a row. -/
def scale (x : Fin n → EReal) : EReal := Ideal.rsqrt (square w x)

/-- A row's gradient as the kernel writes it: `e` is the gradient of the normalised row. -/
def row (x e : Fin n → EReal) (j : Fin n) : EReal :=
  scale w x * (e j - x j * scale w x * Ideal.div (∑ k, e k * (x k * scale w x)) w)

/-- The gradient that reaches the mean of the squares, over the number of entries. -/
def pull (x e : Fin n → EReal) : EReal :=
  Ideal.div ((∑ k, x k * e k) * (minusHalf * Ideal.div (scale w x) (square w x))) w

end Row

/-- The gradient of a normalised row, from the gradient `d` of the modulated one. -/
def tilt (d g sc : Fin 1024 → EReal) (j : Fin 1024) : EReal := d j * (1 + sc j) * g j

/-- What a token adds to the gradient of the scaling. -/
def scaling (x d g : Fin 1024 → EReal) (j : Fin 1024) : EReal := d j * (x j * scale width x * g j)

/-- What a token adds to the gradient of the gain. -/
def gain (x d sc : Fin 1024 → EReal) (j : Fin 1024) : EReal := d j * (1 + sc j) * (x j * scale width x)

/-- The width is 1024. -/
theorem width_eq : width = ((1024 : ℝ) : EReal) := by
  simp [width, Ideal.ofBits, Ideal.ieee, -EReal.coe_mul]
  norm_num

/-- The small number is a positive real. -/
theorem small_eq : ∃ ε : ℝ, 0 < ε ∧ small = (ε : EReal) := by
  refine ⟨8796093 / 8388608 / 2 ^ 20, by norm_num, ?_⟩
  simp [small, Ideal.ofBits, Ideal.ieee, -EReal.coe_mul]
  norm_num

/-- The factor is minus a half. -/
theorem minusHalf_eq : minusHalf = ((-(1 / 2) : ℝ) : EReal) := by
  simp [minusHalf, Ideal.ofBits, Ideal.ieee, -EReal.coe_mul]
  norm_num

/-- A square is never negative. -/
theorem mul_self_nonneg (a : EReal) : 0 ≤ a * a := by
  rcases le_total 0 a with h | h
  · exact mul_nonneg h h
  · rw [← neg_mul_neg]
    exact mul_nonneg (EReal.neg_nonneg.mpr h) (EReal.neg_nonneg.mpr h)

/-- The factor is a real number that is not negative, whatever the row, and over the mean it is its own cube. -/
theorem scale_real {n : ℕ} {w : EReal} {N : ℝ} (hN : 0 < N) (hw : w = (N : EReal)) (x : Fin n → EReal) :
    ∃ ρ : ℝ, 0 ≤ ρ ∧ scale w x = (ρ : EReal) ∧ Ideal.div (scale w x) (square w x) = ((ρ * ρ * ρ : ℝ) : EReal) := by
  obtain ⟨ε, hε, he⟩ := small_eq
  have hS : 0 ≤ ∑ k, x k * x k := Finset.sum_nonneg fun k _ => mul_self_nonneg _
  unfold scale square
  rw [he, hw, Ideal.div_coe hN.ne']
  generalize ∑ k, x k * x k = s at hS
  induction s with
  | bot => exact absurd hS (by simp)
  | top =>
    refine ⟨0, le_refl _, ?_, ?_⟩ <;>
      rw [EReal.top_mul_coe_of_pos (by positivity), EReal.top_add_coe]
    · rfl
    · simp [Ideal.div, Ideal.rsqrt]
  | coe s =>
    have hs : 0 ≤ s := EReal.coe_nonneg.mp hS
    have hμ : 0 < s * (1 / N) + ε := by positivity
    rw [← EReal.coe_mul, ← EReal.coe_add]
    generalize s * (1 / N) + ε = μ at hμ
    have hr : Ideal.rsqrt (μ : EReal) = (((Real.sqrt μ)⁻¹ : ℝ) : EReal) := by
      rw [Ideal.rsqrt_coe, if_neg hμ.not_gt, if_neg hμ.ne']
    have hq : Real.sqrt μ * Real.sqrt μ = μ := Real.mul_self_sqrt hμ.le
    have hp : 0 < Real.sqrt μ := Real.sqrt_pos.mpr hμ
    refine ⟨(Real.sqrt μ)⁻¹, by positivity, hr, ?_⟩
    rw [hr, Ideal.div_coe hμ.ne', ← EReal.coe_mul]
    congr 1
    field_simp
    rw [pow_two, hq]

/-- A real factor that is not negative moves out of a sum. -/
theorem sum_mul_coe {ι : Type} (s : Finset ι) (f : ι → EReal) {ρ : ℝ} (h : 0 ≤ ρ) :
    ∑ k ∈ s, f k * (ρ : EReal) = (∑ k ∈ s, f k) * (ρ : EReal) := by
  classical
  induction s using Finset.induction_on with
  | empty => simp
  | insert a s ha ih =>
    rw [Finset.sum_insert ha, Finset.sum_insert ha, ih,
      EReal.right_distrib_of_nonneg_of_ne_top (EReal.coe_nonneg.mpr h) (EReal.coe_ne_top ρ)]

/-- Differentiation reaches the same row: the mean of the squares hands its gradient to both factors of each square. No value
    need be finite, as the normalising factor is a real number. -/
theorem row_eq {n : ℕ} {w : EReal} {N : ℝ} (hN : 0 < N) (hw : w = (N : EReal)) (x e : Fin n → EReal) (j : Fin n) :
    e j * scale w x + x j * pull w x e + pull w x e * x j = row w x e j := by
  obtain ⟨ρ, hρ, hr, hd⟩ := scale_real hN hw x
  have hs : ∑ k, e k * (x k * (ρ : EReal)) = (∑ k, x k * e k) * (ρ : EReal) := by
    rw [← sum_mul_coe _ _ hρ]
    exact Finset.sum_congr rfl fun k _ => by rw [← mul_assoc, mul_comm (e k)]
  have hκ : 0 ≤ ρ * ρ * ρ / (2 * N) := by positivity
  unfold row pull
  rw [hd, hr, hs, hw, minusHalf_eq, Ideal.div_coe hN.ne', Ideal.div_coe hN.ne']
  generalize ∑ k, x k * e k = p
  have hq : x j * (p * (((-(1 / 2) : ℝ) : EReal) * ((ρ * ρ * ρ : ℝ) : EReal)) * ((1 / N : ℝ) : EReal))
      = -(x j * p * ((ρ * ρ * ρ / (2 * N) : ℝ) : EReal)) := by
    rw [mul_assoc p, ← EReal.coe_mul, ← EReal.coe_mul, ← mul_assoc, ← mul_neg, ← EReal.coe_neg]
    congr 2
    field_simp
  have hm : (ρ : EReal) * (x j * ρ * (p * ρ * ((1 / N : ℝ) : EReal)))
      = x j * p * ((ρ * ρ * ρ / (2 * N) : ℝ) : EReal) + x j * p * ((ρ * ρ * ρ / (2 * N) : ℝ) : EReal) := by
    rw [← EReal.left_distrib_of_nonneg (EReal.coe_nonneg.mpr hκ) (EReal.coe_nonneg.mpr hκ), ← EReal.coe_add]
    have hc : ((ρ * ρ * ρ / (2 * N) + ρ * ρ * ρ / (2 * N) : ℝ) : EReal) = (ρ : EReal) * ρ * ρ * ((1 / N : ℝ) : EReal) := by
      rw [← EReal.coe_mul, ← EReal.coe_mul, ← EReal.coe_mul]
      congr 1
      field_simp
      ring
    rw [hc]
    ac_rfl
  rw [mul_comm _ (x j), hq, sub_eq_add_neg, EReal.left_distrib_of_nonneg_of_ne_top (EReal.coe_nonneg.mpr hρ) (EReal.coe_ne_top ρ),
    mul_neg, hm, mul_comm (e j), add_assoc]
  generalize x j * p * ((ρ * ρ * ρ / (2 * N) : ℝ) : EReal) = z
  congr 1
  induction z with
  | bot => simp
  | top => simp
  | coe z => rw [← EReal.coe_add, ← EReal.coe_neg, ← EReal.coe_neg, ← EReal.coe_add, neg_add]

/-- What 32 tiles of 512 tokens add up to, when the first starts from zero: the sum over all tokens. -/
theorem sum_tiles {N : ℕ} (f : (n : ℕ) → n < N → Fin 1024 → EReal) (term : ℕ → Fin 1024 → EReal) (hN : N ≤ 32)
    (first : ∀ t : Fin N, t.val % 32 = 0 → ∀ j, f t.val t.isLt j = 0 + ∑ s : Fin 512, term (t.val * 512 + s.val) j)
    (next : ∀ t : Fin N, ¬t.val % 32 = 0 → ∀ j, f t.val t.isLt j
      = f (t.val - 1) (Nat.lt_of_le_of_lt (Nat.sub_le _ _) t.isLt) j + ∑ s : Fin 512, term (t.val * 512 + s.val) j)
    (t : Fin N) (ht : t.val % 32 = 31) (j : Fin 1024) : f t.val t.isLt j = ∑ n : Fin 16384, term n.val j := by
  rw [Pipeline.eq_sum_of_reset_step_apply_single_of_mod f 32 (fun _ => 0) (fun b j => ∑ s : Fin 512, term (b * 512 + s.val) j)
    first next hN t ht j, zero_add, ← Fin.sum_univ_eq_sum_range (fun b => ∑ s : Fin 512, term (b * 512 + s.val) j) 32]
  exact Fin.sum_univ_univ_mul_add 32 512 fun n => term n j

end Cert.Norm

end
-- ==== Proof.NormIn.lean ====
/-
  The call that takes the gradient of the input projection back through the normalisation: what its launch leaves is the
  four gradients, and so is what the reference leaves.
-/
module

public import proofs.«01_k».proof.Defs
public import proofs.«01_k».proof.Proof.NormGrad
public import proofs.«01_k».proof.Proof.Gen.KernelNormIn
public import proofs.«01_k».proof.Proof.Gen.KernelNormInIdeal.Value
public import proofs.«01_k».proof.Proof.Gen.ReferenceNormInIdeal.Run
public import Idealize.ShloMosaic.Adequacy
public import Idealize.ShloMosaic.Init

@[expose] public section

set_option maxRecDepth 16384

noncomputable section

namespace Cert.KernelNormInIdeal.Hand

open Cert.KernelNormInIdeal Cert.KernelNormInIdeal.Gen
open Idealize.ShloMosaic Idealize.ShloMosaic.TcCoe Idealize.SL.Sem
open Cert.Weight Cert.Norm

/-- The gradient of the modulated row `n`: the product with the weight's rows. -/
def back (a : (⟨2, ![16384, 2048]⟩ : Shape).Idx → EReal) (w : (⟨2, ![1024, 2048]⟩ : Shape).Idx → EReal) (n : ℕ) (j : Fin 1024) : EReal :=
  ∑ k : Fin 2048, entry a n k.val * entry w j.val k.val

/-- On the arrays it is the product of their own entries. -/
theorem back_ix2 (a : (⟨2, ![16384, 2048]⟩ : Shape).Idx → EReal) (w : (⟨2, ![1024, 2048]⟩ : Shape).Idx → EReal) (n : Fin 16384)
    (j : Fin 1024) : back a w n.val j = ∑ k : Fin 2048, a (ix2 n k) * w (ix2 j k) :=
  Finset.sum_congr rfl fun k _ => by rw [entry_ix2, entry_ix2]

section Point

variable (a : Vec Ideal S512x2048 .bf16) (w : Vec Ideal S1024x2048 .bf16) (x r : Vec Ideal S512x1024 .f32) (g sc u : Vec Ideal S1x1024 .f32)
  (d y : FVec Ideal S512x1024 .f32) (q : FVec Ideal S512x1 .f32) (s : Fin 512) (j : Fin 1024)

/-- A point's product, entry by entry. -/
theorem back_apply : k0_pay7 a w (ix2 s j) = ∑ k : Fin 2048, a (ix2 s k) * w (ix2 j k) := by pointwise [k0_pay7]
/-- The normalising factor of a row. -/
theorem scale_apply : k0_pay8 x (ix2 s 0) = scale width fun k => x (ix2 s k) := by
  pointwise [k0_pay8]
  rfl
/-- A normalised entry. -/
theorem unit_apply : k0_pay9 x (ix2 s j) = x (ix2 s j) * scale width fun k => x (ix2 s k) := by
  pointwise [k0_pay9, k0_pay8]
  rfl
/-- The stream's gradient, from the product, the factor and the normalised rows. -/
theorem stream_apply : k0_pay3 d q y g sc r (ix2 s j) = r (ix2 s j) + q (ix2 s 0) * (d (ix2 s j) * (1 + sc (ix2 0 j)) * g (ix2 0 j)
    - y (ix2 s j) * Ideal.div (∑ k, d (ix2 s k) * (1 + sc (ix2 0 k)) * g (ix2 0 k) * y (ix2 s k)) width) := by
  pointwise [k0_pay3, k0_pay1]
/-- A tile's addition to the gradient of the shift. -/
theorem shift_step : k0_pay10 a w u (ix2 0 j) = u (ix2 0 j) + ∑ s, k0_pay7 a w (ix2 s j) := by pointwise [k0_pay10, k0_pay7]
/-- A tile's addition to the gradient of the scaling. -/
theorem scaling_step : k0_pay11 a w x g u (ix2 0 j)
    = u (ix2 0 j) + ∑ s, k0_pay7 a w (ix2 s j) * (k0_pay9 x (ix2 s j) * g (ix2 0 j)) := by pointwise [k0_pay11, k0_pay9, k0_pay8, k0_pay7]
/-- A tile's addition to the gradient of the gain. -/
theorem gain_step : k0_pay2 d y sc u (ix2 0 j) = u (ix2 0 j) + ∑ s, d (ix2 s j) * (1 + sc (ix2 0 j)) * y (ix2 s j) := by
  pointwise [k0_pay2, k0_pay1]
/-- The shift's sum starts from zero. -/
theorem zero_shift : (k0_pay4 (F := Ideal)) (ix2 0 j) = 0 := by pointwise [k0_pay4]
/-- The scaling's sum starts from zero. -/
theorem zero_scaling : (k0_pay5 (F := Ideal)) (ix2 0 j) = 0 := by pointwise [k0_pay5]
/-- The gain's sum starts from zero. -/
theorem zero_gain : (k0_pay6 (F := Ideal)) (ix2 0 j) = 0 := by pointwise [k0_pay6]

end Point

variable (m : (ℓ : Loc nD τ sig) → Buf (Elt Ideal) ℓ) (c : Dev nD)

/-- The six arguments. -/
abbrev argA : Vec Ideal S16384x2048 .bf16 := m ((c.tc : Thread nD τ).loc main_arg0)
abbrev argW : Vec Ideal S1024x2048 .bf16 := m ((c.tc : Thread nD τ).loc main_arg1)
abbrev argX : Vec Ideal S16384x1024 .f32 := m ((c.tc : Thread nD τ).loc main_arg2)
abbrev argG : Vec Ideal S1x1024 .f32 := m ((c.tc : Thread nD τ).loc main_arg3)
abbrev argC : Vec Ideal S1x1024 .f32 := m ((c.tc : Thread nD τ).loc main_arg4)
abbrev argR : Vec Ideal S16384x1024 .f32 := m ((c.tc : Thread nD τ).loc main_arg5)

/-- The blocks a point reads: its 512 rows of the three long arrays, and the others whole. -/
theorem index_eq : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- The blocks a point writes. -/
theorem index_out : ∀ t : Fin cfg0.N, win0_6.index t = ![t.val, 0] ∧ win0_7.index t = ![0, 0] ∧ win0_8.index t = ![0, 0]
    ∧ win0_9.index t = ![0, 0] :=
  (by decide +kernel : ∀ t : Fin grid0.N, _)

variable (t : Fin cfg0.N) (s : Fin 512) (j : Fin 1024)

/-- The six blocks. -/
abbrev blkA : Vec Ideal S512x2048 .bf16 := iblk m c 0 t
abbrev blkW : Vec Ideal S1024x2048 .bf16 := iblk m c 1 t
abbrev blkX : Vec Ideal S512x1024 .f32 := iblk m c 2 t
abbrev blkG : Vec Ideal S1x1024 .f32 := iblk m c 3 t
abbrev blkC : Vec Ideal S1x1024 .f32 := iblk m c 4 t
abbrev blkR : Vec Ideal S512x1024 .f32 := iblk m c 5 t

/-- An entry of the gradient's block. -/
theorem blockA (k : Fin 2048) : blkA m c t (ix2 s k) = entry (argA m c) (t.val * 512 + s.val) k.val := by
  refine Eq.trans ?_ (eq_entry (argA m c) (((cfg0.win 0).blk t).view.emb (ix2 s k)) ?_ ?_)
  · unfold blkA iblk
    entry_read
    rfl
  · blk_simp [(index_eq t).1]
  · blk_simp [(index_eq t).1]
/-- An entry of the weight's block. -/
theorem blockW (k : Fin 2048) : blkW m c t (ix2 j k) = entry (argW m c) j.val k.val := by
  refine Eq.trans ?_ (eq_entry (argW m c) (((cfg0.win 1).blk t).view.emb (ix2 j k)) ?_ ?_)
  · unfold blkW iblk
    entry_read
    rfl
  · blk_simp [(index_eq t).2.1]
  · blk_simp [(index_eq t).2.1]
/-- An entry of the stream's block. -/
theorem blockX : blkX m c t (ix2 s j) = line (argX m c) (t.val * 512 + s.val) j := by
  refine Eq.trans ?_ (eq_entry (argX m c) (((cfg0.win 2).blk t).view.emb (ix2 s j)) ?_ ?_)
  · unfold blkX iblk
    entry_read
    rfl
  · blk_simp [(index_eq t).2.2.1]
  · blk_simp [(index_eq t).2.2.1]
/-- An entry of the gain's block. -/
theorem blockG : blkG m c t (ix2 0 j) = line (argG m c) 0 j := by
  refine Eq.trans ?_ (eq_entry (argG m c) (((cfg0.win 3).blk t).view.emb (ix2 0 j)) ?_ ?_)
  · unfold blkG iblk
    entry_read
    rfl
  · blk_simp [(index_eq t).2.2.2.1]
    rfl
  · blk_simp [(index_eq t).2.2.2.1]
/-- An entry of the scaling's block. -/
theorem blockC : blkC m c t (ix2 0 j) = line (argC m c) 0 j := by
  refine Eq.trans ?_ (eq_entry (argC m c) (((cfg0.win 4).blk t).view.emb (ix2 0 j)) ?_ ?_)
  · unfold blkC iblk
    entry_read
    rfl
  · blk_simp [(index_eq t).2.2.2.2.1]
    rfl
  · blk_simp [(index_eq t).2.2.2.2.1]
/-- An entry of the block that is added. -/
theorem blockR : blkR m c t (ix2 s j) = line (argR m c) (t.val * 512 + s.val) j := by
  refine Eq.trans ?_ (eq_entry (argR m c) (((cfg0.win 5).blk t).view.emb (ix2 s j)) ?_ ?_)
  · unfold blkR iblk
    entry_read
    rfl
  · blk_simp [(index_eq t).2.2.2.2.2]
  · blk_simp [(index_eq t).2.2.2.2.2]

/-- The gradient of the modulated rows, of the arguments. -/
abbrev argD (n : ℕ) : Fin 1024 → EReal := back (argA m c) (argW m c) n

/-- A point's product, of the arguments. -/
theorem back_eq : k0_pay7 (blkA m c t) (blkW m c t) (ix2 s j) = argD m c (t.val * 512 + s.val) j := by
  rw [back_apply]
  exact Finset.sum_congr rfl fun k _ => by rw [blockA, blockW]
/-- A point's normalising factor. -/
theorem scale_eq : k0_pay8 (blkX m c t) (ix2 s 0) = scale width (line (argX m c) (t.val * 512 + s.val)) :=
  (scale_apply _ s).trans (congrArg (scale width) (funext fun k => blockX m c t s k))
/-- A point's normalised rows. -/
theorem unit_eq : k0_pay9 (blkX m c t) (ix2 s j)
    = line (argX m c) (t.val * 512 + s.val) j * scale width (line (argX m c) (t.val * 512 + s.val)) :=
  (unit_apply _ s j).trans (congrArg₂ (· * ·) (blockX m c t s j) (congrArg (scale width) (funext fun k => blockX m c t s k)))

/-- The stream's gradient at a point's row. -/
theorem stream_eq : (outsAt0 m c t.val t.isLt).1 (ix2 s j) = line (argR m c) (t.val * 512 + s.val) j
    + row width (line (argX m c) (t.val * 512 + s.val)) (tilt (argD m c (t.val * 512 + s.val)) (line (argG m c) 0) (line (argC m c) 0)) j := by
  have h : (outsAt0 m c t.val t.isLt).1 = k0_pay3 (k0_pay7 (blkA m c t) (blkW m c t)) (k0_pay8 (blkX m c t)) (k0_pay9 (blkX m c t))
      (blkG m c t) (blkC m c t) (blkR m c t) := by
    by_cases h : t.val % 32 = 0
    · rw [outsAt0_A m c t h]
      frame_out
    · rw [outsAt0_B m c t h]
      frame_out
  rw [h, stream_apply, scale_eq, blockR]
  simp only [back_eq, unit_eq, blockG, blockC]
  rfl

/-- What a tile adds to the shift's sum. -/
theorem shift_eq (u : Vec Ideal S1x1024 .f32) : k0_pay10 (blkA m c t) (blkW m c t) u (ix2 0 j)
    = u (ix2 0 j) + ∑ s : Fin 512, argD m c (t.val * 512 + s.val) j := by
  rw [shift_step]
  simp only [back_eq]
/-- What a tile adds to the scaling's sum. -/
theorem scaling_eq (u : Vec Ideal S1x1024 .f32) : k0_pay11 (blkA m c t) (blkW m c t) (blkX m c t) (blkG m c t) u (ix2 0 j)
    = u (ix2 0 j) + ∑ s : Fin 512, scaling (line (argX m c) (t.val * 512 + s.val)) (argD m c (t.val * 512 + s.val)) (line (argG m c) 0) j := by
  rw [scaling_step]
  simp only [back_eq, unit_eq, blockG]
  rfl
/-- What a tile adds to the gain's sum. -/
theorem gain_eq (u : Vec Ideal S1x1024 .f32) : k0_pay2 (k0_pay7 (blkA m c t) (blkW m c t)) (k0_pay9 (blkX m c t)) (blkC m c t) u (ix2 0 j)
    = u (ix2 0 j) + ∑ s : Fin 512, gain (line (argX m c) (t.val * 512 + s.val)) (argD m c (t.val * 512 + s.val)) (line (argC m c) 0) j := by
  rw [gain_step]
  simp only [back_eq, unit_eq, blockC]
  rfl

/-- The shift's sum, complete at the last point. -/
theorem shift_last (ht : t.val % 32 = 31) : (outsAt0 m c t.val t.isLt).2.1 (ix2 0 j) = ∑ n : Fin 16384, argD m c n.val j :=
  sum_tiles (fun n h j => (outsAt0 m c n h).2.1 (ix2 0 j)) (argD m c) N_0.le
    (fun t h j => by
      rw [outsAt0_A m c t h]
      frame_out
      rw [← zero_shift j]
      exact shift_eq m c t j _)
    (fun t h j => by
      rw [outsAt0_B m c t h]
      frame_out
      exact shift_eq m c t j _) t ht j
/-- The scaling's sum, complete at the last point. -/
theorem scaling_last (ht : t.val % 32 = 31) : (outsAt0 m c t.val t.isLt).2.2.1 (ix2 0 j)
    = ∑ n : Fin 16384, scaling (line (argX m c) n.val) (argD m c n.val) (line (argG m c) 0) j :=
  sum_tiles (fun n h j => (outsAt0 m c n h).2.2.1 (ix2 0 j))
    (fun n => scaling (line (argX m c) n) (argD m c n) (line (argG m c) 0)) N_0.le
    (fun t h j => by
      rw [outsAt0_A m c t h]
      frame_out
      rw [← zero_scaling j]
      exact scaling_eq m c t j _)
    (fun t h j => by
      rw [outsAt0_B m c t h]
      frame_out
      exact scaling_eq m c t j _) t ht j
/-- The gain's sum, complete at the last point. -/
theorem gain_last (ht : t.val % 32 = 31) : (outsAt0 m c t.val t.isLt).2.2.2 (ix2 0 j)
    = ∑ n : Fin 16384, gain (line (argX m c) n.val) (argD m c n.val) (line (argC m c) 0) j :=
  sum_tiles (fun n h j => (outsAt0 m c n h).2.2.2 (ix2 0 j))
    (fun n => gain (line (argX m c) n) (argD m c n) (line (argC m c) 0)) N_0.le
    (fun t h j => by
      rw [outsAt0_A m c t h]
      frame_out
      rw [← zero_gain j]
      exact gain_eq m c t j _)
    (fun t h j => by
      rw [outsAt0_B m c t h]
      frame_out
      exact gain_eq m c t j _) t ht j

/-- The four results. -/
def outX : Vec Ideal S16384x1024 .f32 := fun i => line (argR m c) (i 0).val (i 1)
  + row width (line (argX m c) (i 0).val) (tilt (argD m c (i 0).val) (line (argG m c) 0) (line (argC m c) 0)) (i 1)
def outShift : Vec Ideal S1x1024 .f32 := fun i => ∑ n : Fin 16384, argD m c n.val (i 1)
def outScaling : Vec Ideal S1x1024 .f32 := fun i =>
  ∑ n : Fin 16384, scaling (line (argX m c) n.val) (argD m c n.val) (line (argG m c) 0) (i 1)
def outGain : Vec Ideal S1x1024 .f32 := fun i =>
  ∑ n : Fin 16384, gain (line (argX m c) n.val) (argD m c n.val) (line (argC m c) 0) (i 1)

/-- Where the stream's block of a point lies in its array. -/
theorem emb_stream (y : ((cfg0.win 6).xblock (cfg0.grid.coords t)).Idx) (x : S512x1024.Idx)
    (hx : x = (cfg0.win 6).xinj (cfg0.grid.coords t) y) :
    ((((cfg0.win 6).blk t).view.emb y : S16384x1024.Idx) 0).val = t.val * 512 + (x 0).val
      ∧ (((cfg0.win 6).blk t).view.emb y : S16384x1024.Idx) 1 = x 1 := by
  subst hx
  exact ⟨by blk_simp [(index_out t).1], Fin.ext (by blk_simp [(index_out t).1])⟩
/-- The shift's block is its array. -/
theorem emb_shift (y : ((cfg0.win 7).xblock (cfg0.grid.coords t)).Idx) (x : S1x1024.Idx)
    (hx : x = (cfg0.win 7).xinj (cfg0.grid.coords t) y) :
    (((cfg0.win 7).blk t).view.emb y : S1x1024.Idx) 1 = x 1 := by
  subst hx
  exact Fin.ext (by blk_simp [(index_out t).2.1])
/-- The scaling's block is its array. -/
theorem emb_scaling (y : ((cfg0.win 8).xblock (cfg0.grid.coords t)).Idx) (x : S1x1024.Idx)
    (hx : x = (cfg0.win 8).xinj (cfg0.grid.coords t) y) :
    (((cfg0.win 8).blk t).view.emb y : S1x1024.Idx) 1 = x 1 := by
  subst hx
  exact Fin.ext (by blk_simp [(index_out t).2.2.1])
/-- The gain's block is its array. -/
theorem emb_gain (y : ((cfg0.win 9).xblock (cfg0.grid.coords t)).Idx) (x : S1x1024.Idx)
    (hx : x = (cfg0.win 9).xinj (cfg0.grid.coords t) y) :
    (((cfg0.win 9).blk t).view.emb y : S1x1024.Idx) 1 = x 1 := by
  subst hx
  exact Fin.ext (by blk_simp [(index_out t).2.2.2])

/-- The stream's gradient after the run. -/
theorem final_stream : (dats m 0 c).arrAt 6 cfg0.N = outX m c := by
  refine (dats m 0 c).arrAt_eq_of_covers 6 _ (by decide +kernel) fun t hf y => ?_
  rw [after0_6]
  generalize hx : ((cfg0.win 6).xinj (cfg0.grid.coords t) y : S512x1024.Idx) = x
  obtain ⟨h0, h1⟩ := emb_stream t y x hx.symm
  show (outsAt0 m c t.val t.isLt).1 x = _
  unfold outX
  rw [h0, h1]
  obtain ⟨s, j, rfl⟩ : ∃ (s : Fin 512) (j : Fin 1024), x = ix2 s j := ⟨x 0, x 1, eq_ix2 x⟩
  exact stream_eq m c t s j

/-- The shift's gradient after the run. -/
theorem final_shift : (dats m 0 c).arrAt 7 cfg0.N = outShift m c := by
  refine (dats m 0 c).arrAt_eq_of_covers 7 _ (by decide +kernel) fun t hf y => ?_
  rw [after0_7]
  generalize hx : ((cfg0.win 7).xinj (cfg0.grid.coords t) y : S1x1024.Idx) = x
  have h1 := emb_shift t y x hx.symm
  show (outsAt0 m c t.val t.isLt).2.1 x = _
  unfold outShift
  rw [h1]
  obtain ⟨s, j, rfl⟩ : ∃ (s : Fin 1) (j : Fin 1024), x = ix2 s j := ⟨x 0, x 1, eq_ix2 x⟩
  rw [Subsingleton.elim s 0]
  exact shift_last m c t j ((flush0_7 t).mp hf)

/-- The scaling's gradient after the run. -/
theorem final_scaling : (dats m 0 c).arrAt 8 cfg0.N = outScaling m c := by
  refine (dats m 0 c).arrAt_eq_of_covers 8 _ (by decide +kernel) fun t hf y => ?_
  rw [after0_8]
  generalize hx : ((cfg0.win 8).xinj (cfg0.grid.coords t) y : S1x1024.Idx) = x
  have h1 := emb_scaling t y x hx.symm
  show (outsAt0 m c t.val t.isLt).2.2.1 x = _
  unfold outScaling
  rw [h1]
  obtain ⟨s, j, rfl⟩ : ∃ (s : Fin 1) (j : Fin 1024), x = ix2 s j := ⟨x 0, x 1, eq_ix2 x⟩
  rw [Subsingleton.elim s 0]
  exact scaling_last m c t j ((flush0_8 t).mp hf)

/-- The gain's gradient after the run. -/
theorem final_gain : (dats m 0 c).arrAt 9 cfg0.N = outGain m c := by
  refine (dats m 0 c).arrAt_eq_of_covers 9 _ (by decide +kernel) fun t hf y => ?_
  rw [after0_9]
  generalize hx : ((cfg0.win 9).xinj (cfg0.grid.coords t) y : S1x1024.Idx) = x
  have h1 := emb_gain t y x hx.symm
  show (outsAt0 m c t.val t.isLt).2.2.2 x = _
  unfold outGain
  rw [h1]
  obtain ⟨s, j, rfl⟩ : ∃ (s : Fin 1) (j : Fin 1024), x = ix2 s j := ⟨x 0, x 1, eq_ix2 x⟩
  rw [Subsingleton.elim s 0]
  exact gain_last m c t j ((flush0_9 t).mp hf)

end Cert.KernelNormInIdeal.Hand

namespace Cert.Proof.NormIn

open Idealize.ShloMosaic.Tactic Idealize.ShloMosaic.TcCoe
open Idealize.ShloMosaic Idealize.SL.Sem
open Cert.KernelNormInIdeal
open Cert.Weight Cert.Norm

/-- The two programs have one text, so the kernel's frame is the one run's at `F := Bits`. -/
theorem frame_text : Cert.quiescent_KernelNormIn
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
          ∧ r.2.sem = fun _ => 0) := by
  sl_kernel_rfl

/-- The kernel as run in bits. -/
theorem frame_kernel : Cert.quiescent_KernelNormIn := frame_text.mpr fun m ρ _ => Gen.frame (F := Bits) m ρ

/-- The kernel over the extended reals. -/
theorem frame_ideal : Cert.quiescent_KernelNormInIdeal := fun m ρ _ => Gen.frame (F := Ideal) m ρ

/-- The reference runs its operations and declares no semaphore. -/
theorem frame_reference : Cert.quiescent_ReferenceNormInIdeal := fun m ρ _ =>
  (θ_run Cert.ReferenceNormInIdeal.defs _ _).mono
    (fun r h => ⟨fun c => (h c).2.2.2.2, Idealize.ShloMosaic.sem_eq_zero_of_no_sems (by decide) r.2⟩)
    (Cert.ReferenceNormInIdeal.Value.run (F := Ideal) m ρ)

/-- From memories that agree on the arguments, the kernel and the reference end with the same four gradients. -/
theorem values : Cert.algebraic_KernelNormInIdeal_ReferenceNormInIdeal := fun m g m' g' _ hargs => by
  refine ⟨fun c => Hand.outX m c, fun c => Hand.outShift m c, fun c => Hand.outScaling m c, fun c => Hand.outGain m c,
    (θ_run defs _ _).mono (fun r h c => ⟨(h c).1.trans (Hand.final_stream m c), (h c).2.1.trans (Hand.final_shift m c),
      (h c).2.2.1.trans (Hand.final_scaling m c), (h c).2.2.2.1.trans (Hand.final_gain m c), (h c).2.2.2.2⟩) (Value.run_blocks m g),
    (θ_run Cert.ReferenceNormInIdeal.defs _ _).mono (fun r h c => ⟨?_, ?_, ?_, ?_, (h c).2.2.2.2⟩)
    (Cert.ReferenceNormInIdeal.Value.run (F := Ideal) m' g')⟩
  · refine (h c).1.trans (ext_ix2 fun n j => ?_)
    clear h
    show _ = line (Hand.argR m c) n.val j + row width (line (Hand.argX m c) n.val)
      (tilt (Hand.argD m c n.val) (line (Hand.argG m c) 0) (line (Hand.argC m c) 0)) j
    rw [← row_eq (by norm_num) width_eq]
    unfold pull tilt scale square
    simp only [Hand.argD, line_ix2, line_zero, Hand.back_ix2]
    pointwise [Cert.ReferenceNormInIdeal.Value.res_main_v52]
    rw [(hargs c).1, (hargs c).2.1, (hargs c).2.2.1, (hargs c).2.2.2.1, (hargs c).2.2.2.2.1, (hargs c).2.2.2.2.2]
    simp only [Fin.sum_univ_one]
  · refine (h c).2.1.trans (ext_ix2 fun n j => ?_)
    clear h
    rw [(hargs c).1, (hargs c).2.1]
    show _ = ∑ n : Fin 16384, Hand.argD m c n.val j
    simp only [Hand.argD, Hand.back_ix2]
    pointwise
  · refine (h c).2.2.1.trans (ext_ix2 fun n j => ?_)
    clear h
    rw [(hargs c).1, (hargs c).2.1, (hargs c).2.2.1, (hargs c).2.2.2.1]
    show _ = ∑ n : Fin 16384, scaling _ _ _ j
    unfold scaling scale square
    simp only [Hand.argD, line_ix2, line_zero, Hand.back_ix2]
    pointwise
    exact Finset.sum_congr rfl fun k _ => mul_comm _ _
  · refine (h c).2.2.2.1.trans (ext_ix2 fun n j => ?_)
    clear h
    rw [(hargs c).1, (hargs c).2.1, (hargs c).2.2.1, (hargs c).2.2.2.2.1]
    show _ = ∑ n : Fin 16384, gain _ _ _ j
    unfold gain scale square
    simp only [Hand.argD, line_ix2, line_zero, Hand.back_ix2]
    pointwise
    exact Finset.sum_congr rfl fun k _ => mul_comm _ _

end Cert.Proof.NormIn

end
-- ==== Proof.NormFfn.lean ====
/-
  The call that takes the gradient of the feed-forward block's first product back through the normalisation: what its launch leaves is the
  four gradients, and so is what the reference leaves.
-/
module

public import proofs.«01_k».proof.Defs
public import proofs.«01_k».proof.Proof.NormGrad
public import proofs.«01_k».proof.Proof.Gen.KernelNormFfn
public import proofs.«01_k».proof.Proof.Gen.KernelNormFfnIdeal.Value
public import proofs.«01_k».proof.Proof.Gen.ReferenceNormFfnIdeal.Run
public import Idealize.ShloMosaic.Adequacy
public import Idealize.ShloMosaic.Init

@[expose] public section

set_option maxRecDepth 16384

noncomputable section

namespace Cert.KernelNormFfnIdeal.Hand

open Cert.KernelNormFfnIdeal Cert.KernelNormFfnIdeal.Gen
open Idealize.ShloMosaic Idealize.ShloMosaic.TcCoe Idealize.SL.Sem
open Cert.Weight Cert.Norm

/-- The gradient of the modulated row `n`: the product with the weight's rows, its columns in two halves. -/
def back (a : (⟨2, ![16384, 5632]⟩ : Shape).Idx → EReal) (w : (⟨3, ![2, 1024, 2816]⟩ : Shape).Idx → EReal) (n : ℕ) (j : Fin 1024) : EReal :=
  (∑ k : Fin 2816, entry a n k.val * w (ix3 0 j k)) + ∑ k : Fin 2816, entry a n (2816 + k.val) * w (ix3 1 j k)

/-- On the arrays it is the product of their own entries. -/
theorem back_ix2 (a : (⟨2, ![16384, 5632]⟩ : Shape).Idx → EReal) (w : (⟨3, ![2, 1024, 2816]⟩ : Shape).Idx → EReal) (n : Fin 16384)
    (j : Fin 1024) : back a w n.val j = (∑ k : Fin 2816, a (ix2 n ⟨k.val, by omega⟩) * w (ix3 0 j k))
      + ∑ k : Fin 2816, a (ix2 n ⟨2816 + k.val, by omega⟩) * w (ix3 1 j k) :=
  congrArg₂ (· + ·) (Finset.sum_congr rfl fun k _ => congrArg (· * _) (entry_ix2 a n ⟨k.val, by omega⟩))
    (Finset.sum_congr rfl fun k _ => congrArg (· * _) (entry_ix2 a n ⟨2816 + k.val, by omega⟩))

section Point

variable (a b : Vec Ideal S512x2816 .bf16) (w v : Vec Ideal S1x1024x2816 .bf16) (x r : Vec Ideal S512x1024 .f32) (g sc u : Vec Ideal S1x1024 .f32)
  (d y : FVec Ideal S512x1024 .f32) (q : FVec Ideal S512x1 .f32) (s : Fin 512) (j : Fin 1024)

/-- A point's product, entry by entry. -/
theorem back_apply : k0_pay4 a w b v (ix2 s j)
    = (∑ k : Fin 2816, a (ix2 s k) * w (ix3 0 j k)) + ∑ k : Fin 2816, b (ix2 s k) * v (ix3 0 j k) := by pointwise [k0_pay4]
/-- The normalising factor of a row. -/
theorem scale_apply : k0_pay5 x (ix2 s 0) = scale width fun k => x (ix2 s k) := by
  pointwise [k0_pay5]
  rfl
/-- A normalised entry. -/
theorem unit_apply : k0_pay6 x (ix2 s j) = x (ix2 s j) * scale width fun k => x (ix2 s k) := by
  pointwise [k0_pay6, k0_pay5]
  rfl
/-- The stream's gradient, from the product, the factor and the normalised rows. -/
theorem stream_apply : k0_pay11 d q y g sc r (ix2 s j) = r (ix2 s j) + q (ix2 s 0) * (d (ix2 s j) * (1 + sc (ix2 0 j)) * g (ix2 0 j)
    - y (ix2 s j) * Ideal.div (∑ k, d (ix2 s k) * (1 + sc (ix2 0 k)) * g (ix2 0 k) * y (ix2 s k)) width) := by
  pointwise [k0_pay11, k0_pay9]
/-- A tile's addition to the gradient of the shift. -/
theorem shift_step : k0_pay7 a w b v u (ix2 0 j) = u (ix2 0 j) + ∑ s, k0_pay4 a w b v (ix2 s j) := by pointwise [k0_pay7, k0_pay4]
/-- A tile's addition to the gradient of the scaling. -/
theorem scaling_step : k0_pay8 d y g u (ix2 0 j) = u (ix2 0 j) + ∑ s, d (ix2 s j) * (y (ix2 s j) * g (ix2 0 j)) := by pointwise [k0_pay8]
/-- A tile's addition to the gradient of the gain. -/
theorem gain_step : k0_pay10 d y sc u (ix2 0 j) = u (ix2 0 j) + ∑ s, d (ix2 s j) * (1 + sc (ix2 0 j)) * y (ix2 s j) := by
  pointwise [k0_pay10, k0_pay9]
/-- The shift's sum starts from zero. -/
theorem zero_shift : (k0_pay1 (F := Ideal)) (ix2 0 j) = 0 := by pointwise [k0_pay1]
/-- The scaling's sum starts from zero. -/
theorem zero_scaling : (k0_pay2 (F := Ideal)) (ix2 0 j) = 0 := by pointwise [k0_pay2]
/-- The gain's sum starts from zero. -/
theorem zero_gain : (k0_pay3 (F := Ideal)) (ix2 0 j) = 0 := by pointwise [k0_pay3]

end Point

variable (m : (ℓ : Loc nD τ sig) → Buf (Elt Ideal) ℓ) (c : Dev nD)

/-- The six arguments. -/
abbrev argA : Vec Ideal S16384x5632 .bf16 := m ((c.tc : Thread nD τ).loc main_arg0)
abbrev argW : Vec Ideal S2x1024x2816 .bf16 := m ((c.tc : Thread nD τ).loc main_arg1)
abbrev argX : Vec Ideal S16384x1024 .f32 := m ((c.tc : Thread nD τ).loc main_arg2)
abbrev argG : Vec Ideal S1x1024 .f32 := m ((c.tc : Thread nD τ).loc main_arg3)
abbrev argC : Vec Ideal S1x1024 .f32 := m ((c.tc : Thread nD τ).loc main_arg4)
abbrev argR : Vec Ideal S16384x1024 .f32 := m ((c.tc : Thread nD τ).loc main_arg5)

/-- The blocks a point reads: its 512 rows of the three long arrays, and the others whole. -/
theorem index_eq : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] :=
  (by decide +kernel : ∀ t : Fin grid0.N, _)

/-- The blocks a point writes. -/
theorem index_out : ∀ t : Fin cfg0.N, win0_6.index t = ![t.val, 0] ∧ win0_7.index t = ![0, 0] ∧ win0_8.index t = ![0, 0]
    ∧ win0_9.index t = ![0, 0] :=
  (by decide +kernel : ∀ t : Fin grid0.N, _)

variable (t : Fin cfg0.N) (s : Fin 512) (j : Fin 1024)

/-- The six blocks. -/
abbrev blkA : Vec Ideal S512x5632 .bf16 := iblk m c 0 t
abbrev blkW : Vec Ideal S2x1024x2816 .bf16 := iblk m c 1 t
abbrev blkX : Vec Ideal S512x1024 .f32 := iblk m c 2 t
abbrev blkG : Vec Ideal S1x1024 .f32 := iblk m c 3 t
abbrev blkC : Vec Ideal S1x1024 .f32 := iblk m c 4 t
abbrev blkR : Vec Ideal S512x1024 .f32 := iblk m c 5 t

/-- An entry of the gradient's block. -/
theorem blockA (k : Fin 5632) : blkA m c t (ix2 s k) = entry (argA m c) (t.val * 512 + s.val) k.val := by
  refine Eq.trans ?_ (eq_entry (argA m c) (((cfg0.win 0).blk t).view.emb (ix2 s k)) ?_ ?_)
  · unfold blkA iblk
    entry_read
    rfl
  · blk_simp [(index_eq t).1]
  · blk_simp [(index_eq t).1]
/-- An entry of the weight's block. -/
theorem blockW (b : Fin 2) (k : Fin 2816) : blkW m c t (ix3 b j k) = argW m c (ix3 b j k) := by
  refine Eq.trans (b := argW m c (((cfg0.win 1).blk t).view.emb (ix3 b j k))) ?_ (congrArg (argW m c) (funext fun a => Fin.ext ?_))
  · unfold blkW iblk
    entry_read
    rfl
  · match a with
    | ⟨0, _⟩ => blk_simp [(index_eq t).2.1]
    | ⟨1, _⟩ => blk_simp [(index_eq t).2.1]
    | ⟨2, _⟩ => blk_simp [(index_eq t).2.1]
/-- An entry of the stream's block. -/
theorem blockX : blkX m c t (ix2 s j) = line (argX m c) (t.val * 512 + s.val) j := by
  refine Eq.trans ?_ (eq_entry (argX m c) (((cfg0.win 2).blk t).view.emb (ix2 s j)) ?_ ?_)
  · unfold blkX iblk
    entry_read
    rfl
  · blk_simp [(index_eq t).2.2.1]
  · blk_simp [(index_eq t).2.2.1]
/-- An entry of the gain's block. -/
theorem blockG : blkG m c t (ix2 0 j) = line (argG m c) 0 j := by
  refine Eq.trans ?_ (eq_entry (argG m c) (((cfg0.win 3).blk t).view.emb (ix2 0 j)) ?_ ?_)
  · unfold blkG iblk
    entry_read
    rfl
  · blk_simp [(index_eq t).2.2.2.1]
    rfl
  · blk_simp [(index_eq t).2.2.2.1]
/-- An entry of the scaling's block. -/
theorem blockC : blkC m c t (ix2 0 j) = line (argC m c) 0 j := by
  refine Eq.trans ?_ (eq_entry (argC m c) (((cfg0.win 4).blk t).view.emb (ix2 0 j)) ?_ ?_)
  · unfold blkC iblk
    entry_read
    rfl
  · blk_simp [(index_eq t).2.2.2.2.1]
    rfl
  · blk_simp [(index_eq t).2.2.2.2.1]
/-- An entry of the block that is added. -/
theorem blockR : blkR m c t (ix2 s j) = line (argR m c) (t.val * 512 + s.val) j := by
  refine Eq.trans ?_ (eq_entry (argR m c) (((cfg0.win 5).blk t).view.emb (ix2 s j)) ?_ ?_)
  · unfold blkR iblk
    entry_read
    rfl
  · blk_simp [(index_eq t).2.2.2.2.2]
  · blk_simp [(index_eq t).2.2.2.2.2]

/-- The two halves of the columns that a point reads of the gradient, and the two slices of the weight. -/
abbrev blkA0 : Vec Ideal S512x2816 .bf16 := View.ld (iblk m c 0 t) (Rect.unit ![0, 0] ![512, 2816] inb_S512x5632_S512x2816_0_0)
abbrev blkA1 : Vec Ideal S512x2816 .bf16 := View.ld (iblk m c 0 t) (Rect.unit ![0, 2816] ![512, 2816] inb_S512x5632_S512x2816_0_2816)
abbrev blkW0 : Vec Ideal S1x1024x2816 .bf16 :=
  View.ld (iblk m c 1 t) (Rect.unit ![0, 0, 0] ![1, 1024, 2816] inb_S2x1024x2816_S1x1024x2816_0_0_0)
abbrev blkW1 : Vec Ideal S1x1024x2816 .bf16 :=
  View.ld (iblk m c 1 t) (Rect.unit ![1, 0, 0] ![1, 1024, 2816] inb_S2x1024x2816_S1x1024x2816_1_0_0)

/-- An entry of the first half, of the arguments. -/
theorem blockA0 (k : Fin 2816) : blkA0 m c t (ix2 s k) = entry (argA m c) (t.val * 512 + s.val) k.val :=
  Eq.trans (b := blkA m c t (ix2 s ⟨k.val, by omega⟩)) (by unfold blkA0 blkA; pointwise) (blockA m c t s ⟨k.val, by omega⟩)
/-- The same of the second half. -/
theorem blockA1 (k : Fin 2816) : blkA1 m c t (ix2 s k) = entry (argA m c) (t.val * 512 + s.val) (2816 + k.val) :=
  Eq.trans (b := blkA m c t (ix2 s ⟨2816 + k.val, by omega⟩)) (by unfold blkA1 blkA; pointwise) (blockA m c t s ⟨2816 + k.val, by omega⟩)
/-- The weight's first slice. -/
theorem blockW0 (k : Fin 2816) : blkW0 m c t (ix3 0 j k) = argW m c (ix3 0 j k) :=
  Eq.trans (b := blkW m c t (ix3 0 j k)) (by unfold blkW0 blkW; pointwise) (blockW m c t j 0 k)
/-- The weight's second slice. -/
theorem blockW1 (k : Fin 2816) : blkW1 m c t (ix3 0 j k) = argW m c (ix3 1 j k) :=
  Eq.trans (b := blkW m c t (ix3 1 j k)) (by unfold blkW1 blkW; pointwise) (blockW m c t j 1 k)

/-- The gradient of the modulated rows, of the arguments. -/
abbrev argD (n : ℕ) : Fin 1024 → EReal := back (argA m c) (argW m c) n

/-- A point's product, of the arguments. -/
theorem back_eq : k0_pay4 (blkA0 m c t) (blkW0 m c t) (blkA1 m c t) (blkW1 m c t) (ix2 s j) = argD m c (t.val * 512 + s.val) j := by
  rw [back_apply]
  simp only [blockA0, blockA1, blockW0, blockW1]
  rfl
/-- A point's normalising factor. -/
theorem scale_eq : k0_pay5 (blkX m c t) (ix2 s 0) = scale width (line (argX m c) (t.val * 512 + s.val)) :=
  (scale_apply _ s).trans (congrArg (scale width) (funext fun k => blockX m c t s k))
/-- A point's normalised rows. -/
theorem unit_eq : k0_pay6 (blkX m c t) (ix2 s j)
    = line (argX m c) (t.val * 512 + s.val) j * scale width (line (argX m c) (t.val * 512 + s.val)) :=
  (unit_apply _ s j).trans (congrArg₂ (· * ·) (blockX m c t s j) (congrArg (scale width) (funext fun k => blockX m c t s k)))

/-- The stream's gradient at a point's row. -/
theorem stream_eq : (outsAt0 m c t.val t.isLt).1 (ix2 s j) = line (argR m c) (t.val * 512 + s.val) j
    + row width (line (argX m c) (t.val * 512 + s.val)) (tilt (argD m c (t.val * 512 + s.val)) (line (argG m c) 0) (line (argC m c) 0)) j := by
  have h : (outsAt0 m c t.val t.isLt).1 = k0_pay11 (k0_pay4 (blkA0 m c t) (blkW0 m c t) (blkA1 m c t) (blkW1 m c t)) (k0_pay5 (blkX m c t)) (k0_pay6 (blkX m c t))
      (blkG m c t) (blkC m c t) (blkR m c t) := by
    by_cases h : t.val % 32 = 0
    · rw [outsAt0_A m c t h]
      frame_out
      rfl
    · rw [outsAt0_B m c t h]
      frame_out
      rfl
  rw [h, stream_apply, scale_eq, blockR]
  simp only [back_eq, unit_eq, blockG, blockC]
  rfl

/-- What a tile adds to the shift's sum. -/
theorem shift_eq (u : Vec Ideal S1x1024 .f32) : k0_pay7 (blkA0 m c t) (blkW0 m c t) (blkA1 m c t) (blkW1 m c t) u (ix2 0 j)
    = u (ix2 0 j) + ∑ s : Fin 512, argD m c (t.val * 512 + s.val) j := by
  rw [shift_step]
  simp only [back_eq]
/-- What a tile adds to the scaling's sum. -/
theorem scaling_eq (u : Vec Ideal S1x1024 .f32) : k0_pay8 (k0_pay4 (blkA0 m c t) (blkW0 m c t) (blkA1 m c t) (blkW1 m c t)) (k0_pay6 (blkX m c t)) (blkG m c t) u (ix2 0 j)
    = u (ix2 0 j) + ∑ s : Fin 512, scaling (line (argX m c) (t.val * 512 + s.val)) (argD m c (t.val * 512 + s.val)) (line (argG m c) 0) j := by
  rw [scaling_step]
  simp only [back_eq, unit_eq, blockG]
  rfl
/-- What a tile adds to the gain's sum. -/
theorem gain_eq (u : Vec Ideal S1x1024 .f32) : k0_pay10 (k0_pay4 (blkA0 m c t) (blkW0 m c t) (blkA1 m c t) (blkW1 m c t)) (k0_pay6 (blkX m c t)) (blkC m c t) u (ix2 0 j)
    = u (ix2 0 j) + ∑ s : Fin 512, gain (line (argX m c) (t.val * 512 + s.val)) (argD m c (t.val * 512 + s.val)) (line (argC m c) 0) j := by
  rw [gain_step]
  simp only [back_eq, unit_eq, blockC]
  rfl

/-- The shift's sum, complete at the last point. -/
theorem shift_last (ht : t.val % 32 = 31) : (outsAt0 m c t.val t.isLt).2.1 (ix2 0 j) = ∑ n : Fin 16384, argD m c n.val j :=
  sum_tiles (fun n h j => (outsAt0 m c n h).2.1 (ix2 0 j)) (argD m c) N_0.le
    (fun t h j => by
      rw [outsAt0_A m c t h]
      frame_out
      rw [← zero_shift j]
      exact shift_eq m c t j _)
    (fun t h j => by
      rw [outsAt0_B m c t h]
      frame_out
      exact shift_eq m c t j _) t ht j
/-- The scaling's sum, complete at the last point. -/
theorem scaling_last (ht : t.val % 32 = 31) : (outsAt0 m c t.val t.isLt).2.2.1 (ix2 0 j)
    = ∑ n : Fin 16384, scaling (line (argX m c) n.val) (argD m c n.val) (line (argG m c) 0) j :=
  sum_tiles (fun n h j => (outsAt0 m c n h).2.2.1 (ix2 0 j))
    (fun n => scaling (line (argX m c) n) (argD m c n) (line (argG m c) 0)) N_0.le
    (fun t h j => by
      rw [outsAt0_A m c t h]
      frame_out
      rw [← zero_scaling j]
      exact scaling_eq m c t j _)
    (fun t h j => by
      rw [outsAt0_B m c t h]
      frame_out
      exact scaling_eq m c t j _) t ht j
/-- The gain's sum, complete at the last point. -/
theorem gain_last (ht : t.val % 32 = 31) : (outsAt0 m c t.val t.isLt).2.2.2 (ix2 0 j)
    = ∑ n : Fin 16384, gain (line (argX m c) n.val) (argD m c n.val) (line (argC m c) 0) j :=
  sum_tiles (fun n h j => (outsAt0 m c n h).2.2.2 (ix2 0 j))
    (fun n => gain (line (argX m c) n) (argD m c n) (line (argC m c) 0)) N_0.le
    (fun t h j => by
      rw [outsAt0_A m c t h]
      frame_out
      rw [← zero_gain j]
      exact gain_eq m c t j _)
    (fun t h j => by
      rw [outsAt0_B m c t h]
      frame_out
      exact gain_eq m c t j _) t ht j

/-- The four results. -/
def outX : Vec Ideal S16384x1024 .f32 := fun i => line (argR m c) (i 0).val (i 1)
  + row width (line (argX m c) (i 0).val) (tilt (argD m c (i 0).val) (line (argG m c) 0) (line (argC m c) 0)) (i 1)
def outShift : Vec Ideal S1x1024 .f32 := fun i => ∑ n : Fin 16384, argD m c n.val (i 1)
def outScaling : Vec Ideal S1x1024 .f32 := fun i =>
  ∑ n : Fin 16384, scaling (line (argX m c) n.val) (argD m c n.val) (line (argG m c) 0) (i 1)
def outGain : Vec Ideal S1x1024 .f32 := fun i =>
  ∑ n : Fin 16384, gain (line (argX m c) n.val) (argD m c n.val) (line (argC m c) 0) (i 1)

/-- Where the stream's block of a point lies in its array. -/
theorem emb_stream (y : ((cfg0.win 6).xblock (cfg0.grid.coords t)).Idx) (x : S512x1024.Idx)
    (hx : x = (cfg0.win 6).xinj (cfg0.grid.coords t) y) :
    ((((cfg0.win 6).blk t).view.emb y : S16384x1024.Idx) 0).val = t.val * 512 + (x 0).val
      ∧ (((cfg0.win 6).blk t).view.emb y : S16384x1024.Idx) 1 = x 1 := by
  subst hx
  exact ⟨by blk_simp [(index_out t).1], Fin.ext (by blk_simp [(index_out t).1])⟩
/-- The shift's block is its array. -/
theorem emb_shift (y : ((cfg0.win 7).xblock (cfg0.grid.coords t)).Idx) (x : S1x1024.Idx)
    (hx : x = (cfg0.win 7).xinj (cfg0.grid.coords t) y) :
    (((cfg0.win 7).blk t).view.emb y : S1x1024.Idx) 1 = x 1 := by
  subst hx
  exact Fin.ext (by blk_simp [(index_out t).2.1])
/-- The scaling's block is its array. -/
theorem emb_scaling (y : ((cfg0.win 8).xblock (cfg0.grid.coords t)).Idx) (x : S1x1024.Idx)
    (hx : x = (cfg0.win 8).xinj (cfg0.grid.coords t) y) :
    (((cfg0.win 8).blk t).view.emb y : S1x1024.Idx) 1 = x 1 := by
  subst hx
  exact Fin.ext (by blk_simp [(index_out t).2.2.1])
/-- The gain's block is its array. -/
theorem emb_gain (y : ((cfg0.win 9).xblock (cfg0.grid.coords t)).Idx) (x : S1x1024.Idx)
    (hx : x = (cfg0.win 9).xinj (cfg0.grid.coords t) y) :
    (((cfg0.win 9).blk t).view.emb y : S1x1024.Idx) 1 = x 1 := by
  subst hx
  exact Fin.ext (by blk_simp [(index_out t).2.2.2])

/-- The stream's gradient after the run. -/
theorem final_stream : (dats m 0 c).arrAt 6 cfg0.N = outX m c := by
  refine (dats m 0 c).arrAt_eq_of_covers 6 _ (by decide +kernel) fun t hf y => ?_
  rw [after0_6]
  generalize hx : ((cfg0.win 6).xinj (cfg0.grid.coords t) y : S512x1024.Idx) = x
  obtain ⟨h0, h1⟩ := emb_stream t y x hx.symm
  show (outsAt0 m c t.val t.isLt).1 x = _
  unfold outX
  rw [h0, h1]
  obtain ⟨s, j, rfl⟩ : ∃ (s : Fin 512) (j : Fin 1024), x = ix2 s j := ⟨x 0, x 1, eq_ix2 x⟩
  exact stream_eq m c t s j

/-- The shift's gradient after the run. -/
theorem final_shift : (dats m 0 c).arrAt 7 cfg0.N = outShift m c := by
  refine (dats m 0 c).arrAt_eq_of_covers 7 _ (by decide +kernel) fun t hf y => ?_
  rw [after0_7]
  generalize hx : ((cfg0.win 7).xinj (cfg0.grid.coords t) y : S1x1024.Idx) = x
  have h1 := emb_shift t y x hx.symm
  show (outsAt0 m c t.val t.isLt).2.1 x = _
  unfold outShift
  rw [h1]
  obtain ⟨s, j, rfl⟩ : ∃ (s : Fin 1) (j : Fin 1024), x = ix2 s j := ⟨x 0, x 1, eq_ix2 x⟩
  rw [Subsingleton.elim s 0]
  exact shift_last m c t j ((flush0_7 t).mp hf)

/-- The scaling's gradient after the run. -/
theorem final_scaling : (dats m 0 c).arrAt 8 cfg0.N = outScaling m c := by
  refine (dats m 0 c).arrAt_eq_of_covers 8 _ (by decide +kernel) fun t hf y => ?_
  rw [after0_8]
  generalize hx : ((cfg0.win 8).xinj (cfg0.grid.coords t) y : S1x1024.Idx) = x
  have h1 := emb_scaling t y x hx.symm
  show (outsAt0 m c t.val t.isLt).2.2.1 x = _
  unfold outScaling
  rw [h1]
  obtain ⟨s, j, rfl⟩ : ∃ (s : Fin 1) (j : Fin 1024), x = ix2 s j := ⟨x 0, x 1, eq_ix2 x⟩
  rw [Subsingleton.elim s 0]
  exact scaling_last m c t j ((flush0_8 t).mp hf)

/-- The gain's gradient after the run. -/
theorem final_gain : (dats m 0 c).arrAt 9 cfg0.N = outGain m c := by
  refine (dats m 0 c).arrAt_eq_of_covers 9 _ (by decide +kernel) fun t hf y => ?_
  rw [after0_9]
  generalize hx : ((cfg0.win 9).xinj (cfg0.grid.coords t) y : S1x1024.Idx) = x
  have h1 := emb_gain t y x hx.symm
  show (outsAt0 m c t.val t.isLt).2.2.2 x = _
  unfold outGain
  rw [h1]
  obtain ⟨s, j, rfl⟩ : ∃ (s : Fin 1) (j : Fin 1024), x = ix2 s j := ⟨x 0, x 1, eq_ix2 x⟩
  rw [Subsingleton.elim s 0]
  exact gain_last m c t j ((flush0_9 t).mp hf)

end Cert.KernelNormFfnIdeal.Hand

namespace Cert.Proof.NormFfn

open Idealize.ShloMosaic.Tactic Idealize.ShloMosaic.TcCoe
open Idealize.ShloMosaic Idealize.SL.Sem
open Cert.KernelNormFfnIdeal
open Cert.Weight Cert.Norm

/-- The two programs have one text, so the kernel's frame is the one run's at `F := Bits`. -/
theorem frame_text : Cert.quiescent_KernelNormFfn
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
          ∧ r.2.sem = fun _ => 0) := by
  sl_kernel_rfl

/-- The kernel as run in bits. -/
theorem frame_kernel : Cert.quiescent_KernelNormFfn := frame_text.mpr fun m ρ _ => Gen.frame (F := Bits) m ρ

/-- The kernel over the extended reals. -/
theorem frame_ideal : Cert.quiescent_KernelNormFfnIdeal := fun m ρ _ => Gen.frame (F := Ideal) m ρ

/-- The reference runs its operations and declares no semaphore. -/
theorem frame_reference : Cert.quiescent_ReferenceNormFfnIdeal := fun m ρ _ =>
  (θ_run Cert.ReferenceNormFfnIdeal.defs _ _).mono
    (fun r h => ⟨fun c => (h c).2.2.2.2, Idealize.ShloMosaic.sem_eq_zero_of_no_sems (by decide) r.2⟩)
    (Cert.ReferenceNormFfnIdeal.Value.run (F := Ideal) m ρ)

/-- From memories that agree on the arguments, the kernel and the reference end with the same four gradients. -/
theorem values : Cert.algebraic_KernelNormFfnIdeal_ReferenceNormFfnIdeal := fun m g m' g' _ hargs => by
  refine ⟨fun c => Hand.outX m c, fun c => Hand.outShift m c, fun c => Hand.outScaling m c, fun c => Hand.outGain m c,
    (θ_run defs _ _).mono (fun r h c => ⟨(h c).1.trans (Hand.final_stream m c), (h c).2.1.trans (Hand.final_shift m c),
      (h c).2.2.1.trans (Hand.final_scaling m c), (h c).2.2.2.1.trans (Hand.final_gain m c), (h c).2.2.2.2⟩) (Value.run_blocks m g),
    (θ_run Cert.ReferenceNormFfnIdeal.defs _ _).mono (fun r h c => ⟨?_, ?_, ?_, ?_, (h c).2.2.2.2⟩)
    (Cert.ReferenceNormFfnIdeal.Value.run (F := Ideal) m' g')⟩
  · refine (h c).1.trans (ext_ix2 fun n j => ?_)
    clear h
    show _ = line (Hand.argR m c) n.val j + row width (line (Hand.argX m c) n.val)
      (tilt (Hand.argD m c n.val) (line (Hand.argG m c) 0) (line (Hand.argC m c) 0)) j
    rw [← row_eq (by norm_num) width_eq]
    unfold pull tilt scale square
    simp only [Hand.argD, line_ix2, line_zero, Hand.back_ix2]
    pointwise [Cert.ReferenceNormFfnIdeal.Value.res_main_v57]
    rw [(hargs c).1, (hargs c).2.1, (hargs c).2.2.1, (hargs c).2.2.2.1, (hargs c).2.2.2.2.1, (hargs c).2.2.2.2.2]
    simp only [Fin.sum_univ_one]
  · refine (h c).2.1.trans (ext_ix2 fun n j => ?_)
    clear h
    rw [(hargs c).1, (hargs c).2.1]
    show _ = ∑ n : Fin 16384, Hand.argD m c n.val j
    simp only [Hand.argD, Hand.back_ix2]
    pointwise
  · refine (h c).2.2.1.trans (ext_ix2 fun n j => ?_)
    clear h
    rw [(hargs c).1, (hargs c).2.1, (hargs c).2.2.1, (hargs c).2.2.2.1]
    show _ = ∑ n : Fin 16384, scaling _ _ _ j
    unfold scaling scale square
    simp only [Hand.argD, line_ix2, line_zero, Hand.back_ix2]
    pointwise
    exact Finset.sum_congr rfl fun k _ => mul_comm _ _
  · refine (h c).2.2.2.1.trans (ext_ix2 fun n j => ?_)
    clear h
    rw [(hargs c).1, (hargs c).2.1, (hargs c).2.2.1, (hargs c).2.2.2.2.1]
    show _ = ∑ n : Fin 16384, gain _ _ _ j
    unfold gain scale square
    simp only [Hand.argD, line_ix2, line_zero, Hand.back_ix2]
    pointwise
    exact Finset.sum_congr rfl fun k _ => mul_comm _ _

end Cert.Proof.NormFfn

end
-- ==== Proof.DownFwd.lean ====
/-
  The forward call that multiplies by `w_down` and adds the gated product to the stream: what its launch leaves is the product and
  the sum, and so is what the reference leaves.
-/
module

public import proofs.«01_k».proof.Defs
public import proofs.«01_k».proof.Proof.NormGrad
public import proofs.«01_k».proof.Proof.Gen.KernelDownFwd
public import proofs.«01_k».proof.Proof.Gen.KernelDownFwdIdeal.Value
public import proofs.«01_k».proof.Proof.Gen.ReferenceDownFwdIdeal.Run
public import Idealize.ShloMosaic.Adequacy
public import Idealize.ShloMosaic.Init

@[expose] public section

set_option maxRecDepth 16384

noncomputable section

namespace Cert.KernelDownFwdIdeal.Hand

open Cert.KernelDownFwdIdeal Cert.KernelDownFwdIdeal.Gen
open Idealize.ShloMosaic Idealize.ShloMosaic.TcCoe Idealize.SL.Sem
open Cert.Weight Cert.Norm

/-- A row of the product. -/
def prod (a : (⟨2, ![16384, 2816]⟩ : Shape).Idx → EReal) (w : (⟨2, ![2816, 1024]⟩ : Shape).Idx → EReal) (n : ℕ) (j : Fin 1024) : EReal :=
  ∑ k : Fin 2816, entry a n k.val * w (ix2 k j)

/-- On the arrays it is the product of their own entries. -/
theorem prod_ix2 (a : (⟨2, ![16384, 2816]⟩ : Shape).Idx → EReal) (w : (⟨2, ![2816, 1024]⟩ : Shape).Idx → EReal) (n : Fin 16384)
    (j : Fin 1024) : prod a w n.val j = ∑ k : Fin 2816, a (ix2 n k) * w (ix2 k j) :=
  Finset.sum_congr rfl fun k _ => by rw [entry_ix2]

/-- A point's product, entry by entry. -/
theorem prod_apply (a : Vec Ideal S512x2816 .bf16) (w : Vec Ideal S2816x1024 .bf16) (s : Fin 512) (j : Fin 1024) :
    k0_pay2 a w (ix2 s j) = ∑ k : Fin 2816, a (ix2 s k) * w (ix2 k j) := by pointwise [k0_pay2, k0_pay1]

/-- A point's sum, entry by entry. -/
theorem sum_apply (a : Vec Ideal S512x2816 .bf16) (w : Vec Ideal S2816x1024 .bf16) (x : Vec Ideal S512x1024 .f32)
    (g : Vec Ideal S1x1024 .f32) (s : Fin 512) (j : Fin 1024) :
    k0_pay3 a w x g (ix2 s j) = x (ix2 s j) + g (ix2 0 j) * ∑ k : Fin 2816, a (ix2 s k) * w (ix2 k j) := by
  pointwise [k0_pay3, k0_pay1]

variable (m : (ℓ : Loc nD τ sig) → Buf (Elt Ideal) ℓ) (c : Dev nD)

/-- The four arguments. -/
abbrev argX : Vec Ideal S16384x1024 .f32 := m ((c.tc : Thread nD τ).loc main_arg0)
abbrev argA : Vec Ideal S16384x2816 .bf16 := m ((c.tc : Thread nD τ).loc main_arg1)
abbrev argW : Vec Ideal S2816x1024 .bf16 := m ((c.tc : Thread nD τ).loc main_arg2)
abbrev argG : Vec Ideal S1x1024 .f32 := m ((c.tc : Thread nD τ).loc main_arg3)

/-- The blocks a point reads and writes: its 512 rows, and the weight and the gate whole. -/
theorem index_eq : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

variable (t : Fin cfg0.N) (s : Fin 512) (j : Fin 1024)

/-- The four blocks. -/
abbrev blkX : Vec Ideal S512x1024 .f32 := iblk m c 0 t
abbrev blkA : Vec Ideal S512x2816 .bf16 := iblk m c 1 t
abbrev blkW : Vec Ideal S2816x1024 .bf16 := iblk m c 2 t
abbrev blkG : Vec Ideal S1x1024 .f32 := iblk m c 3 t

/-- An entry of the stream's block. -/
theorem blockX : blkX m c t (ix2 s j) = line (argX m c) (t.val * 512 + s.val) j := by
  refine Eq.trans ?_ (eq_entry (argX m c) (((cfg0.win 0).blk t).view.emb (ix2 s j)) ?_ ?_)
  · unfold blkX iblk
    entry_read
    rfl
  · blk_simp [(index_eq t).1]
  · blk_simp [(index_eq t).1]
/-- An entry of the left factor's block. -/
theorem blockA (k : Fin 2816) : blkA m c t (ix2 s k) = entry (argA m c) (t.val * 512 + s.val) k.val := by
  refine Eq.trans ?_ (eq_entry (argA m c) (((cfg0.win 1).blk t).view.emb (ix2 s k)) ?_ ?_)
  · unfold blkA iblk
    entry_read
    rfl
  · blk_simp [(index_eq t).2.1]
  · blk_simp [(index_eq t).2.1]
/-- An entry of the weight's block. -/
theorem blockW (k : Fin 2816) : blkW m c t (ix2 k j) = argW m c (ix2 k j) := by
  refine Eq.trans ?_ ((eq_entry (argW m c) (((cfg0.win 2).blk t).view.emb (ix2 k j)) ?_ ?_).trans (entry_ix2 (argW m c) k j))
  · unfold blkW iblk
    entry_read
    rfl
  · blk_simp [(index_eq t).2.2.1]
  · blk_simp [(index_eq t).2.2.1]
/-- An entry of the gate's block. -/
theorem blockG : blkG m c t (ix2 0 j) = line (argG m c) 0 j := by
  refine Eq.trans ?_ (eq_entry (argG m c) (((cfg0.win 3).blk t).view.emb (ix2 0 j)) ?_ ?_)
  · unfold blkG iblk
    entry_read
    rfl
  · blk_simp [(index_eq t).2.2.2.1]
    rfl
  · blk_simp [(index_eq t).2.2.2.1]

/-- The two results. -/
def outProd : Vec Ideal S16384x1024 .bf16 := fun i => prod (argA m c) (argW m c) (i 0).val (i 1)
def outSum : Vec Ideal S16384x1024 .f32 := fun i => line (argX m c) (i 0).val (i 1)
  + line (argG m c) 0 (i 1) * prod (argA m c) (argW m c) (i 0).val (i 1)

/-- Where a written block of the sum lies in its array. -/
theorem emb_sum (y : ((cfg0.win 4).xblock (cfg0.grid.coords t)).Idx) (x : S512x1024.Idx)
    (hx : x = (cfg0.win 4).xinj (cfg0.grid.coords t) y) :
    ((((cfg0.win 4).blk t).view.emb y : S16384x1024.Idx) 0).val = t.val * 512 + (x 0).val
      ∧ (((cfg0.win 4).blk t).view.emb y : S16384x1024.Idx) 1 = x 1 := by
  subst hx
  exact ⟨by blk_simp [(index_eq t).2.2.2.2.1], Fin.ext (by blk_simp [(index_eq t).2.2.2.2.1])⟩
/-- Where a written block of the product lies in its array. -/
theorem emb_prod (y : ((cfg0.win 5).xblock (cfg0.grid.coords t)).Idx) (x : S512x1024.Idx)
    (hx : x = (cfg0.win 5).xinj (cfg0.grid.coords t) y) :
    ((((cfg0.win 5).blk t).view.emb y : S16384x1024.Idx) 0).val = t.val * 512 + (x 0).val
      ∧ (((cfg0.win 5).blk t).view.emb y : S16384x1024.Idx) 1 = x 1 := by
  subst hx
  exact ⟨by blk_simp [(index_eq t).2.2.2.2.2], Fin.ext (by blk_simp [(index_eq t).2.2.2.2.2])⟩

/-- What a point writes of the sum. -/
theorem sum_eq : out0_4 (blkX m c t) (blkA m c t) (blkW m c t) (blkG m c t) (ix2 s j) = line (argX m c) (t.val * 512 + s.val) j
    + line (argG m c) 0 j * prod (argA m c) (argW m c) (t.val * 512 + s.val) j := by
  have h : out0_4 (blkX m c t) (blkA m c t) (blkW m c t) (blkG m c t) = k0_pay3 (blkA m c t) (blkW m c t) (blkX m c t) (blkG m c t) := by
    frame_out
  rw [h, sum_apply, blockX, blockG]
  simp only [blockA, blockW, prod]

/-- What a point writes of the product. -/
theorem prod_eq : out0_5 (blkX m c t) (blkA m c t) (blkW m c t) (blkG m c t) (ix2 s j)
    = prod (argA m c) (argW m c) (t.val * 512 + s.val) j := by
  have h : out0_5 (blkX m c t) (blkA m c t) (blkW m c t) (blkG m c t) = k0_pay2 (blkA m c t) (blkW m c t) := by
    frame_out
  rw [h, prod_apply]
  simp only [blockA, blockW, prod]

/-- The sum after the run. -/
theorem final_sum : (dats m 0 c).arrAt 4 cfg0.N = outSum m c := by
  refine (dats m 0 c).arrAt_eq_of_covers 4 _ (by decide +kernel) fun t hf y => ?_
  rw [after0_4]
  have ho := sum_eq m c t
  generalize out0_4 (iblk m c 0 t) (iblk m c 1 t) (iblk m c 2 t) (iblk m c 3 t) = o at ho ⊢
  generalize hx : ((cfg0.win 4).xinj (cfg0.grid.coords t) y : S512x1024.Idx) = x
  obtain ⟨h0, h1⟩ := emb_sum t y x hx.symm
  show o x = _
  unfold outSum
  rw [h0, h1]
  obtain ⟨s, j, rfl⟩ : ∃ (s : Fin 512) (j : Fin 1024), x = ix2 s j := ⟨x 0, x 1, eq_ix2 x⟩
  exact ho s j

/-- The product after the run. -/
theorem final_prod : (dats m 0 c).arrAt 5 cfg0.N = outProd m c := by
  refine (dats m 0 c).arrAt_eq_of_covers 5 _ (by decide +kernel) fun t hf y => ?_
  rw [after0_5]
  have ho := prod_eq m c t
  generalize out0_5 (iblk m c 0 t) (iblk m c 1 t) (iblk m c 2 t) (iblk m c 3 t) = o at ho ⊢
  generalize hx : ((cfg0.win 5).xinj (cfg0.grid.coords t) y : S512x1024.Idx) = x
  obtain ⟨h0, h1⟩ := emb_prod t y x hx.symm
  show o x = _
  unfold outProd
  rw [h0, h1]
  obtain ⟨s, j, rfl⟩ : ∃ (s : Fin 512) (j : Fin 1024), x = ix2 s j := ⟨x 0, x 1, eq_ix2 x⟩
  exact ho s j

end Cert.KernelDownFwdIdeal.Hand

namespace Cert.Proof.DownFwd

open Idealize.ShloMosaic.Tactic Idealize.ShloMosaic.TcCoe
open Idealize.ShloMosaic Idealize.SL.Sem
open Cert.KernelDownFwdIdeal
open Cert.Weight Cert.Norm

/-- The two programs have one text, so the kernel's frame is the one run's at `F := Bits`. -/
theorem frame_text : Cert.quiescent_KernelDownFwd
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
          ∧ r.2.sem = fun _ => 0) := by
  sl_kernel_rfl

/-- The kernel as run in bits. -/
theorem frame_kernel : Cert.quiescent_KernelDownFwd := frame_text.mpr fun m ρ _ => Gen.frame (F := Bits) m ρ

/-- The kernel over the extended reals. -/
theorem frame_ideal : Cert.quiescent_KernelDownFwdIdeal := fun m ρ _ => Gen.frame (F := Ideal) m ρ

/-- The reference runs its operations and declares no semaphore. -/
theorem frame_reference : Cert.quiescent_ReferenceDownFwdIdeal := fun m ρ _ =>
  (θ_run Cert.ReferenceDownFwdIdeal.defs _ _).mono
    (fun r h => ⟨fun c => (h c).2.2, Idealize.ShloMosaic.sem_eq_zero_of_no_sems (by decide) r.2⟩)
    (Cert.ReferenceDownFwdIdeal.Value.run (F := Ideal) m ρ)

/-- From memories that agree on the arguments, the kernel and the reference end with the same sum and the same product. -/
theorem values : Cert.algebraic_KernelDownFwdIdeal_ReferenceDownFwdIdeal := fun m g m' g' _ hargs => by
  refine ⟨fun c => Hand.outSum m c, fun c => Hand.outProd m c,
    (θ_run defs _ _).mono (fun r h c => ⟨(h c).1.trans (Hand.final_sum m c), (h c).2.1.trans (Hand.final_prod m c), (h c).2.2⟩)
      (Value.run_blocks m g),
    (θ_run Cert.ReferenceDownFwdIdeal.defs _ _).mono (fun r h c => ⟨?_, ?_, (h c).2.2⟩)
    (Cert.ReferenceDownFwdIdeal.Value.run (F := Ideal) m' g')⟩
  · refine (h c).1.trans (ext_ix2 fun n j => ?_)
    clear h
    rw [(hargs c).1, (hargs c).2.1, (hargs c).2.2.1, (hargs c).2.2.2]
    show _ = line (Hand.argX m c) n.val j + line (Hand.argG m c) 0 j * Hand.prod (Hand.argA m c) (Hand.argW m c) n.val j
    simp only [line_ix2, line_zero, Hand.prod_ix2]
    pointwise
  · refine (h c).2.1.trans (ext_ix2 fun n j => ?_)
    clear h
    rw [(hargs c).2.1, (hargs c).2.2.1]
    show _ = Hand.prod (Hand.argA m c) (Hand.argW m c) n.val j
    rw [Hand.prod_ix2]
    pointwise

end Cert.Proof.DownFwd

end
-- ==== Proof.Strip.lean ====
/-
  A block written in strips of columns: what it then holds, entry by entry.
-/
module

public import proofs.«01_k».proof.Proof.NormGrad
public import Idealize.ShloMosaic.Lib.VecWindow

@[expose] public section

noncomputable section

namespace Cert.Strip

open Idealize.ShloMosaic

variable {r n w o : ℕ} {e : EltTy}
  (inb : ∀ a, (![0, o] : Fin 2 → ℕ) a + (![r, w] : Fin 2 → ℕ) a ≤ (⟨2, ![r, n]⟩ : Shape).size a)
  (P : (⟨2, ![r, w]⟩ : Shape).Idx → Elt Ideal e) (L : List (View.Piece (Elt Ideal) ⟨2, ![r, n]⟩ e)) (i : Fin r) (k : Fin n)

/-- Where a strip's entry lies in the block. -/
theorem strip_emb (j : Fin w) (h : k.val = o + j.val) :
    (Rect.unit (s := ⟨2, ![r, n]⟩) ![0, o] ![r, w] inb).emb (ix2 i j) = ix2 i k := by
  refine (eq_ix2 _).trans ?_
  congr 1
  · refine Fin.ext ?_
    show 0 + 1 * i.val = i.val
    omega
  · refine Fin.ext ?_
    show o + 1 * j.val = k.val
    omega

/-- Under the newest strip the block holds its payload, -/
theorem strip (j : Fin w) (h : k.val = o + j.val) :
    View.canon (⟨Rect.unit (s := ⟨2, ![r, n]⟩) ![0, o] ![r, w] inb, P⟩ :: L) (ix2 i k) = P (ix2 i j) := by
  rw [← strip_emb inb i k j h]
  exact View.canon_cons_emb (Rect.unit (s := ⟨2, ![r, n]⟩) ![0, o] ![r, w] inb) P L _

/-- and off it what the strips before it left. -/
theorem strip_off (h : k.val < o ∨ o + w ≤ k.val) :
    View.canon (⟨Rect.unit (s := ⟨2, ![r, n]⟩) ![0, o] ![r, w] inb, P⟩ :: L) (ix2 i k) = View.canon L (ix2 i k) :=
  View.canon_cons_of_not_mem _ L fun hm => by
    have h1 : o ≤ k.val ∧ k.val < o + w := (Rect.mem_set_unit (inb := inb)).mp hm 1
    omega

/-- A load of the whole block reads what the strips left. -/
theorem whole_read {sig : RefSig} {κ : Kind} {sp : Space} (v : View sig κ sp ⟨2, ![r, n]⟩ e)
    (inb' : ∀ a, (![0, 0] : Fin 2 → ℕ) a + (![r, n] : Fin 2 → ℕ) a ≤ (⟨2, ![r, n]⟩ : Shape).size a) :
    v.readCov L (Rect.unit (s := ⟨2, ![r, n]⟩) ![0, 0] ![r, n] inb').toLoadRect = View.canon L := by
  rw [View.readCov_eq_canon']
  funext y
  refine congrArg (View.canon L) ?_
  exact Rect.emb_unit_full (s := ⟨2, ![r, n]⟩) inb' y

end Cert.Strip

end
-- ==== Proof.OFwd.lean ====
/-
  The forward call that sets the three attention outputs side by side, multiplies them by `w_o` and adds the gated product to the
  stream: what its launch leaves is the joined rows, their product and the sum, and so is what the reference leaves.
-/
module

public import proofs.«01_k».proof.Defs
public import proofs.«01_k».proof.Proof.Strip
public import proofs.«01_k».proof.Proof.Gen.KernelOFwd
public import proofs.«01_k».proof.Proof.Gen.KernelOFwdIdeal.Value
public import proofs.«01_k».proof.Proof.Gen.ReferenceOFwdIdeal.Run
public import Idealize.ShloMosaic.Adequacy
public import Idealize.ShloMosaic.Init

@[expose] public section

set_option maxRecDepth 16384

noncomputable section

namespace Cert.KernelOFwdIdeal.Hand

open Cert.KernelOFwdIdeal Cert.KernelOFwdIdeal.Gen
open Idealize.ShloMosaic Idealize.ShloMosaic.TcCoe Idealize.SL.Sem
open Cert.Weight Cert.Norm Cert.Strip

/-- An entry of the three outputs side by side. -/
def joined (a : (⟨2, ![16384, 256]⟩ : Shape).Idx → EReal) (b c : (⟨2, ![16384, 384]⟩ : Shape).Idx → EReal) (n k : ℕ) : EReal :=
  if k < 256 then entry a n k else if k < 640 then entry b n (k - 256) else entry c n (k - 640)

/-- A row of the product. -/
def prod (a : (⟨2, ![16384, 256]⟩ : Shape).Idx → EReal) (b c : (⟨2, ![16384, 384]⟩ : Shape).Idx → EReal)
    (w : (⟨2, ![1024, 1024]⟩ : Shape).Idx → EReal) (n : ℕ) (j : Fin 1024) : EReal :=
  ∑ k : Fin 1024, joined a b c n k.val * w (ix2 k j)

/-- On the arrays an entry is that of the output it falls in, -/
theorem joined_ix2 (a : (⟨2, ![16384, 256]⟩ : Shape).Idx → EReal) (b c : (⟨2, ![16384, 384]⟩ : Shape).Idx → EReal) (n : Fin 16384) :
    (∀ k : Fin 256, joined a b c n.val k.val = a (ix2 n k)) ∧ (∀ k : Fin 384, joined a b c n.val (256 + k.val) = b (ix2 n k))
      ∧ ∀ k : Fin 384, joined a b c n.val (640 + k.val) = c (ix2 n k) := by
  refine ⟨fun k => ?_, fun k => ?_, fun k => ?_⟩
  · rw [joined, if_pos k.isLt, entry_ix2]
  · rw [joined, if_neg (by omega), if_pos (by omega), Nat.add_sub_cancel_left, entry_ix2]
  · rw [joined, if_neg (by omega), if_neg (by omega), Nat.add_sub_cancel_left, entry_ix2]

/-- and the product is the sum of the three outputs' own products. -/
theorem prod_ix2 (a : (⟨2, ![16384, 256]⟩ : Shape).Idx → EReal) (b c : (⟨2, ![16384, 384]⟩ : Shape).Idx → EReal)
    (w : (⟨2, ![1024, 1024]⟩ : Shape).Idx → EReal) (n : Fin 16384) (j : Fin 1024) :
    prod a b c w n.val j = ∑ k : Fin 256, a (ix2 n k) * w (ix2 ⟨k.val, by omega⟩ j)
      + ∑ k : Fin 384, b (ix2 n k) * w (ix2 ⟨256 + k.val, by omega⟩ j) + ∑ k : Fin 384, c (ix2 n k) * w (ix2 ⟨640 + k.val, by omega⟩ j) := by
  obtain ⟨ha, hb, hc⟩ := joined_ix2 a b c n
  simp only [← ha, ← hb, ← hc]
  refine (Fin.sum_univ_add (a := 640) (b := 384) _).trans (congrArg₂ _ ?_ rfl)
  exact Fin.sum_univ_add (a := 256) (b := 384) _

/-- A point's product, entry by entry. -/
theorem prod_apply (a : Vec Ideal S512x1024 .bf16) (w : Vec Ideal S1024x1024 .bf16) (s : Fin 512) (j : Fin 1024) :
    k0_pay2 a w (ix2 s j) = ∑ k : Fin 1024, a (ix2 s k) * w (ix2 k j) := by pointwise [k0_pay2, k0_pay1]

/-- A point's sum, entry by entry. -/
theorem sum_apply (a : Vec Ideal S512x1024 .bf16) (w : Vec Ideal S1024x1024 .bf16) (x : Vec Ideal S512x1024 .f32)
    (g : Vec Ideal S1x1024 .f32) (s : Fin 512) (j : Fin 1024) :
    k0_pay3 a w x g (ix2 s j) = x (ix2 s j) + g (ix2 0 j) * ∑ k : Fin 1024, a (ix2 s k) * w (ix2 k j) := by
  pointwise [k0_pay3, k0_pay1]

variable (m : (ℓ : Loc nD τ sig) → Buf (Elt Ideal) ℓ) (c : Dev nD)

/-- The six arguments. -/
abbrev argX : Vec Ideal S16384x1024 .f32 := m ((c.tc : Thread nD τ).loc main_arg0)
abbrev argA : Vec Ideal S16384x256 .bf16 := m ((c.tc : Thread nD τ).loc main_arg1)
abbrev argB : Vec Ideal S16384x384 .bf16 := m ((c.tc : Thread nD τ).loc main_arg2)
abbrev argC : Vec Ideal S16384x384 .bf16 := m ((c.tc : Thread nD τ).loc main_arg3)
abbrev argW : Vec Ideal S1024x1024 .bf16 := m ((c.tc : Thread nD τ).loc main_arg4)
abbrev argG : Vec Ideal S1x1024 .f32 := m ((c.tc : Thread nD τ).loc main_arg5)

/-- The blocks a point reads: its 512 rows, and the weight and the gate whole. -/
theorem index_eq : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] :=
  (by decide +kernel : ∀ t : Fin grid0.N, _)
/-- The blocks it writes: its 512 rows. -/
theorem index_out : ∀ t : Fin cfg0.N, win0_6.index t = ![t.val, 0] ∧ win0_7.index t = ![t.val, 0] ∧ win0_8.index t = ![t.val, 0] :=
  (by decide +kernel : ∀ t : Fin grid0.N, _)

variable (t : Fin cfg0.N) (s : Fin 512) (j : Fin 1024)

/-- The six blocks. -/
abbrev blkX : Vec Ideal S512x1024 .f32 := iblk m c 0 t
abbrev blkA : Vec Ideal S512x256 .bf16 := iblk m c 1 t
abbrev blkB : Vec Ideal S512x384 .bf16 := iblk m c 2 t
abbrev blkC : Vec Ideal S512x384 .bf16 := iblk m c 3 t
abbrev blkW : Vec Ideal S1024x1024 .bf16 := iblk m c 4 t
abbrev blkG : Vec Ideal S1x1024 .f32 := iblk m c 5 t

/-- An entry of the stream's block. -/
theorem blockX : blkX m c t (ix2 s j) = line (argX m c) (t.val * 512 + s.val) j := by
  refine Eq.trans ?_ (eq_entry (argX m c) (((cfg0.win 0).blk t).view.emb (ix2 s j)) ?_ ?_)
  · unfold blkX iblk
    entry_read
    rfl
  · blk_simp [(index_eq t).1]
  · blk_simp [(index_eq t).1]
/-- An entry of the first output's block. -/
theorem blockA (k : Fin 256) : blkA m c t (ix2 s k) = entry (argA m c) (t.val * 512 + s.val) k.val := by
  refine Eq.trans ?_ (eq_entry (argA m c) (((cfg0.win 1).blk t).view.emb (ix2 s k)) ?_ ?_)
  · unfold blkA iblk
    entry_read
    rfl
  · blk_simp [(index_eq t).2.1]
  · blk_simp [(index_eq t).2.1]
/-- An entry of the second output's block. -/
theorem blockB (k : Fin 384) : blkB m c t (ix2 s k) = entry (argB m c) (t.val * 512 + s.val) k.val := by
  refine Eq.trans ?_ (eq_entry (argB m c) (((cfg0.win 2).blk t).view.emb (ix2 s k)) ?_ ?_)
  · unfold blkB iblk
    entry_read
    rfl
  · blk_simp [(index_eq t).2.2.1]
  · blk_simp [(index_eq t).2.2.1]
/-- An entry of the third output's block. -/
theorem blockC (k : Fin 384) : blkC m c t (ix2 s k) = entry (argC m c) (t.val * 512 + s.val) k.val := by
  refine Eq.trans ?_ (eq_entry (argC m c) (((cfg0.win 3).blk t).view.emb (ix2 s k)) ?_ ?_)
  · unfold blkC iblk
    entry_read
    rfl
  · blk_simp [(index_eq t).2.2.2.1]
  · blk_simp [(index_eq t).2.2.2.1]
/-- An entry of the weight's block. -/
theorem blockW (k : Fin 1024) : blkW m c t (ix2 k j) = argW m c (ix2 k j) := by
  refine Eq.trans ?_ ((eq_entry (argW m c) (((cfg0.win 4).blk t).view.emb (ix2 k j)) ?_ ?_).trans (entry_ix2 (argW m c) k j))
  · unfold blkW iblk
    entry_read
    rfl
  · blk_simp [(index_eq t).2.2.2.2.1]
  · blk_simp [(index_eq t).2.2.2.2.1]
/-- An entry of the gate's block. -/
theorem blockG : blkG m c t (ix2 0 j) = line (argG m c) 0 j := by
  refine Eq.trans ?_ (eq_entry (argG m c) (((cfg0.win 5).blk t).view.emb (ix2 0 j)) ?_ ?_)
  · unfold blkG iblk
    entry_read
    rfl
  · blk_simp [(index_eq t).2.2.2.2.2]
    rfl
  · blk_simp [(index_eq t).2.2.2.2.2]
/-- The joined rows of a point. -/
abbrev blkY : Vec Ideal S512x1024 .bf16 := (outsAt0 m c t).2.2

/-- An entry of the joined rows. -/
theorem joined_eq (k : Fin 1024) : blkY m c t (ix2 s k) = joined (argA m c) (argB m c) (argC m c) (t.val * 512 + s.val) k.val := by
  unfold blkY
  rw [outsAt0]
  dsimp only
  unfold out0_A_8
  frame_out
  unfold joined
  split_ifs with h h'
  · rw [strip_off _ _ _ s k (by omega), strip_off _ _ _ s k (by omega), strip _ _ _ s k ⟨k.val, h⟩ (by simp)]
    exact blockA m c t s ⟨k.val, h⟩
  · rw [strip_off _ _ _ s k (by omega), strip _ _ _ s k ⟨k.val - 256, by omega⟩ (by dsimp only; omega)]
    exact blockB m c t s ⟨k.val - 256, by omega⟩
  · rw [strip _ _ _ s k ⟨k.val - 640, by omega⟩ (by dsimp only; omega)]
    exact blockC m c t s ⟨k.val - 640, by omega⟩

/-- An entry of the product a point writes. -/
theorem prod_eq : (outsAt0 m c t).2.1 (ix2 s j) = prod (argA m c) (argB m c) (argC m c) (argW m c) (t.val * 512 + s.val) j := by
  have h : (outsAt0 m c t).2.1 = k0_pay2 (blkY m c t) (blkW m c t) := by
    unfold blkY
    rw [outsAt0]
    dsimp only
    unfold out0_A_7 out0_A_8
    frame_out
    rw [whole_read]
  rw [h, prod_apply]
  simp only [joined_eq, blockW, prod]

/-- An entry of the sum a point writes. -/
theorem sum_eq : (outsAt0 m c t).1 (ix2 s j) = line (argX m c) (t.val * 512 + s.val) j
    + line (argG m c) 0 j * prod (argA m c) (argB m c) (argC m c) (argW m c) (t.val * 512 + s.val) j := by
  have h : (outsAt0 m c t).1 = k0_pay3 (blkY m c t) (blkW m c t) (blkX m c t) (blkG m c t) := by
    unfold blkY
    rw [outsAt0]
    dsimp only
    unfold out0_A_6 out0_A_8
    frame_out
    rw [whole_read]
  rw [h, sum_apply, blockX, blockG]
  simp only [joined_eq, blockW, prod]

/-- The three results. -/
def outSum : Vec Ideal S16384x1024 .f32 := fun i => line (argX m c) (i 0).val (i 1)
  + line (argG m c) 0 (i 1) * prod (argA m c) (argB m c) (argC m c) (argW m c) (i 0).val (i 1)
def outProd : Vec Ideal S16384x1024 .bf16 := fun i => prod (argA m c) (argB m c) (argC m c) (argW m c) (i 0).val (i 1)
def outJoined : Vec Ideal S16384x1024 .bf16 := fun i => joined (argA m c) (argB m c) (argC m c) (i 0).val (i 1).val

/-- Where a written block of the sum lies in its array. -/
theorem emb_sum (y : ((cfg0.win 6).xblock (cfg0.grid.coords t)).Idx) (x : S512x1024.Idx)
    (hx : x = (cfg0.win 6).xinj (cfg0.grid.coords t) y) :
    ((((cfg0.win 6).blk t).view.emb y : S16384x1024.Idx) 0).val = t.val * 512 + (x 0).val
      ∧ (((cfg0.win 6).blk t).view.emb y : S16384x1024.Idx) 1 = x 1 := by
  subst hx
  exact ⟨by blk_simp [(index_out t).1], Fin.ext (by blk_simp [(index_out t).1])⟩
/-- Where a written block of the product lies in its array. -/
theorem emb_prod (y : ((cfg0.win 7).xblock (cfg0.grid.coords t)).Idx) (x : S512x1024.Idx)
    (hx : x = (cfg0.win 7).xinj (cfg0.grid.coords t) y) :
    ((((cfg0.win 7).blk t).view.emb y : S16384x1024.Idx) 0).val = t.val * 512 + (x 0).val
      ∧ (((cfg0.win 7).blk t).view.emb y : S16384x1024.Idx) 1 = x 1 := by
  subst hx
  exact ⟨by blk_simp [(index_out t).2.1], Fin.ext (by blk_simp [(index_out t).2.1])⟩
/-- Where a written block of the joined rows lies in its array. -/
theorem emb_joined (y : ((cfg0.win 8).xblock (cfg0.grid.coords t)).Idx) (x : S512x1024.Idx)
    (hx : x = (cfg0.win 8).xinj (cfg0.grid.coords t) y) :
    ((((cfg0.win 8).blk t).view.emb y : S16384x1024.Idx) 0).val = t.val * 512 + (x 0).val
      ∧ (((cfg0.win 8).blk t).view.emb y : S16384x1024.Idx) 1 = x 1 := by
  subst hx
  exact ⟨by blk_simp [(index_out t).2.2], Fin.ext (by blk_simp [(index_out t).2.2])⟩

/-- The sum after the run. -/
theorem final_sum : (dats m 0 c).arrAt 6 cfg0.N = outSum m c := by
  refine (dats m 0 c).arrAt_eq_of_covers 6 _ (by decide +kernel) fun t hf y => ?_
  rw [after0_6]
  have ho := sum_eq m c t
  generalize (outsAt0 m c t).1 = o at ho ⊢
  generalize hx : ((cfg0.win 6).xinj (cfg0.grid.coords t) y : S512x1024.Idx) = x
  obtain ⟨h0, h1⟩ := emb_sum t y x hx.symm
  show o x = _
  unfold outSum
  rw [h0, h1]
  obtain ⟨s, j, rfl⟩ : ∃ (s : Fin 512) (j : Fin 1024), x = ix2 s j := ⟨x 0, x 1, eq_ix2 x⟩
  exact ho s j

/-- The product after the run. -/
theorem final_prod : (dats m 0 c).arrAt 7 cfg0.N = outProd m c := by
  refine (dats m 0 c).arrAt_eq_of_covers 7 _ (by decide +kernel) fun t hf y => ?_
  rw [after0_7]
  have ho := prod_eq m c t
  generalize (outsAt0 m c t).2.1 = o at ho ⊢
  generalize hx : ((cfg0.win 7).xinj (cfg0.grid.coords t) y : S512x1024.Idx) = x
  obtain ⟨h0, h1⟩ := emb_prod t y x hx.symm
  show o x = _
  unfold outProd
  rw [h0, h1]
  obtain ⟨s, j, rfl⟩ : ∃ (s : Fin 512) (j : Fin 1024), x = ix2 s j := ⟨x 0, x 1, eq_ix2 x⟩
  exact ho s j

/-- The joined rows after the run. -/
theorem final_joined : (dats m 0 c).arrAt 8 cfg0.N = outJoined m c := by
  refine (dats m 0 c).arrAt_eq_of_covers 8 _ (by decide +kernel) fun t hf y => ?_
  rw [after0_8]
  have ho : ∀ (s : Fin 512) (k : Fin 1024), (outsAt0 m c t).2.2 (ix2 s k) = _ := joined_eq m c t
  generalize (outsAt0 m c t).2.2 = o at ho ⊢
  generalize hx : ((cfg0.win 8).xinj (cfg0.grid.coords t) y : S512x1024.Idx) = x
  obtain ⟨h0, h1⟩ := emb_joined t y x hx.symm
  show o x = _
  unfold outJoined
  rw [h0, h1]
  obtain ⟨s, j, rfl⟩ : ∃ (s : Fin 512) (j : Fin 1024), x = ix2 s j := ⟨x 0, x 1, eq_ix2 x⟩
  exact ho s j

end Cert.KernelOFwdIdeal.Hand

namespace Cert.Proof.OFwd

open Idealize.ShloMosaic.Tactic Idealize.ShloMosaic.TcCoe
open Idealize.ShloMosaic Idealize.SL.Sem
open Cert.KernelOFwdIdeal
open Cert.Weight Cert.Norm

/-- The two programs have one text, so the kernel's frame is the one run's at `F := Bits`. -/
theorem frame_text : Cert.quiescent_KernelOFwd
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5))
          ∧ r.2.sem = fun _ => 0) := by
  sl_kernel_rfl

/-- The kernel as run in bits. -/
theorem frame_kernel : Cert.quiescent_KernelOFwd := frame_text.mpr fun m ρ _ => Gen.frame (F := Bits) m ρ

/-- The kernel over the extended reals. -/
theorem frame_ideal : Cert.quiescent_KernelOFwdIdeal := fun m ρ _ => Gen.frame (F := Ideal) m ρ

/-- The reference runs its operations and declares no semaphore. -/
theorem frame_reference : Cert.quiescent_ReferenceOFwdIdeal := fun m ρ _ =>
  (θ_run Cert.ReferenceOFwdIdeal.defs _ _).mono
    (fun r h => ⟨fun c => (h c).2.2.2, Idealize.ShloMosaic.sem_eq_zero_of_no_sems (by decide) r.2⟩)
    (Cert.ReferenceOFwdIdeal.Value.run (F := Ideal) m ρ)

/-- From memories that agree on the arguments, the kernel and the reference end with the same three results. -/
theorem values : Cert.algebraic_KernelOFwdIdeal_ReferenceOFwdIdeal := fun m g m' g' _ hargs => by
  refine ⟨fun c => Hand.outSum m c, fun c => Hand.outProd m c, fun c => Hand.outJoined m c,
    (θ_run defs _ _).mono (fun r h c => ⟨(h c).1.trans (Hand.final_sum m c), (h c).2.1.trans (Hand.final_prod m c),
      (h c).2.2.1.trans (Hand.final_joined m c), (h c).2.2.2⟩)
      (Value.run_blocks m g),
    (θ_run Cert.ReferenceOFwdIdeal.defs _ _).mono (fun r h c => ⟨?_, ?_, ?_, (h c).2.2.2⟩)
    (Cert.ReferenceOFwdIdeal.Value.run (F := Ideal) m' g')⟩
  · refine (h c).1.trans (ext_ix2 fun n j => ?_)
    clear h
    rw [(hargs c).1, (hargs c).2.1, (hargs c).2.2.1, (hargs c).2.2.2.1, (hargs c).2.2.2.2.1, (hargs c).2.2.2.2.2]
    show _ = line (Hand.argX m c) n.val j + line (Hand.argG m c) 0 j
      * Hand.prod (Hand.argA m c) (Hand.argB m c) (Hand.argC m c) (Hand.argW m c) n.val j
    simp only [line_ix2, line_zero, Hand.prod_ix2]
    pointwise
  · refine (h c).2.1.trans (ext_ix2 fun n j => ?_)
    clear h
    rw [(hargs c).2.1, (hargs c).2.2.1, (hargs c).2.2.2.1, (hargs c).2.2.2.2.1]
    show _ = Hand.prod (Hand.argA m c) (Hand.argB m c) (Hand.argC m c) (Hand.argW m c) n.val j
    rw [Hand.prod_ix2]
    pointwise
  · refine (h c).2.2.1.trans (ext_ix2 fun n j => ?_)
    clear h
    rw [(hargs c).2.1, (hargs c).2.2.1, (hargs c).2.2.2.1]
    show _ = Hand.joined (Hand.argA m c) (Hand.argB m c) (Hand.argC m c) n.val j.val
    obtain ⟨ha, hb, hc⟩ := Hand.joined_ix2 (Hand.argA m c) (Hand.argB m c) (Hand.argC m c) n
    by_cases h : j.val < 640
    · by_cases h' : j.val < 256
      · pointwise
        simp only [dif_pos h, dif_pos h']
        exact (ha ⟨j.val, h'⟩).symm
      · pointwise
        simp only [dif_pos h, dif_neg h']
        exact (hb ⟨j.val - 256, by omega⟩).symm.trans (congrArg _ (by dsimp only; omega))
    · pointwise
      simp only [dif_neg h]
      exact (hc ⟨j.val - 640, by omega⟩).symm.trans (congrArg _ (by dsimp only; omega))

end Cert.Proof.OFwd

end
-- ==== Proof.OBack.lean ====
/-
  The backward call of the output projection: the gradients through the gate, the product with `w_o` and the three outputs' norms, as
  the launch leaves them and as differentiation does.
-/
module

public import proofs.«01_k».proof.Defs
public import proofs.«01_k».proof.Proof.Strip
public import proofs.«01_k».proof.Proof.Gen.KernelOBack
public import proofs.«01_k».proof.Proof.Gen.KernelOBackIdeal.Value
public import proofs.«01_k».proof.Proof.Gen.ReferenceOBackIdeal.Run
public import Idealize.ShloMosaic.Adequacy
public import Idealize.ShloMosaic.Init

@[expose] public section

set_option maxRecDepth 16384

noncomputable section

namespace Cert.KernelOBackIdeal.Hand

open Cert.KernelOBackIdeal Cert.KernelOBackIdeal.Gen
open Idealize.ShloMosaic Idealize.ShloMosaic.TcCoe Idealize.SL.Sem
open Cert.Weight Cert.Norm Cert.Strip

/-- The number of entries of a group's row, as the programs' literals: the first group's, -/
abbrev narrow : EReal := Ideal.ofBits .f32 1132462080#32
/-- and the two others'. -/
abbrev wide : EReal := Ideal.ofBits .f32 1136656384#32

/-- The first group has 256 entries in a row. -/
theorem narrow_eq : narrow = ((256 : ℝ) : EReal) := by
  simp [narrow, Ideal.ofBits, Ideal.ieee, -EReal.coe_mul]
  norm_num
/-- The two others have 384. -/
theorem wide_eq : wide = ((384 : ℝ) : EReal) := by
  simp [wide, Ideal.ofBits, Ideal.ieee, -EReal.coe_mul]
  norm_num

section Point

variable (d : Vec Ideal S512x1024 .f32) (x : FVec Ideal S512x1024 .f32) (g u : Vec Ideal S1x1024 .f32) (o : Vec Ideal S512x1024 .bf16) (w : Vec Ideal S1024x1024 .bf16)
  (a : Vec Ideal S512x256 .bf16) (b : Vec Ideal S512x384 .bf16) (ga ua : Vec Ideal S1x256 .f32) (gb ub : Vec Ideal S1x384 .f32)
  (da ya : FVec Ideal S512x256 .f32) (db yb : FVec Ideal S512x384 .f32) (q : FVec Ideal S512x1 .f32) (s : Fin 512) (j : Fin 1024)
  (k : Fin 256) (l : Fin 384)

/-- The gradient of the product, entry by entry. -/
theorem gated_apply : k0_pay4 d g (ix2 s j) = d (ix2 s j) * g (ix2 0 j) := by pointwise [k0_pay4]
/-- A tile's addition to the gate's gradient. -/
theorem gate_step : k0_pay5 d u o (ix2 0 j) = u (ix2 0 j) + ∑ s, d (ix2 s j) * o (ix2 s j) := by pointwise [k0_pay5]
/-- The gradient of the three normalised outputs. -/
theorem back_apply : k0_pay6 d g w (ix2 s j) = ∑ i : Fin 1024, k0_pay4 d g (ix2 s i) * w (ix2 j i) := by pointwise [k0_pay6, k0_pay4]
/-- Its first group of columns, -/
theorem fst_apply : k0_pay8 d g w (ix2 s k) = k0_pay6 d g w (ix2 s ⟨k.val, by omega⟩) := by pointwise [k0_pay8]
/-- its second, -/
theorem snd_apply : k0_pay14 x (ix2 s l) = x (ix2 s ⟨256 + l.val, by omega⟩) := by pointwise [k0_pay14]
/-- and its third. -/
theorem thd_apply : k0_pay22 x (ix2 s l) = x (ix2 s ⟨640 + l.val, by omega⟩) := by pointwise [k0_pay22]
/-- The normalising factor of the first output's row, -/
theorem scaleA_apply : k0_pay9 a (ix2 s 0) = scale narrow fun k => a (ix2 s k) := by
  pointwise [k0_pay9, k0_pay7]
  rfl
/-- the second's, -/
theorem scaleB_apply : k0_pay15 b (ix2 s 0) = scale wide fun k => b (ix2 s k) := by
  pointwise [k0_pay15, k0_pay13]
  rfl
/-- and the third's. -/
theorem scaleC_apply : k0_pay23 b (ix2 s 0) = scale wide fun k => b (ix2 s k) := by
  pointwise [k0_pay23, k0_pay21]
  rfl
/-- A normalised entry of the first output, -/
theorem unitA_apply : k0_pay10 a (ix2 s k) = a (ix2 s k) * k0_pay9 a (ix2 s 0) := by pointwise [k0_pay10, k0_pay7, k0_pay9]
/-- of the second, -/
theorem unitB_apply : k0_pay16 b (ix2 s l) = b (ix2 s l) * k0_pay15 b (ix2 s 0) := by pointwise [k0_pay16, k0_pay13, k0_pay15]
/-- and of the third. -/
theorem unitC_apply : k0_pay24 b (ix2 s l) = b (ix2 s l) * k0_pay23 b (ix2 s 0) := by pointwise [k0_pay24, k0_pay21, k0_pay23]

/-- The first output's gradient, -/
theorem rowA_apply : k0_pay12 da q ya ga (ix2 s k) = q (ix2 s 0) * (da (ix2 s k) * ga (ix2 0 k)
    - ya (ix2 s k) * Ideal.div (∑ k, da (ix2 s k) * ga (ix2 0 k) * ya (ix2 s k)) narrow) := by pointwise [k0_pay12]
/-- the second's, -/
theorem rowB_apply : k0_pay20 db q yb gb (ix2 s l) = q (ix2 s 0) * (db (ix2 s l) * gb (ix2 0 l)
    - yb (ix2 s l) * Ideal.div (∑ k, db (ix2 s k) * gb (ix2 0 k) * yb (ix2 s k)) wide) := by pointwise [k0_pay20]
/-- and the third's. -/
theorem rowC_apply : k0_pay1 db q yb gb (ix2 s l) = q (ix2 s 0) * (db (ix2 s l) * gb (ix2 0 l)
    - yb (ix2 s l) * Ideal.div (∑ k, db (ix2 s k) * gb (ix2 0 k) * yb (ix2 s k)) wide) := by pointwise [k0_pay1]
/-- A tile's addition to the gradient of the first gain, -/
theorem gainA_step : k0_pay11 da ya ua (ix2 0 k) = ua (ix2 0 k) + ∑ s, da (ix2 s k) * ya (ix2 s k) := by pointwise [k0_pay11]
/-- of the second, -/
theorem gainB_step : k0_pay19 (k0_pay17 ub) (k0_pay18 x b) (ix2 0 l) = ub (ix2 0 l) + ∑ s, k0_pay14 x (ix2 s l) * k0_pay16 b (ix2 s l) := by
  pointwise [k0_pay19, k0_pay17, k0_pay18, k0_pay14, k0_pay16]
/-- and of the third. -/
theorem gainC_step : k0_pay25 x b ub (ix2 0 l) = ub (ix2 0 l) + ∑ s, k0_pay22 x (ix2 s l) * k0_pay24 b (ix2 s l) := by
  pointwise [k0_pay25, k0_pay22, k0_pay24]
/-- The gate's sum starts from zero. -/
theorem zero_gate : (k0_pay2 (F := Ideal)) (ix2 0 j) = 0 := by pointwise [k0_pay2]
/-- The gains' sums start from zero. -/
theorem zero_gain : (k0_pay3 (F := Ideal)) (ix2 0 j) = 0 := by pointwise [k0_pay3]

end Point

section Strips

variable {r n w o : ℕ} {e : EltTy}
  (inb : ∀ a, (![0, o] : Fin 2 → ℕ) a + (![r, w] : Fin 2 → ℕ) a ≤ (⟨2, ![r, n]⟩ : Shape).size a)
  (i : Fin r) (j : Fin w) (k : Fin n)

/-- A load of a strip of columns. -/
theorem load_strip (X : (⟨2, ![r, n]⟩ : Shape).Idx → Elt Ideal e) (h : k.val = o + j.val) :
    View.ld X (Rect.unit (s := ⟨2, ![r, n]⟩) ![0, o] ![r, w] inb) (ix2 i j) = X (ix2 i k) :=
  congrArg X (Cert.Strip.strip_emb inb i k j h)

/-- A load of a strip out of a block written in strips. -/
theorem read_strip {sg : RefSig} {κ : Kind} {sp : Space} (v : View sg κ sp ⟨2, ![r, n]⟩ e) (L : List (View.Piece (Elt Ideal) ⟨2, ![r, n]⟩ e))
    (h : k.val = o + j.val) :
    v.readCov L (Rect.unit (s := ⟨2, ![r, n]⟩) ![0, o] ![r, w] inb).toLoadRect (ix2 i j) = View.canon L (ix2 i k) := by
  rw [View.readCov_eq_canon']
  exact congrArg (View.canon L) (Cert.Strip.strip_emb inb i k j h)

end Strips

/-- The columns of the three groups. -/
def colA (k : Fin 256) : Fin 1024 := ⟨k.val, by omega⟩
def colB (k : Fin 384) : Fin 1024 := ⟨256 + k.val, by omega⟩
def colC (k : Fin 384) : Fin 1024 := ⟨640 + k.val, by omega⟩

variable (m : (ℓ : Loc nD τ sig) → Buf (Elt Ideal) ℓ) (c : Dev nD)

/-- The eight arguments. -/
abbrev argD : Vec Ideal S16384x1024 .f32 := m ((c.tc : Thread nD τ).loc main_arg0)
abbrev argO : Vec Ideal S16384x1024 .bf16 := m ((c.tc : Thread nD τ).loc main_arg1)
abbrev argT : Vec Ideal S1x1024 .f32 := m ((c.tc : Thread nD τ).loc main_arg2)
abbrev argW : Vec Ideal S1024x1024 .bf16 := m ((c.tc : Thread nD τ).loc main_arg3)
abbrev argA : Vec Ideal S16384x256 .bf16 := m ((c.tc : Thread nD τ).loc main_arg4)
abbrev argB : Vec Ideal S16384x384 .bf16 := m ((c.tc : Thread nD τ).loc main_arg5)
abbrev argC : Vec Ideal S16384x384 .bf16 := m ((c.tc : Thread nD τ).loc main_arg6)
abbrev argG : Vec Ideal S1x1024 .f32 := m ((c.tc : Thread nD τ).loc main_arg7)

/-- The blocks a point reads: its 512 rows, and the gate, the weight and the gains whole. -/
theorem index_eq : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)
/-- The blocks it writes: its 512 rows, and the two sums whole. -/
theorem index_out : ∀ t : Fin cfg0.N, win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

variable (t : Fin cfg0.N) (s : Fin 512) (j : Fin 1024)

/-- The eight blocks. -/
abbrev blkD : Vec Ideal S512x1024 .f32 := iblk m c 0 t
abbrev blkO : Vec Ideal S512x1024 .bf16 := iblk m c 1 t
abbrev blkT : Vec Ideal S1x1024 .f32 := iblk m c 2 t
abbrev blkW : Vec Ideal S1024x1024 .bf16 := iblk m c 3 t
abbrev blkA : Vec Ideal S512x256 .bf16 := iblk m c 4 t
abbrev blkB : Vec Ideal S512x384 .bf16 := iblk m c 5 t
abbrev blkC : Vec Ideal S512x384 .bf16 := iblk m c 6 t
abbrev blkG : Vec Ideal S1x1024 .f32 := iblk m c 7 t

/-- An entry of the stream's gradient's block. -/
theorem blockD : blkD m c t (ix2 s j) = line (argD m c) (t.val * 512 + s.val) j := by
  refine Eq.trans ?_ (eq_entry (argD m c) (((cfg0.win 0).blk t).view.emb (ix2 s j)) ?_ ?_)
  · unfold blkD iblk
    entry_read
    rfl
  · blk_simp [(index_eq t).1]
  · blk_simp [(index_eq t).1]
/-- An entry of the product's block. -/
theorem blockO : blkO m c t (ix2 s j) = line (argO m c) (t.val * 512 + s.val) j := by
  refine Eq.trans ?_ (eq_entry (argO m c) (((cfg0.win 1).blk t).view.emb (ix2 s j)) ?_ ?_)
  · unfold blkO iblk
    entry_read
    rfl
  · blk_simp [(index_eq t).2.1]
  · blk_simp [(index_eq t).2.1]
/-- An entry of the gate's block. -/
theorem blockT : blkT m c t (ix2 0 j) = line (argT m c) 0 j := by
  refine Eq.trans ?_ (eq_entry (argT m c) (((cfg0.win 2).blk t).view.emb (ix2 0 j)) ?_ ?_)
  · unfold blkT iblk
    entry_read
    rfl
  · blk_simp [(index_eq t).2.2.1]
    rfl
  · blk_simp [(index_eq t).2.2.1]
/-- An entry of the weight's block. -/
theorem blockW (i : Fin 1024) : blkW m c t (ix2 j i) = argW m c (ix2 j i) := by
  refine Eq.trans ?_ ((eq_entry (argW m c) (((cfg0.win 3).blk t).view.emb (ix2 j i)) ?_ ?_).trans (entry_ix2 (argW m c) j i))
  · unfold blkW iblk
    entry_read
    rfl
  · blk_simp [(index_eq t).2.2.2.1]
  · blk_simp [(index_eq t).2.2.2.1]
/-- An entry of the first output's block. -/
theorem blockA (k : Fin 256) : blkA m c t (ix2 s k) = entry (argA m c) (t.val * 512 + s.val) k.val := by
  refine Eq.trans ?_ (eq_entry (argA m c) (((cfg0.win 4).blk t).view.emb (ix2 s k)) ?_ ?_)
  · unfold blkA iblk
    entry_read
    rfl
  · blk_simp [(index_eq t).2.2.2.2.1]
  · blk_simp [(index_eq t).2.2.2.2.1]
/-- An entry of the second output's block. -/
theorem blockB (k : Fin 384) : blkB m c t (ix2 s k) = entry (argB m c) (t.val * 512 + s.val) k.val := by
  refine Eq.trans ?_ (eq_entry (argB m c) (((cfg0.win 5).blk t).view.emb (ix2 s k)) ?_ ?_)
  · unfold blkB iblk
    entry_read
    rfl
  · blk_simp [(index_eq t).2.2.2.2.2.1]
  · blk_simp [(index_eq t).2.2.2.2.2.1]
/-- An entry of the third output's block. -/
theorem blockC (k : Fin 384) : blkC m c t (ix2 s k) = entry (argC m c) (t.val * 512 + s.val) k.val := by
  refine Eq.trans ?_ (eq_entry (argC m c) (((cfg0.win 6).blk t).view.emb (ix2 s k)) ?_ ?_)
  · unfold blkC iblk
    entry_read
    rfl
  · blk_simp [(index_eq t).2.2.2.2.2.2.1]
  · blk_simp [(index_eq t).2.2.2.2.2.2.1]
/-- An entry of the gains' block. -/
theorem blockG : blkG m c t (ix2 0 j) = line (argG m c) 0 j := by
  refine Eq.trans ?_ (eq_entry (argG m c) (((cfg0.win 7).blk t).view.emb (ix2 0 j)) ?_ ?_)
  · unfold blkG iblk
    entry_read
    rfl
  · blk_simp [(index_eq t).2.2.2.2.2.2.2]
    rfl
  · blk_simp [(index_eq t).2.2.2.2.2.2.2]

/-- The rows of the three outputs. -/
def rowA (n : ℕ) : Fin 256 → EReal := fun k => entry (argA m c) n k.val
def rowB (n : ℕ) : Fin 384 → EReal := fun k => entry (argB m c) n k.val
def rowC (n : ℕ) : Fin 384 → EReal := fun k => entry (argC m c) n k.val
/-- The gradient of the product. -/
def gated (n : ℕ) : Fin 1024 → EReal := fun j => line (argT m c) 0 j * line (argD m c) n j
/-- The gradient of the three normalised outputs, side by side. -/
def back (n : ℕ) : Fin 1024 → EReal := fun j => ∑ i : Fin 1024, gated m c n i * argW m c (ix2 j i)
/-- A row of the three normalised outputs, side by side, before their gains. -/
def unit (n : ℕ) : Fin 1024 → EReal := fun j =>
  if ha : j.val < 256 then rowA m c n ⟨j.val, ha⟩ * scale narrow (rowA m c n)
  else if hb : j.val < 640 then rowB m c n ⟨j.val - 256, by omega⟩ * scale wide (rowB m c n)
  else rowC m c n ⟨j.val - 640, by omega⟩ * scale wide (rowC m c n)
/-- The gradients of the normalised outputs, through their gains. -/
def tiltA (n : ℕ) : Fin 256 → EReal := fun k => back m c n (colA k) * line (argG m c) 0 (colA k)
def tiltB (n : ℕ) : Fin 384 → EReal := fun k => back m c n (colB k) * line (argG m c) 0 (colB k)
def tiltC (n : ℕ) : Fin 384 → EReal := fun k => back m c n (colC k) * line (argG m c) 0 (colC k)

/-- The joined row in the first group's columns, -/
theorem unit_colA (n : ℕ) (k : Fin 256) : unit m c n (colA k) = rowA m c n k * scale narrow (rowA m c n) := dif_pos k.isLt
/-- in the second's, -/
theorem unit_colB (n : ℕ) (k : Fin 384) : unit m c n (colB k) = rowB m c n k * scale wide (rowB m c n) := by
  have h1 : ¬(colB k).val < 256 := by show ¬256 + k.val < 256; omega
  have h2 : (colB k).val < 640 := by show 256 + k.val < 640; omega
  have h3 : (⟨(colB k).val - 256, by omega⟩ : Fin 384) = k := Fin.ext (by show 256 + k.val - 256 = k.val; omega)
  unfold unit
  rw [dif_neg h1, dif_pos h2, h3]
/-- and in the third's. -/
theorem unit_colC (n : ℕ) (k : Fin 384) : unit m c n (colC k) = rowC m c n k * scale wide (rowC m c n) := by
  have h1 : ¬(colC k).val < 256 := by show ¬640 + k.val < 256; omega
  have h2 : ¬(colC k).val < 640 := by show ¬640 + k.val < 640; omega
  have h3 : (⟨(colC k).val - 640, by omega⟩ : Fin 384) = k := Fin.ext (by show 640 + k.val - 640 = k.val; omega)
  unfold unit
  rw [dif_neg h1, dif_neg h2, h3]
/-- Every column is one of a group's. -/
theorem col_cases (j : Fin 1024) : (∃ k, j = colA k) ∨ (∃ k, j = colB k) ∨ ∃ k, j = colC k := by
  by_cases ha : j.val < 256
  · exact .inl ⟨⟨j.val, ha⟩, rfl⟩
  by_cases hb : j.val < 640
  · exact .inr (.inl ⟨⟨j.val - 256, by omega⟩, Fin.ext (by show j.val = 256 + (j.val - 256); omega)⟩)
  · exact .inr (.inr ⟨⟨j.val - 640, by omega⟩, Fin.ext (by show j.val = 640 + (j.val - 640); omega)⟩)

/-- A point's gradient of the product, of the arguments. -/
theorem gated_eq : k0_pay4 (blkD m c t) (blkT m c t) (ix2 s j) = gated m c (t.val * 512 + s.val) j := by
  rw [gated_apply, blockD, blockT, mul_comm]
  rfl
/-- A point's gradient of the normalised outputs, of the arguments. -/
theorem back_eq : k0_pay6 (blkD m c t) (blkT m c t) (blkW m c t) (ix2 s j) = back m c (t.val * 512 + s.val) j := by
  rw [back_apply]
  exact Finset.sum_congr rfl fun i _ => by rw [gated_eq, blockW]
/-- A point's columns of the first group, -/
theorem backA_eq (k : Fin 256) : k0_pay8 (blkD m c t) (blkT m c t) (blkW m c t) (ix2 s k) = back m c (t.val * 512 + s.val) (colA k) :=
  (fst_apply _ _ _ s k).trans (back_eq m c t s _)
/-- the normalising factor of its row, -/
theorem scaleA_eq : k0_pay9 (blkA m c t) (ix2 s 0) = scale narrow (rowA m c (t.val * 512 + s.val)) :=
  (scaleA_apply _ s).trans (congrArg (scale narrow) (funext fun k => blockA m c t s k))
/-- the normalised row, -/
theorem unitA_eq (k : Fin 256) : k0_pay10 (blkA m c t) (ix2 s k)
    = rowA m c (t.val * 512 + s.val) k * scale narrow (rowA m c (t.val * 512 + s.val)) :=
  (unitA_apply _ s k).trans (congrArg₂ (· * ·) (blockA m c t s k) (scaleA_eq m c t s))
/-- and the output's gradient. -/
theorem outA_eq (k : Fin 256) : (outsAt0 m c t.val t.isLt).2.1 (ix2 s k)
    = row narrow (rowA m c (t.val * 512 + s.val)) (tiltA m c (t.val * 512 + s.val)) k := by
  have h : (outsAt0 m c t.val t.isLt).2.1 = k0_pay12 (k0_pay8 (blkD m c t) (blkT m c t) (blkW m c t))
      (k0_pay9 (blkA m c t)) (k0_pay10 (blkA m c t))
      (View.ld (blkG m c t) (Rect.unit (s := ⟨2, ![1, 1024]⟩) ![0, 0] ![1, 256] inb_S1x1024_S1x256_0_0)) := by
    by_cases h : t.val % 32 = 0
    · rw [outsAt0_A m c t h]
      frame_out
    · rw [outsAt0_B m c t h]
      frame_out
  have hg : ∀ k : Fin 256, (View.ld (blkG m c t) (Rect.unit (s := ⟨2, ![1, 1024]⟩) ![0, 0] ![1, 256] inb_S1x1024_S1x256_0_0)) (ix2 0 k)
      = line (argG m c) 0 (colA k) := fun k => (load_strip _ 0 k (colA k) _ (Nat.zero_add _).symm).trans (blockG m c t _)
  rw [h, rowA_apply, scaleA_eq]
  simp only [backA_eq, unitA_eq, hg]
  rfl
/-- A point's columns of the second group, -/
theorem backB_eq (k : Fin 384) : k0_pay14 (k0_pay6 (blkD m c t) (blkT m c t) (blkW m c t)) (ix2 s k) = back m c (t.val * 512 + s.val) (colB k) :=
  (snd_apply _ s k).trans (back_eq m c t s _)
/-- the normalising factor of its row, -/
theorem scaleB_eq : k0_pay15 (blkB m c t) (ix2 s 0) = scale wide (rowB m c (t.val * 512 + s.val)) :=
  (scaleB_apply _ s).trans (congrArg (scale wide) (funext fun k => blockB m c t s k))
/-- the normalised row, -/
theorem unitB_eq (k : Fin 384) : k0_pay16 (blkB m c t) (ix2 s k)
    = rowB m c (t.val * 512 + s.val) k * scale wide (rowB m c (t.val * 512 + s.val)) :=
  (unitB_apply _ s k).trans (congrArg₂ (· * ·) (blockB m c t s k) (scaleB_eq m c t s))
/-- and the output's gradient. -/
theorem outB_eq (k : Fin 384) : (outsAt0 m c t.val t.isLt).2.2.1 (ix2 s k)
    = row wide (rowB m c (t.val * 512 + s.val)) (tiltB m c (t.val * 512 + s.val)) k := by
  have h : (outsAt0 m c t.val t.isLt).2.2.1 = k0_pay20 (k0_pay14 (k0_pay6 (blkD m c t) (blkT m c t) (blkW m c t)))
      (k0_pay15 (blkB m c t)) (k0_pay16 (blkB m c t))
      (View.ld (blkG m c t) (Rect.unit (s := ⟨2, ![1, 1024]⟩) ![0, 256] ![1, 384] inb_S1x1024_S1x384_0_256)) := by
    by_cases h : t.val % 32 = 0
    · rw [outsAt0_A m c t h]
      frame_out
    · rw [outsAt0_B m c t h]
      frame_out
  have hg : ∀ k : Fin 384, (View.ld (blkG m c t) (Rect.unit (s := ⟨2, ![1, 1024]⟩) ![0, 256] ![1, 384] inb_S1x1024_S1x384_0_256)) (ix2 0 k)
      = line (argG m c) 0 (colB k) := fun k => (load_strip _ 0 k (colB k) _ rfl).trans (blockG m c t _)
  rw [h, rowB_apply, scaleB_eq]
  simp only [backB_eq, unitB_eq, hg]
  rfl
/-- A point's columns of the third group, -/
theorem backC_eq (k : Fin 384) : k0_pay22 (k0_pay6 (blkD m c t) (blkT m c t) (blkW m c t)) (ix2 s k) = back m c (t.val * 512 + s.val) (colC k) :=
  (thd_apply _ s k).trans (back_eq m c t s _)
/-- the normalising factor of its row, -/
theorem scaleC_eq : k0_pay23 (blkC m c t) (ix2 s 0) = scale wide (rowC m c (t.val * 512 + s.val)) :=
  (scaleC_apply _ s).trans (congrArg (scale wide) (funext fun k => blockC m c t s k))
/-- the normalised row, -/
theorem unitC_eq (k : Fin 384) : k0_pay24 (blkC m c t) (ix2 s k)
    = rowC m c (t.val * 512 + s.val) k * scale wide (rowC m c (t.val * 512 + s.val)) :=
  (unitC_apply _ s k).trans (congrArg₂ (· * ·) (blockC m c t s k) (scaleC_eq m c t s))
/-- and the output's gradient. -/
theorem outC_eq (k : Fin 384) : (outsAt0 m c t.val t.isLt).2.2.2.1 (ix2 s k)
    = row wide (rowC m c (t.val * 512 + s.val)) (tiltC m c (t.val * 512 + s.val)) k := by
  have h : (outsAt0 m c t.val t.isLt).2.2.2.1 = k0_pay1 (k0_pay22 (k0_pay6 (blkD m c t) (blkT m c t) (blkW m c t)))
      (k0_pay23 (blkC m c t)) (k0_pay24 (blkC m c t))
      (View.ld (blkG m c t) (Rect.unit (s := ⟨2, ![1, 1024]⟩) ![0, 640] ![1, 384] inb_S1x1024_S1x384_0_640)) := by
    by_cases h : t.val % 32 = 0
    · rw [outsAt0_A m c t h]
      frame_out
    · rw [outsAt0_B m c t h]
      frame_out
  have hg : ∀ k : Fin 384, (View.ld (blkG m c t) (Rect.unit (s := ⟨2, ![1, 1024]⟩) ![0, 640] ![1, 384] inb_S1x1024_S1x384_0_640)) (ix2 0 k)
      = line (argG m c) 0 (colC k) := fun k => (load_strip _ 0 k (colC k) _ rfl).trans (blockG m c t _)
  rw [h, rowC_apply, scaleC_eq]
  simp only [backC_eq, unitC_eq, hg]
  rfl

/-- The gradient of the product at a point's row. -/
theorem prod_eq : (outsAt0 m c t.val t.isLt).1 (ix2 s j) = gated m c (t.val * 512 + s.val) j := by
  rw [← gated_eq]
  by_cases h : t.val % 32 = 0
  · rw [outsAt0_A m c t h]
    frame_out
  · rw [outsAt0_B m c t h]
    frame_out

/-- What a tile adds to the gate's sum. -/
theorem gate_eq (u : Vec Ideal S1x1024 .f32) : k0_pay5 (blkD m c t) u (blkO m c t) (ix2 0 j)
    = u (ix2 0 j) + ∑ s : Fin 512, line (argD m c) (t.val * 512 + s.val) j * line (argO m c) (t.val * 512 + s.val) j := by
  rw [gate_step]
  simp only [blockD, blockO]

/-- The three strips a tile leaves of the gains' sums: what it found there, with its own addition. -/
theorem gain_eq (U : Fin 1024 → EReal) (ua : Vec Ideal S1x256 .f32) (ub uc : Vec Ideal S1x384 .f32)
    (L : List (View.Piece (Elt Ideal) ⟨2, ![1, 1024]⟩ .f32)) (ha : ∀ k, ua (ix2 0 k) = U (colA k)) (hb : ∀ k, ub (ix2 0 k) = U (colB k))
    (hc : ∀ k, uc (ix2 0 k) = U (colC k)) :
    View.canon (⟨Rect.unit (s := ⟨2, ![1, 1024]⟩) ![0, 640] ![1, 384] inb_S1x1024_S1x384_0_640, k0_pay25 (k0_pay6 (blkD m c t) (blkT m c t) (blkW m c t)) (blkC m c t) uc⟩
      :: ⟨Rect.unit (s := ⟨2, ![1, 1024]⟩) ![0, 256] ![1, 384] inb_S1x1024_S1x384_0_256, k0_pay19 (k0_pay17 ub) (k0_pay18 (k0_pay6 (blkD m c t) (blkT m c t) (blkW m c t)) (blkB m c t))⟩
      :: ⟨Rect.unit (s := ⟨2, ![1, 1024]⟩) ![0, 0] ![1, 256] inb_S1x1024_S1x256_0_0, k0_pay11 (k0_pay8 (blkD m c t) (blkT m c t) (blkW m c t)) (k0_pay10 (blkA m c t)) ua⟩ :: L) (ix2 0 j)
    = U j + ∑ s : Fin 512, back m c (t.val * 512 + s.val) j * unit m c (t.val * 512 + s.val) j := by
  rcases col_cases j with ⟨k, rfl⟩ | ⟨k, rfl⟩ | ⟨k, rfl⟩
  · refine (Cert.Strip.strip_off _ _ _ 0 (colA k) (.inl (show k.val < 640 by omega))).trans
      ((Cert.Strip.strip_off _ _ _ 0 (colA k) (.inl (show k.val < 256 by omega))).trans
      ((Cert.Strip.strip _ _ _ 0 (colA k) k (Nat.zero_add _).symm).trans ?_))
    rw [gainA_step, ha]
    simp only [backA_eq, unitA_eq, unit_colA]
  · refine (Cert.Strip.strip_off _ _ _ 0 (colB k) (.inl (show 256 + k.val < 640 by omega))).trans
      ((Cert.Strip.strip _ _ _ 0 (colB k) k rfl).trans ?_)
    rw [gainB_step, hb]
    simp only [backB_eq, unitB_eq, unit_colB]
  · refine (Cert.Strip.strip _ _ _ 0 (colC k) k rfl).trans ?_
    rw [gainC_step, hc]
    simp only [backC_eq, unitC_eq, unit_colC]

/-- The gate's sum, complete at the last point. -/
theorem gate_last (ht : t.val % 32 = 31) : (outsAt0 m c t.val t.isLt).2.2.2.2.1 (ix2 0 j)
    = ∑ n : Fin 16384, line (argD m c) n.val j * line (argO m c) n.val j :=
  sum_tiles (fun n h j => (outsAt0 m c n h).2.2.2.2.1 (ix2 0 j)) (fun n j => line (argD m c) n j * line (argO m c) n j) N_0.le
    (fun t h j => by
      rw [outsAt0_A m c t h]
      frame_out
      rw [← zero_gate j]
      exact gate_eq m c t j _)
    (fun t h j => by
      rw [outsAt0_B m c t h]
      frame_out
      exact gate_eq m c t j _) t ht j
/-- The gains' sums, complete at the last point. -/
theorem gain_last (ht : t.val % 32 = 31) : (outsAt0 m c t.val t.isLt).2.2.2.2.2 (ix2 0 j)
    = ∑ n : Fin 16384, back m c n.val j * unit m c n.val j :=
  sum_tiles (fun n h j => (outsAt0 m c n h).2.2.2.2.2 (ix2 0 j)) (fun n j => back m c n j * unit m c n j) N_0.le
    (fun t h j => by
      have full : ∀ j : Fin 1024, View.canon
          ([⟨Rect.unit (s := ⟨2, ![1, 1024]⟩) ![0, 0] ![1, 1024] inb_S1x1024_S1x1024_0_0, k0_pay3 (F := Ideal)⟩] : List (View.Piece (Elt Ideal) ⟨2, ![1, 1024]⟩ .f32)) (ix2 0 j) = (0 : EReal) := fun j => by
        exact (Cert.Strip.strip _ _ _ 0 j j (Nat.zero_add _).symm).trans (zero_gain j)
      rw [outsAt0_A m c t h]
      frame_out
      refine gain_eq m c t j (fun _ => 0) _ _ _ _ (fun k => ?_) (fun k => ?_) (fun k => ?_)
      · exact (read_strip _ 0 k (colA k) _ _ (Nat.zero_add _).symm).trans (full _)
      · exact (read_strip _ 0 k (colB k) _ _ rfl).trans
          ((Cert.Strip.strip_off _ _ _ 0 (colB k) (.inr (show 0 + 256 ≤ 256 + k.val by omega))).trans (full _))
      · exact (read_strip _ 0 k (colC k) _ _ rfl).trans
          ((Cert.Strip.strip_off _ _ _ 0 (colC k) (.inr (show 256 + 384 ≤ 640 + k.val by omega))).trans
          ((Cert.Strip.strip_off _ _ _ 0 (colC k) (.inr (show 0 + 256 ≤ 640 + k.val by omega))).trans (full _))))
    (fun t h j => by
      rw [outsAt0_B m c t h]
      frame_out
      exact gain_eq m c t j (fun j => (outsAt0 m c (t.val - 1) _).2.2.2.2.2 (ix2 0 j)) _ _ _ _
        (fun k => load_strip _ 0 k (colA k) _ (Nat.zero_add _).symm) (fun k => load_strip _ 0 k (colB k) _ rfl)
        (fun k => load_strip _ 0 k (colC k) _ rfl)) t ht j

/-- The six results. -/
def outProd : Vec Ideal S16384x1024 .bf16 := fun i => gated m c (i 0).val (i 1)
def outA : Vec Ideal S16384x256 .bf16 := fun i => row narrow (rowA m c (i 0).val) (tiltA m c (i 0).val) (i 1)
def outB : Vec Ideal S16384x384 .bf16 := fun i => row wide (rowB m c (i 0).val) (tiltB m c (i 0).val) (i 1)
def outC : Vec Ideal S16384x384 .bf16 := fun i => row wide (rowC m c (i 0).val) (tiltC m c (i 0).val) (i 1)
def outGate : Vec Ideal S1x1024 .f32 := fun i => ∑ n : Fin 16384, line (argD m c) n.val (i 1) * line (argO m c) n.val (i 1)
def outGain : Vec Ideal S1x1024 .f32 := fun i => ∑ n : Fin 16384, back m c n.val (i 1) * unit m c n.val (i 1)

/-- The product's gradient's block of a point, in its array. -/
theorem emb_prod (y : ((cfg0.win 8).xblock (cfg0.grid.coords t)).Idx) (x : S512x1024.Idx)
    (hx : x = (cfg0.win 8).xinj (cfg0.grid.coords t) y) :
    ((((cfg0.win 8).blk t).view.emb y : S16384x1024.Idx) 0).val = t.val * 512 + (x 0).val
      ∧ (((cfg0.win 8).blk t).view.emb y : S16384x1024.Idx) 1 = x 1 := by
  subst hx
  exact ⟨by blk_simp [(index_out t).1], Fin.ext (by blk_simp [(index_out t).1])⟩
/-- The first output's gradient's block of a point, in its array. -/
theorem emb_A (y : ((cfg0.win 9).xblock (cfg0.grid.coords t)).Idx) (x : S512x256.Idx)
    (hx : x = (cfg0.win 9).xinj (cfg0.grid.coords t) y) :
    ((((cfg0.win 9).blk t).view.emb y : S16384x256.Idx) 0).val = t.val * 512 + (x 0).val
      ∧ (((cfg0.win 9).blk t).view.emb y : S16384x256.Idx) 1 = x 1 := by
  subst hx
  exact ⟨by blk_simp [(index_out t).2.1], Fin.ext (by blk_simp [(index_out t).2.1])⟩
/-- The second's. -/
theorem emb_B (y : ((cfg0.win 10).xblock (cfg0.grid.coords t)).Idx) (x : S512x384.Idx)
    (hx : x = (cfg0.win 10).xinj (cfg0.grid.coords t) y) :
    ((((cfg0.win 10).blk t).view.emb y : S16384x384.Idx) 0).val = t.val * 512 + (x 0).val
      ∧ (((cfg0.win 10).blk t).view.emb y : S16384x384.Idx) 1 = x 1 := by
  subst hx
  exact ⟨by blk_simp [(index_out t).2.2.1], Fin.ext (by blk_simp [(index_out t).2.2.1])⟩
/-- The third's. -/
theorem emb_C (y : ((cfg0.win 11).xblock (cfg0.grid.coords t)).Idx) (x : S512x384.Idx)
    (hx : x = (cfg0.win 11).xinj (cfg0.grid.coords t) y) :
    ((((cfg0.win 11).blk t).view.emb y : S16384x384.Idx) 0).val = t.val * 512 + (x 0).val
      ∧ (((cfg0.win 11).blk t).view.emb y : S16384x384.Idx) 1 = x 1 := by
  subst hx
  exact ⟨by blk_simp [(index_out t).2.2.2.1], Fin.ext (by blk_simp [(index_out t).2.2.2.1])⟩
/-- The gate's block is its array. -/
theorem emb_gate (y : ((cfg0.win 12).xblock (cfg0.grid.coords t)).Idx) (x : S1x1024.Idx)
    (hx : x = (cfg0.win 12).xinj (cfg0.grid.coords t) y) :
    (((cfg0.win 12).blk t).view.emb y : S1x1024.Idx) 1 = x 1 := by
  subst hx
  exact Fin.ext (by blk_simp [(index_out t).2.2.2.2.1])
/-- The gains' block is its array. -/
theorem emb_gain (y : ((cfg0.win 13).xblock (cfg0.grid.coords t)).Idx) (x : S1x1024.Idx)
    (hx : x = (cfg0.win 13).xinj (cfg0.grid.coords t) y) :
    (((cfg0.win 13).blk t).view.emb y : S1x1024.Idx) 1 = x 1 := by
  subst hx
  exact Fin.ext (by blk_simp [(index_out t).2.2.2.2.2])

/-- The product's gradient after the run. -/
theorem final_prod : (dats m 0 c).arrAt 8 cfg0.N = outProd m c := by
  refine (dats m 0 c).arrAt_eq_of_covers 8 _ (by decide +kernel) fun t hf y => ?_
  rw [after0_8]
  have ho := prod_eq m c t
  generalize (outsAt0 m c t.val t.isLt).1 = o at ho ⊢
  generalize hx : ((cfg0.win 8).xinj (cfg0.grid.coords t) y : S512x1024.Idx) = x
  obtain ⟨h0, h1⟩ := emb_prod t y x hx.symm
  show o x = _
  unfold outProd
  rw [h0, h1]
  obtain ⟨s, j, rfl⟩ : ∃ (s : Fin 512) (j : Fin 1024), x = ix2 s j := ⟨x 0, x 1, eq_ix2 x⟩
  exact ho s j

/-- The first output's gradient after the run. -/
theorem final_A : (dats m 0 c).arrAt 9 cfg0.N = outA m c := by
  refine (dats m 0 c).arrAt_eq_of_covers 9 _ (by decide +kernel) fun t hf y => ?_
  rw [after0_9]
  have ho := outA_eq m c t
  generalize (outsAt0 m c t.val t.isLt).2.1 = o at ho ⊢
  generalize hx : ((cfg0.win 9).xinj (cfg0.grid.coords t) y : S512x256.Idx) = x
  obtain ⟨h0, h1⟩ := emb_A t y x hx.symm
  show o x = _
  unfold outA
  rw [h0, h1]
  obtain ⟨s, j, rfl⟩ : ∃ (s : Fin 512) (j : Fin 256), x = ix2 s j := ⟨x 0, x 1, eq_ix2 x⟩
  exact ho s j

/-- The second's gradient after the run. -/
theorem final_B : (dats m 0 c).arrAt 10 cfg0.N = outB m c := by
  refine (dats m 0 c).arrAt_eq_of_covers 10 _ (by decide +kernel) fun t hf y => ?_
  rw [after0_10]
  have ho := outB_eq m c t
  generalize (outsAt0 m c t.val t.isLt).2.2.1 = o at ho ⊢
  generalize hx : ((cfg0.win 10).xinj (cfg0.grid.coords t) y : S512x384.Idx) = x
  obtain ⟨h0, h1⟩ := emb_B t y x hx.symm
  show o x = _
  unfold outB
  rw [h0, h1]
  obtain ⟨s, j, rfl⟩ : ∃ (s : Fin 512) (j : Fin 384), x = ix2 s j := ⟨x 0, x 1, eq_ix2 x⟩
  exact ho s j

/-- The third's gradient after the run. -/
theorem final_C : (dats m 0 c).arrAt 11 cfg0.N = outC m c := by
  refine (dats m 0 c).arrAt_eq_of_covers 11 _ (by decide +kernel) fun t hf y => ?_
  rw [after0_11]
  have ho := outC_eq m c t
  generalize (outsAt0 m c t.val t.isLt).2.2.2.1 = o at ho ⊢
  generalize hx : ((cfg0.win 11).xinj (cfg0.grid.coords t) y : S512x384.Idx) = x
  obtain ⟨h0, h1⟩ := emb_C t y x hx.symm
  show o x = _
  unfold outC
  rw [h0, h1]
  obtain ⟨s, j, rfl⟩ : ∃ (s : Fin 512) (j : Fin 384), x = ix2 s j := ⟨x 0, x 1, eq_ix2 x⟩
  exact ho s j

/-- The gate's gradient after the run. -/
theorem final_gate : (dats m 0 c).arrAt 12 cfg0.N = outGate m c := by
  refine (dats m 0 c).arrAt_eq_of_covers 12 _ (by decide +kernel) fun t hf y => ?_
  rw [after0_12]
  have ho := fun j => gate_last m c t j ((flush0_12 t).mp hf)
  generalize (outsAt0 m c t.val t.isLt).2.2.2.2.1 = o at ho ⊢
  generalize hx : ((cfg0.win 12).xinj (cfg0.grid.coords t) y : S1x1024.Idx) = x
  have h1 := emb_gate t y x hx.symm
  show o x = _
  unfold outGate
  rw [h1]
  obtain ⟨s, j, rfl⟩ : ∃ (s : Fin 1) (j : Fin 1024), x = ix2 s j := ⟨x 0, x 1, eq_ix2 x⟩
  rw [Subsingleton.elim s 0]
  exact ho j

/-- The gains' gradients after the run. -/
theorem final_gain : (dats m 0 c).arrAt 13 cfg0.N = outGain m c := by
  refine (dats m 0 c).arrAt_eq_of_covers 13 _ (by decide +kernel) fun t hf y => ?_
  rw [after0_13]
  have ho := fun j => gain_last m c t j ((flush0_13 t).mp hf)
  generalize (outsAt0 m c t.val t.isLt).2.2.2.2.2 = o at ho ⊢
  generalize hx : ((cfg0.win 13).xinj (cfg0.grid.coords t) y : S1x1024.Idx) = x
  have h1 := emb_gain t y x hx.symm
  show o x = _
  unfold outGain
  rw [h1]
  obtain ⟨s, j, rfl⟩ : ∃ (s : Fin 1) (j : Fin 1024), x = ix2 s j := ⟨x 0, x 1, eq_ix2 x⟩
  rw [Subsingleton.elim s 0]
  exact ho j

/-- At a row of the arrays, the gradient of the normalised outputs, -/
theorem back_ix2 (n : Fin 16384) (j : Fin 1024) : back m c n.val j
    = ∑ i : Fin 1024, argT m c (ix2 0 i) * argD m c (ix2 n i) * argW m c (ix2 j i) := by
  simp only [back, gated, line_ix2, line_zero]
/-- the first output's row at a row of the arrays, -/
theorem rowA_ix2 (n : Fin 16384) (k : Fin 256) : rowA m c n.val k = argA m c (ix2 n k) := entry_ix2 (argA m c) n k
/-- and the gradient through its gain. -/
theorem tiltA_ix2 (n : Fin 16384) (k : Fin 256) : tiltA m c n.val k
    = (∑ i : Fin 1024, argT m c (ix2 0 i) * argD m c (ix2 n i) * argW m c (ix2 (colA k) i)) * argG m c (ix2 0 (colA k)) := by
  rw [tiltA, back_ix2, line_zero]
/-- the second's at a row of the arrays, -/
theorem rowB_ix2 (n : Fin 16384) (k : Fin 384) : rowB m c n.val k = argB m c (ix2 n k) := entry_ix2 (argB m c) n k
/-- and the gradient through its gain. -/
theorem tiltB_ix2 (n : Fin 16384) (k : Fin 384) : tiltB m c n.val k
    = (∑ i : Fin 1024, argT m c (ix2 0 i) * argD m c (ix2 n i) * argW m c (ix2 (colB k) i)) * argG m c (ix2 0 (colB k)) := by
  rw [tiltB, back_ix2, line_zero]
/-- the third's at a row of the arrays, -/
theorem rowC_ix2 (n : Fin 16384) (k : Fin 384) : rowC m c n.val k = argC m c (ix2 n k) := entry_ix2 (argC m c) n k
/-- and the gradient through its gain. -/
theorem tiltC_ix2 (n : Fin 16384) (k : Fin 384) : tiltC m c n.val k
    = (∑ i : Fin 1024, argT m c (ix2 0 i) * argD m c (ix2 n i) * argW m c (ix2 (colC k) i)) * argG m c (ix2 0 (colC k)) := by
  rw [tiltC, back_ix2, line_zero]

end Cert.KernelOBackIdeal.Hand

namespace Cert.Proof.OBack

open Idealize.ShloMosaic.Tactic Idealize.ShloMosaic.TcCoe
open Idealize.ShloMosaic Idealize.SL.Sem
open Cert.KernelOBackIdeal
open Cert.Weight Cert.Norm
open Hand (narrow wide narrow_eq wide_eq)

/-- The two programs have one text, so the kernel's frame is the one run's at `F := Bits`. -/
theorem frame_text : Cert.quiescent_KernelOBack
    = ∀ (m : (ℓ : Loc nD τ sig) → Buf (Elt Bits) ℓ) (g : Dev nD → PrngReg), True →
      θ_run (defs (F := Bits)) (onTc (τ := τ) (main (F := Bits))) ⟨m, fun _ => 0, g⟩
        (fun r => (∀ c : Dev nD,
          r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7))
          ∧ r.2.sem = fun _ => 0) := by
  sl_kernel_rfl

/-- The kernel as run in bits. -/
theorem frame_kernel : Cert.quiescent_KernelOBack := frame_text.mpr fun m ρ _ => Gen.frame (F := Bits) m ρ

/-- The kernel over the extended reals. -/
theorem frame_ideal : Cert.quiescent_KernelOBackIdeal := fun m ρ _ => Gen.frame (F := Ideal) m ρ

/-- The reference runs its operations and declares no semaphore. -/
theorem frame_reference : Cert.quiescent_ReferenceOBackIdeal := fun m ρ _ =>
  (θ_run Cert.ReferenceOBackIdeal.defs _ _).mono
    (fun r h => ⟨fun c => (h c).2.2.2.2.2.2, Idealize.ShloMosaic.sem_eq_zero_of_no_sems (by decide) r.2⟩)
    (Cert.ReferenceOBackIdeal.Value.run (F := Ideal) m ρ)

/-- From memories that agree on the arguments, the kernel and the reference end with the same six gradients. -/
theorem values : Cert.algebraic_KernelOBackIdeal_ReferenceOBackIdeal := fun m g m' g' _ hargs => by
  refine ⟨fun c => Hand.outProd m c, fun c => Hand.outA m c, fun c => Hand.outB m c, fun c => Hand.outC m c, fun c => Hand.outGate m c,
    fun c => Hand.outGain m c,
    (θ_run defs _ _).mono (fun r h c => ⟨(h c).1.trans (Hand.final_prod m c), (h c).2.1.trans (Hand.final_A m c),
      (h c).2.2.1.trans (Hand.final_B m c), (h c).2.2.2.1.trans (Hand.final_C m c), (h c).2.2.2.2.1.trans (Hand.final_gate m c),
      (h c).2.2.2.2.2.1.trans (Hand.final_gain m c), (h c).2.2.2.2.2.2⟩) (Value.run_blocks m g),
    (θ_run Cert.ReferenceOBackIdeal.defs _ _).mono (fun r h c => ⟨?_, ?_, ?_, ?_, ?_, ?_, (h c).2.2.2.2.2.2⟩)
    (Cert.ReferenceOBackIdeal.Value.run (F := Ideal) m' g')⟩
  · refine (h c).1.trans (ext_ix2 fun n j => ?_)
    clear h
    rw [(hargs c).1, (hargs c).2.2.1]
    show _ = Hand.gated m c n.val j
    unfold Hand.gated
    rw [line_ix2, line_zero]
    pointwise
  · refine (h c).2.1.trans (ext_ix2 fun n j => ?_)
    clear h
    show _ = row narrow (Hand.rowA m c n.val) (Hand.tiltA m c n.val) j
    rw [← row_eq (by norm_num) narrow_eq]
    unfold pull scale square
    simp only [Hand.tiltA_ix2, Hand.rowA_ix2]
    pointwise [Cert.ReferenceOBackIdeal.Value.res_main_v128]
    rw [(hargs c).1, (hargs c).2.2.1, (hargs c).2.2.2.1, (hargs c).2.2.2.2.1, (hargs c).2.2.2.2.2.2.2]
    simp only [Fin.sum_univ_one]
    rfl
  · refine (h c).2.2.1.trans (ext_ix2 fun n j => ?_)
    clear h
    show _ = row wide (Hand.rowB m c n.val) (Hand.tiltB m c n.val) j
    rw [← row_eq (by norm_num) wide_eq]
    unfold pull scale square
    simp only [Hand.tiltB_ix2, Hand.rowB_ix2]
    pointwise [Cert.ReferenceOBackIdeal.Value.res_main_v129]
    rw [(hargs c).1, (hargs c).2.2.1, (hargs c).2.2.2.1, (hargs c).2.2.2.2.2.1, (hargs c).2.2.2.2.2.2.2]
    simp only [Fin.sum_univ_one]
    rfl
  · refine (h c).2.2.2.1.trans (ext_ix2 fun n j => ?_)
    clear h
    show _ = row wide (Hand.rowC m c n.val) (Hand.tiltC m c n.val) j
    rw [← row_eq (by norm_num) wide_eq]
    unfold pull scale square
    simp only [Hand.tiltC_ix2, Hand.rowC_ix2]
    pointwise [Cert.ReferenceOBackIdeal.Value.res_main_v130]
    rw [(hargs c).1, (hargs c).2.2.1, (hargs c).2.2.2.1, (hargs c).2.2.2.2.2.2.1, (hargs c).2.2.2.2.2.2.2]
    simp only [Fin.sum_univ_one]
    rfl
  · refine (h c).2.2.2.2.1.trans (ext_ix2 fun n j => ?_)
    clear h
    rw [(hargs c).1, (hargs c).2.1]
    show _ = ∑ n : Fin 16384, line (Hand.argD m c) n.val j * line (Hand.argO m c) n.val j
    simp only [line_ix2]
    pointwise
  · refine (h c).2.2.2.2.2.1.trans (ext_ix2 fun n j => ?_)
    clear h
    rw [(hargs c).1, (hargs c).2.2.1, (hargs c).2.2.2.1, (hargs c).2.2.2.2.1, (hargs c).2.2.2.2.2.1, (hargs c).2.2.2.2.2.2.1]
    show _ = ∑ n : Fin 16384, Hand.back m c n.val j * Hand.unit m c n.val j
    simp only [Hand.back_ix2]
    by_cases h : j.val < 640
    · by_cases h' : j.val < 256
      · pointwise
        simp only [dif_pos h, dif_pos h', Hand.unit, scale, square, Hand.rowA_ix2]
        exact Finset.sum_congr rfl fun x _ => mul_comm _ _
      · have e : 256 + (j.val - 256) = j.val := by omega
        pointwise
        simp only [dif_pos h, dif_neg h', Hand.unit, scale, square, Hand.rowB_ix2, e]
        exact Finset.sum_congr rfl fun x _ => mul_comm _ _
    · have h' : ¬j.val < 256 := by omega
      have e : 640 + (j.val - 640) = j.val := by omega
      pointwise
      simp only [dif_neg h, dif_neg h', Hand.unit, scale, square, Hand.rowC_ix2, e]
      exact Finset.sum_congr rfl fun x _ => mul_comm _ _

end Cert.Proof.OBack

end
-- ==== Proof.lean ====
/-
  The proof of `Cert.Claim`: the frames of the attention call and of its reference, the kernel's preservation, the equality of
  the kernel's results with the reference's where the arguments are real, and the same of the four weight gradients
  and of the two calls that take a gradient back through a normalisation, of the output projection's backward call, and of the forward calls of the products with `w_o`
  and `w_down`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Frame
public import proofs.«01_k».proof.Proof.Value
public import proofs.«01_k».proof.Proof.WeightDown
public import proofs.«01_k».proof.Proof.WeightGu
public import proofs.«01_k».proof.Proof.WeightO
public import proofs.«01_k».proof.Proof.WeightIn
public import proofs.«01_k».proof.Proof.NormIn
public import proofs.«01_k».proof.Proof.NormFfn
public import proofs.«01_k».proof.Proof.DownFwd
public import proofs.«01_k».proof.Proof.OFwd
public import proofs.«01_k».proof.Proof.OBack
public import Idealize.ShloMosaic.Adequacy
public import Idealize.ShloMosaic.Init

@[expose] public section

noncomputable section

namespace Cert.Proof

open Idealize.ShloMosaic.Tactic Idealize.ShloMosaic.TcCoe
open Idealize.ShloMosaic Idealize.SL.Sem

/-- The two programs have one text, so the kernel's frame is the one run's at `F := Bits`. -/
theorem frame_text : Cert.quiescent_Kernel
    = ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩
        (fun r => (∀ c : Dev Cert.KernelIdeal.nD,
          r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
          ∧ r.2.sem = fun _ => 0) := by
  sl_kernel_rfl

/-- The kernel as run in bits: the one run at `F := Bits`. -/
theorem frame_kernel : Cert.quiescent_Kernel :=
  frame_text.mpr fun m ρ _ => Cert.KernelIdeal.Hand.frame_run (F := Bits) m ρ

/-- The kernel over the extended reals: the same run at `F := Ideal`. -/
theorem frame_ideal : Cert.quiescent_KernelIdeal := fun m ρ _ => Cert.KernelIdeal.Hand.frame_run (F := Ideal) m ρ

/-- The reference runs its operations and declares no semaphore. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- From memories that agree on the arguments, the kernel and the reference end with the same three gradients. -/
theorem values : Cert.algebraic_KernelIdeal_ReferenceIdeal_pre_finite := fun m g m' g' hpre hargs => by
  refine ⟨fun c => Cert.KernelIdeal.Hand.outQ m c, fun c => Cert.KernelIdeal.Hand.outK m c, fun c => Cert.KernelIdeal.Hand.outV m c,
    Cert.KernelIdeal.Hand.run_values m g, (θ_run Cert.ReferenceIdeal.defs _ _).mono (fun r h c => ?_) (Cert.ReferenceIdeal.Hand.run_steps m' g')⟩
  obtain ⟨eq, ek, ev⟩ := Cert.KernelIdeal.Hand.outs m c (hpre c)
  obtain ⟨aq, ak, av, ad⟩ := hargs c
  have bq : Cert.ReferenceIdeal.Hand.argQ m' c = Cert.KernelIdeal.Hand.argQ m c := aq
  have bk : Cert.ReferenceIdeal.Hand.argK m' c = Cert.KernelIdeal.Hand.argK m c := ak
  have bv : Cert.ReferenceIdeal.Hand.argV m' c = Cert.KernelIdeal.Hand.argV m c := av
  have bd : Cert.ReferenceIdeal.Hand.argD m' c = Cert.KernelIdeal.Hand.argD m c := ad
  obtain ⟨hq, hk, hv, hrest⟩ := h c
  rw [bq, bk, bv, bd] at hq hk
  rw [bq, bk, bd] at hv
  exact ⟨hq.trans eq.symm, hk.trans ek.symm, hv.trans ev.symm, hrest⟩

/-- Everything that is claimed. -/
theorem claim : Cert.Claim := ⟨Cert.Kernel.Gen.facts, Cert.KernelIdeal.Gen.facts, Cert.ReferenceIdeal.Gen.facts,
  Cert.KernelDown.Gen.facts, Cert.KernelDownIdeal.Gen.facts, Cert.ReferenceDownIdeal.Gen.facts,
  Cert.KernelGu.Gen.facts, Cert.KernelGuIdeal.Gen.facts, Cert.ReferenceGuIdeal.Gen.facts,
  Cert.KernelO.Gen.facts, Cert.KernelOIdeal.Gen.facts, Cert.ReferenceOIdeal.Gen.facts,
  Cert.KernelIn.Gen.facts, Cert.KernelInIdeal.Gen.facts, Cert.ReferenceInIdeal.Gen.facts,
  Cert.KernelNormIn.Gen.facts, Cert.KernelNormInIdeal.Gen.facts, Cert.ReferenceNormInIdeal.Gen.facts,
  Cert.KernelNormFfn.Gen.facts, Cert.KernelNormFfnIdeal.Gen.facts, Cert.ReferenceNormFfnIdeal.Gen.facts,
  Cert.KernelDownFwd.Gen.facts, Cert.KernelDownFwdIdeal.Gen.facts, Cert.ReferenceDownFwdIdeal.Gen.facts,
  Cert.KernelOFwd.Gen.facts, Cert.KernelOFwdIdeal.Gen.facts, Cert.ReferenceOFwdIdeal.Gen.facts,
  Cert.KernelOBack.Gen.facts, Cert.KernelOBackIdeal.Gen.facts, Cert.ReferenceOBackIdeal.Gen.facts,
  Cert.Pre_finite.Gen.facts,
  frame_kernel, frame_ideal, fun m ρ _ => frame_ideal m ρ trivial, frame_reference, fun m ρ _ => frame_reference m ρ trivial,
  Down.frame_kernel, Down.frame_ideal, Down.frame_reference,
  Gu.frame_kernel, Gu.frame_ideal, Gu.frame_reference,
  O.frame_kernel, O.frame_ideal, O.frame_reference,
  In.frame_kernel, In.frame_ideal, In.frame_reference,
  NormIn.frame_kernel, NormIn.frame_ideal, NormIn.frame_reference,
  NormFfn.frame_kernel, NormFfn.frame_ideal, NormFfn.frame_reference,
  DownFwd.frame_kernel, DownFwd.frame_ideal, DownFwd.frame_reference,
  OFwd.frame_kernel, OFwd.frame_ideal, OFwd.frame_reference,
  OBack.frame_kernel, OBack.frame_ideal, OBack.frame_reference,
  trivial, values, trivial, Down.values, trivial, Gu.values, trivial, O.values, trivial, In.values,
  trivial, NormIn.values, trivial, NormFfn.values,
  trivial, DownFwd.values, trivial, OFwd.values,
  trivial, OBack.values⟩

end Cert.Proof
